-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_DiffIn (m : (ℓ : Loc Cert.DiffIn.nD Cert.DiffIn.τ Cert.DiffIn.sig) → Buf (Elt Bits) ℓ) : Prop :=
  True

def Pre_DiffInIdeal (m : (ℓ : Loc Cert.DiffInIdeal.nD Cert.DiffInIdeal.τ Cert.DiffInIdeal.sig) → Buf (Elt Ideal) ℓ) : Prop :=
  True

def Pre_DiffInRefIdeal (m : (ℓ : Loc Cert.DiffInRefIdeal.nD Cert.DiffInRefIdeal.τ Cert.DiffInRefIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInRefIdeal (m : (ℓ : Loc Cert.SwaInRefIdeal.nD Cert.SwaInRefIdeal.τ Cert.SwaInRefIdeal.sig) → Buf (Elt Ideal) ℓ) : Prop :=
  True

def Pre_Bounds (m : (ℓ : Loc Cert.Bounds.nD Cert.Bounds.τ Cert.Bounds.sig) → Buf (Elt Bits) ℓ) : Prop :=
  True

def Pre_BoundsIdeal (m : (ℓ : Loc Cert.BoundsIdeal.nD Cert.BoundsIdeal.τ Cert.BoundsIdeal.sig) → Buf (Elt Ideal) ℓ) : Prop :=
  True

def Pre_BoundsRefIdeal (m : (ℓ : Loc Cert.BoundsRefIdeal.nD Cert.BoundsRefIdeal.τ Cert.BoundsRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_real_inputs [hPre_real_inputs : Cert.Pre_real_inputs.Facts] (m : (ℓ : Loc Cert.DiffIdeal.nD Cert.DiffIdeal.τ Cert.DiffIdeal.sig) → Buf (Elt Ideal) ℓ) : Prop :=
  ∀ c : Dev Cert.DiffIdeal.nD,
    (Cert.Pre_real_inputs.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_real_inputs [hPre_real_inputs : Cert.Pre_real_inputs.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_real_inputs.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_DiffIn [hDiffIn : Cert.DiffIn.Facts] : Prop :=
  ∀ (m : (ℓ : Loc Cert.DiffIn.nD Cert.DiffIn.τ Cert.DiffIn.sig) → Buf (Elt Bits) ℓ) (g : Dev Cert.DiffIn.nD → PrngReg), Pre_DiffIn m →
    θ_run (Cert.DiffIn.defs (F := Bits)) (onTc (τ := Cert.DiffIn.τ) (Cert.DiffIn.main (F := Bits))) ⟨m, fun _ => 0, g⟩ (fun r => (∀ c : Dev Cert.DiffIn.nD,
      r.2.mem ((c.tc : Thread Cert.DiffIn.nD Cert.DiffIn.τ).loc Cert.DiffIn.main_arg0) = m ((c.tc : Thread Cert.DiffIn.nD Cert.DiffIn.τ).loc Cert.DiffIn.main_arg0)
      ∧ r.2.mem ((c.tc : Thread Cert.DiffIn.nD Cert.DiffIn.τ).loc Cert.DiffIn.main_arg1) = m ((c.tc : Thread Cert.DiffIn.nD Cert.DiffIn.τ).loc Cert.DiffIn.main_arg1))
      ∧ r.2.sem = fun _ => 0)

def quiescent_DiffInIdeal [hDiffInIdeal : Cert.DiffInIdeal.Facts] : Prop :=
  ∀ (m : (ℓ : Loc Cert.DiffInIdeal.nD Cert.DiffInIdeal.τ Cert.DiffInIdeal.sig) → Buf (Elt Ideal) ℓ) (g : Dev Cert.DiffInIdeal.nD → PrngReg), Pre_DiffInIdeal m →
    θ_run (Cert.DiffInIdeal.defs (F := Ideal)) (onTc (τ := Cert.DiffInIdeal.τ) (Cert.DiffInIdeal.main (F := Ideal))) ⟨m, fun _ => 0, g⟩ (fun r => (∀ c : Dev Cert.DiffInIdeal.nD,
      r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
      ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1))
      ∧ r.2.sem = fun _ => 0)

def quiescent_DiffInRefIdeal [hDiffInRefIdeal : Cert.DiffInRefIdeal.Facts] : Prop :=
  ∀ (m : (ℓ : Loc Cert.DiffInRefIdeal.nD Cert.DiffInRefIdeal.τ Cert.DiffInRefIdeal.sig) → Buf (Elt Ideal) ℓ) (g : Dev Cert.DiffInRefIdeal.nD → PrngReg), Pre_DiffInRefIdeal m →
    θ_run (Cert.DiffInRefIdeal.defs (F := Ideal)) (onTc (τ := Cert.DiffInRefIdeal.τ) (Cert.DiffInRefIdeal.main (F := Ideal))) ⟨m, fun _ => 0, g⟩ (fun r => (∀ c : Dev Cert.DiffInRefIdeal.nD,
      r.2.mem ((c.tc : Thread Cert.DiffInRefIdeal.nD Cert.DiffInRefIdeal.τ).loc Cert.DiffInRefIdeal.main_arg0) = m ((c.tc : Thread Cert.DiffInRefIdeal.nD Cert.DiffInRefIdeal.τ).loc Cert.DiffInRefIdeal.main_arg0)
      ∧ r.2.mem ((c.tc : Thread Cert.DiffInRefIdeal.nD Cert.DiffInRefIdeal.τ).loc Cert.DiffInRefIdeal.main_arg1) = m ((c.tc : Thread Cert.DiffInRefIdeal.nD Cert.DiffInRefIdeal.τ).loc Cert.DiffInRefIdeal.main_arg1))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1)
      ∧ r.2.mem ((c.tc : Thread Cert.SwaIn.nD Cert.SwaIn.τ).loc Cert.SwaIn.main_arg2) = m ((c.tc : Thread Cert.SwaIn.nD Cert.SwaIn.τ).loc Cert.SwaIn.main_arg2))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
      ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ r.2.sem = fun _ => 0)

def quiescent_SwaInRefIdeal [hSwaInRefIdeal : Cert.SwaInRefIdeal.Facts] : Prop :=
  ∀ (m : (ℓ : Loc Cert.SwaInRefIdeal.nD Cert.SwaInRefIdeal.τ Cert.SwaInRefIdeal.sig) → Buf (Elt Ideal) ℓ) (g : Dev Cert.SwaInRefIdeal.nD → PrngReg), Pre_SwaInRefIdeal m →
    θ_run (Cert.SwaInRefIdeal.defs (F := Ideal)) (onTc (τ := Cert.SwaInRefIdeal.τ) (Cert.SwaInRefIdeal.main (F := Ideal))) ⟨m, fun _ => 0, g⟩ (fun r => (∀ c : Dev Cert.SwaInRefIdeal.nD,
      r.2.mem ((c.tc : Thread Cert.SwaInRefIdeal.nD Cert.SwaInRefIdeal.τ).loc Cert.SwaInRefIdeal.main_arg0) = m ((c.tc : Thread Cert.SwaInRefIdeal.nD Cert.SwaInRefIdeal.τ).loc Cert.SwaInRefIdeal.main_arg0)
      ∧ r.2.mem ((c.tc : Thread Cert.SwaInRefIdeal.nD Cert.SwaInRefIdeal.τ).loc Cert.SwaInRefIdeal.main_arg1) = m ((c.tc : Thread Cert.SwaInRefIdeal.nD Cert.SwaInRefIdeal.τ).loc Cert.SwaInRefIdeal.main_arg1)
      ∧ r.2.mem ((c.tc : Thread Cert.SwaInRefIdeal.nD Cert.SwaInRefIdeal.τ).loc Cert.SwaInRefIdeal.main_arg2) = m ((c.tc : Thread Cert.SwaInRefIdeal.nD Cert.SwaInRefIdeal.τ).loc Cert.SwaInRefIdeal.main_arg2))
      ∧ r.2.sem = fun _ => 0)

def quiescent_Bounds [hBounds : Cert.Bounds.Facts] : Prop :=
  ∀ (m : (ℓ : Loc Cert.Bounds.nD Cert.Bounds.τ Cert.Bounds.sig) → Buf (Elt Bits) ℓ) (g : Dev Cert.Bounds.nD → PrngReg), Pre_Bounds m →
    θ_run (Cert.Bounds.defs (F := Bits)) (onTc (τ := Cert.Bounds.τ) (Cert.Bounds.main (F := Bits))) ⟨m, fun _ => 0, g⟩ (fun r => (∀ c : Dev Cert.Bounds.nD,
      r.2.mem ((c.tc : Thread Cert.Bounds.nD Cert.Bounds.τ).loc Cert.Bounds.main_arg0) = m ((c.tc : Thread Cert.Bounds.nD Cert.Bounds.τ).loc Cert.Bounds.main_arg0))
      ∧ r.2.sem = fun _ => 0)

def quiescent_BoundsIdeal [hBoundsIdeal : Cert.BoundsIdeal.Facts] : Prop :=
  ∀ (m : (ℓ : Loc Cert.BoundsIdeal.nD Cert.BoundsIdeal.τ Cert.BoundsIdeal.sig) → Buf (Elt Ideal) ℓ) (g : Dev Cert.BoundsIdeal.nD → PrngReg), Pre_BoundsIdeal m →
    θ_run (Cert.BoundsIdeal.defs (F := Ideal)) (onTc (τ := Cert.BoundsIdeal.τ) (Cert.BoundsIdeal.main (F := Ideal))) ⟨m, fun _ => 0, g⟩ (fun r => (∀ c : Dev Cert.BoundsIdeal.nD,
      r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_real_inputs [hDiffIdeal : Cert.DiffIdeal.Facts] [hPre_real_inputs : Cert.Pre_real_inputs.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_real_inputs m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_real_inputs [hDiffRefIdeal : Cert.DiffRefIdeal.Facts] [hPre_real_inputs : Cert.Pre_real_inputs.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_real_inputs m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v31) = v0 c
          ∧ r.2.mem ((c.tc : Thread Cert.UpRefIdeal.nD Cert.UpRefIdeal.τ).loc Cert.UpRefIdeal.main_v33) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v11_0)) (v1 : (c : Dev Cert.DownIdeal.nD) → Buf (Elt Ideal) ((c.tc : Thread Cert.DownIdeal.nD Cert.DownIdeal.τ).loc Cert.DownIdeal.main_v11_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v11_0) = v0 c
          ∧ r.2.mem ((c.tc : Thread Cert.DownIdeal.nD Cert.DownIdeal.τ).loc Cert.DownIdeal.main_v11_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v34) = v0 c
          ∧ r.2.mem ((c.tc : Thread Cert.DownRefIdeal.nD Cert.DownRefIdeal.τ).loc Cert.DownRefIdeal.main_v36) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v10_0)) (v1 : (c : Dev Cert.OutIdeal.nD) → Buf (Elt Ideal) ((c.tc : Thread Cert.OutIdeal.nD Cert.OutIdeal.τ).loc Cert.OutIdeal.main_v10_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10_0) = v0 c
          ∧ r.2.mem ((c.tc : Thread Cert.OutIdeal.nD Cert.OutIdeal.τ).loc Cert.OutIdeal.main_v10_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_v35) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v4)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v4) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v2) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_DiffIn_DiffInIdeal : Prop :=
  True

def algebraic_DiffInIdeal_DiffInRefIdeal [hDiffInIdeal : Cert.DiffInIdeal.Facts] [hDiffInRefIdeal : Cert.DiffInRefIdeal.Facts] : Prop :=
  ∀ (m : (ℓ : Loc Cert.DiffInIdeal.nD Cert.DiffInIdeal.τ Cert.DiffInIdeal.sig) → Buf (Elt Ideal) ℓ) (g : Dev Cert.DiffInIdeal.nD → PrngReg)
    (m' : (ℓ : Loc Cert.DiffInRefIdeal.nD Cert.DiffInRefIdeal.τ Cert.DiffInRefIdeal.sig) → Buf (Elt Ideal) ℓ) (g' : Dev Cert.DiffInRefIdeal.nD → PrngReg), Pre_DiffInIdeal m →
    (∀ c : Dev Cert.DiffInIdeal.nD,
      m' ((c.tc : Thread Cert.DiffInRefIdeal.nD Cert.DiffInRefIdeal.τ).loc Cert.DiffInRefIdeal.main_arg0) = m ((c.tc : Thread Cert.DiffInIdeal.nD Cert.DiffInIdeal.τ).loc Cert.DiffInIdeal.main_arg0)
      ∧ m' ((c.tc : Thread Cert.DiffInRefIdeal.nD Cert.DiffInRefIdeal.τ).loc Cert.DiffInRefIdeal.main_arg1) = m ((c.tc : Thread Cert.DiffInIdeal.nD Cert.DiffInIdeal.τ).loc Cert.DiffInIdeal.main_arg1)) →
    ∃ (v0 : (c : Dev Cert.DiffInIdeal.nD) → Buf (Elt Ideal) ((c.tc : Thread Cert.DiffInIdeal.nD Cert.DiffInIdeal.τ).loc Cert.DiffInIdeal.main_v4)),
      θ_run (Cert.DiffInIdeal.defs (F := Ideal)) (onTc (τ := Cert.DiffInIdeal.τ) (Cert.DiffInIdeal.main (F := Ideal))) ⟨m, fun _ => 0, g⟩ (fun r => ∀ c : Dev Cert.DiffInIdeal.nD,
          r.2.mem ((c.tc : Thread Cert.DiffInIdeal.nD Cert.DiffInIdeal.τ).loc Cert.DiffInIdeal.main_v4) = v0 c
          ∧ r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
          ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1))
      ∧ θ_run (Cert.DiffInRefIdeal.defs (F := Ideal)) (onTc (τ := Cert.DiffInRefIdeal.τ) (Cert.DiffInRefIdeal.main (F := Ideal))) ⟨m', fun _ => 0, g'⟩ (fun r => ∀ c : Dev Cert.DiffInRefIdeal.nD,
          r.2.mem ((c.tc : Thread Cert.DiffInRefIdeal.nD Cert.DiffInRefIdeal.τ).loc Cert.DiffInRefIdeal.main_v7) = v0 c
          ∧ r.2.mem ((c.tc : Thread Cert.DiffInRefIdeal.nD Cert.DiffInRefIdeal.τ).loc Cert.DiffInRefIdeal.main_arg0) = m' ((c.tc : Thread Cert.DiffInRefIdeal.nD Cert.DiffInRefIdeal.τ).loc Cert.DiffInRefIdeal.main_arg0)
          ∧ r.2.mem ((c.tc : Thread Cert.DiffInRefIdeal.nD Cert.DiffInRefIdeal.τ).loc Cert.DiffInRefIdeal.main_arg1) = m' ((c.tc : Thread Cert.DiffInRefIdeal.nD Cert.DiffInRefIdeal.τ).loc Cert.DiffInRefIdeal.main_arg1))

def preserves_SwaIn_SwaInIdeal : Prop :=
  True

def algebraic_SwaInIdeal_SwaInRefIdeal [hSwaInIdeal : Cert.SwaInIdeal.Facts] [hSwaInRefIdeal : Cert.SwaInRefIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInRefIdeal.nD Cert.SwaInRefIdeal.τ Cert.SwaInRefIdeal.sig) → Buf (Elt Ideal) ℓ) (g' : Dev Cert.SwaInRefIdeal.nD → PrngReg), Pre_SwaInIdeal m →
    (∀ c : Dev Cert.SwaInIdeal.nD,
      m' ((c.tc : Thread Cert.SwaInRefIdeal.nD Cert.SwaInRefIdeal.τ).loc Cert.SwaInRefIdeal.main_arg0) = m ((c.tc : Thread Cert.SwaInIdeal.nD Cert.SwaInIdeal.τ).loc Cert.SwaInIdeal.main_arg0)
      ∧ m' ((c.tc : Thread Cert.SwaInRefIdeal.nD Cert.SwaInRefIdeal.τ).loc Cert.SwaInRefIdeal.main_arg1) = m ((c.tc : Thread Cert.SwaInIdeal.nD Cert.SwaInIdeal.τ).loc Cert.SwaInIdeal.main_arg1)
      ∧ m' ((c.tc : Thread Cert.SwaInRefIdeal.nD Cert.SwaInRefIdeal.τ).loc Cert.SwaInRefIdeal.main_arg2) = m ((c.tc : Thread Cert.SwaInIdeal.nD Cert.SwaInIdeal.τ).loc Cert.SwaInIdeal.main_arg2)) →
    ∃ (v0 : (c : Dev Cert.SwaInIdeal.nD) → Buf (Elt Ideal) ((c.tc : Thread Cert.SwaInIdeal.nD Cert.SwaInIdeal.τ).loc Cert.SwaInIdeal.main_v5)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v5) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1)
          ∧ r.2.mem ((c.tc : Thread Cert.SwaInIdeal.nD Cert.SwaInIdeal.τ).loc Cert.SwaInIdeal.main_arg2) = m ((c.tc : Thread Cert.SwaInIdeal.nD Cert.SwaInIdeal.τ).loc Cert.SwaInIdeal.main_arg2))
      ∧ θ_run (Cert.SwaInRefIdeal.defs (F := Ideal)) (onTc (τ := Cert.SwaInRefIdeal.τ) (Cert.SwaInRefIdeal.main (F := Ideal))) ⟨m', fun _ => 0, g'⟩ (fun r => ∀ c : Dev Cert.SwaInRefIdeal.nD,
          r.2.mem ((c.tc : Thread Cert.SwaInRefIdeal.nD Cert.SwaInRefIdeal.τ).loc Cert.SwaInRefIdeal.main_v24) = v0 c
          ∧ r.2.mem ((c.tc : Thread Cert.SwaInRefIdeal.nD Cert.SwaInRefIdeal.τ).loc Cert.SwaInRefIdeal.main_arg0) = m' ((c.tc : Thread Cert.SwaInRefIdeal.nD Cert.SwaInRefIdeal.τ).loc Cert.SwaInRefIdeal.main_arg0)
          ∧ r.2.mem ((c.tc : Thread Cert.SwaInRefIdeal.nD Cert.SwaInRefIdeal.τ).loc Cert.SwaInRefIdeal.main_arg1) = m' ((c.tc : Thread Cert.SwaInRefIdeal.nD Cert.SwaInRefIdeal.τ).loc Cert.SwaInRefIdeal.main_arg1)
          ∧ r.2.mem ((c.tc : Thread Cert.SwaInRefIdeal.nD Cert.SwaInRefIdeal.τ).loc Cert.SwaInRefIdeal.main_arg2) = m' ((c.tc : Thread Cert.SwaInRefIdeal.nD Cert.SwaInRefIdeal.τ).loc Cert.SwaInRefIdeal.main_arg2))

def preserves_Bounds_BoundsIdeal : Prop :=
  True

def algebraic_BoundsIdeal_BoundsRefIdeal [hBoundsIdeal : Cert.BoundsIdeal.Facts] [hBoundsRefIdeal : Cert.BoundsRefIdeal.Facts] : Prop :=
  ∀ (m : (ℓ : Loc Cert.BoundsIdeal.nD Cert.BoundsIdeal.τ Cert.BoundsIdeal.sig) → Buf (Elt Ideal) ℓ) (g : Dev Cert.BoundsIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsIdeal m →
    (∀ c : Dev Cert.BoundsIdeal.nD,
      m' ((c.tc : Thread Cert.BoundsRefIdeal.nD Cert.BoundsRefIdeal.τ).loc Cert.BoundsRefIdeal.main_arg0) = m ((c.tc : Thread Cert.BoundsIdeal.nD Cert.BoundsIdeal.τ).loc Cert.BoundsIdeal.main_arg0)) →
    ∃ (v0 : (c : Dev Cert.BoundsIdeal.nD) → Buf (Elt Ideal) ((c.tc : Thread Cert.BoundsIdeal.nD Cert.BoundsIdeal.τ).loc Cert.BoundsIdeal.main_v0)),
      θ_run (Cert.BoundsIdeal.defs (F := Ideal)) (onTc (τ := Cert.BoundsIdeal.τ) (Cert.BoundsIdeal.main (F := Ideal))) ⟨m, fun _ => 0, g⟩ (fun r => ∀ c : Dev Cert.BoundsIdeal.nD,
          r.2.mem ((c.tc : Thread Cert.BoundsIdeal.nD Cert.BoundsIdeal.τ).loc Cert.BoundsIdeal.main_v0) = v0 c
          ∧ r.2.mem ((c.tc : Thread Cert.BoundsIdeal.nD Cert.BoundsIdeal.τ).loc Cert.BoundsIdeal.main_arg0) = m ((c.tc : Thread Cert.BoundsIdeal.nD Cert.BoundsIdeal.τ).loc Cert.BoundsIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v16) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def preserves_Diff_DiffIdeal : Prop :=
  IdealRules.named_const.Statement Cert.DiffIdeal.κ "log2e" .f32 0x3FB8AA3B#32 (((Real.log 2)⁻¹ : ℝ) : EReal)

def algebraic_DiffIdeal_DiffRefIdeal_pre_real_inputs [hDiffIdeal : Cert.DiffIdeal.Facts] [hDiffRefIdeal : Cert.DiffRefIdeal.Facts] [hPre_real_inputs : Cert.Pre_real_inputs.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_real_inputs m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v12)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v12) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v100) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hHgrnIn : Cert.HgrnIn.Facts) (hHgrnInIdeal : Cert.HgrnInIdeal.Facts) (hHgrnInRefIdeal : Cert.HgrnInRefIdeal.Facts) (hDiffIn : Cert.DiffIn.Facts) (hDiffInIdeal : Cert.DiffInIdeal.Facts) (hDiffInRefIdeal : Cert.DiffInRefIdeal.Facts) (hSwaIn : Cert.SwaIn.Facts) (hSwaInIdeal : Cert.SwaInIdeal.Facts) (hSwaInRefIdeal : Cert.SwaInRefIdeal.Facts) (hBounds : Cert.Bounds.Facts) (hBoundsIdeal : Cert.BoundsIdeal.Facts) (hBoundsRefIdeal : Cert.BoundsRefIdeal.Facts) (hDiff : Cert.Diff.Facts) (hDiffIdeal : Cert.DiffIdeal.Facts) (hDiffRefIdeal : Cert.DiffRefIdeal.Facts) (hPre_finite : Cert.Pre_finite.Facts) (hPre_real_inputs : Cert.Pre_real_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_DiffIn (hDiffIn := hDiffIn)
    ∧ quiescent_DiffInIdeal (hDiffInIdeal := hDiffInIdeal)
    ∧ quiescent_DiffInRefIdeal (hDiffInRefIdeal := hDiffInRefIdeal)
    ∧ quiescent_SwaIn (hSwaIn := hSwaIn)
    ∧ quiescent_SwaInIdeal (hSwaInIdeal := hSwaInIdeal)
    ∧ quiescent_SwaInRefIdeal (hSwaInRefIdeal := hSwaInRefIdeal)
    ∧ quiescent_Bounds (hBounds := hBounds)
    ∧ quiescent_BoundsIdeal (hBoundsIdeal := hBoundsIdeal)
    ∧ quiescent_BoundsRefIdeal (hBoundsRefIdeal := hBoundsRefIdeal)
    ∧ quiescent_Diff (hDiff := hDiff)
    ∧ quiescent_DiffIdeal (hDiffIdeal := hDiffIdeal)
    ∧ quiescent_DiffIdeal_pre_real_inputs (hDiffIdeal := hDiffIdeal) (hPre_real_inputs := hPre_real_inputs)
    ∧ quiescent_DiffRefIdeal (hDiffRefIdeal := hDiffRefIdeal)
    ∧ quiescent_DiffRefIdeal_pre_real_inputs (hDiffRefIdeal := hDiffRefIdeal) (hPre_real_inputs := hPre_real_inputs)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_DiffIn_DiffInIdeal
    ∧ algebraic_DiffInIdeal_DiffInRefIdeal (hDiffInIdeal := hDiffInIdeal) (hDiffInRefIdeal := hDiffInRefIdeal)
    ∧ preserves_SwaIn_SwaInIdeal
    ∧ algebraic_SwaInIdeal_SwaInRefIdeal (hSwaInIdeal := hSwaInIdeal) (hSwaInRefIdeal := hSwaInRefIdeal)
    ∧ preserves_Bounds_BoundsIdeal
    ∧ algebraic_BoundsIdeal_BoundsRefIdeal (hBoundsIdeal := hBoundsIdeal) (hBoundsRefIdeal := hBoundsRefIdeal)
    ∧ preserves_Diff_DiffIdeal
    ∧ algebraic_DiffIdeal_DiffRefIdeal_pre_real_inputs (hDiffIdeal := hDiffIdeal) (hDiffRefIdeal := hDiffRefIdeal) (hPre_real_inputs := hPre_real_inputs)
-- ==== Pre_finite.lean ====
abbrev S4x2048x2048 : Shape := ⟨3, ![4, 2048, 2048]⟩
abbrev S4x2048x512 : Shape := ⟨3, ![4, 2048, 512]⟩
abbrev S32 : Shape := ⟨1, ![32]⟩
abbrev S32x32 : Shape := ⟨2, ![32, 32]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  main_v18

def fn {F : FTy → Type} [FloatOps F] (main_arg0 : FVec F S4x2048x2048 .f32) (main_arg1 : FVec F S4x2048x512 .f32) (main_arg2 : FVec F S4x2048x512 .f32) (main_arg3 : FVec F S32 .f32) (main_arg4 : FVec F S32x32 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_v13 main_v16
-- ==== Pre_real_inputs.lean ====
abbrev S4x2048x2048 : Shape := ⟨3, ![4, 2048, 2048]⟩
abbrev S4x64 : Shape := ⟨2, ![4, 64]⟩
abbrev S128 : Shape := ⟨1, ![128]⟩
abbrev S32x32 : Shape := ⟨2, ![32, 32]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x2048x2048 .f32) (main_arg1 : FVec F S4x2048x2048 .f32) (main_arg2 : FVec F S4x2048x2048 .f32) (main_arg3 : FVec F S4x64 .f32) (main_arg4 : FVec F S128 .f32) (main_arg5 : FVec F S32x32 .f32) : IVec S_ 1 :=
  let main_v0 : FVec F S4x2048x2048 .f32 := Host.absf main_arg2
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S4x2048x2048 : Shape := ⟨3, ![4, 2048, 2048]⟩
abbrev S4x2048x512 : Shape := ⟨3, ![4, 2048, 512]⟩
abbrev S32 : Shape := ⟨1, ![32]⟩
abbrev S32x32 : Shape := ⟨2, ![32, 32]⟩
abbrev S_ : Shape := ⟨0, ![]⟩
abbrev S8192x2048 : Shape := ⟨2, ![8192, 2048]⟩
abbrev S8192x8x1x64 : Shape := ⟨4, ![8192, 8, 1, 64]⟩
abbrev S8192x8x2x64 : Shape := ⟨4, ![8192, 8, 2, 64]⟩
abbrev S8192x1024 : Shape := ⟨2, ![8192, 1024]⟩
abbrev S32x256x512 : Shape := ⟨3, ![32, 256, 512]⟩
abbrev S8x256x512 : Shape := ⟨3, ![8, 256, 512]⟩
abbrev S256x512 : Shape := ⟨2, ![256, 512]⟩
abbrev S1x1 : Shape := ⟨2, ![1, 1]⟩
abbrev S1x256x512 : Shape := ⟨3, ![1, 256, 512]⟩
abbrev S128x2048 : Shape := ⟨2, ![128, 2048]⟩
abbrev S128x1024 : Shape := ⟨2, ![128, 1024]⟩
abbrev S32x128x256 : Shape := ⟨3, ![32, 128, 256]⟩
abbrev S1x256 : Shape := ⟨2, ![1, 256]⟩
abbrev S128x128 : Shape := ⟨2, ![128, 128]⟩
abbrev S128x256 : Shape := ⟨2, ![128, 256]⟩
abbrev S512x128 : Shape := ⟨2, ![512, 128]⟩
abbrev S256x128 : Shape := ⟨2, ![256, 128]⟩
abbrev S512x256 : Shape := ⟨2, ![512, 256]⟩
abbrev S4x128x256 : Shape := ⟨3, ![4, 128, 256]⟩
abbrev S1 : Shape := ⟨1, ![1]⟩
abbrev S128x1 : Shape := ⟨2, ![128, 1]⟩
abbrev S512x1 : Shape := ⟨2, ![512, 1]⟩
abbrev S512 : Shape := ⟨1, ![512]⟩
abbrev S128x512 : Shape := ⟨2, ![128, 512]⟩

abbrev nBuf : Space → Nat
  | .hbm => 24
  | .vmem => 17
  | .smem => 2
  | _ => 0

abbrev bufTy : (tb : Table) → Fin (tcTables nBuf tb) → BufTy
  | .hbm, ⟨0, _⟩ => ⟨S4x2048x2048, .f32⟩
  | .hbm, ⟨1, _⟩ => ⟨S4x2048x512, .f32⟩
  | .hbm, ⟨2, _⟩ => ⟨S4x2048x512, .f32⟩
  | .hbm, ⟨3, _⟩ => ⟨S32, .f32⟩
  | .hbm, ⟨4, _⟩ => ⟨S32x32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x8x1x64, .f32⟩
  | .hbm, ⟨14, _⟩ => ⟨S8192x8x2x64, .f32⟩
  | .hbm, ⟨15, _⟩ => ⟨S8192x1024, .f32⟩
  | .hbm, ⟨16, _⟩ => ⟨S8192x8x1x64, .f32⟩
  | .hbm, ⟨17, _⟩ => ⟨S8192x8x2x64, .f32⟩
  | .hbm, ⟨18, _⟩ => ⟨S8192x1024, .f32⟩
  | .hbm, ⟨19, _⟩ => ⟨S8192x2048, .f32⟩
  | .hbm, ⟨20, _⟩ => ⟨S8192x2048, .bf16⟩
  | .hbm, ⟨21, _⟩ => ⟨S32x256x512, .f32⟩
  | .hbm, ⟨22, _⟩ => ⟨S32x256x512, .f32⟩
  | .hbm, ⟨23, _⟩ => ⟨S8192x2048, .bf16⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S128x2048, .bf16⟩
  | .local _ .vmem, ⟨5, _⟩ => ⟨S128x2048, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S32x128x256, .f32⟩
  | .local _ .vmem, ⟨15, _⟩ => ⟨S128x2048, .bf16⟩
  | .local _ .vmem, ⟨16, _⟩ => ⟨S128x2048, .bf16⟩
  | .local _ .smem, ⟨0, _⟩ => ⟨S32x32, .f32⟩
  | .local _ .smem, ⟨1, _⟩ => ⟨S32, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![4], ![false]⟩

def k0_off1 (i : grid0.Coords) (c0_i32_2 : BitVec 32) : Fin 2 → Nat :=
  let c0 : Index := 0#32
  let arg0 : BitVec 32 := BitVec.ofNat 32 (i 0).val
  let c8_i32 : BitVec 32 := 8#32
  let v0 : BitVec 32 := Scalar.muli arg0 c8_i32
  let v75 : BitVec 32 := Scalar.addi v0 c0_i32_2
  let v76 : Index := Scalar.indexCast v75
  ![0, v76.toNat]
def k0_off2 (i : grid0.Coords) (c0_i32_4 : BitVec 32) : Fin 2 → Nat :=
  let c1 : Index := 1#32
  let arg0 : BitVec 32 := BitVec.ofNat 32 (i 0).val
  let c8_i32 : BitVec 32 := 8#32
  let v0 : BitVec 32 := Scalar.muli arg0 c8_i32
  let v83 : BitVec 32 := Scalar.addi v0 c0_i32_4
  let v84 : Index := Scalar.indexCast v83
  ![1, v84.toNat]
def k0_off3 (i : grid0.Coords) (c0_i32_6 : BitVec 32) : Fin 2 → Nat :=
  let c2 : Index := 2#32
  let arg0 : BitVec 32 := BitVec.ofNat 32 (i 0).val
  let c8_i32 : BitVec 32 := 8#32
  let v0 : BitVec 32 := Scalar.muli arg0 c8_i32
  let v91 : BitVec 32 := Scalar.addi v0 c0_i32_6
  let v92 : Index := Scalar.indexCast v91
  ![2, v92.toNat]
def k0_off4 (i : grid0.Coords) (c0_i32_8 : BitVec 32) : Fin 2 → Nat :=
  let c3 : Index := 3#32
  let arg0 : BitVec 32 := BitVec.ofNat 32 (i 0).val
  let c8_i32 : BitVec 32 := 8#32
  let v0 : BitVec 32 := Scalar.muli arg0 c8_i32
  let v99 : BitVec 32 := Scalar.addi v0 c0_i32_8
  let v100 : Index := Scalar.indexCast v99
  ![3, v100.toNat]
def k0_off5 (i : grid0.Coords) (c0_i32_10 : BitVec 32) : Fin 2 → Nat :=
  let c4 : Index := 4#32
  let arg0 : BitVec 32 := BitVec.ofNat 32 (i 0).val
  let c8_i32 : BitVec 32 := 8#32
  let v0 : BitVec 32 := Scalar.muli arg0 c8_i32
  let v107 : BitVec 32 := Scalar.addi v0 c0_i32_10
  let v108 : Index := Scalar.indexCast v107
  ![4, v108.toNat]
def k0_off6 (i : grid0.Coords) (c0_i32_12 : BitVec 32) : Fin 2 → Nat :=
  let c5 : Index := 5#32
  let arg0 : BitVec 32 := BitVec.ofNat 32 (i 0).val
  let c8_i32 : BitVec 32 := 8#32
  let v0 : BitVec 32 := Scalar.muli arg0 c8_i32
  let v115 : BitVec 32 := Scalar.addi v0 c0_i32_12
  let v116 : Index := Scalar.indexCast v115
  ![5, v116.toNat]
def k0_off7 (i : grid0.Coords) (c0_i32_14 : BitVec 32) : Fin 2 → Nat :=
  let c6 : Index := 6#32
  let arg0 : BitVec 32 := BitVec.ofNat 32 (i 0).val
  let c8_i32 : BitVec 32 := 8#32
  let v0 : BitVec 32 := Scalar.muli arg0 c8_i32
  let v123 : BitVec 32 := Scalar.addi v0 c0_i32_14
  let v124 : Index := Scalar.indexCast v123
  ![6, v124.toNat]
def k0_off8 (i : grid0.Coords) (c0_i32_16 : BitVec 32) : Fin 2 → Nat :=
  let c7 : Index := 7#32
  let arg0 : BitVec 32 := BitVec.ofNat 32 (i 0).val
  let c8_i32 : BitVec 32 := 8#32
  let v0 : BitVec 32 := Scalar.muli arg0 c8_i32
  let v131 : BitVec 32 := Scalar.addi v0 c0_i32_16
  let v132 : Index := Scalar.indexCast v131
  ![7, v132.toNat]
def k0_off9 (i : grid0.Coords) (c0_i32_19 : BitVec 32) : Fin 2 → Nat :=
  let c8 : Index := 8#32
  let arg0 : BitVec 32 := BitVec.ofNat 32 (i 0).val
  let c8_i32 : BitVec 32 := 8#32
  let v0 : BitVec 32 := Scalar.muli arg0 c8_i32
  let v139 : BitVec 32 := Scalar.addi v0 c0_i32_19
  let v140 : Index := Scalar.indexCast v139
  ![8, v140.toNat]
def k0_off10 (i : grid0.Coords) (c0_i32_21 : BitVec 32) : Fin 2 → Nat :=
  let c9 : Index := 9#32
  let arg0 : BitVec 32 := BitVec.ofNat 32 (i 0).val
  let c8_i32 : BitVec 32 := 8#32
  let v0 : BitVec 32 := Scalar.muli arg0 c8_i32
  let v147 : BitVec 32 := Scalar.addi v0 c0_i32_21
  let v148 : Index := Scalar.indexCast v147
  ![9, v148.toNat]
def k0_off11 (i : grid0.Coords) (c0_i32_23 : BitVec 32) : Fin 2 → Nat :=
  let c10 : Index := 10#32
  let arg0 : BitVec 32 := BitVec.ofNat 32 (i 0).val
  let c8_i32 : BitVec 32 := 8#32
  let v0 : BitVec 32 := Scalar.muli arg0 c8_i32
  let v155 : BitVec 32 := Scalar.addi v0 c0_i32_23
  let v156 : Index := Scalar.indexCast v155
  ![10, v156.toNat]
def k0_off12 (i : grid0.Coords) (c0_i32_25 : BitVec 32) : Fin 2 → Nat :=
  let c11 : Index := 11#32
  let arg0 : BitVec 32 := BitVec.ofNat 32 (i 0).val
  let c8_i32 : BitVec 32 := 8#32
  let v0 : BitVec 32 := Scalar.muli arg0 c8_i32
  let v163 : BitVec 32 := Scalar.addi v0 c0_i32_25
  let v164 : Index := Scalar.indexCast v163
  ![11, v164.toNat]
def k0_off13 (i : grid0.Coords) (c0_i32_27 : BitVec 32) : Fin 2 → Nat :=
  let c12 : Index := 12#32
  let arg0 : BitVec 32 := BitVec.ofNat 32 (i 0).val
  let c8_i32 : BitVec 32 := 8#32
  let v0 : BitVec 32 := Scalar.muli arg0 c8_i32
  let v171 : BitVec 32 := Scalar.addi v0 c0_i32_27
  let v172 : Index := Scalar.indexCast v171
  ![12, v172.toNat]
def k0_off14 (i : grid0.Coords) (c0_i32_29 : BitVec 32) : Fin 2 → Nat :=
  let c13 : Index := 13#32
  let arg0 : BitVec 32 := BitVec.ofNat 32 (i 0).val
  let c8_i32 : BitVec 32 := 8#32
  let v0 : BitVec 32 := Scalar.muli arg0 c8_i32
  let v179 : BitVec 32 := Scalar.addi v0 c0_i32_29
  let v180 : Index := Scalar.indexCast v179
  ![13, v180.toNat]
def k0_off15 (i : grid0.Coords) (c0_i32_31 : BitVec 32) : Fin 2 → Nat :=
  let c14 : Index := 14#32
  let arg0 : BitVec 32 := BitVec.ofNat 32 (i 0).val
  let c8_i32 : BitVec 32 := 8#32
  let v0 : BitVec 32 := Scalar.muli arg0 c8_i32
  let v187 : BitVec 32 := Scalar.addi v0 c0_i32_31
  let v188 : Index := Scalar.indexCast v187
  ![14, v188.toNat]
def k0_off16 (i : grid0.Coords) (c0_i32_33 : BitVec 32) : Fin 2 → Nat :=
  let c15 : Index := 15#32
  let arg0 : BitVec 32 := BitVec.ofNat 32 (i 0).val
  let c8_i32 : BitVec 32 := 8#32
  let v0 : BitVec 32 := Scalar.muli arg0 c8_i32
  let v195 : BitVec 32 := Scalar.addi v0 c0_i32_33
  let v196 : Index := Scalar.indexCast v195
  ![15, v196.toNat]
def k0_off17 (i : grid0.Coords) (c0_i32_36 : BitVec 32) : Fin 2 → Nat :=
  let c16 : Index := 16#32
  let arg0 : BitVec 32 := BitVec.ofNat 32 (i 0).val
  let c8_i32 : BitVec 32 := 8#32
  let v0 : BitVec 32 := Scalar.muli arg0 c8_i32
  let v203 : BitVec 32 := Scalar.addi v0 c0_i32_36
  let v204 : Index := Scalar.indexCast v203
  ![16, v204.toNat]
def k0_off18 (i : grid0.Coords) (c0_i32_38 : BitVec 32) : Fin 2 → Nat :=
  let c17 : Index := 17#32
  let arg0 : BitVec 32 := BitVec.ofNat 32 (i 0).val
  let c8_i32 : BitVec 32 := 8#32
  let v0 : BitVec 32 := Scalar.muli arg0 c8_i32
  let v211 : BitVec 32 := Scalar.addi v0 c0_i32_38
  let v212 : Index := Scalar.indexCast v211
  ![17, v212.toNat]
def k0_off19 (i : grid0.Coords) (c0_i32_40 : BitVec 32) : Fin 2 → Nat :=
  let c18 : Index := 18#32
  let arg0 : BitVec 32 := BitVec.ofNat 32 (i 0).val
  let c8_i32 : BitVec 32 := 8#32
  let v0 : BitVec 32 := Scalar.muli arg0 c8_i32
  let v219 : BitVec 32 := Scalar.addi v0 c0_i32_40
  let v220 : Index := Scalar.indexCast v219
  ![18, v220.toNat]
def k0_off20 (i : grid0.Coords) (c0_i32_43 : BitVec 32) : Fin 2 → Nat :=
  let c19 : Index := 19#32
  let arg0 : BitVec 32 := BitVec.ofNat 32 (i 0).val
  let c8_i32 : BitVec 32 := 8#32
  let v0 : BitVec 32 := Scalar.muli arg0 c8_i32
  let v227 : BitVec 32 := Scalar.addi v0 c0_i32_43
  let v228 : Index := Scalar.indexCast v227
  ![19, v228.toNat]
def k0_off21 (i : grid0.Coords) (c0_i32_45 : BitVec 32) : Fin 2 → Nat :=
  let c20 : Index := 20#32
  let arg0 : BitVec 32 := BitVec.ofNat 32 (i 0).val
  let c8_i32 : BitVec 32 := 8#32
  let v0 : BitVec 32 := Scalar.muli arg0 c8_i32
  let v235 : BitVec 32 := Scalar.addi v0 c0_i32_45
  let v236 : Index := Scalar.indexCast v235
  ![20, v236.toNat]
def k0_off22 (i : grid0.Coords) (c0_i32_48 : BitVec 32) : Fin 2 → Nat :=
  let c21 : Index := 21#32
  let arg0 : BitVec 32 := BitVec.ofNat 32 (i 0).val
  let c8_i32 : BitVec 32 := 8#32
  let v0 : BitVec 32 := Scalar.muli arg0 c8_i32
  let v243 : BitVec 32 := Scalar.addi v0 c0_i32_48
  let v244 : Index := Scalar.indexCast v243
  ![21, v244.toNat]
def k0_off23 (i : grid0.Coords) (c0_i32_50 : BitVec 32) : Fin 2 → Nat :=
  let c22 : Index := 22#32
  let arg0 : BitVec 32 := BitVec.ofNat 32 (i 0).val
  let c8_i32 : BitVec 32 := 8#32
  let v0 : BitVec 32 := Scalar.muli arg0 c8_i32
  let v251 : BitVec 32 := Scalar.addi v0 c0_i32_50
  let v252 : Index := Scalar.indexCast v251
  ![22, v252.toNat]
def k0_off24 (i : grid0.Coords) (c0_i32_52 : BitVec 32) : Fin 2 → Nat :=
  let c23 : Index := 23#32
  let arg0 : BitVec 32 := BitVec.ofNat 32 (i 0).val
  let c8_i32 : BitVec 32 := 8#32
  let v0 : BitVec 32 := Scalar.muli arg0 c8_i32
  let v259 : BitVec 32 := Scalar.addi v0 c0_i32_52
  let v260 : Index := Scalar.indexCast v259
  ![23, v260.toNat]
def k0_off25 (i : grid0.Coords) (c0_i32_55 : BitVec 32) : Fin 2 → Nat :=
  let c24 : Index := 24#32
  let arg0 : BitVec 32 := BitVec.ofNat 32 (i 0).val
  let c8_i32 : BitVec 32 := 8#32
  let v0 : BitVec 32 := Scalar.muli arg0 c8_i32
  let v267 : BitVec 32 := Scalar.addi v0 c0_i32_55
  let v268 : Index := Scalar.indexCast v267
  ![24, v268.toNat]
def k0_off26 (i : grid0.Coords) (c0_i32_57 : BitVec 32) : Fin 2 → Nat :=
  let c25 : Index := 25#32
  let arg0 : BitVec 32 := BitVec.ofNat 32 (i 0).val
  let c8_i32 : BitVec 32 := 8#32
  let v0 : BitVec 32 := Scalar.muli arg0 c8_i32
  let v275 : BitVec 32 := Scalar.addi v0 c0_i32_57
  let v276 : Index := Scalar.indexCast v275
  ![25, v276.toNat]
def k0_off27 (i : grid0.Coords) (c0_i32_59 : BitVec 32) : Fin 2 → Nat :=
  let c26 : Index := 26#32
  let arg0 : BitVec 32 := BitVec.ofNat 32 (i 0).val
  let c8_i32 : BitVec 32 := 8#32
  let v0 : BitVec 32 := Scalar.muli arg0 c8_i32
  let v283 : BitVec 32 := Scalar.addi v0 c0_i32_59
  let v284 : Index := Scalar.indexCast v283
  ![26, v284.toNat]
def k0_off28 (i : grid0.Coords) (c0_i32_62 : BitVec 32) : Fin 2 → Nat :=
  let c27 : Index := 27#32
  let arg0 : BitVec 32 := BitVec.ofNat 32 (i 0).val
  let c8_i32 : BitVec 32 := 8#32
  let v0 : BitVec 32 := Scalar.muli arg0 c8_i32
  let v291 : BitVec 32 := Scalar.addi v0 c0_i32_62
  let v292 : Index := Scalar.indexCast v291
  ![27, v292.toNat]
def k0_off29 (i : grid0.Coords) (c0_i32_64 : BitVec 32) : Fin 2 → Nat :=
  let c28 : Index := 28#32
  let arg0 : BitVec 32 := BitVec.ofNat 32 (i 0).val
  let c8_i32 : BitVec 32 := 8#32
  let v0 : BitVec 32 := Scalar.muli arg0 c8_i32
  let v299 : BitVec 32 := Scalar.addi v0 c0_i32_64
  let v300 : Index := Scalar.indexCast v299
  ![28, v300.toNat]
def k0_off30 (i : grid0.Coords) (c0_i32_66 : BitVec 32) : Fin 2 → Nat :=
  let c29 : Index := 29#32
  let arg0 : BitVec 32 := BitVec.ofNat 32 (i 0).val
  let c8_i32 : BitVec 32 := 8#32
  let v0 : BitVec 32 := Scalar.muli arg0 c8_i32
  let v307 : BitVec 32 := Scalar.addi v0 c0_i32_66
  let v308 : Index := Scalar.indexCast v307
  ![29, v308.toNat]
def k0_off31 (i : grid0.Coords) (c0_i32_68 : BitVec 32) : Fin 2 → Nat :=
  let c30 : Index := 30#32
  let arg0 : BitVec 32 := BitVec.ofNat 32 (i 0).val
  let c8_i32 : BitVec 32 := 8#32
  let v0 : BitVec 32 := Scalar.muli arg0 c8_i32
  let v315 : BitVec 32 := Scalar.addi v0 c0_i32_68
  let v316 : Index := Scalar.indexCast v315
  ![30, v316.toNat]
def k0_off32 (i : grid0.Coords) (c0_i32_71 : BitVec 32) : Fin 2 → Nat :=
  let c31 : Index := 31#32
  let arg0 : BitVec 32 := BitVec.ofNat 32 (i 0).val
  let c8_i32 : BitVec 32 := 8#32
  let v0 : BitVec 32 := Scalar.muli arg0 c8_i32
  let v323 : BitVec 32 := Scalar.addi v0 c0_i32_71
  let v324 : Index := Scalar.indexCast v323
  ![31, v324.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c1_i32_0 : BitVec 32 := 1#32
  let c0_i32_1 : BitVec 32 := 0#32
  ![c0_i32.toNat, c1_i32.toNat, c1_i32_0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .smem S32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S32x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S128x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x2048x2048 : Shape := ⟨3, ![4, 2048, 2048]⟩
abbrev S4x2048x512 : Shape := ⟨3, ![4, 2048, 512]⟩
abbrev S32 : Shape := ⟨1, ![32]⟩
abbrev S32x32 : Shape := ⟨2, ![32, 32]⟩
abbrev S4x16x128x8x4x64 : Shape := ⟨6, ![4, 16, 128, 8, 4, 64]⟩
abbrev S_ : Shape := ⟨0, ![]⟩
abbrev S4x2176x512 : Shape := ⟨3, ![4, 2176, 512]⟩
abbrev S4x17x128x8x64 : Shape := ⟨5, ![4, 17, 128, 8, 64]⟩
abbrev S4x16x128x8x64 : Shape := ⟨5, ![4, 16, 128, 8, 64]⟩
abbrev S4x16x256x8x64 : Shape := ⟨5, ![4, 16, 256, 8, 64]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S128x256x1 : Shape := ⟨3, ![128, 256, 1]⟩
abbrev S128x256x32 : Shape := ⟨3, ![128, 256, 32]⟩
abbrev S32x128x256 : Shape := ⟨3, ![32, 128, 256]⟩
abbrev S8x4x128x256 : Shape := ⟨4, ![8, 4, 128, 256]⟩
abbrev S4x16x8x256x128x4 : Shape := ⟨6, ![4, 16, 8, 256, 128, 4]⟩
abbrev S4x16x8x4x128x256 : Shape := ⟨6, ![4, 16, 8, 4, 128, 256]⟩
abbrev S1x1x8x4x128x256 : Shape := ⟨6, ![1, 1, 8, 4, 128, 256]⟩
abbrev S1x16x1x1x128x256 : Shape := ⟨6, ![1, 16, 1, 1, 128, 256]⟩
abbrev S8x4x1x1 : Shape := ⟨4, ![8, 4, 1, 1]⟩
abbrev S4x16x8x4x128x1 : Shape := ⟨6, ![4, 16, 8, 4, 128, 1]⟩
abbrev S4x16x8x4x128x257 : Shape := ⟨6, ![4, 16, 8, 4, 128, 257]⟩
abbrev S4x16x8x4x128 : Shape := ⟨5, ![4, 16, 8, 4, 128]⟩
abbrev S4x16x8x64x4x128 : Shape := ⟨6, ![4, 16, 8, 64, 4, 128]⟩
abbrev S8192x2048 : Shape := ⟨2, ![8192, 2048]⟩

abbrev nBuf : Space → Nat
  | .hbm => 129
  | .vmem => 0
  | .smem => 0
  | _ => 0

abbrev hbmTy0_0 (i : Nat) : BufTy := match i % 128 with
  | 0 => ⟨S4x2048x2048, .f32⟩
  | 1 => ⟨S4x2048x512, .f32⟩
  | 2 => ⟨S4x2048x512, .f32⟩
  | 3 => ⟨S32, .f32⟩
  | 4 => ⟨S32x32, .f32⟩
  | 5 => ⟨S4x16x128x8x4x64, .f32⟩
  | 6 => ⟨S_, .i32⟩
  | 7 => ⟨S_, .f32⟩
  | 8 => ⟨S4x2176x512, .f32⟩
  | 9 => ⟨S4x17x128x8x64, .f32⟩
  | 10 => ⟨S_, .i32⟩
  | 11 => ⟨S_, .f32⟩
  | 12 => ⟨S4x2176x512, .f32⟩
  | 13 => ⟨S4x17x128x8x64, .f32⟩
  | 14 => ⟨S4x16x128x8x64, .f32⟩
  | 15 => ⟨S4x16x128x8x64, .f32⟩
  | 16 => ⟨S4x16x256x8x64, .f32⟩
  | 17 => ⟨S4x16x128x8x64, .f32⟩
  | 18 => ⟨S4x16x128x8x64, .f32⟩
  | 19 => ⟨S4x16x256x8x64, .f32⟩
  | 20 => ⟨S128, .i32⟩
  | 21 => ⟨S256, .i32⟩
  | 22 => ⟨S_, .i32⟩
  | 23 => ⟨S256, .i32⟩
  | 24 => ⟨S256, .i32⟩
  | 25 => ⟨S128x1, .i32⟩
  | 26 => ⟨S1x256, .i32⟩
  | 27 => ⟨S128x256, .i32⟩
  | 28 => ⟨S128x256, .i32⟩
  | 29 => ⟨S128x256, .i32⟩
  | 30 => ⟨S_, .i32⟩
  | 31 => ⟨S128x256, .i32⟩
  | 32 => ⟨S128x256, .i1⟩
  | 33 => ⟨S_, .i32⟩
  | 34 => ⟨S128x256, .i32⟩
  | 35 => ⟨S128x256, .i1⟩
  | 36 => ⟨S128x256, .i1⟩
  | 37 => ⟨S16, .i32⟩
  | 38 => ⟨S16x1, .i32⟩
  | 39 => ⟨S_, .i32⟩
  | 40 => ⟨S16x1, .i32⟩
  | 41 => ⟨S16x1, .i1⟩
  | 42 => ⟨S1x256, .i32⟩
  | 43 => ⟨S_, .i32⟩
  | 44 => ⟨S1x256, .i32⟩
  | 45 => ⟨S1x256, .i1⟩
  | 46 => ⟨S16x256, .i1⟩
  | 47 => ⟨S16x256, .i1⟩
  | 48 => ⟨S16x256, .i1⟩
  | 49 => ⟨S1x128x256, .i1⟩
  | 50 => ⟨S16x1x256, .i1⟩
  | 51 => ⟨S16x128x256, .i1⟩
  | 52 => ⟨S16x128x256, .i1⟩
  | 53 => ⟨S16x128x256, .i1⟩
  | 54 => ⟨S_, .i32⟩
  | 55 => ⟨S128x256, .i32⟩
  | 56 => ⟨S128x256, .i32⟩
  | 57 => ⟨S_, .i32⟩
  | 58 => ⟨S128x256, .i32⟩
  | 59 => ⟨S128x256, .i32⟩
  | 60 => ⟨S128x256, .f32⟩
  | 61 => ⟨S_, .f32⟩
  | 62 => ⟨S128x256, .f32⟩
  | 63 => ⟨S128x256, .f32⟩
  | 64 => ⟨S128x256, .f32⟩
  | 65 => ⟨S_, .f32⟩
  | 66 => ⟨S128x256, .f32⟩
  | 67 => ⟨S128x256, .f32⟩
  | 68 => ⟨S_, .f32⟩
  | 69 => ⟨S128x256, .f32⟩
  | 70 => ⟨S128x256, .f32⟩
  | 71 => ⟨S128x256, .i32⟩
  | 72 => ⟨S_, .i32⟩
  | 73 => ⟨S128x256, .i32⟩
  | 74 => ⟨S128x256, .i32⟩
  | 75 => ⟨S_, .i32⟩
  | 76 => ⟨S128x256, .i32⟩
  | 77 => ⟨S128x256, .i32⟩
  | 78 => ⟨S_, .i32⟩
  | 79 => ⟨S128x256, .i32⟩
  | 80 => ⟨S128x256, .i1⟩
  | 81 => ⟨S128x256, .i32⟩
  | 82 => ⟨S_, .i32⟩
  | 83 => ⟨S128x256, .i32⟩
  | 84 => ⟨S128x256, .i1⟩
  | 85 => ⟨S_, .i32⟩
  | 86 => ⟨S128x256, .i32⟩
  | 87 => ⟨S128x256, .i32⟩
  | 88 => ⟨S128x256, .i32⟩
  | 89 => ⟨S128x256x1, .i32⟩
  | 90 => ⟨S128x256x32, .f32⟩
  | 91 => ⟨S32x128x256, .f32⟩
  | 92 => ⟨S8x4x128x256, .f32⟩
  | 93 => ⟨S4x16x8x256x128x4, .f32⟩
  | 94 => ⟨S4x16x8x4x128x256, .f32⟩
  | 95 => ⟨S_, .f32⟩
  | 96 => ⟨S4x16x8x4x128x256, .f32⟩
  | 97 => ⟨S4x16x8x4x128x256, .f32⟩
  | 98 => ⟨S1x1x8x4x128x256, .f32⟩
  | 99 => ⟨S4x16x8x4x128x256, .f32⟩
  | 100 => ⟨S4x16x8x4x128x256, .f32⟩
  | 101 => ⟨S1x16x1x1x128x256, .i1⟩
  | 102 => ⟨S_, .f32⟩
  | 103 => ⟨S_, .f32⟩
  | 104 => ⟨S4x16x8x4x128x256, .i1⟩
  | 105 => ⟨S4x16x8x4x128x256, .f32⟩
  | 106 => ⟨S4x16x8x4x128x256, .f32⟩
  | 107 => ⟨S8x4x1x1, .f32⟩
  | 108 => ⟨S4x16x8x4x128x1, .f32⟩
  | 109 => ⟨S4x16x8x4x128x257, .f32⟩
  | 110 => ⟨S_, .f32⟩
  | 111 => ⟨S4x16x8x4x128, .f32⟩
  | 112 => ⟨S_, .f32⟩
  | 113 => ⟨S4x16x8x4x128, .f32⟩
  | 114 => ⟨S4x16x8x4x128, .f32⟩
  | 115 => ⟨S4x16x8x4x128x1, .f32⟩
  | 116 => ⟨S4x16x8x4x128x257, .f32⟩
  | 117 => ⟨S4x16x8x4x128x257, .f32⟩
  | 118 => ⟨S4x16x8x4x128x257, .f32⟩
  | 119 => ⟨S_, .f32⟩
  | 120 => ⟨S4x16x8x4x128, .f32⟩
  | 121 => ⟨S4x16x8x4x128x1, .f32⟩
  | 122 => ⟨S4x16x8x4x128x257, .f32⟩
  | 123 => ⟨S4x16x8x4x128x257, .f32⟩
  | 124 => ⟨S4x16x8x4x128x256, .f32⟩
  | 125 => ⟨S4x16x8x64x4x128, .f32⟩
  | 126 => ⟨S4x16x128x8x4x64, .f32⟩
  | 127 => ⟨S8192x2048, .f32⟩
  | _ => ⟨S4x2048x2048, .f32⟩

abbrev hbmTy0_1 (i : Nat) : BufTy := match i % 128 with
  | 0 => ⟨S8192x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩

abbrev nD : Nat := 1
abbrev τ : Topo := Topo.v7x

variable {F : FTy → Type} [FloatOps F]
-- ==== Up.lean ====
abbrev S4x2048x2048 : Shape := ⟨3, ![4, 2048, 2048]⟩
abbrev S4x2048x11264 : Shape := ⟨3, ![4, 2048, 11264]⟩
abbrev S4x3x11264 : Shape := ⟨3, ![4, 3, 11264]⟩
abbrev S4x5632x2048 : Shape := ⟨3, ![4, 5632, 2048]⟩
abbrev S8192x2048 : Shape := ⟨2, ![8192, 2048]⟩
abbrev S8192x5632 : Shape := ⟨2, ![8192, 5632]⟩
abbrev S1x5632x2048 : Shape := ⟨3, ![1, 5632, 2048]⟩
abbrev S2048x2048 : Shape := ⟨2, ![2048, 2048]⟩
abbrev S1x2048x512 : Shape := ⟨3, ![1, 2048, 512]⟩
abbrev S1x3x512 : Shape := ⟨3, ![1, 3, 512]⟩
abbrev S1x512x2048 : Shape := ⟨3, ![1, 512, 2048]⟩
abbrev S2048x512 : Shape := ⟨2, ![2048, 512]⟩
abbrev S512x2048 : Shape := ⟨2, ![512, 2048]⟩
abbrev S512x1 : Shape := ⟨2, ![512, 1]⟩
abbrev S3x512 : Shape := ⟨2, ![3, 512]⟩
abbrev S2x512 : Shape := ⟨2, ![2, 512]⟩
abbrev S512x512 : Shape := ⟨2, ![512, 512]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048x11264, .f32⟩
  | .hbm, ⟨2, _⟩ => ⟨S4x3x11264, .f32⟩
  | .hbm, ⟨3, _⟩ => ⟨S4x5632x2048, .f32⟩
  | .hbm, ⟨4, _⟩ => ⟨S8192x2048, .f32⟩
  | .hbm, ⟨5, _⟩ => ⟨S8192x2048, .bf16⟩
  | .hbm, ⟨6, _⟩ => ⟨S8192x5632, .bf16⟩
  | .hbm, ⟨7, _⟩ => ⟨S1x5632x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x512x2048, .f32⟩
  | .local _ .vmem, ⟨11, _⟩ => ⟨S1x512x2048, .f32⟩
  | .local _ .vmem, ⟨12, _⟩ => ⟨S2048x512, .bf16⟩
  | .local _ .vmem, ⟨13, _⟩ => ⟨S2048x512, .bf16⟩
  | .local _ .vmem, ⟨14, _⟩ => ⟨S1x512x2048, .bf16⟩
  | .local _ .vmem, ⟨15, _⟩ => ⟨S1x512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== UpRefIdeal.lean ====
abbrev S4x2048x2048 : Shape := ⟨3, ![4, 2048, 2048]⟩
abbrev S4x2048x11264 : Shape := ⟨3, ![4, 2048, 11264]⟩
abbrev S4x3x11264 : Shape := ⟨3, ![4, 3, 11264]⟩
abbrev S4x5632x2048 : Shape := ⟨3, ![4, 5632, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S_ : Shape := ⟨0, ![]⟩
abbrev S4x2050x11264 : Shape := ⟨3, ![4, 2050, 11264]⟩
abbrev S1x11264 : Shape := ⟨2, ![1, 11264]⟩
abbrev S11264 : Shape := ⟨1, ![11264]⟩
abbrev S1x1x11264 : Shape := ⟨3, ![1, 1, 11264]⟩
abbrev S4x2048x5632 : Shape := ⟨3, ![4, 2048, 5632]⟩
abbrev S8192x5632 : Shape := ⟨2, ![8192, 5632]⟩
abbrev S1x5632x2048 : Shape := ⟨3, ![1, 5632, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x11264, .f32⟩
  | .hbm, ⟨2, _⟩ => ⟨S4x3x11264, .f32⟩
  | .hbm, ⟨3, _⟩ => ⟨S4x5632x2048, .f32⟩
  | .hbm, ⟨4, _⟩ => ⟨S1x2048x11264, .f32⟩
  | .hbm, ⟨5, _⟩ => ⟨S2048x11264, .f32⟩
  | .hbm, ⟨6, _⟩ => ⟨S1x3x11264, .f32⟩
  | .hbm, ⟨7, _⟩ => ⟨S3x11264, .f32⟩
  | .hbm, ⟨8, _⟩ => ⟨S4x2048x11264, .f32⟩
  | .hbm, ⟨9, _⟩ => ⟨S_, .i32⟩
  | .hbm, ⟨10, _⟩ => ⟨S_, .f32⟩
  | .hbm, ⟨11, _⟩ => ⟨S4x2050x11264, .f32⟩
  | .hbm, ⟨12, _⟩ => ⟨S1x11264, .f32⟩
  | .hbm, ⟨13, _⟩ => ⟨S11264, .f32⟩
  | .hbm, ⟨14, _⟩ => ⟨S4x2048x11264, .f32⟩
  | .hbm, ⟨15, _⟩ => ⟨S1x1x11264, .f32⟩
  | .hbm, ⟨16, _⟩ => ⟨S4x2048x11264, .f32⟩
  | .hbm, ⟨17, _⟩ => ⟨S4x2048x11264, .f32⟩
  | .hbm, ⟨18, _⟩ => ⟨S1x11264, .f32⟩
  | .hbm, ⟨19, _⟩ => ⟨S11264, .f32⟩
  | .hbm, ⟨20, _⟩ => ⟨S4x2048x11264, .f32⟩
  | .hbm, ⟨21, _⟩ => ⟨S1x1x11264, .f32⟩
  | .hbm, ⟨22, _⟩ => ⟨S4x2048x11264, .f32⟩
  | .hbm, ⟨23, _⟩ => ⟨S4x2048x11264, .f32⟩
  | .hbm, ⟨24, _⟩ => ⟨S4x2048x11264, .f32⟩
  | .hbm, ⟨25, _⟩ => ⟨S1x11264, .f32⟩
  | .hbm, ⟨26, _⟩ => ⟨S11264, .f32⟩
  | .hbm, ⟨27, _⟩ => ⟨S4x2048x11264, .f32⟩
  | .hbm, ⟨28, _⟩ => ⟨S1x1x11264, .f32⟩
  | .hbm, ⟨29, _⟩ => ⟨S4x2048x11264, .f32⟩
  | .hbm, ⟨30, _⟩ => ⟨S4x2048x11264, .f32⟩
  | .hbm, ⟨31, _⟩ => ⟨S4x2048x11264, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S_, .f32⟩
  | .hbm, ⟨40, _⟩ => ⟨S4x2048x5632, .f32⟩
  | .hbm, ⟨41, _⟩ => ⟨S4x2048x5632, .f32⟩
  | .hbm, ⟨42, _⟩ => ⟨S4x2048x5632, .f32⟩
  | .hbm, ⟨43, _⟩ => ⟨S4x2048x5632, .f32⟩
  | .hbm, ⟨44, _⟩ => ⟨S8192x5632, .f32⟩
  | .hbm, ⟨45, _⟩ => ⟨S8192x5632, .bf16⟩
  | .hbm, ⟨46, _⟩ => ⟨S1x5632x2048, .f32⟩
  | .hbm, ⟨47, _⟩ => ⟨S1x5632x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Down.lean ====
abbrev S4x2048x5632 : Shape := ⟨3, ![4, 2048, 5632]⟩
abbrev S4x5632x2048 : Shape := ⟨3, ![4, 5632, 2048]⟩
abbrev S4x2048x2048 : Shape := ⟨3, ![4, 2048, 2048]⟩
abbrev S4x4x2048 : Shape := ⟨3, ![4, 4, 2048]⟩
abbrev S8192x5632 : Shape := ⟨2, ![8192, 5632]⟩
abbrev S1x5632x2048 : Shape := ⟨3, ![1, 5632, 2048]⟩
abbrev S8192x2048 : Shape := ⟨2, ![8192, 2048]⟩
abbrev S1x1x2048 : Shape := ⟨3, ![1, 1, 2048]⟩
abbrev S2048 : Shape := ⟨1, ![2048]⟩
abbrev S1x2048 : Shape := ⟨2, ![1, 2048]⟩
abbrev S256x5632 : Shape := ⟨2, ![256, 5632]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x2048x5632, .f32⟩
  | .hbm, ⟨1, _⟩ => ⟨S4x5632x2048, .f32⟩
  | .hbm, ⟨2, _⟩ => ⟨S4x2048x2048, .f32⟩
  | .hbm, ⟨3, _⟩ => ⟨S4x4x2048, .f32⟩
  | .hbm, ⟨4, _⟩ => ⟨S8192x5632, .f32⟩
  | .hbm, ⟨5, _⟩ => ⟨S8192x5632, .bf16⟩
  | .hbm, ⟨6, _⟩ => ⟨S1x5632x2048, .f32⟩
  | .hbm, ⟨7, _⟩ => ⟨S1x5632x2048, .bf16⟩
  | .hbm, ⟨8, _⟩ => ⟨S8192x2048, .f32⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S4x2048x5632 : Shape := ⟨3, ![4, 2048, 5632]⟩
abbrev S4x5632x2048 : Shape := ⟨3, ![4, 5632, 2048]⟩
abbrev S4x2048x2048 : Shape := ⟨3, ![4, 2048, 2048]⟩
abbrev S4x4x2048 : Shape := ⟨3, ![4, 4, 2048]⟩
abbrev S1x5632x2048 : Shape := ⟨3, ![1, 5632, 2048]⟩
abbrev S5632x2048 : Shape := ⟨2, ![5632, 2048]⟩
abbrev S1x1x2048 : Shape := ⟨3, ![1, 1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S4x5632x2048, .f32⟩
  | .hbm, ⟨2, _⟩ => ⟨S4x2048x2048, .f32⟩
  | .hbm, ⟨3, _⟩ => ⟨S4x4x2048, .f32⟩
  | .hbm, ⟨4, _⟩ => ⟨S1x5632x2048, .f32⟩
  | .hbm, ⟨5, _⟩ => ⟨S5632x2048, .f32⟩
  | .hbm, ⟨6, _⟩ => ⟨S4x2048x2048, .f32⟩
  | .hbm, ⟨7, _⟩ => ⟨S1x1x2048, .f32⟩
  | .hbm, ⟨8, _⟩ => ⟨S2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S1x1x2048, .f32⟩
  | .hbm, ⟨27, _⟩ => ⟨S2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Out.lean ====
abbrev S4x2048x2048 : Shape := ⟨3, ![4, 2048, 2048]⟩
abbrev S1x2048x2048 : Shape := ⟨3, ![1, 2048, 2048]⟩
abbrev S4x4x2048 : Shape := ⟨3, ![4, 4, 2048]⟩
abbrev S8192x2048 : Shape := ⟨2, ![8192, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S1x2048x2048, .f32⟩
  | .hbm, ⟨2, _⟩ => ⟨S4x2048x2048, .f32⟩
  | .hbm, ⟨3, _⟩ => ⟨S4x4x2048, .f32⟩
  | .hbm, ⟨4, _⟩ => ⟨S8192x2048, .f32⟩
  | .hbm, ⟨5, _⟩ => ⟨S8192x2048, .bf16⟩
  | .hbm, ⟨6, _⟩ => ⟨S1x2048x2048, .bf16⟩
  | .hbm, ⟨7, _⟩ => ⟨S8192x2048, .f32⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S4x2048x2048 : Shape := ⟨3, ![4, 2048, 2048]⟩
abbrev S1x2048x2048 : Shape := ⟨3, ![1, 2048, 2048]⟩
abbrev S4x4x2048 : Shape := ⟨3, ![4, 4, 2048]⟩
abbrev S2048x2048 : Shape := ⟨2, ![2048, 2048]⟩
abbrev S1x1x2048 : Shape := ⟨3, ![1, 1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x2048, .f32⟩
  | .hbm, ⟨2, _⟩ => ⟨S4x2048x2048, .f32⟩
  | .hbm, ⟨3, _⟩ => ⟨S4x4x2048, .f32⟩
  | .hbm, ⟨4, _⟩ => ⟨S2048x2048, .f32⟩
  | .hbm, ⟨5, _⟩ => ⟨S4x2048x2048, .f32⟩
  | .hbm, ⟨6, _⟩ => ⟨S1x1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== HgrnIn.lean ====
abbrev S4x2048x2048 : Shape := ⟨3, ![4, 2048, 2048]⟩
abbrev S1x2048x8192 : Shape := ⟨3, ![1, 2048, 8192]⟩
abbrev S8192x2048 : Shape := ⟨2, ![8192, 2048]⟩
abbrev S2048x8192 : Shape := ⟨2, ![2048, 8192]⟩
abbrev S_ : Shape := ⟨0, ![]⟩
abbrev S1x2048 : Shape := ⟨2, ![1, 2048]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8192, .f32⟩
  | .hbm, ⟨2, _⟩ => ⟨S8192x2048, .f32⟩
  | .hbm, ⟨3, _⟩ => ⟨S8192x2048, .bf16⟩
  | .hbm, ⟨4, _⟩ => ⟨S2048x8192, .f32⟩
  | .hbm, ⟨5, _⟩ => ⟨S_, .f32⟩
  | .hbm, ⟨6, _⟩ => ⟨S1x2048, .f32⟩
  | .hbm, ⟨7, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgrnInRefIdeal.lean ====
abbrev S4x2048x2048 : Shape := ⟨3, ![4, 2048, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8192, .f32⟩
  | .hbm, ⟨2, _⟩ => ⟨S2048x8192, .f32⟩
  | .hbm, ⟨3, _⟩ => ⟨S4x2048x8192, .f32⟩
  | .hbm, ⟨4, _⟩ => ⟨S8192x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DiffIn.lean ====
abbrev S4x2048x2048 : Shape := ⟨3, ![4, 2048, 2048]⟩
abbrev S1x2048x6144 : Shape := ⟨3, ![1, 2048, 6144]⟩
abbrev S8192x2048 : Shape := ⟨2, ![8192, 2048]⟩
abbrev S2048x6144 : Shape := ⟨2, ![2048, 6144]⟩
abbrev S_ : Shape := ⟨0, ![]⟩
abbrev S1x2048 : Shape := ⟨2, ![1, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6144, .f32⟩
  | .hbm, ⟨2, _⟩ => ⟨S8192x2048, .f32⟩
  | .hbm, ⟨3, _⟩ => ⟨S8192x2048, .bf16⟩
  | .hbm, ⟨4, _⟩ => ⟨S2048x6144, .f32⟩
  | .hbm, ⟨5, _⟩ => ⟨S_, .f32⟩
  | .hbm, ⟨6, _⟩ => ⟨S1x2048, .f32⟩
  | .hbm, ⟨7, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DiffInRefIdeal.lean ====
abbrev S4x2048x2048 : Shape := ⟨3, ![4, 2048, 2048]⟩
abbrev S1x2048x6144 : Shape := ⟨3, ![1, 2048, 6144]⟩
abbrev S2048x6144 : Shape := ⟨2, ![2048, 6144]⟩
abbrev S4x2048x6144 : Shape := ⟨3, ![4, 2048, 6144]⟩
abbrev S4x2048x4096 : Shape := ⟨3, ![4, 2048, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6144, .f32⟩
  | .hbm, ⟨2, _⟩ => ⟨S2048x6144, .f32⟩
  | .hbm, ⟨3, _⟩ => ⟨S4x2048x6144, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x4096, .f32⟩
  | .hbm, ⟨8, _⟩ => ⟨S8192x4096, .f32⟩
  | .hbm, ⟨9, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SwaIn.lean ====
abbrev S4x2048x2048 : Shape := ⟨3, ![4, 2048, 2048]⟩
abbrev S1x2048x3072 : Shape := ⟨3, ![1, 2048, 3072]⟩
abbrev S4x4x2048 : Shape := ⟨3, ![4, 4, 2048]⟩
abbrev S8192x2048 : Shape := ⟨2, ![8192, 2048]⟩
abbrev S2048x3072 : Shape := ⟨2, ![2048, 3072]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1024x1024 : Shape := ⟨2, ![1024, 1024]⟩
abbrev S2048x1024 : Shape := ⟨2, ![2048, 1024]⟩
abbrev S2048x128 : Shape := ⟨2, ![2048, 128]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048x3072, .f32⟩
  | .hbm, ⟨2, _⟩ => ⟨S4x4x2048, .f32⟩
  | .hbm, ⟨3, _⟩ => ⟨S8192x2048, .f32⟩
  | .hbm, ⟨4, _⟩ => ⟨S2048x3072, .f32⟩
  | .hbm, ⟨5, _⟩ => ⟨S1x1x2048, .f32⟩
  | .hbm, ⟨6, _⟩ => ⟨S2048, .f32⟩
  | .hbm, ⟨7, _⟩ => ⟨S1x2048, .f32⟩
  | .hbm, ⟨8, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwaInRefIdeal.lean ====
abbrev S4x2048x2048 : Shape := ⟨3, ![4, 2048, 2048]⟩
abbrev S1x2048x3072 : Shape := ⟨3, ![1, 2048, 3072]⟩
abbrev S4x4x2048 : Shape := ⟨3, ![4, 4, 2048]⟩
abbrev S1x1x2048 : Shape := ⟨3, ![1, 1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S2048x3072 : Shape := ⟨2, ![2048, 3072]⟩
abbrev S4x2048x3072 : Shape := ⟨3, ![4, 2048, 3072]⟩
abbrev S4x2048x512 : Shape := ⟨3, ![4, 2048, 512]⟩
abbrev S4x2048x1024 : Shape := ⟨3, ![4, 2048, 1024]⟩
abbrev S8192x16x1x64 : Shape := ⟨4, ![8192, 16, 1, 64]⟩
abbrev S8192x16x2x64 : Shape := ⟨4, ![8192, 16, 2, 64]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x3072, .f32⟩
  | .hbm, ⟨2, _⟩ => ⟨S4x4x2048, .f32⟩
  | .hbm, ⟨3, _⟩ => ⟨S1x1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x3072, .f32⟩
  | .hbm, ⟨22, _⟩ => ⟨S4x2048x3072, .f32⟩
  | .hbm, ⟨23, _⟩ => ⟨S4x2048x2048, .f32⟩
  | .hbm, ⟨24, _⟩ => ⟨S4x2048x512, .f32⟩
  | .hbm, ⟨25, _⟩ => ⟨S4x2048x512, .f32⟩
  | .hbm, ⟨26, _⟩ => ⟨S4x2048x1024, .f32⟩
  | .hbm, ⟨27, _⟩ => ⟨S8192x16x1x64, .f32⟩
  | .hbm, ⟨28, _⟩ => ⟨S8192x16x2x64, .f32⟩
  | .hbm, ⟨29, _⟩ => ⟨S8192x2048, .f32⟩
  | .hbm, ⟨30, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Bounds.lean ====
abbrev S4x2048 : Shape := ⟨2, ![4, 2048]⟩
abbrev S2048 : Shape := ⟨1, ![2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .local _ .vmem, ⟨0, _⟩ => ⟨S4x2048, .f32⟩
  | .local _ .vmem, ⟨1, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundsRefIdeal.lean ====
abbrev S4x2048 : Shape := ⟨2, ![4, 2048]⟩
abbrev S_ : Shape := ⟨0, ![]⟩
abbrev S2048 : Shape := ⟨1, ![2048]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S_, .f32⟩
  | .hbm, ⟨17, _⟩ => ⟨S4x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S4x2048, .f32⟩
  | .hbm, ⟨22, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Diff.lean ====
abbrev S4x2048x2048 : Shape := ⟨3, ![4, 2048, 2048]⟩
abbrev S4x64 : Shape := ⟨2, ![4, 64]⟩
abbrev S128 : Shape := ⟨1, ![128]⟩
abbrev S32x32 : Shape := ⟨2, ![32, 32]⟩
abbrev S_ : Shape := ⟨0, ![]⟩
abbrev S8192x2048 : Shape := ⟨2, ![8192, 2048]⟩
abbrev S8192x4096 : Shape := ⟨2, ![8192, 4096]⟩
abbrev S32x256x512 : Shape := ⟨3, ![32, 256, 512]⟩
abbrev S8x256x512 : Shape := ⟨3, ![8, 256, 512]⟩
abbrev S256x512 : Shape := ⟨2, ![256, 512]⟩
abbrev S1x1 : Shape := ⟨2, ![1, 1]⟩
abbrev S1x256x512 : Shape := ⟨3, ![1, 256, 512]⟩
abbrev S1x128 : Shape := ⟨2, ![1, 128]⟩
abbrev S2048x128 : Shape := ⟨2, ![2048, 128]⟩
abbrev S2x256x512 : Shape := ⟨3, ![2, 256, 512]⟩
abbrev S256x1 : Shape := ⟨2, ![256, 1]⟩
abbrev S512x1 : Shape := ⟨2, ![512, 1]⟩
abbrev S1x64 : Shape := ⟨2, ![1, 64]⟩
abbrev S1 : Shape := ⟨1, ![1]⟩
abbrev S256x128 : Shape := ⟨2, ![256, 128]⟩
abbrev S512x128 : Shape := ⟨2, ![512, 128]⟩
abbrev S512x2048 : Shape := ⟨2, ![512, 2048]⟩
abbrev S512x512 : Shape := ⟨2, ![512, 512]⟩
abbrev S512x1536 : Shape := ⟨2, ![512, 1536]⟩
abbrev S1792x128 : Shape := ⟨2, ![1792, 128]⟩
abbrev S512x1792 : Shape := ⟨2, ![512, 1792]⟩
abbrev S512x1280 : Shape := ⟨2, ![512, 1280]⟩
abbrev S512 : Shape := ⟨1, ![512]⟩
abbrev S1536x128 : Shape := ⟨2, ![1536, 128]⟩
abbrev S512x1024 : Shape := ⟨2, ![512, 1024]⟩
abbrev S2048x256 : Shape := ⟨2, ![2048, 256]⟩
abbrev S512x256 : Shape := ⟨2, ![512, 256]⟩
abbrev S256 : Shape := ⟨1, ![256]⟩
abbrev S1280x128 : Shape := ⟨2, ![1280, 128]⟩
abbrev S512x768 : Shape := ⟨2, ![512, 768]⟩
abbrev S1792x256 : Shape := ⟨2, ![1792, 256]⟩
abbrev S1024x128 : Shape := ⟨2, ![1024, 128]⟩
abbrev S1536x256 : Shape := ⟨2, ![1536, 256]⟩
abbrev S768x128 : Shape := ⟨2, ![768, 128]⟩
abbrev S1280x256 : Shape := ⟨2, ![1280, 256]⟩
abbrev S1024x256 : Shape := ⟨2, ![1024, 256]⟩
abbrev S2x256x256 : Shape := ⟨3, ![2, 256, 256]⟩
abbrev S768x256 : Shape := ⟨2, ![768, 256]⟩
abbrev S256x256 : Shape := ⟨2, ![256, 256]⟩

abbrev nBuf : Space → Nat
  | .hbm => 22
  | .vmem => 16
  | .smem => 2
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x64, .f32⟩
  | .hbm, ⟨4, _⟩ => ⟨S128, .f32⟩
  | .hbm, ⟨5, _⟩ => ⟨S32x32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .f32⟩
  | .hbm, ⟨16, _⟩ => ⟨S8192x4096, .f32⟩
  | .hbm, ⟨17, _⟩ => ⟨S8192x4096, .bf16⟩
  | .hbm, ⟨18, _⟩ => ⟨S32x256x512, .f32⟩
  | .hbm, ⟨19, _⟩ => ⟨S32x256x512, .f32⟩
  | .hbm, ⟨20, _⟩ => ⟨S1x128, .f32⟩
  | .hbm, ⟨21, _⟩ => ⟨S8192x2048, .bf16⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S4x64, .f32⟩
  | .local _ .vmem, ⟨5, _⟩ => ⟨S1x128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2x256x512, .f32⟩
  | .local _ .vmem, ⟨13, _⟩ => ⟨S2x256x512, .f32⟩
  | .local _ .vmem, ⟨14, _⟩ => ⟨S2048x128, .bf16⟩
  | .local _ .vmem, ⟨15, _⟩ => ⟨S2048x128, .bf16⟩
  | .local _ .smem, ⟨0, _⟩ => ⟨S32x32, .f32⟩
  | .local _ .smem, ⟨1, _⟩ => ⟨S32x32, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![4], ![false]⟩

def k0_off1 (i : grid0.Coords) (c0_i32_2 : BitVec 32) : Fin 2 → Nat :=
  let c0 : Index := 0#32
  let arg0 : BitVec 32 := BitVec.ofNat 32 (i 0).val
  let c8_i32 : BitVec 32 := 8#32
  let v0 : BitVec 32 := Scalar.muli arg0 c8_i32
  let v75 : BitVec 32 := Scalar.addi v0 c0_i32_2
  let v76 : Index := Scalar.indexCast v75
  ![0, v76.toNat]
def k0_off2 (i : grid0.Coords) (c0_i32_4 : BitVec 32) : Fin 2 → Nat :=
  let c1 : Index := 1#32
  let arg0 : BitVec 32 := BitVec.ofNat 32 (i 0).val
  let c8_i32 : BitVec 32 := 8#32
  let v0 : BitVec 32 := Scalar.muli arg0 c8_i32
  let v83 : BitVec 32 := Scalar.addi v0 c0_i32_4
  let v84 : Index := Scalar.indexCast v83
  ![1, v84.toNat]
def k0_off3 (i : grid0.Coords) (c0_i32_6 : BitVec 32) : Fin 2 → Nat :=
  let c2 : Index := 2#32
  let arg0 : BitVec 32 := BitVec.ofNat 32 (i 0).val
  let c8_i32 : BitVec 32 := 8#32
  let v0 : BitVec 32 := Scalar.muli arg0 c8_i32
  let v91 : BitVec 32 := Scalar.addi v0 c0_i32_6
  let v92 : Index := Scalar.indexCast v91
  ![2, v92.toNat]
def k0_off4 (i : grid0.Coords) (c0_i32_8 : BitVec 32) : Fin 2 → Nat :=
  let c3 : Index := 3#32
  let arg0 : BitVec 32 := BitVec.ofNat 32 (i 0).val
  let c8_i32 : BitVec 32 := 8#32
  let v0 : BitVec 32 := Scalar.muli arg0 c8_i32
  let v99 : BitVec 32 := Scalar.addi v0 c0_i32_8
  let v100 : Index := Scalar.indexCast v99
  ![3, v100.toNat]
def k0_off5 (i : grid0.Coords) (c0_i32_10 : BitVec 32) : Fin 2 → Nat :=
  let c4 : Index := 4#32
  let arg0 : BitVec 32 := BitVec.ofNat 32 (i 0).val
  let c8_i32 : BitVec 32 := 8#32
  let v0 : BitVec 32 := Scalar.muli arg0 c8_i32
  let v107 : BitVec 32 := Scalar.addi v0 c0_i32_10
  let v108 : Index := Scalar.indexCast v107
  ![4, v108.toNat]
def k0_off6 (i : grid0.Coords) (c0_i32_12 : BitVec 32) : Fin 2 → Nat :=
  let c5 : Index := 5#32
  let arg0 : BitVec 32 := BitVec.ofNat 32 (i 0).val
  let c8_i32 : BitVec 32 := 8#32
  let v0 : BitVec 32 := Scalar.muli arg0 c8_i32
  let v115 : BitVec 32 := Scalar.addi v0 c0_i32_12
  let v116 : Index := Scalar.indexCast v115
  ![5, v116.toNat]
def k0_off7 (i : grid0.Coords) (c0_i32_14 : BitVec 32) : Fin 2 → Nat :=
  let c6 : Index := 6#32
  let arg0 : BitVec 32 := BitVec.ofNat 32 (i 0).val
  let c8_i32 : BitVec 32 := 8#32
  let v0 : BitVec 32 := Scalar.muli arg0 c8_i32
  let v123 : BitVec 32 := Scalar.addi v0 c0_i32_14
  let v124 : Index := Scalar.indexCast v123
  ![6, v124.toNat]
def k0_off8 (i : grid0.Coords) (c0_i32_16 : BitVec 32) : Fin 2 → Nat :=
  let c7 : Index := 7#32
  let arg0 : BitVec 32 := BitVec.ofNat 32 (i 0).val
  let c8_i32 : BitVec 32 := 8#32
  let v0 : BitVec 32 := Scalar.muli arg0 c8_i32
  let v131 : BitVec 32 := Scalar.addi v0 c0_i32_16
  let v132 : Index := Scalar.indexCast v131
  ![7, v132.toNat]
def k0_off9 (i : grid0.Coords) (c0_i32_19 : BitVec 32) : Fin 2 → Nat :=
  let c8 : Index := 8#32
  let arg0 : BitVec 32 := BitVec.ofNat 32 (i 0).val
  let c8_i32 : BitVec 32 := 8#32
  let v0 : BitVec 32 := Scalar.muli arg0 c8_i32
  let v139 : BitVec 32 := Scalar.addi v0 c0_i32_19
  let v140 : Index := Scalar.indexCast v139
  ![8, v140.toNat]
def k0_off10 (i : grid0.Coords) (c0_i32_21 : BitVec 32) : Fin 2 → Nat :=
  let c9 : Index := 9#32
  let arg0 : BitVec 32 := BitVec.ofNat 32 (i 0).val
  let c8_i32 : BitVec 32 := 8#32
  let v0 : BitVec 32 := Scalar.muli arg0 c8_i32
  let v147 : BitVec 32 := Scalar.addi v0 c0_i32_21
  let v148 : Index := Scalar.indexCast v147
  ![9, v148.toNat]
def k0_off11 (i : grid0.Coords) (c0_i32_23 : BitVec 32) : Fin 2 → Nat :=
  let c10 : Index := 10#32
  let arg0 : BitVec 32 := BitVec.ofNat 32 (i 0).val
  let c8_i32 : BitVec 32 := 8#32
  let v0 : BitVec 32 := Scalar.muli arg0 c8_i32
  let v155 : BitVec 32 := Scalar.addi v0 c0_i32_23
  let v156 : Index := Scalar.indexCast v155
  ![10, v156.toNat]
def k0_off12 (i : grid0.Coords) (c0_i32_25 : BitVec 32) : Fin 2 → Nat :=
  let c11 : Index := 11#32
  let arg0 : BitVec 32 := BitVec.ofNat 32 (i 0).val
  let c8_i32 : BitVec 32 := 8#32
  let v0 : BitVec 32 := Scalar.muli arg0 c8_i32
  let v163 : BitVec 32 := Scalar.addi v0 c0_i32_25
  let v164 : Index := Scalar.indexCast v163
  ![11, v164.toNat]
def k0_off13 (i : grid0.Coords) (c0_i32_27 : BitVec 32) : Fin 2 → Nat :=
  let c12 : Index := 12#32
  let arg0 : BitVec 32 := BitVec.ofNat 32 (i 0).val
  let c8_i32 : BitVec 32 := 8#32
  let v0 : BitVec 32 := Scalar.muli arg0 c8_i32
  let v171 : BitVec 32 := Scalar.addi v0 c0_i32_27
  let v172 : Index := Scalar.indexCast v171
  ![12, v172.toNat]
def k0_off14 (i : grid0.Coords) (c0_i32_29 : BitVec 32) : Fin 2 → Nat :=
  let c13 : Index := 13#32
  let arg0 : BitVec 32 := BitVec.ofNat 32 (i 0).val
  let c8_i32 : BitVec 32 := 8#32
  let v0 : BitVec 32 := Scalar.muli arg0 c8_i32
  let v179 : BitVec 32 := Scalar.addi v0 c0_i32_29
  let v180 : Index := Scalar.indexCast v179
  ![13, v180.toNat]
def k0_off15 (i : grid0.Coords) (c0_i32_31 : BitVec 32) : Fin 2 → Nat :=
  let c14 : Index := 14#32
  let arg0 : BitVec 32 := BitVec.ofNat 32 (i 0).val
  let c8_i32 : BitVec 32 := 8#32
  let v0 : BitVec 32 := Scalar.muli arg0 c8_i32
  let v187 : BitVec 32 := Scalar.addi v0 c0_i32_31
  let v188 : Index := Scalar.indexCast v187
  ![14, v188.toNat]
def k0_off16 (i : grid0.Coords) (c0_i32_33 : BitVec 32) : Fin 2 → Nat :=
  let c15 : Index := 15#32
  let arg0 : BitVec 32 := BitVec.ofNat 32 (i 0).val
  let c8_i32 : BitVec 32 := 8#32
  let v0 : BitVec 32 := Scalar.muli arg0 c8_i32
  let v195 : BitVec 32 := Scalar.addi v0 c0_i32_33
  let v196 : Index := Scalar.indexCast v195
  ![15, v196.toNat]
def k0_off17 (i : grid0.Coords) (c0_i32_36 : BitVec 32) : Fin 2 → Nat :=
  let c16 : Index := 16#32
  let arg0 : BitVec 32 := BitVec.ofNat 32 (i 0).val
  let c8_i32 : BitVec 32 := 8#32
  let v0 : BitVec 32 := Scalar.muli arg0 c8_i32
  let v203 : BitVec 32 := Scalar.addi v0 c0_i32_36
  let v204 : Index := Scalar.indexCast v203
  ![16, v204.toNat]
def k0_off18 (i : grid0.Coords) (c0_i32_38 : BitVec 32) : Fin 2 → Nat :=
  let c17 : Index := 17#32
  let arg0 : BitVec 32 := BitVec.ofNat 32 (i 0).val
  let c8_i32 : BitVec 32 := 8#32
  let v0 : BitVec 32 := Scalar.muli arg0 c8_i32
  let v211 : BitVec 32 := Scalar.addi v0 c0_i32_38
  let v212 : Index := Scalar.indexCast v211
  ![17, v212.toNat]
def k0_off19 (i : grid0.Coords) (c0_i32_40 : BitVec 32) : Fin 2 → Nat :=
  let c18 : Index := 18#32
  let arg0 : BitVec 32 := BitVec.ofNat 32 (i 0).val
  let c8_i32 : BitVec 32 := 8#32
  let v0 : BitVec 32 := Scalar.muli arg0 c8_i32
  let v219 : BitVec 32 := Scalar.addi v0 c0_i32_40
  let v220 : Index := Scalar.indexCast v219
  ![18, v220.toNat]
def k0_off20 (i : grid0.Coords) (c0_i32_43 : BitVec 32) : Fin 2 → Nat :=
  let c19 : Index := 19#32
  let arg0 : BitVec 32 := BitVec.ofNat 32 (i 0).val
  let c8_i32 : BitVec 32 := 8#32
  let v0 : BitVec 32 := Scalar.muli arg0 c8_i32
  let v227 : BitVec 32 := Scalar.addi v0 c0_i32_43
  let v228 : Index := Scalar.indexCast v227
  ![19, v228.toNat]
def k0_off21 (i : grid0.Coords) (c0_i32_45 : BitVec 32) : Fin 2 → Nat :=
  let c20 : Index := 20#32
  let arg0 : BitVec 32 := BitVec.ofNat 32 (i 0).val
  let c8_i32 : BitVec 32 := 8#32
  let v0 : BitVec 32 := Scalar.muli arg0 c8_i32
  let v235 : BitVec 32 := Scalar.addi v0 c0_i32_45
  let v236 : Index := Scalar.indexCast v235
  ![20, v236.toNat]
def k0_off22 (i : grid0.Coords) (c0_i32_48 : BitVec 32) : Fin 2 → Nat :=
  let c21 : Index := 21#32
  let arg0 : BitVec 32 := BitVec.ofNat 32 (i 0).val
  let c8_i32 : BitVec 32 := 8#32
  let v0 : BitVec 32 := Scalar.muli arg0 c8_i32
  let v243 : BitVec 32 := Scalar.addi v0 c0_i32_48
  let v244 : Index := Scalar.indexCast v243
  ![21, v244.toNat]
def k0_off23 (i : grid0.Coords) (c0_i32_50 : BitVec 32) : Fin 2 → Nat :=
  let c22 : Index := 22#32
  let arg0 : BitVec 32 := BitVec.ofNat 32 (i 0).val
  let c8_i32 : BitVec 32 := 8#32
  let v0 : BitVec 32 := Scalar.muli arg0 c8_i32
  let v251 : BitVec 32 := Scalar.addi v0 c0_i32_50
  let v252 : Index := Scalar.indexCast v251
  ![22, v252.toNat]
def k0_off24 (i : grid0.Coords) (c0_i32_52 : BitVec 32) : Fin 2 → Nat :=
  let c23 : Index := 23#32
  let arg0 : BitVec 32 := BitVec.ofNat 32 (i 0).val
  let c8_i32 : BitVec 32 := 8#32
  let v0 : BitVec 32 := Scalar.muli arg0 c8_i32
  let v259 : BitVec 32 := Scalar.addi v0 c0_i32_52
  let v260 : Index := Scalar.indexCast v259
  ![23, v260.toNat]
def k0_off25 (i : grid0.Coords) (c0_i32_55 : BitVec 32) : Fin 2 → Nat :=
  let c24 : Index := 24#32
  let arg0 : BitVec 32 := BitVec.ofNat 32 (i 0).val
  let c8_i32 : BitVec 32 := 8#32
  let v0 : BitVec 32 := Scalar.muli arg0 c8_i32
  let v267 : BitVec 32 := Scalar.addi v0 c0_i32_55
  let v268 : Index := Scalar.indexCast v267
  ![24, v268.toNat]
def k0_off26 (i : grid0.Coords) (c0_i32_57 : BitVec 32) : Fin 2 → Nat :=
  let c25 : Index := 25#32
  let arg0 : BitVec 32 := BitVec.ofNat 32 (i 0).val
  let c8_i32 : BitVec 32 := 8#32
  let v0 : BitVec 32 := Scalar.muli arg0 c8_i32
  let v275 : BitVec 32 := Scalar.addi v0 c0_i32_57
  let v276 : Index := Scalar.indexCast v275
  ![25, v276.toNat]
def k0_off27 (i : grid0.Coords) (c0_i32_59 : BitVec 32) : Fin 2 → Nat :=
  let c26 : Index := 26#32
  let arg0 : BitVec 32 := BitVec.ofNat 32 (i 0).val
  let c8_i32 : BitVec 32 := 8#32
  let v0 : BitVec 32 := Scalar.muli arg0 c8_i32
  let v283 : BitVec 32 := Scalar.addi v0 c0_i32_59
  let v284 : Index := Scalar.indexCast v283
  ![26, v284.toNat]
def k0_off28 (i : grid0.Coords) (c0_i32_62 : BitVec 32) : Fin 2 → Nat :=
  let c27 : Index := 27#32
  let arg0 : BitVec 32 := BitVec.ofNat 32 (i 0).val
  let c8_i32 : BitVec 32 := 8#32
  let v0 : BitVec 32 := Scalar.muli arg0 c8_i32
  let v291 : BitVec 32 := Scalar.addi v0 c0_i32_62
  let v292 : Index := Scalar.indexCast v291
  ![27, v292.toNat]
def k0_off29 (i : grid0.Coords) (c0_i32_64 : BitVec 32) : Fin 2 → Nat :=
  let c28 : Index := 28#32
  let arg0 : BitVec 32 := BitVec.ofNat 32 (i 0).val
  let c8_i32 : BitVec 32 := 8#32
  let v0 : BitVec 32 := Scalar.muli arg0 c8_i32
  let v299 : BitVec 32 := Scalar.addi v0 c0_i32_64
  let v300 : Index := Scalar.indexCast v299
  ![28, v300.toNat]
def k0_off30 (i : grid0.Coords) (c0_i32_66 : BitVec 32) : Fin 2 → Nat :=
  let c29 : Index := 29#32
  let arg0 : BitVec 32 := BitVec.ofNat 32 (i 0).val
  let c8_i32 : BitVec 32 := 8#32
  let v0 : BitVec 32 := Scalar.muli arg0 c8_i32
  let v307 : BitVec 32 := Scalar.addi v0 c0_i32_66
  let v308 : Index := Scalar.indexCast v307
  ![29, v308.toNat]
def k0_off31 (i : grid0.Coords) (c0_i32_68 : BitVec 32) : Fin 2 → Nat :=
  let c30 : Index := 30#32
  let arg0 : BitVec 32 := BitVec.ofNat 32 (i 0).val
  let c8_i32 : BitVec 32 := 8#32
  let v0 : BitVec 32 := Scalar.muli arg0 c8_i32
  let v315 : BitVec 32 := Scalar.addi v0 c0_i32_68
  let v316 : Index := Scalar.indexCast v315
  ![30, v316.toNat]
def k0_off32 (i : grid0.Coords) (c0_i32_71 : BitVec 32) : Fin 2 → Nat :=
  let c31 : Index := 31#32
  let arg0 : BitVec 32 := BitVec.ofNat 32 (i 0).val
  let c8_i32 : BitVec 32 := 8#32
  let v0 : BitVec 32 := Scalar.muli arg0 c8_i32
  let v323 : BitVec 32 := Scalar.addi v0 c0_i32_71
  let v324 : Index := Scalar.indexCast v323
  ![31, v324.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_off1 (i : grid1.Coords) : Fin 2 → Nat :=
  let c31 : Index := 31#32
  let c2_i32 : BitVec 32 := 2#32
  let arg0 : BitVec 32 := BitVec.ofNat 32 (i 0).val
  let v0 : BitVec 32 := Scalar.muli c2_i32 arg0
  let v1 : Index := Scalar.indexCast v0
  ![31, v1.toNat]
def k1_off2 (i : grid1.Coords) : Fin 2 → Nat :=
  let c31_1 : Index := 31#32
  let c2_i32_0 : BitVec 32 := 2#32
  let arg0 : BitVec 32 := BitVec.ofNat 32 (i 0).val
  let v5 : BitVec 32 := Scalar.muli c2_i32_0 arg0
  let c1_i32 : BitVec 32 := 1#32
  let v6 : BitVec 32 := Scalar.addi v5 c1_i32
  let v7 : Index := Scalar.indexCast v6
  ![31, v7.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== DiffIdeal.lean ====
variable {F : FTy → Type} [FloatOps F] [Named F]
def κ : String → Option EReal := fun
  | "log2e" => some (((Real.log 2)⁻¹ : ℝ) : EReal)
  | _ => none
-- ==== DiffRefIdeal.lean ====
abbrev S4x2048x2048 : Shape := ⟨3, ![4, 2048, 2048]⟩
abbrev S4x64 : Shape := ⟨2, ![4, 64]⟩
abbrev S128 : Shape := ⟨1, ![128]⟩
abbrev S32x32 : Shape := ⟨2, ![32, 32]⟩
abbrev S4x2048x16x2x64 : Shape := ⟨5, ![4, 2048, 16, 2, 64]⟩
abbrev S4x2048x16x128 : Shape := ⟨4, ![4, 2048, 16, 128]⟩
abbrev S1x64 : Shape := ⟨2, ![1, 64]⟩
abbrev S64 : Shape := ⟨1, ![64]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x32 : Shape := ⟨3, ![2048, 2048, 32]⟩
abbrev S2048x2048x16x2 : Shape := ⟨4, ![2048, 2048, 16, 2]⟩
abbrev S16x2x2048x2048 : Shape := ⟨4, ![16, 2, 2048, 2048]⟩
abbrev S4x16x2x2048x2048 : Shape := ⟨5, ![4, 16, 2, 2048, 2048]⟩
abbrev S1x16x2x2048x2048 : Shape := ⟨5, ![1, 16, 2, 2048, 2048]⟩
abbrev S4x16x2x2048 : Shape := ⟨4, ![4, 16, 2, 2048]⟩
abbrev S4x16x2x2048x1 : Shape := ⟨5, ![4, 16, 2, 2048, 1]⟩
abbrev S4x16x1x2048x2048 : Shape := ⟨5, ![4, 16, 1, 2048, 2048]⟩
abbrev S4x16x2048x2048 : Shape := ⟨4, ![4, 16, 2048, 2048]⟩
abbrev S4x16x128x2048 : Shape := ⟨4, ![4, 16, 128, 2048]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S8192x2048 : Shape := ⟨2, ![8192, 2048]⟩

abbrev nBuf : Space → Nat
  | .hbm => 133
  | .vmem => 0
  | .smem => 0
  | _ => 0

abbrev hbmTy0_0 (i : Nat) : BufTy := match i % 128 with
  | 0 => ⟨S4x2048x2048, .f32⟩
  | 1 => ⟨S4x2048x2048, .f32⟩
  | 2 => ⟨S4x2048x2048, .f32⟩
  | 3 => ⟨S4x64, .f32⟩
  | 4 => ⟨S128, .f32⟩
  | 5 => ⟨S32x32, .f32⟩
  | 6 => ⟨S4x2048x16x2x64, .f32⟩
  | 7 => ⟨S4x2048x16x2x64, .f32⟩
  | 8 => ⟨S4x2048x16x128, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S2048, .i32⟩
  | 29 => ⟨S2048, .i32⟩
  | 30 => ⟨S2048x1, .i32⟩
  | 31 => ⟨S1x2048, .i32⟩
  | 32 => ⟨S2048x2048, .i32⟩
  | 33 => ⟨S2048x2048, .i32⟩
  | 34 => ⟨S2048x2048, .i32⟩
  | 35 => ⟨S_, .i32⟩
  | 36 => ⟨S2048x2048, .i32⟩
  | 37 => ⟨S2048x2048, .i32⟩
  | 38 => ⟨S_, .i32⟩
  | 39 => ⟨S2048x2048, .i32⟩
  | 40 => ⟨S2048x2048, .i32⟩
  | 41 => ⟨S2048x2048, .f32⟩
  | 42 => ⟨S_, .f32⟩
  | 43 => ⟨S2048x2048, .f32⟩
  | 44 => ⟨S2048x2048, .f32⟩
  | 45 => ⟨S2048x2048, .f32⟩
  | 46 => ⟨S_, .f32⟩
  | 47 => ⟨S2048x2048, .f32⟩
  | 48 => ⟨S2048x2048, .f32⟩
  | 49 => ⟨S_, .f32⟩
  | 50 => ⟨S2048x2048, .f32⟩
  | 51 => ⟨S2048x2048, .f32⟩
  | 52 => ⟨S2048x2048, .i32⟩
  | 53 => ⟨S_, .i32⟩
  | 54 => ⟨S2048x2048, .i32⟩
  | 55 => ⟨S2048x2048, .i32⟩
  | 56 => ⟨S_, .i32⟩
  | 57 => ⟨S2048x2048, .i32⟩
  | 58 => ⟨S2048x2048, .i32⟩
  | 59 => ⟨S_, .i32⟩
  | 60 => ⟨S2048x2048, .i32⟩
  | 61 => ⟨S2048x2048, .i1⟩
  | 62 => ⟨S2048x2048, .i32⟩
  | 63 => ⟨S_, .i32⟩
  | 64 => ⟨S2048x2048, .i32⟩
  | 65 => ⟨S2048x2048, .i1⟩
  | 66 => ⟨S_, .i32⟩
  | 67 => ⟨S2048x2048, .i32⟩
  | 68 => ⟨S2048x2048, .i32⟩
  | 69 => ⟨S2048x2048, .i32⟩
  | 70 => ⟨S2048x2048x1, .i32⟩
  | 71 => ⟨S2048x2048x32, .f32⟩
  | 72 => ⟨S2048x2048x16x2, .f32⟩
  | 73 => ⟨S16x2x2048x2048, .f32⟩
  | 74 => ⟨S4x16x2x2048x2048, .f32⟩
  | 75 => ⟨S_, .f32⟩
  | 76 => ⟨S4x16x2x2048x2048, .f32⟩
  | 77 => ⟨S4x16x2x2048x2048, .f32⟩
  | 78 => ⟨S1x16x2x2048x2048, .f32⟩
  | 79 => ⟨S4x16x2x2048x2048, .f32⟩
  | 80 => ⟨S4x16x2x2048x2048, .f32⟩
  | 81 => ⟨S_, .i32⟩
  | 82 => ⟨S2048x2048, .i32⟩
  | 83 => ⟨S2048x2048, .i1⟩
  | 84 => ⟨S_, .f32⟩
  | 85 => ⟨S_, .f32⟩
  | 86 => ⟨S4x16x2x2048x2048, .i1⟩
  | 87 => ⟨S4x16x2x2048x2048, .f32⟩
  | 88 => ⟨S4x16x2x2048x2048, .f32⟩
  | 89 => ⟨S_, .f32⟩
  | 90 => ⟨S4x16x2x2048, .f32⟩
  | 91 => ⟨S_, .f32⟩
  | 92 => ⟨S4x16x2x2048, .f32⟩
  | 93 => ⟨S4x16x2x2048, .f32⟩
  | 94 => ⟨S4x16x2x2048x1, .f32⟩
  | 95 => ⟨S4x16x2x2048x2048, .f32⟩
  | 96 => ⟨S4x16x2x2048x2048, .f32⟩
  | 97 => ⟨S4x16x2x2048x2048, .f32⟩
  | 98 => ⟨S_, .f32⟩
  | 99 => ⟨S4x16x2x2048, .f32⟩
  | 100 => ⟨S4x16x2x2048x1, .f32⟩
  | 101 => ⟨S4x16x2x2048x2048, .f32⟩
  | 102 => ⟨S4x16x2x2048x2048, .f32⟩
  | 103 => ⟨S4x16x1x2048x2048, .f32⟩
  | 104 => ⟨S4x16x2048x2048, .f32⟩
  | 105 => ⟨S4x16x1x2048x2048, .f32⟩
  | 106 => ⟨S4x16x2048x2048, .f32⟩
  | 107 => ⟨S4x16x2048x2048, .f32⟩
  | 108 => ⟨S4x16x2048x2048, .f32⟩
  | 109 => ⟨S4x16x2048x2048, .f32⟩
  | 110 => ⟨S4x16x128x2048, .f32⟩
  | 111 => ⟨S4x2048x16x128, .f32⟩
  | 112 => ⟨S4x2048x16x128, .f32⟩
  | 113 => ⟨S_, .f32⟩
  | 114 => ⟨S4x2048x16, .f32⟩
  | 115 => ⟨S4x2048x16x1, .f32⟩
  | 116 => ⟨S_, .f32⟩
  | 117 => ⟨S4x2048x16x1, .f32⟩
  | 118 => ⟨S4x2048x16x1, .f32⟩
  | 119 => ⟨S_, .f32⟩
  | 120 => ⟨S4x2048x16x1, .f32⟩
  | 121 => ⟨S4x2048x16x1, .f32⟩
  | 122 => ⟨S4x2048x16x1, .f32⟩
  | 123 => ⟨S4x2048x16x128, .f32⟩
  | 124 => ⟨S4x2048x16x128, .f32⟩
  | 125 => ⟨S1x1x1x128, .f32⟩
  | 126 => ⟨S4x2048x16x128, .f32⟩
  | 127 => ⟨S4x2048x16x128, .f32⟩
  | _ => ⟨S4x2048x2048, .f32⟩

abbrev hbmTy0_1 (i : Nat) : BufTy := match i % 128 with
  | 0 => ⟨S_, .f32⟩
  | 1 => ⟨S4x2048x16x128, .f32⟩
  | 2 => ⟨S4x2048x16x128, .f32⟩
  | 3 => ⟨S8192x2048, .f32⟩
  | 4 => ⟨S8192x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Proof.Attend.lean ====
/-
  One key/value head's step of the windowed attention, read at an index: the scores of its four query heads, their
  maximum with the sink, the exponentials, and the quotient written to the four heads' columns.
-/
module

public import proofs.«01_k».proof.Proof.Gen.KernelIdeal.Frame
public import Idealize.ShloMosaic.Lib.Pointwise

@[expose] public section

set_option maxRecDepth 16384

noncomputable section

namespace Cert.Attend

open Idealize.ShloMosaic Idealize.ShloMosaic.TcCoe Idealize.ShloMosaic.Tactic
open Cert.KernelIdeal Cert.KernelIdeal.Gen

/-- Row `r` of head `hh` in the block where four heads' rows are stacked. -/
def row4 (hh : Fin 4) (r : Fin 128) : Fin 512 := ⟨128 * hh.val + r.val, by omega⟩

/-- Lane `d` of head `hh` among the four heads' columns. -/
def col4 (hh : Fin 4) (d : Fin 64) : Fin 256 := ⟨64 * hh.val + d.val, by omega⟩

/-- Lane `d` of the half of a pair of heads that head `hh` takes. -/
def half (hh : Fin 4) (d : Fin 64) : Fin 128 := ⟨64 * (hh.val % 2) + d.val, by omega⟩

/-- The previous block's rows followed by the own block's rows. -/
def both (p o : Vec Ideal S128x128 .bf16) (c : Fin 256) (l : Fin 128) : EReal :=
  if h : c.val < 128 then p (ix2 ⟨c.val, h⟩ l) else o (ix2 ⟨c.val - 128, by omega⟩ l)

/-- The reciprocal of the natural logarithm of two. -/
def log2e : EReal := (((Real.log 2)⁻¹ : ℝ) : EReal)

/-- The kernel's named constant at the ideal instance. -/
theorem named_log2e : Named.named (F := Ideal) (φ := .f32) κ "log2e" 0x3FB8AA3B#32 = log2e :=
  IdealRules.named_const.ideal_named_scalar _ _ _ _ rfl

/-- The compare of a lane number below 128 with 64, decided. -/
theorem lane_lt (x : Fin 128) :
    IntOp.cmpi CmpIPredicate.slt (BitVec.ofNat 32 x.val) 64#32 = if x.val < 64 then 1#1 else 0#1 := by
  revert x; decide +kernel

/-- The compare of a row number below 512 with 256, decided. -/
theorem row_lt (x : Fin 512) :
    IntOp.cmpi CmpIPredicate.slt (BitVec.ofNat 32 x.val) 256#32 = if x.val < 256 then 1#1 else 0#1 := by
  revert x; decide +kernel

/-- The compare of a key's position below 256 with 128, decided. -/
theorem key_lt (x : Fin 256) :
    IntOp.cmpi CmpIPredicate.slt (BitVec.ofNat 32 x.val) 128#32 = if x.val < 128 then 1#1 else 0#1 := by
  revert x; decide +kernel

/-- The compare of a block number below 16 with zero, decided. -/
theorem blk_eq (x : Fin 16) :
    Scalar.cmpi CmpIPredicate.eq (BitVec.ofNat 32 x.val) 0#32 = if x.val = 0 then 1#1 else 0#1 := by
  revert x; decide +kernel

theorem sel_one {α : Type} (a b : α) : Scalar.select 1#1 a b = a := rfl
theorem sel_zero {α : Type} (a b : α) : Scalar.select 0#1 a b = b := rfl

/-- A sum over 128 lanes of which the upper 64 are cleared. -/
theorem sum_low (f k : Fin 128 → EReal) :
    ∑ x : Fin 128, Scalar.select (IntOp.cmpi CmpIPredicate.slt (BitVec.ofNat 32 x.val) 64#32) (f x) 0 * k x
      = ∑ d : Fin 64, f ⟨d.val, by omega⟩ * k ⟨d.val, by omega⟩ := by
  rw [Fin.sum_univ_two_halves 64 64 rfl]
  have h0 : ∀ x : Fin 64, Scalar.select (IntOp.cmpi CmpIPredicate.slt
      (BitVec.ofNat 32 (⟨64 + x.val, by omega⟩ : Fin 128).val) 64#32) (f ⟨64 + x.val, by omega⟩) 0
        * k ⟨64 + x.val, by omega⟩ = 0 := by
    intro x
    rw [lane_lt, if_neg (by simp), sel_zero, zero_mul]
  rw [Finset.sum_congr (g := fun _ : Fin 64 => (0 : EReal)) (s₂ := Finset.univ) (s₁ := Finset.univ) (f := fun x : Fin 64 => _) rfl (fun x _ => h0 x),
    Finset.sum_const_zero, add_zero]
  refine Finset.sum_congr rfl fun d _ => ?_
  rw [lane_lt, if_pos (by simp), sel_one]

/-- A sum over 128 lanes of which the lower 64 are cleared. -/
theorem sum_high (f k : Fin 128 → EReal) :
    ∑ x : Fin 128, Scalar.select (IntOp.cmpi CmpIPredicate.slt (BitVec.ofNat 32 x.val) 64#32) 0 (f x) * k x
      = ∑ d : Fin 64, f ⟨64 + d.val, by omega⟩ * k ⟨64 + d.val, by omega⟩ := by
  rw [Fin.sum_univ_two_halves 64 64 rfl]
  have h0 : ∀ x : Fin 64, Scalar.select (IntOp.cmpi CmpIPredicate.slt
      (BitVec.ofNat 32 (⟨x.val, by omega⟩ : Fin 128).val) 64#32) 0 (f ⟨x.val, by omega⟩)
        * k ⟨x.val, by omega⟩ = 0 := by
    intro x
    rw [lane_lt, if_pos (by simp), sel_one, zero_mul]
  rw [Finset.sum_congr (g := fun _ : Fin 64 => (0 : EReal)) (s₂ := Finset.univ) (s₁ := Finset.univ) (f := fun x : Fin 64 => _) rfl (fun x _ => h0 x),
    Finset.sum_const_zero, zero_add]
  refine Finset.sum_congr rfl fun d _ => ?_
  rw [lane_lt, if_neg (by simp), sel_zero]

/-- The four sinks, one per head's rows, each times `log2e`. -/
theorem sinks_apply (t0 t1 t2 t3 : Elt Ideal .f32) (hh : Fin 4) (r : Fin 128) :
    k1_pay16 (F := Ideal) t0 t1 t2 t3 (ix2 (row4 hh r) 0) = (![t0, t1, t2, t3] hh : EReal) * log2e := by
  have hr := r.isLt
  pointwise [k1_pay16, named_log2e]
  fin_cases hh
  · rw [dif_pos (show _ < _ by simp [row4])]; rfl
  · rw [dif_neg (show ¬ _ < _ by simp [row4]), dif_pos (show _ < _ by simp [row4])]; rfl
  · rw [dif_neg (show ¬ _ < _ by simp [row4]; omega), dif_neg (show ¬ _ < _ by simp [row4]; omega),
      dif_pos (show _ < _ by simp [row4]; omega)]; rfl
  · rw [dif_neg (show ¬ _ < _ by simp [row4]; omega), dif_neg (show ¬ _ < _ by simp [row4]; omega),
      dif_neg (show ¬ _ < _ by simp [row4]; omega)]; rfl

/-- The pattern of minus infinity. -/
theorem ofBits_neg_inf : Ideal.ofBits FTy.f32 0xFF800000#32 = (⊥ : EReal) := by
  simp [Ideal.ofBits, Ideal.ieee]

/-- Two coordinates with equal values give the same element. -/
theorem ix2_congr {α : Type} {A B : ℕ} (f : (⟨2, ![A, B]⟩ : Shape).Idx → α) {a a' : Fin A} {b b' : Fin B}
    (ha : a.val = a'.val) (hb : b.val = b'.val) : f (ix2 a b) = f (ix2 a' b') := by
  obtain rfl := Fin.ext ha; obtain rfl := Fin.ext hb; rfl

theorem both_congr (p o : Vec Ideal S128x128 .bf16) (c : Fin 256) {l l' : Fin 128} (h : l.val = l'.val) :
    both p o c l = both p o c l' := by
  obtain rfl := Fin.ext h; rfl

theorem both_lt (p o : Vec Ideal S128x128 .bf16) (c : Fin 256) (l : Fin 128) (h : c.val < 128) :
    both p o c l = p (ix2 ⟨c.val, h⟩ l) := dif_pos h

theorem both_ge (p o : Vec Ideal S128x128 .bf16) (c : Fin 256) (l : Fin 128) (h : ¬ c.val < 128) :
    both p o c l = o (ix2 ⟨c.val - 128, by omega⟩ l) := dif_neg h

/-- A group's scores: query times key over the head's 64 lanes plus the bias, or minus infinity where there is no
    previous block. -/
theorem scores_apply (i : grid1.Coords) (q : Vec Ideal S128x256 .bf16) (kp ko : Vec Ideal S128x128 .bf16)
    (b : Vec Ideal S4x128x256 .f32) (hh : Fin 4) (r : Fin 128) (c : Fin 256) :
    k1_pay5 (F := Ideal) (k1_pay2 i) q kp ko b (ix2 (row4 hh r) c)
      = if c.val < 128 ∧ (i 1).val = 0 then (⊥ : EReal)
        else (∑ d : Fin 64, q (ix2 r (col4 hh d)) * both kp ko c (half hh d)) + b (ix3 hh r c) := by
  have hr := r.isLt
  have hi : (i 1).val < 16 := (i 1).isLt
  have hm : IntOp.andi (IntOp.cmpi CmpIPredicate.slt (BitVec.ofNat 32 c.val) 128#32)
      (Scalar.cmpi CmpIPredicate.eq (BitVec.ofNat 32 (i 1).val) 0#32)
      = if c.val < 128 ∧ (i 1).val = 0 then 1#1 else 0#1 := by
    have hb : Scalar.cmpi CmpIPredicate.eq (BitVec.ofNat 32 (i 1).val) 0#32 = if (i 1).val = 0 then 1#1 else 0#1 :=
      blk_eq ⟨(i 1).val, hi⟩
    rw [key_lt, hb]
    by_cases h1 : c.val < 128 <;> by_cases h2 : (i 1).val = 0 <;> simp [h1, h2, IntOp.andi]
  have hb : b (ix3 (⟨(row4 hh r).val / 128, by simp [row4]; omega⟩ : Fin 4) (⟨(row4 hh r).val % 128, by omega⟩ : Fin 128) c) = b (ix3 hh r c) := by
    congr 2
    · apply Fin.ext; simp only [row4]; omega
    · apply Fin.ext; simp only [row4]; omega
  pointwise [k1_pay5, k1_pay2]
  rw [ofBits_neg_inf, hm]
  by_cases hc : c.val < 128 ∧ (i 1).val = 0
  · rw [if_pos hc, if_pos hc, sel_one]
  rw [if_neg hc, if_neg hc, sel_zero]
  refine congrArg₂ (· + ·) ?_ hb
  simp only [show ∀ x : Fin 128, (if h : c.val < 128 then kp (ix2 ⟨c.val, h⟩ x)
      else ko (ix2 ⟨c.val - 128, by omega⟩ x)) = both kp ko c x from fun x => rfl]
  match hh with
  | ⟨0, _⟩ =>
    simp only [dif_pos (show (row4 ⟨0, by omega⟩ r).val < 128 by simp [row4])]
    rw [sum_low (fun x => q (ix2 ⟨(row4 ⟨0, by omega⟩ r).val, by simp [row4]⟩ ⟨x.val, by omega⟩)) (both kp ko c)]
    refine Finset.sum_congr rfl fun d _ => congrArg₂ (· * ·) (ix2_congr q ?_ ?_) (both_congr _ _ _ ?_) <;>
      simp [row4, col4, half]
  | ⟨1, _⟩ =>
    simp only [dif_neg (show ¬ (row4 ⟨1, by omega⟩ r).val < 128 by simp [row4]),
      dif_pos (show (row4 ⟨1, by omega⟩ r).val - 128 < 128 by simp [row4])]
    rw [sum_high (fun x => q (ix2 ⟨(row4 ⟨1, by omega⟩ r).val - 128, by simp [row4]⟩ ⟨x.val, by omega⟩)) (both kp ko c)]
    refine Finset.sum_congr rfl fun d _ => congrArg₂ (· * ·) (ix2_congr q ?_ ?_) (both_congr _ _ _ ?_) <;>
      simp [row4, col4, half]
  | ⟨2, _⟩ =>
    simp only [dif_neg (show ¬ (row4 ⟨2, by omega⟩ r).val < 128 by simp only [row4]; omega),
      dif_neg (show ¬ (row4 ⟨2, by omega⟩ r).val - 128 < 128 by simp only [row4]; omega),
      dif_pos (show (row4 ⟨2, by omega⟩ r).val - 128 - 128 < 128 by simp only [row4]; omega)]
    rw [sum_low (fun x => q (ix2 ⟨(row4 ⟨2, by omega⟩ r).val - 128 - 128, by simp only [row4]; omega⟩ ⟨128 + x.val, by omega⟩)) (both kp ko c)]
    refine Finset.sum_congr rfl fun d _ => congrArg₂ (· * ·) (ix2_congr q ?_ ?_) (both_congr _ _ _ ?_) <;>
      simp only [row4, col4, half] <;> omega
  | ⟨3, _⟩ =>
    simp only [dif_neg (show ¬ (row4 ⟨3, by omega⟩ r).val < 128 by simp only [row4]; omega),
      dif_neg (show ¬ (row4 ⟨3, by omega⟩ r).val - 128 < 128 by simp only [row4]; omega),
      dif_neg (show ¬ (row4 ⟨3, by omega⟩ r).val - 128 - 128 < 128 by simp only [row4]; omega)]
    rw [sum_high (fun x => q (ix2 ⟨(row4 ⟨3, by omega⟩ r).val - 128 - 128 - 128, by simp only [row4]; omega⟩ ⟨128 + x.val, by omega⟩)) (both kp ko c)]
    refine Finset.sum_congr rfl fun d _ => congrArg₂ (· * ·) (ix2_congr q ?_ ?_) (both_congr _ _ _ ?_) <;>
      simp only [row4, col4, half] <;> omega

/-- The row maximum of the scores and the sink. -/
theorem max_apply (s : FVec Ideal S512x256 .f32) (t0 t1 t2 t3 : Elt Ideal .f32) (hh : Fin 4) (r : Fin 128) :
    k1_pay17 (F := Ideal) s t0 t1 t2 t3 (ix2 (row4 hh r) 0)
      = max (Finset.univ.fold max (⊥ : EReal) fun c : Fin 256 => s (ix2 (row4 hh r) c))
          ((![t0, t1, t2, t3] hh : EReal) * log2e) := by
  pointwise [k1_pay17]
  rw [ofBits_neg_inf, sinks_apply]

/-- The exponentials of a group's scores. -/
theorem exps_apply (s : FVec Ideal S512x256 .f32) (t0 t1 t2 t3 : Elt Ideal .f32) (hh : Fin 4) (r : Fin 128) (c : Fin 256) :
    k1_pay18 (F := Ideal) s t0 t1 t2 t3 (ix2 (row4 hh r) c)
      = Ideal.exp2 (s (ix2 (row4 hh r) c) - max (Finset.univ.fold max (⊥ : EReal) fun c : Fin 256 => s (ix2 (row4 hh r) c))
          ((![t0, t1, t2, t3] hh : EReal) * log2e)) := by
  pointwise [k1_pay18]
  rw [max_apply]
  rfl

/-- The exponentials of a group's sinks. -/
theorem sinkExps_apply (s : FVec Ideal S512x256 .f32) (t0 t1 t2 t3 : Elt Ideal .f32) (hh : Fin 4) (r : Fin 128) :
    k1_pay19 (F := Ideal) s t0 t1 t2 t3 (ix2 (row4 hh r) 0)
      = Ideal.exp2 ((![t0, t1, t2, t3] hh : EReal) * log2e - max (Finset.univ.fold max (⊥ : EReal) fun c : Fin 256 => s (ix2 (row4 hh r) c))
          ((![t0, t1, t2, t3] hh : EReal) * log2e)) := by
  pointwise [k1_pay19]
  rw [max_apply, sinks_apply]
  rfl

/-- A value lane of the block of paired values: the pair's first head in the upper rows. -/
theorem pair_low (vp vo : Vec Ideal S128x128 .bf16) (x : Fin 256) (c : Fin 128) :
    k1_pay88 (F := Ideal) vp vo (ix2 (⟨x.val, by omega⟩ : Fin 512) (⟨c.val, by omega⟩ : Fin 256))
      = if c.val < 64 then both vp vo x c else 0 := by
  pointwise [k1_pay88]
  rw [lane_lt]
  by_cases h : c.val < 64
  · rw [if_pos h, if_pos h, sel_one]; rfl
  · rw [if_neg h, if_neg h, sel_zero]

/-- A value lane of the block of paired values: the pair's second head in the lower rows. -/
theorem pair_high (vp vo : Vec Ideal S128x128 .bf16) (x : Fin 256) (c : Fin 128) :
    k1_pay88 (F := Ideal) vp vo (ix2 (⟨256 + x.val, by omega⟩ : Fin 512) (⟨c.val, by omega⟩ : Fin 256))
      = if c.val < 64 then 0 else both vp vo x c := by
  pointwise [k1_pay88]
  rw [lane_lt]
  by_cases h : c.val < 64
  · rw [if_pos h, if_pos h, sel_one]
  · rw [if_neg h, if_neg h, sel_zero]
    rfl

/-- The selector's lanes beside the paired values, in the upper rows. -/
theorem selector_low (vp vo : Vec Ideal S128x128 .bf16) (x : Fin 256) (c : Fin 128) :
    k1_pay88 (F := Ideal) vp vo (ix2 (⟨x.val, by omega⟩ : Fin 512) (⟨128 + c.val, by omega⟩ : Fin 256))
      = if c.val < 64 then 1 else 0 := by
  pointwise [k1_pay88]
  rw [lane_lt, show IntOp.cmpi CmpIPredicate.slt (BitVec.ofNat 32 x.val) 256#32 = 1#1 from
    (row_lt ⟨x.val, by omega⟩).trans (if_pos x.isLt)]
  by_cases h : c.val < 64
  · rw [if_pos h, if_pos h]; rfl
  · rw [if_neg h, if_neg h]; rfl

/-- The selector's lanes beside the paired values, in the lower rows. -/
theorem selector_high (vp vo : Vec Ideal S128x128 .bf16) (x : Fin 256) (c : Fin 128) :
    k1_pay88 (F := Ideal) vp vo (ix2 (⟨256 + x.val, by omega⟩ : Fin 512) (⟨128 + c.val, by omega⟩ : Fin 256))
      = if c.val < 64 then 0 else 1 := by
  pointwise [k1_pay88]
  rw [lane_lt, show IntOp.cmpi CmpIPredicate.slt (BitVec.ofNat 32 (256 + x.val)) 256#32 = 0#1 from
    (row_lt ⟨256 + x.val, by omega⟩).trans (if_neg (by simp))]
  by_cases h : c.val < 64
  · rw [if_pos h, if_pos h]; rfl
  · rw [if_neg h, if_neg h]; rfl

/-- A pair's exponentials against the paired values: each lane takes its own head's. -/
theorem pair_sum (vp vo : Vec Ideal S128x128 .bf16) (f g : Fin 256 → EReal) (l : Fin 128) :
    (∑ x : Fin 256, f x * k1_pay88 (F := Ideal) vp vo (ix2 (⟨x.val, by omega⟩ : Fin 512) (⟨l.val, by omega⟩ : Fin 256)))
      + ∑ x : Fin 256, g x * k1_pay88 (F := Ideal) vp vo (ix2 (⟨256 + x.val, by omega⟩ : Fin 512) (⟨l.val, by omega⟩ : Fin 256))
      = ∑ x : Fin 256, (if l.val < 64 then f x else g x) * both vp vo x l := by
  rw [← Finset.sum_add_distrib]
  refine Finset.sum_congr rfl fun x _ => ?_
  rw [pair_low, pair_high]
  by_cases h : l.val < 64
  · rw [if_pos h, if_pos h, if_pos h, mul_zero, add_zero]
  · rw [if_neg h, if_neg h, if_neg h, mul_zero, zero_add]

/-- A pair's exponentials against the selector: each lane takes its own head's sum. -/
theorem selector_sum (vp vo : Vec Ideal S128x128 .bf16) (f g : Fin 256 → EReal) (l : Fin 128) :
    (∑ x : Fin 256, f x * k1_pay88 (F := Ideal) vp vo (ix2 (⟨x.val, by omega⟩ : Fin 512) (⟨128 + l.val, by omega⟩ : Fin 256)))
      + ∑ x : Fin 256, g x * k1_pay88 (F := Ideal) vp vo (ix2 (⟨256 + x.val, by omega⟩ : Fin 512) (⟨128 + l.val, by omega⟩ : Fin 256))
      = ∑ x : Fin 256, (if l.val < 64 then f x else g x) := by
  rw [← Finset.sum_add_distrib]
  refine Finset.sum_congr rfl fun x _ => ?_
  rw [selector_low, selector_high]
  by_cases h : l.val < 64
  · rw [if_pos h, if_pos h, if_pos h, mul_zero, add_zero, mul_one]
  · rw [if_neg h, if_neg h, if_neg h, mul_zero, zero_add, mul_one]

/-- The quotient at a pair's lane. -/
theorem quot_core (vp vo : Vec Ideal S128x128 .bf16) (f g : Fin 256 → EReal) (l : Fin 128) (p q : EReal) :
    Ideal.div ((∑ x : Fin 256, f x * k1_pay88 (F := Ideal) vp vo (ix2 (⟨x.val, by omega⟩ : Fin 512) (⟨l.val, by omega⟩ : Fin 256)))
        + ∑ x : Fin 256, g x * k1_pay88 (F := Ideal) vp vo (ix2 (⟨256 + x.val, by omega⟩ : Fin 512) (⟨l.val, by omega⟩ : Fin 256)))
      ((∑ x : Fin 256, f x * k1_pay88 (F := Ideal) vp vo (ix2 (⟨x.val, by omega⟩ : Fin 512) (⟨128 + l.val, by omega⟩ : Fin 256)))
        + (∑ x : Fin 256, g x * k1_pay88 (F := Ideal) vp vo (ix2 (⟨256 + x.val, by omega⟩ : Fin 512) (⟨128 + l.val, by omega⟩ : Fin 256)))
        + Scalar.select (IntOp.cmpi CmpIPredicate.slt (BitVec.ofNat 32 l.val) 64#32) p q)
      = if l.val < 64 then Ideal.div (∑ x : Fin 256, f x * both vp vo x l) ((∑ x : Fin 256, f x) + p)
        else Ideal.div (∑ x : Fin 256, g x * both vp vo x l) ((∑ x : Fin 256, g x) + q) := by
  rw [pair_sum, selector_sum, lane_lt]
  by_cases h : l.val < 64
  · simp only [if_pos h, sel_one]
  · simp only [if_neg h, sel_zero]

/-- The quotient written to a group's columns: at head `hh`'s lane `d`, the exponentials against the values over
    their sum with the sink's. -/
theorem quot_apply (e : FVec Ideal S512x256 .bf16) (es : FVec Ideal S512x1 .f32) (vp vo : Vec Ideal S128x128 .bf16)
    (r : Fin 128) (hh : Fin 4) (d : Fin 64) :
    k1_pay1 (F := Ideal) k1_pay3 e es (k1_pay88 vp vo) (ix2 r (col4 hh d))
      = Ideal.div (∑ c : Fin 256, e (ix2 (row4 hh r) c) * both vp vo c (half hh d))
          ((∑ c : Fin 256, e (ix2 (row4 hh r) c)) + es (ix2 (row4 hh r) 0)) := by
  have hd := d.isLt
  pointwise [k1_pay1, k1_pay3]
  match hh with
  | ⟨0, _⟩ =>
    rw [dif_pos (show (col4 ⟨0, by omega⟩ d).val < 128 by simp only [col4]; omega)]
    refine (quot_core vp vo (fun x => e (ix2 (⟨r.val, by omega⟩ : Fin 512) x)) (fun x => e (ix2 (⟨128 + r.val, by omega⟩ : Fin 512) x))
      ⟨(col4 ⟨0, by omega⟩ d).val, by simp only [col4]; omega⟩ (es (ix2 (⟨r.val, by omega⟩ : Fin 512) 0)) (es (ix2 (⟨128 + r.val, by omega⟩ : Fin 512) 0))).trans ?_
    rw [if_pos (by simp only [col4]; omega)]
    refine congrArg₂ Ideal.div (Finset.sum_congr rfl fun c _ => congrArg₂ (· * ·) (ix2_congr e ?_ rfl) (both_congr _ _ _ ?_))
      (congrArg₂ (· + ·) (Finset.sum_congr rfl fun c _ => ix2_congr e ?_ rfl) (ix2_congr es ?_ rfl)) <;>
      simp only [row4, col4, half] <;> omega
  | ⟨1, _⟩ =>
    rw [dif_pos (show (col4 ⟨1, by omega⟩ d).val < 128 by simp only [col4]; omega)]
    refine (quot_core vp vo (fun x => e (ix2 (⟨r.val, by omega⟩ : Fin 512) x)) (fun x => e (ix2 (⟨128 + r.val, by omega⟩ : Fin 512) x))
      ⟨(col4 ⟨1, by omega⟩ d).val, by simp only [col4]; omega⟩ (es (ix2 (⟨r.val, by omega⟩ : Fin 512) 0)) (es (ix2 (⟨128 + r.val, by omega⟩ : Fin 512) 0))).trans ?_
    rw [if_neg (by simp only [col4]; omega)]
    refine congrArg₂ Ideal.div (Finset.sum_congr rfl fun c _ => congrArg₂ (· * ·) (ix2_congr e ?_ rfl) (both_congr _ _ _ ?_))
      (congrArg₂ (· + ·) (Finset.sum_congr rfl fun c _ => ix2_congr e ?_ rfl) (ix2_congr es ?_ rfl)) <;>
      simp only [row4, col4, half] <;> omega
  | ⟨2, _⟩ =>
    rw [dif_neg (show ¬ (col4 ⟨2, by omega⟩ d).val < 128 by simp only [col4]; omega)]
    refine (quot_core vp vo (fun x => e (ix2 (⟨256 + r.val, by omega⟩ : Fin 512) x)) (fun x => e (ix2 (⟨384 + r.val, by omega⟩ : Fin 512) x))
      ⟨(col4 ⟨2, by omega⟩ d).val - 128, by simp only [col4]; omega⟩ (es (ix2 (⟨256 + r.val, by omega⟩ : Fin 512) 0)) (es (ix2 (⟨384 + r.val, by omega⟩ : Fin 512) 0))).trans ?_
    rw [if_pos (by simp only [col4]; omega)]
    refine congrArg₂ Ideal.div (Finset.sum_congr rfl fun c _ => congrArg₂ (· * ·) (ix2_congr e ?_ rfl) (both_congr _ _ _ ?_))
      (congrArg₂ (· + ·) (Finset.sum_congr rfl fun c _ => ix2_congr e ?_ rfl) (ix2_congr es ?_ rfl)) <;>
      simp only [row4, col4, half] <;> omega
  | ⟨3, _⟩ =>
    rw [dif_neg (show ¬ (col4 ⟨3, by omega⟩ d).val < 128 by simp only [col4]; omega)]
    refine (quot_core vp vo (fun x => e (ix2 (⟨256 + r.val, by omega⟩ : Fin 512) x)) (fun x => e (ix2 (⟨384 + r.val, by omega⟩ : Fin 512) x))
      ⟨(col4 ⟨3, by omega⟩ d).val - 128, by simp only [col4]; omega⟩ (es (ix2 (⟨256 + r.val, by omega⟩ : Fin 512) 0)) (es (ix2 (⟨384 + r.val, by omega⟩ : Fin 512) 0))).trans ?_
    rw [if_neg (by simp only [col4]; omega)]
    refine congrArg₂ Ideal.div (Finset.sum_congr rfl fun c _ => congrArg₂ (· * ·) (ix2_congr e ?_ rfl) (both_congr _ _ _ ?_))
      (congrArg₂ (· + ·) (Finset.sum_congr rfl fun c _ => ix2_congr e ?_ rfl) (ix2_congr es ?_ rfl)) <;>
      simp only [row4, col4, half] <;> omega

end Cert.Attend
end
-- ==== Proof.Block.lean ====
/-
  The windowed attention's output block at a grid point, read at an index: each of the 32 heads' 64 columns is the
  quotient of the exponentials against the values by the exponentials' sum with the sink's.
-/
module

public import proofs.«01_k».proof.Proof.Attend

@[expose] public section

set_option maxRecDepth 16384

noncomputable section

namespace Cert.Attend

open Idealize.ShloMosaic Idealize.ShloMosaic.TcCoe Idealize.ShloMosaic.Tactic
open Cert.KernelIdeal Cert.KernelIdeal.Gen

/-- Attention in base two over 256 scores `S`, a sink `t` and one value lane `V`. -/
def row2 (S : Fin 256 → EReal) (t : EReal) (V : Fin 256 → EReal) : EReal :=
  Ideal.div (∑ c, Ideal.exp2 (S c - max (Finset.univ.fold max ⊥ S) t) * V c)
    ((∑ c, Ideal.exp2 (S c - max (Finset.univ.fold max ⊥ S) t)) + Ideal.exp2 (t - max (Finset.univ.fold max ⊥ S) t))

/-- Column `d` of head `h` among the 32 heads' columns. -/
def qcol (h : Fin 32) (d : Fin 64) : Fin 2048 := ⟨64 * h.val + d.val, by omega⟩

/-- Column `d` of head `h`'s duplicated key/value head: 128 columns per key/value head, the 64 of them that the head's
    position in its pair takes. -/
def kcol (h : Fin 32) (d : Fin 64) : Fin 1024 := ⟨128 * (h.val / 4) + 64 * (h.val % 2) + d.val, by omega⟩

/-- The previous block's rows followed by the own block's rows, over all the key/value columns. -/
def keys (p o : Vec Ideal S128x1024 .bf16) (c : Fin 256) (l : Fin 1024) : EReal :=
  if h : c.val < 128 then p (ix2 ⟨c.val, h⟩ l) else o (ix2 ⟨c.val - 128, by omega⟩ l)

/-- The scores of head `h` at row `r`, at a grid point. -/
def blockScores (first : Prop) [Decidable first] (x1 : Vec Ideal S128x2048 .bf16) (x2 x3 : Vec Ideal S128x1024 .bf16)
    (x6 : Vec Ideal S32x128x256 .f32) (h : Fin 32) (r : Fin 128) (c : Fin 256) : EReal :=
  if c.val < 128 ∧ first then ⊥
  else (∑ d : Fin 64, x1 (ix2 r (qcol h d)) * keys x2 x3 c (kcol h d)) + x6 (ix3 h r c)

/-- The output block at a grid point, at row `r`, head `h`, lane `d`. -/
def blockOut (first : Prop) [Decidable first] (x0 : Vec Ideal S32 .f32) (x1 : Vec Ideal S128x2048 .bf16)
    (x2 x3 x4 x5 : Vec Ideal S128x1024 .bf16) (x6 : Vec Ideal S32x128x256 .f32) (r : Fin 128) (h : Fin 32) (d : Fin 64) : EReal :=
  row2 (blockScores first x1 x2 x3 x6 h r) (x0 (ix1 h) * log2e) (fun c => keys x4 x5 c (kcol h d))

/-- The same as contents of the block. -/
def blockFn (first : Prop) [Decidable first] (x0 : Vec Ideal S32 .f32) (x1 : Vec Ideal S128x2048 .bf16)
    (x2 x3 x4 x5 : Vec Ideal S128x1024 .bf16) (x6 : Vec Ideal S32x128x256 .f32) (y : S128x2048.Idx) : EReal :=
  blockOut first x0 x1 x2 x3 x4 x5 x6 (y 0) ⟨(y 1).val / 64, by have : (y 1).val < 2048 := (y 1).isLt; omega⟩
    ⟨(y 1).val % 64, by omega⟩

/-- One key/value head's step: its scores, exponentials and quotient. -/
def grp (i : grid1.Coords) (q : Vec Ideal S128x256 .bf16) (kp ko : Vec Ideal S128x128 .bf16) (b : Vec Ideal S4x128x256 .f32)
    (t0 t1 t2 t3 : Elt Ideal .f32) (vp vo : Vec Ideal S128x128 .bf16) : FVec Ideal S128x256 .bf16 :=
  k1_pay1 (F := Ideal) k1_pay3 (k1_pay18 (k1_pay5 (k1_pay2 i) q kp ko b) t0 t1 t2 t3)
    (k1_pay19 (k1_pay5 (k1_pay2 i) q kp ko b) t0 t1 t2 t3) (k1_pay88 vp vo)

/-- A key/value head's step, where its operands are group `g`'s parts of the blocks, is group `g`'s part of the output block. -/
theorem grp_eq (i : grid1.Coords) (x0 : Vec Ideal S32 .f32) (x1 : Vec Ideal S128x2048 .bf16)
    (x2 x3 x4 x5 : Vec Ideal S128x1024 .bf16) (x6 : Vec Ideal S32x128x256 .f32) (g : Fin 8)
    (q : Vec Ideal S128x256 .bf16) (kp ko : Vec Ideal S128x128 .bf16) (b : Vec Ideal S4x128x256 .f32)
    (t0 t1 t2 t3 : Elt Ideal .f32) (vp vo : Vec Ideal S128x128 .bf16)
    (hq : ∀ (r : Fin 128) (c : Fin 256), q (ix2 r c) = x1 (ix2 r ⟨256 * g.val + c.val, by omega⟩))
    (hkp : ∀ (r : Fin 128) (c : Fin 128), kp (ix2 r c) = x2 (ix2 r ⟨128 * g.val + c.val, by omega⟩))
    (hko : ∀ (r : Fin 128) (c : Fin 128), ko (ix2 r c) = x3 (ix2 r ⟨128 * g.val + c.val, by omega⟩))
    (hvp : ∀ (r : Fin 128) (c : Fin 128), vp (ix2 r c) = x4 (ix2 r ⟨128 * g.val + c.val, by omega⟩))
    (hvo : ∀ (r : Fin 128) (c : Fin 128), vo (ix2 r c) = x5 (ix2 r ⟨128 * g.val + c.val, by omega⟩))
    (hb : ∀ (n : Fin 4) (r : Fin 128) (c : Fin 256), b (ix3 n r c) = x6 (ix3 ⟨4 * g.val + n.val, by omega⟩ r c))
    (ht : ∀ n : Fin 4, (![t0, t1, t2, t3] n : EReal) = x0 (ix1 ⟨4 * g.val + n.val, by omega⟩))
    (r : Fin 128) (l : Fin 256) :
    grp i q kp ko b t0 t1 t2 t3 vp vo (ix2 r l)
      = blockFn ((i 1).val = 0) x0 x1 x2 x3 x4 x5 x6 (ix2 r ⟨256 * g.val + l.val, by omega⟩) := by
  obtain ⟨hh, d, rfl⟩ : ∃ (hh : Fin 4) (d : Fin 64), l = col4 hh d :=
    ⟨⟨l.val / 64, by omega⟩, ⟨l.val % 64, by omega⟩, Fin.ext (by simp only [col4]; omega)⟩
  have hboth : ∀ (p o : Vec Ideal S128x128 .bf16) (P O : Vec Ideal S128x1024 .bf16)
      (hp : ∀ (r : Fin 128) (c : Fin 128), p (ix2 r c) = P (ix2 r ⟨128 * g.val + c.val, by omega⟩))
      (ho : ∀ (r : Fin 128) (c : Fin 128), o (ix2 r c) = O (ix2 r ⟨128 * g.val + c.val, by omega⟩))
      (c : Fin 256) (d : Fin 64),
      both p o c (half hh d) = keys P O c (kcol ⟨4 * g.val + hh.val, by omega⟩ d) := by
    intro p o P O hp ho c d
    unfold both keys
    by_cases h : c.val < 128
    · rw [dif_pos h, dif_pos h, hp]
      exact ix2_congr P rfl (by simp only [half, kcol]; omega)
    · rw [dif_neg h, dif_neg h, ho]
      exact ix2_congr O rfl (by simp only [half, kcol]; omega)
  have hs : ∀ c, k1_pay5 (F := Ideal) (k1_pay2 i) q kp ko b (ix2 (row4 hh r) c)
      = blockScores ((i 1).val = 0) x1 x2 x3 x6 ⟨4 * g.val + hh.val, by omega⟩ r c := by
    intro c
    rw [scores_apply, hb]
    unfold blockScores
    refine if_congr Iff.rfl rfl (congrArg (· + _) (Finset.sum_congr rfl fun d _ => ?_))
    rw [hq, hboth kp ko x2 x3 hkp hko]
    exact congrArg (· * _) (ix2_congr x1 rfl (by simp only [col4, qcol]; omega))
  unfold grp
  rw [quot_apply, sinkExps_apply]
  simp only [exps_apply, hs, ht, hboth vp vo x4 x5 hvp hvo]
  unfold blockFn blockOut row2
  have e1 : (⟨(256 * g.val + (col4 hh d).val) / 64, by have := (col4 hh d).isLt; omega⟩ : Fin 32) = ⟨4 * g.val + hh.val, by omega⟩ :=
    Fin.ext (by simp only [col4]; omega)
  have e2 : (⟨(256 * g.val + (col4 hh d).val) % 64, by omega⟩ : Fin 64) = d :=
    Fin.ext (by simp only [col4]; omega)
  show _ = Ideal.div (∑ c, Ideal.exp2 (blockScores _ x1 x2 x3 x6 (⟨(256 * g.val + (col4 hh d).val) / 64, _⟩ : Fin 32) r c - _) * keys x4 x5 c
    (kcol (⟨(256 * g.val + (col4 hh d).val) / 64, _⟩ : Fin 32) (⟨(256 * g.val + (col4 hh d).val) % 64, _⟩ : Fin 64))) _
  simp only [ix2_0, ix2_1, e1, e2]

/-- The operands of group `g`'s step, loaded out of the blocks, give group `g`'s part of the output block. -/
theorem group_piece (i : grid1.Coords) (arg2 : Memref sig .tc .smem S32 .f32) (harg2 : arg2.IsWhole) (arg3 : Memref sig .tc .vmem S128x2048 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S32x128x256 .f32) (harg8 : arg8.IsWhole)
    (x0 : Vec Ideal S32 .f32) (x1 : Vec Ideal S128x2048 .bf16) (x2 x3 x4 x5 : Vec Ideal S128x1024 .bf16) (x6 : Vec Ideal S32x128x256 .f32) (g : Fin 8) (j : S128x256.Idx) :
    grp i (View.readAt (Elt Ideal) arg3.view (Rect.unit (s := S128x2048) ![0, 256 * g.val] S128x256.size (by decide +revert)).toLoadRect (harg3.unread x1))
      (View.readAt (Elt Ideal) arg4.view (Rect.unit (s := S128x1024) ![0, 128 * g.val] S128x128.size (by decide +revert)).toLoadRect (harg4.unread x2))
      (View.readAt (Elt Ideal) arg5.view (Rect.unit (s := S128x1024) ![0, 128 * g.val] S128x128.size (by decide +revert)).toLoadRect (harg5.unread x3))
      (View.readAt (Elt Ideal) arg8.view (Rect.unit (s := S32x128x256) ![4 * g.val, 0, 0] S4x128x256.size (by decide +revert)).toLoadRect (harg8.unread x6))
      (View.readAt (Elt Ideal) arg2.view (Rect.unit (s := S32) ![4 * g.val + 0] S1.size (by decide +revert)).toLoadRect (harg2.unread x0) (Shape.Idx.first (show 0 < S1.numel by decide)))
      (View.readAt (Elt Ideal) arg2.view (Rect.unit (s := S32) ![4 * g.val + 1] S1.size (by decide +revert)).toLoadRect (harg2.unread x0) (Shape.Idx.first (show 0 < S1.numel by decide)))
      (View.readAt (Elt Ideal) arg2.view (Rect.unit (s := S32) ![4 * g.val + 2] S1.size (by decide +revert)).toLoadRect (harg2.unread x0) (Shape.Idx.first (show 0 < S1.numel by decide)))
      (View.readAt (Elt Ideal) arg2.view (Rect.unit (s := S32) ![4 * g.val + 3] S1.size (by decide +revert)).toLoadRect (harg2.unread x0) (Shape.Idx.first (show 0 < S1.numel by decide)))
      (View.readAt (Elt Ideal) arg6.view (Rect.unit (s := S128x1024) ![0, 128 * g.val] S128x128.size (by decide +revert)).toLoadRect (harg6.unread x4))
      (View.readAt (Elt Ideal) arg7.view (Rect.unit (s := S128x1024) ![0, 128 * g.val] S128x128.size (by decide +revert)).toLoadRect (harg7.unread x5)) j
      = blockFn ((i 1).val = 0) x0 x1 x2 x3 x4 x5 x6
        ((Rect.unit (s := S128x2048) ![0, 256 * g.val] S128x256.size (by decide +revert)).emb j) := by
  obtain ⟨r, l, rfl⟩ : ∃ r l, j = ix2 r l := ⟨_, _, eq_ix2 j⟩
  refine (grp_eq i x0 x1 x2 x3 x4 x5 x6 g _ _ _ _ _ _ _ _ _ _ ?_ ?_ ?_ ?_ ?_ ?_ ?_ r l).trans (congrArg _ ?_)
  · intro r c
    rw [View.readAt_eq_ld, Memref.IsWhole.read_unread]
    pointwise
  · intro r c
    rw [View.readAt_eq_ld, Memref.IsWhole.read_unread]
    pointwise
  · intro r c
    rw [View.readAt_eq_ld, Memref.IsWhole.read_unread]
    pointwise
  · intro r c
    rw [View.readAt_eq_ld, Memref.IsWhole.read_unread]
    pointwise
  · intro r c
    rw [View.readAt_eq_ld, Memref.IsWhole.read_unread]
    pointwise
  · intro n r c
    rw [View.readAt_eq_ld, Memref.IsWhole.read_unread]
    pointwise
  · intro n
    simp only [View.readAt_eq_ld, Memref.IsWhole.read_unread]
    match n with
    | ⟨0, _⟩ => exact congrArg x0 (funext fun a => Fin.ext (by fin_cases a; rfl))
    | ⟨1, _⟩ => exact congrArg x0 (funext fun a => Fin.ext (by fin_cases a; rfl))
    | ⟨2, _⟩ => exact congrArg x0 (funext fun a => Fin.ext (by fin_cases a; rfl))
    | ⟨3, _⟩ => exact congrArg x0 (funext fun a => Fin.ext (by fin_cases a; rfl))
  · refine funext fun a => Fin.ext ?_
    rw [Rect.emb_apply]
    match a with
    | ⟨0, _⟩ => exact (by simp [Rect.unit] : r.val = 0 + 1 * r.val)
    | ⟨1, _⟩ => exact (by simp [Rect.unit] : 256 * g.val + l.val = 256 * g.val + 1 * l.val)

/-- THE OUTPUT BLOCK at a grid point is `blockFn` of the point's blocks. -/
theorem out1_eq (c : Dev nD) (i : grid1.Coords) (arg2 : Memref sig .tc .smem S32 .f32) (harg2 : arg2.IsWhole) (arg3 : Memref sig .tc .vmem S128x2048 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S32x128x256 .f32) (harg8 : arg8.IsWhole) (arg9 : Memref sig .tc .vmem S128x2048 .bf16) (harg9 : arg9.IsWhole)
    (x0 : Vec Ideal S32 .f32) (x1 : Vec Ideal S128x2048 .bf16) (x2 x3 x4 x5 : Vec Ideal S128x1024 .bf16) (x6 : Vec Ideal S32x128x256 .f32) :
    out1_A_7 (F := Ideal) c i arg2 harg2 arg3 harg3 arg4 harg4 arg5 harg5 arg6 harg6 arg7 harg7 arg8 harg8 arg9 harg9 x0 x1 x2 x3 x4 x5 x6
      = blockFn ((i 1).val = 0) x0 x1 x2 x3 x4 x5 x6 := by
  funext y
  unfold out1_A_7
  rw [View.read_writes_eq_canon _ _ _ (cover1_A_7 c i arg2 harg2 arg3 harg3 arg4 harg4 arg5 harg5 arg6 harg6 arg7 harg7 arg8 harg8 arg9 harg9 x0 x1 x2 x3 x4 x5 x6)]
  refine View.canon_apply_of_pieces _ _ (fun p hp j => ?_) y (cover1_A_7 c i arg2 harg2 arg3 harg3 arg4 harg4 arg5 harg5 arg6 harg6 arg7 harg7 arg8 harg8 arg9 harg9 x0 x1 x2 x3 x4 x5 x6 y)
  unfold kernelRun1_A at hp
  dsimp only at hp
  simp only [List.mem_cons, List.mem_nil_iff, or_false] at hp
  rcases hp with rfl | rfl | rfl | rfl | rfl | rfl | rfl | rfl
  · exact group_piece i arg2 harg2 arg3 harg3 arg4 harg4 arg5 harg5 arg6 harg6 arg7 harg7 arg8 harg8 x0 x1 x2 x3 x4 x5 x6 7 j
  · exact group_piece i arg2 harg2 arg3 harg3 arg4 harg4 arg5 harg5 arg6 harg6 arg7 harg7 arg8 harg8 x0 x1 x2 x3 x4 x5 x6 6 j
  · exact group_piece i arg2 harg2 arg3 harg3 arg4 harg4 arg5 harg5 arg6 harg6 arg7 harg7 arg8 harg8 x0 x1 x2 x3 x4 x5 x6 5 j
  · exact group_piece i arg2 harg2 arg3 harg3 arg4 harg4 arg5 harg5 arg6 harg6 arg7 harg7 arg8 harg8 x0 x1 x2 x3 x4 x5 x6 4 j
  · exact group_piece i arg2 harg2 arg3 harg3 arg4 harg4 arg5 harg5 arg6 harg6 arg7 harg7 arg8 harg8 x0 x1 x2 x3 x4 x5 x6 3 j
  · exact group_piece i arg2 harg2 arg3 harg3 arg4 harg4 arg5 harg5 arg6 harg6 arg7 harg7 arg8 harg8 x0 x1 x2 x3 x4 x5 x6 2 j
  · exact group_piece i arg2 harg2 arg3 harg3 arg4 harg4 arg5 harg5 arg6 harg6 arg7 harg7 arg8 harg8 x0 x1 x2 x3 x4 x5 x6 1 j
  · exact group_piece i arg2 harg2 arg3 harg3 arg4 harg4 arg5 harg5 arg6 harg6 arg7 harg7 arg8 harg8 x0 x1 x2 x3 x4 x5 x6 0 j

end Cert.Attend
end
-- ==== Proof.Arrays.lean ====
/-
  The windowed attention's result array, from the arrays its windows read: the blocks at every grid point tile the
  result, and each is the attention of its rows.
-/
module

public import proofs.«01_k».proof.Proof.Block
public import Idealize.ShloMosaic.Lib.Pipeline.ValueKit.Geometry

@[expose] public section

set_option maxRecDepth 16384

noncomputable section

namespace Cert.Attend

open Idealize.ShloMosaic Idealize.ShloMosaic.TcCoe Idealize.ShloMosaic.Tactic Idealize.ShloMosaic.Pipeline
open Cert.KernelIdeal Cert.KernelIdeal.Gen

/-- The row, among all 8192, of key `c` of the window of row `n`: keys 0 to 127 are the previous block's rows (the own
    block's when there is none), keys 128 to 255 the own block's. -/
def keyRow (n : Fin 8192) (c : Fin 256) : Fin 8192 :=
  ⟨if c.val < 128 then (n.val / 128 / 16 * 16 + (n.val / 128 % 16 - 1)) * 128 + c.val
    else n.val / 128 * 128 + (c.val - 128), by split <;> omega⟩

/-- The windowed attention's result at row `n`, head `h`, lane `d`, in base two, from the array of scaled queries, the
    array of duplicated keys and values, the sinks and the array of biases. -/
def attend2 (sk : Vec Ideal S32 .f32) (q kv : Vec Ideal S8192x2048 .bf16) (bias : Vec Ideal S32x256x512 .f32)
    (n : Fin 8192) (h : Fin 32) (d : Fin 64) : EReal :=
  row2 (fun c => if c.val < 128 ∧ n.val / 128 % 16 = 0 then ⊥
      else (∑ d : Fin 64, q (ix2 n (qcol h d)) * kv (ix2 (keyRow n c) ⟨(kcol h d).val, by have := (kcol h d).isLt; omega⟩))
        + bias (ix3 h ⟨128 + n.val % 128, by omega⟩ ⟨256 + c.val, by omega⟩))
    (sk (ix1 h) * log2e)
    (fun c => kv (ix2 (keyRow n c) ⟨1024 + (kcol h d).val, by have := (kcol h d).isLt; omega⟩))

/-- The same as contents of the result array. -/
def attendArr (sk : Vec Ideal S32 .f32) (q kv : Vec Ideal S8192x2048 .bf16) (bias : Vec Ideal S32x256x512 .f32)
    (y : S8192x2048.Idx) : EReal :=
  attend2 sk q kv bias (y 0) ⟨(y 1).val / 64, by have : (y 1).val < 2048 := (y 1).isLt; omega⟩ ⟨(y 1).val % 64, by omega⟩

/-! The blocks' coordinates at a grid point. -/

theorem index1_0 : ∀ t : Fin cfg1.N, win1_0.index t = ![0] := (by decide +kernel : ∀ t : Fin grid1.N, _)
theorem index1_6 : ∀ t : Fin cfg1.N, win1_6.index t = ![0, 1, 1] := (by decide +kernel : ∀ t : Fin grid1.N, _)
theorem index1_1 : ∀ t : Fin cfg1.N, win1_1.index t = ![(grid1.coords t 0).val * 16 + (grid1.coords t 1).val, 0] :=
  (by decide +kernel : ∀ t : Fin grid1.N, _)
theorem index1_2 : ∀ t : Fin cfg1.N, win1_2.index t = ![(grid1.coords t 0).val * 16 + ((grid1.coords t 1).val - 1), 0] :=
  (by decide +kernel : ∀ t : Fin grid1.N, _)
theorem index1_3 : ∀ t : Fin cfg1.N, win1_3.index t = ![(grid1.coords t 0).val * 16 + (grid1.coords t 1).val, 0] :=
  (by decide +kernel : ∀ t : Fin grid1.N, _)
theorem index1_4 : ∀ t : Fin cfg1.N, win1_4.index t = ![(grid1.coords t 0).val * 16 + ((grid1.coords t 1).val - 1), 1] :=
  (by decide +kernel : ∀ t : Fin grid1.N, _)
theorem index1_5 : ∀ t : Fin cfg1.N, win1_5.index t = ![(grid1.coords t 0).val * 16 + (grid1.coords t 1).val, 1] :=
  (by decide +kernel : ∀ t : Fin grid1.N, _)
theorem index1_7 : ∀ t : Fin cfg1.N, win1_7.index t = ![(grid1.coords t 0).val * 16 + (grid1.coords t 1).val, 0] :=
  (by decide +kernel : ∀ t : Fin grid1.N, _)

variable (V : (c : Dev nD) → (b : Ref sig .tc) → Buf (Elt Ideal) ((c : Thread nD τ).loc b))

/-- The first row of a grid point's own block. -/
def ownRow (i : grid1.Coords) (r : Fin 128) : Fin 8192 :=
  ⟨((i 0).val * 16 + (i 1).val) * 128 + r.val, by
    have h0 : (i 0).val < 4 := (i 0).isLt
    have h1 : (i 1).val < 16 := (i 1).isLt
    omega⟩
/-- The first row of a grid point's previous block: its own block's when it has none. -/
def prevRow (i : grid1.Coords) (r : Fin 128) : Fin 8192 :=
  ⟨((i 0).val * 16 + ((i 1).val - 1)) * 128 + r.val, by
    have h0 : (i 0).val < 4 := (i 0).isLt
    have h1 : (i 1).val < 16 := (i 1).isLt
    omega⟩

theorem blk0_apply (c : Dev nD) (t : Fin cfg1.N) (h : Fin 32) :
    iblk1 V c 0 t (ix1 h) = (V c main_arg3 : Vec Ideal S32 .f32) (ix1 h) := by
  unfold iblk1
  blk_simp
  exact congrArg (V c main_arg3 : Vec Ideal S32 .f32) (by blk_ext [index1_0])
theorem blk1_apply (c : Dev nD) (t : Fin cfg1.N) (r : Fin 128) (l : Fin 2048) :
    iblk1 V c 1 t (ix2 r l) = (V c main_v5 : Vec Ideal S8192x2048 .bf16) (ix2 (ownRow (grid1.coords t) r) l) := by
  unfold iblk1
  blk_simp
  exact congrArg (V c main_v5 : Vec Ideal S8192x2048 .bf16) (by blk_ext [index1_1, ownRow])
theorem blk2_apply (c : Dev nD) (t : Fin cfg1.N) (r : Fin 128) (l : Fin 1024) :
    iblk1 V c 2 t (ix2 r l) = (V c main_v13 : Vec Ideal S8192x2048 .bf16) (ix2 (prevRow (grid1.coords t) r) ⟨l.val, by omega⟩) := by
  unfold iblk1
  blk_simp
  exact congrArg (V c main_v13 : Vec Ideal S8192x2048 .bf16) (by blk_ext [index1_2, prevRow])
theorem blk3_apply (c : Dev nD) (t : Fin cfg1.N) (r : Fin 128) (l : Fin 1024) :
    iblk1 V c 3 t (ix2 r l) = (V c main_v13 : Vec Ideal S8192x2048 .bf16) (ix2 (ownRow (grid1.coords t) r) ⟨l.val, by omega⟩) := by
  unfold iblk1
  blk_simp
  exact congrArg (V c main_v13 : Vec Ideal S8192x2048 .bf16) (by blk_ext [index1_3, ownRow])
theorem blk4_apply (c : Dev nD) (t : Fin cfg1.N) (r : Fin 128) (l : Fin 1024) :
    iblk1 V c 4 t (ix2 r l) = (V c main_v13 : Vec Ideal S8192x2048 .bf16) (ix2 (prevRow (grid1.coords t) r) ⟨1024 + l.val, by omega⟩) := by
  unfold iblk1
  blk_simp
  exact congrArg (V c main_v13 : Vec Ideal S8192x2048 .bf16) (by blk_ext [index1_4, prevRow])
theorem blk5_apply (c : Dev nD) (t : Fin cfg1.N) (r : Fin 128) (l : Fin 1024) :
    iblk1 V c 5 t (ix2 r l) = (V c main_v13 : Vec Ideal S8192x2048 .bf16) (ix2 (ownRow (grid1.coords t) r) ⟨1024 + l.val, by omega⟩) := by
  unfold iblk1
  blk_simp
  exact congrArg (V c main_v13 : Vec Ideal S8192x2048 .bf16) (by blk_ext [index1_5, ownRow])
theorem blk6_apply (c : Dev nD) (t : Fin cfg1.N) (h : Fin 32) (r : Fin 128) (l : Fin 256) :
    iblk1 V c 6 t (ix3 h r l) = (V c main_v14_1 : Vec Ideal S32x256x512 .f32) (ix3 h ⟨128 + r.val, by omega⟩ ⟨256 + l.val, by omega⟩) := by
  unfold iblk1
  blk_simp
  exact congrArg (V c main_v14_1 : Vec Ideal S32x256x512 .f32) (by blk_ext [index1_6])

theorem keyRow_own (i : grid1.Coords) (r : Fin 128) (c : Fin 256) :
    keyRow (ownRow i r) c = if h : c.val < 128 then prevRow i ⟨c.val, h⟩ else ownRow i ⟨c.val - 128, by omega⟩ := by
  have h0 : (i 0).val < 4 := (i 0).isLt
  have h1 : (i 1).val < 16 := (i 1).isLt
  unfold keyRow
  split <;> rename_i h <;> refine Fin.ext ?_ <;> simp only [h, if_true, if_false, ownRow, prevRow] <;> omega

theorem keys23 (c : Dev nD) (t : Fin cfg1.N) (r : Fin 128) (k : Fin 256) (l : Fin 1024) :
    keys (iblk1 V c 2 t) (iblk1 V c 3 t) k l
      = (V c main_v13 : Vec Ideal S8192x2048 .bf16) (ix2 (keyRow (ownRow (grid1.coords t) r) k) ⟨l.val, by omega⟩) := by
  unfold keys
  rw [keyRow_own]
  split
  · rw [blk2_apply]
  · rw [blk3_apply]

theorem keys45 (c : Dev nD) (t : Fin cfg1.N) (r : Fin 128) (k : Fin 256) (l : Fin 1024) :
    keys (iblk1 V c 4 t) (iblk1 V c 5 t) k l
      = (V c main_v13 : Vec Ideal S8192x2048 .bf16) (ix2 (keyRow (ownRow (grid1.coords t) r) k) ⟨1024 + l.val, by omega⟩) := by
  unfold keys
  rw [keyRow_own]
  split
  · rw [blk4_apply]
  · rw [blk5_apply]

/-- THE RESULT ARRAY of the windowed attention, from the arrays it reads. -/
theorem attend_final (c : Dev nD) : (dat1 V c).arrAt 7 cfg1.N
    = attendArr (V c main_arg3) (V c main_v5) (V c main_v13) (V c main_v14_1) := by
  refine (dat1 V c).arrAt_eq_of_covers 7 _ (by decide +kernel) fun t hf y => ?_
  blk_simp
  rw [after1_7]
  unfold outsAt1
  rw [out1_eq]
  obtain ⟨r, l, rfl⟩ : ∃ (r : Fin 128) (l : Fin 2048), y = ix2 r l := ⟨_, _, eq_ix2 y⟩
  rw [show (win1_7.blk t).view.emb (ix2 r l) = (ix2 (ownRow (grid1.coords t) r) l : S8192x2048.Idx) from by
    blk_ext [index1_7, ownRow]]
  unfold blockFn attendArr blockOut attend2
  simp only [ix2_0, ix2_1]
  have h0 : (grid1.coords t 0).val < 4 := (grid1.coords t 0).isLt
  have h1 : (grid1.coords t 1).val < 16 := (grid1.coords t 1).isLt
  rw [blk0_apply]
  congr 1
  · funext k
    unfold blockScores
    refine if_congr (and_congr Iff.rfl (by simp only [ownRow]; omega)) rfl (congrArg₂ (· + ·) (Finset.sum_congr rfl fun d _ => ?_) ?_)
    · rw [keys23 V c t r, blk1_apply]
    · rw [blk6_apply]
      exact congrArg (fun z => (V c main_v14_1 : Vec Ideal S32x256x512 .f32) (ix3 _ z _)) (Fin.ext (by simp only [ownRow]; omega))
  · funext k
    rw [keys45 V c t r]

end Cert.Attend
end
-- ==== Proof.Host.lean ====
/-
  The arrays the windowed attention reads, from the launch arguments: the queries scaled, each key/value head twice.
-/
module

public import proofs.«01_k».proof.Proof.Arrays

@[expose] public section

set_option maxRecDepth 16384

noncomputable section

namespace Cert.Attend

open Idealize.ShloMosaic Idealize.ShloMosaic.TcCoe Idealize.ShloMosaic.Tactic Idealize.ShloMosaic.Pipeline
open Cert.KernelIdeal Cert.KernelIdeal.Gen

/-- The pattern of two. -/
theorem ofBits_two : Ideal.ofBits FTy.f32 0x40000000#32 = ((2 : ℝ) : EReal) := by
  simp [Ideal.ofBits, Ideal.ieee]
  rw [← EReal.coe_mul]; norm_num
/-- The pattern of one eighth. -/
theorem ofBits_eighth : Ideal.ofBits FTy.f32 0x3E000000#32 = ((1 / 8 : ℝ) : EReal) := by
  simp [Ideal.ofBits, Ideal.ieee]
  rw [← EReal.coe_mul]; norm_num

/-- The queries' scale: an eighth of the binary logarithm of e. -/
def qscale : EReal := ((1 / 8 * (Real.log 2)⁻¹ : ℝ) : EReal)

/-- The logarithm of two. -/
theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- An eighth over the logarithm of two. -/
theorem div_log_two : Ideal.div ((1 / 8 : ℝ) : EReal) ((Real.log 2 : ℝ) : EReal) = qscale := by
  rw [Ideal.div_coe (Real.log_pos one_lt_two).ne', qscale, ← EReal.coe_mul, one_div (Real.log 2)]

variable (m : (ℓ : Loc nD τ sig) → Buf (Elt Ideal) ℓ) (ρ : Dev nD → PrngReg)

/-- The launch arguments, read as arrays. -/
abbrev argQ (c : Dev nD) : Vec Ideal S4x2048x2048 .f32 := m ((c : Thread nD τ).loc main_arg0)
abbrev argK (c : Dev nD) : Vec Ideal S4x2048x512 .f32 := m ((c : Thread nD τ).loc main_arg1)
abbrev argV (c : Dev nD) : Vec Ideal S4x2048x512 .f32 := m ((c : Thread nD τ).loc main_arg2)

theorem queries_apply (c : Dev nD) (n : Fin 8192) (l : Fin 2048) :
    (V1 m ρ c main_v5 : Vec Ideal S8192x2048 .bf16) (ix2 n l)
      = argQ m c (ix3 ⟨n.val / 2048, by omega⟩ ⟨n.val % 2048, by omega⟩ l) * qscale := by
  show (StableHlo.after hostOps0 _ (Proc.devRef .tc main_v5) : Vec Ideal S8192x2048 .bf16) _ = _
  after_results
  pointwise
  rw [ofBits_two, ofBits_eighth, log_two, div_log_two]

theorem keyvals_apply (c : Dev nD) (n : Fin 8192) (l : Fin 2048) :
    (V1 m ρ c main_v13 : Vec Ideal S8192x2048 .bf16) (ix2 n l)
      = if h : l.val < 1024 then argK m c (ix3 ⟨n.val / 2048, by omega⟩ ⟨n.val % 2048, by omega⟩ ⟨l.val / 128 * 64 + l.val % 64, by omega⟩)
        else argV m c (ix3 ⟨n.val / 2048, by omega⟩ ⟨n.val % 2048, by omega⟩ ⟨(l.val - 1024) / 128 * 64 + (l.val - 1024) % 64, by omega⟩) := by
  show (StableHlo.after hostOps0 _ (Proc.devRef .tc main_v13) : Vec Ideal S8192x2048 .bf16) _ = _
  after_results
  pointwise
end Cert.Attend
end
-- ==== Proof.Bias.lean ====
/-
  The bias tiles: at query row `r` and key column `c` of a tile, the table's entry of the distance's bucket, in base
  two, where the distance is in the window, and minus infinity elsewhere.
-/
module

public import proofs.«01_k».proof.Proof.Host

@[expose] public section

set_option maxRecDepth 16384

noncomputable section

namespace Cert.Attend

open Idealize.ShloMosaic Idealize.ShloMosaic.TcCoe Idealize.ShloMosaic.Tactic Idealize.ShloMosaic.Pipeline
open Cert.KernelIdeal Cert.KernelIdeal.Gen

/-- One head's tile from its 32 table entries: the buckets' chain of choices. -/
def tile (t0 t1 t2 t3 t4 t5 t6 t7 t8 t9 t10 t11 t12 t13 t14 t15 t16 t17 t18 t19 t20 t21 t22 t23 t24 t25 t26 t27 t28 t29 t30 t31 : Elt Ideal .f32) : FVec Ideal S1x256x512 .f32 :=
  k0_pay17 (F := Ideal) k0_pay4
    (k0_pay14 (k0_pay7 k0_pay5 k0_pay6 59#32)
      (k0_pay13 (k0_pay7 k0_pay5 k0_pay6 59#32)
        (k0_pay12 (k0_pay7 k0_pay5 k0_pay6 59#32)
          (k0_pay11 (k0_pay7 k0_pay5 k0_pay6 59#32)
            (k0_pay10 (k0_pay7 k0_pay5 k0_pay6 59#32)
              (k0_pay9 (k0_pay7 k0_pay5 k0_pay6 59#32)
                (k0_pay8 k0_pay5 k0_pay6 59#32 t0 t1) 2#32 t2 t3 t4 t5 t6)
              7#32 t7 t8 t9 t10 t11)
            12#32 t12 t13 t14 t15 t16)
          17#32 t17 t18 t19 t20 t21)
        22#32 t22 t23 t24 t25 t26)
      27#32 t27 t28 t29 t30 t31)
    0#32

/-- The least distance of each bucket from the seventeenth on. -/
def thresholds : List ℕ := [19, 21, 24, 27, 31, 35, 40, 46, 52, 59, 67, 77, 87, 99, 113]

/-- The bucket of a distance: the distance itself under 16, then one more at each threshold. -/
def bucket (n : ℕ) : ℕ := if n < 16 then n else 16 + thresholds.countP (· ≤ n)

theorem bucket_lt : ∀ d : Fin 128, bucket d.val < 32 := by decide

/-- The distance of a query row and a key column of a tile, where it is in the window. -/
theorem distance_eq (r : Fin 256) (c : Fin 512) (d : Fin 128) (h : r.val + 256 = c.val + d.val) :
    IntOp.addi (IntOp.subi (BitVec.ofNat 32 r.val) (BitVec.ofNat 32 c.val)) 256#32 = BitVec.ofNat 32 d.val := by
  show BitVec.ofNat 32 r.val - BitVec.ofNat 32 c.val + 256#32 = BitVec.ofNat 32 d.val
  apply BitVec.eq_of_toNat_eq
  simp only [BitVec.toNat_add, BitVec.toNat_sub, BitVec.toNat_ofNat]
  omega

/-- The distance of a query row and a key column of a tile. -/
theorem distances_apply (r : Fin 256) (c : Fin 512) :
    k0_pay4 (ix2 r c) = IntOp.addi (IntOp.subi (BitVec.ofNat 32 r.val) (BitVec.ofNat 32 c.val)) 256#32 := by
  pointwise [k0_pay4]

set_option maxHeartbeats 4000000 in
/-- The bucket of a query row and a key column of a tile, where their distance is in the window. -/
theorem buckets_apply (r : Fin 256) (c : Fin 512) (d : Fin 128) (h : r.val + 256 = c.val + d.val) :
    k0_pay7 k0_pay5 k0_pay6 59#32 (ix2 r c) = BitVec.ofNat 32 (bucket d.val) := by
  pointwise [k0_pay7, k0_pay6, k0_pay5, k0_pay4]
  rw [distance_eq r c d h]
  clear h
  revert d
  decide +kernel

/-- Outside the window a distance is negative, or is 128 or more. -/
theorem distance_out (r : Fin 256) (c : Fin 512) (h : ¬ (c.val ≤ r.val + 256 ∧ r.val + 256 < c.val + 128)) :
    IntOp.cmpi .sge (IntOp.addi (IntOp.subi (BitVec.ofNat 32 r.val) (BitVec.ofNat 32 c.val)) 256#32) 0#32 = 0#1
      ∨ IntOp.cmpi .slt (IntOp.addi (IntOp.subi (BitVec.ofNat 32 r.val) (BitVec.ofNat 32 c.val)) 256#32) 128#32 = 0#1 := by
  show BitVec.ofBool (BitVec.sle 0#32 (BitVec.ofNat 32 r.val - BitVec.ofNat 32 c.val + 256#32)) = _
    ∨ BitVec.ofBool (BitVec.slt (BitVec.ofNat 32 r.val - BitVec.ofNat 32 c.val + 256#32) 128#32) = _
  have ht : (BitVec.ofNat 32 r.val - BitVec.ofNat 32 c.val + 256#32).toInt = (r.val : ℤ) - c.val + 256 := by
    rw [BitVec.toInt_eq_toNat_cond]
    simp only [BitVec.toNat_add, BitVec.toNat_sub, BitVec.toNat_ofNat]
    split <;> omega
  by_cases h1 : c.val ≤ r.val + 256
  · refine .inr ?_
    rw [BitVec.slt, ht, decide_eq_false (by show ¬ _ < (128 : ℤ); omega)]; rfl
  · refine .inl ?_
    rw [BitVec.sle, ht, decide_eq_false (by show ¬ (0 : ℤ) ≤ _; omega)]; rfl

set_option maxHeartbeats 4000000 in
/-- A TILE at a row and a column: in the window the bucket's entry by `log2e`, outside it minus infinity. -/
theorem tile_apply (t0 t1 t2 t3 t4 t5 t6 t7 t8 t9 t10 t11 t12 t13 t14 t15 t16 t17 t18 t19 t20 t21 t22 t23 t24 t25 t26 t27 t28 t29 t30 t31 : Elt Ideal .f32) (r : Fin 256) (c : Fin 512) : tile t0 t1 t2 t3 t4 t5 t6 t7 t8 t9 t10 t11 t12 t13 t14 t15 t16 t17 t18 t19 t20 t21 t22 t23 t24 t25 t26 t27 t28 t29 t30 t31 (ix3 0 r c)
    = if h : c.val ≤ r.val + 256 ∧ r.val + 256 < c.val + 128 then
        (![t0, t1, t2, t3, t4, t5, t6, t7, t8, t9, t10, t11, t12, t13, t14, t15, t16, t17, t18, t19, t20, t21, t22, t23, t24, t25, t26, t27, t28, t29, t30, t31] : Fin 32 → EReal) ⟨bucket (r.val + 256 - c.val), bucket_lt ⟨r.val + 256 - c.val, by omega⟩⟩ * log2e
      else ⊥ := by
  unfold tile
  pointwise [k0_pay17, k0_pay15, k0_pay14, k0_pay13, k0_pay12, k0_pay11, k0_pay10, k0_pay9, k0_pay8]
  simp only [named_log2e]
  rw [distances_apply]
  generalize hk : k0_pay7 k0_pay5 k0_pay6 59#32 (ix2 r c) = kk
  by_cases h : c.val ≤ r.val + 256 ∧ r.val + 256 < c.val + 128
  · rw [dif_pos h, ← hk]
    obtain ⟨d, hd⟩ : ∃ d : Fin 128, r.val + 256 = c.val + d.val :=
      ⟨⟨r.val + 256 - c.val, by omega⟩, by dsimp only; omega⟩
    have hi : (⟨bucket (r.val + 256 - c.val), bucket_lt ⟨r.val + 256 - c.val, by omega⟩⟩ : Fin 32) = ⟨bucket d.val, bucket_lt d⟩ :=
      Fin.ext (congrArg bucket (by omega))
    rw [hi, buckets_apply r c d hd, distance_eq r c d hd]
    have e1 : IntOp.cmpi .sge (BitVec.ofNat 32 d.val) 0#32 = 1#1 := by clear hd hi; revert d; decide +kernel
    have e2 : IntOp.cmpi .slt (BitVec.ofNat 32 d.val) 128#32 = 1#1 := by clear hd hi; revert d; decide +kernel
    rw [e1, e2, sel_one, sel_one]
    generalize hb : (⟨bucket d.val, bucket_lt d⟩ : Fin 32) = b
    have hw : bucket d.val = b.val := by rw [← hb]
    rw [hw]
    clear hw hb hi hd hk e1 e2
    match b with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨n + 32, hn⟩ => exact absurd hn (by omega)
  · rw [dif_neg h]
    rcases distance_out r c h with e | e
    · rw [e, sel_zero, ofBits_neg_inf]; exact ite_self _
    · rw [e, sel_zero, ofBits_neg_inf]

/-- The column of the table that a grid point's `g`-th tile reads. -/
theorem col_eq : ∀ (i : grid0.Coords) (g : Fin 8),
    (Scalar.indexCast (Scalar.addi (Scalar.muli (BitVec.ofNat 32 (i 0).val) 8#32) (BitVec.ofNat 32 g.val))).toNat
      = 8 * (i 0).val + g.val := by decide +kernel

theorem col_lt (i : grid0.Coords) (g : Fin 8) : 8 * (i 0).val + g.val < 32 := by
  have h0 : (i 0).val < 4 := (i 0).isLt
  omega

theorem entry_inb (i : grid0.Coords) (g : Fin 8) (b : Fin 32) : ∀ a, ![b.val, (Scalar.indexCast (Scalar.addi (Scalar.muli (BitVec.ofNat 32 (i 0).val) 8#32) (BitVec.ofNat 32 g.val))).toNat] a
      + S1x1.size a ≤ S32x32.size a := by
  intro a
  have h := col_lt i g
  match a with
  | ⟨0, _⟩ => exact b.isLt
  | ⟨1, _⟩ => exact (by rw [col_eq]; exact h : (Scalar.indexCast (Scalar.addi (Scalar.muli (BitVec.ofNat 32 (i 0).val) 8#32) (BitVec.ofNat 32 g.val))).toNat + 1 ≤ 32)

/-- Bucket `b`'s entry of the table, as a grid point's `g`-th tile loads it. -/
abbrev entry (arg1 : Memref sig .tc .smem S32x32 .f32) (harg1 : arg1.IsWhole) (x0 : Vec Ideal S32x32 .f32) (i : grid0.Coords) (g : Fin 8) (b : Fin 32) : EReal :=
  View.readAt (Elt Ideal) arg1.view (Rect.unit (s := S32x32)
    ![b.val, (Scalar.indexCast (Scalar.addi (Scalar.muli (BitVec.ofNat 32 (i 0).val) 8#32) (BitVec.ofNat 32 g.val))).toNat] S1x1.size
    (entry_inb i g b)).toLoadRect (harg1.unread x0) (Shape.Idx.first (show 0 < S1x1.numel by decide))

theorem entry_apply (arg1 : Memref sig .tc .smem S32x32 .f32) (harg1 : arg1.IsWhole) (x0 : Vec Ideal S32x32 .f32) (i : grid0.Coords) (g : Fin 8) (b : Fin 32) :
    entry arg1 harg1 x0 i g b = x0 (ix2 b ⟨8 * (i 0).val + g.val, col_lt i g⟩) := by
  unfold entry
  rw [View.readAt_eq_ld, Memref.IsWhole.read_unread]
  refine congrArg x0 (funext fun a => Fin.ext ?_)
  match a with
  | ⟨0, _⟩ => rfl
  | ⟨1, _⟩ => exact col_eq i g

/-- A column of biases: in the window the distance's bucket's entry by `log2e`, outside it minus infinity. -/
def biasAt (T : Fin 32 → EReal) (r : Fin 256) (c : Fin 512) : EReal :=
  if h : c.val ≤ r.val + 256 ∧ r.val + 256 < c.val + 128 then
    T ⟨bucket (r.val + 256 - c.val), bucket_lt ⟨r.val + 256 - c.val, by omega⟩⟩ * log2e
  else ⊥

/-- A grid point's eight tiles. -/
def tiles (i : grid0.Coords) (x0 : Vec Ideal S32x32 .f32) (y : S8x256x512.Idx) : EReal :=
  biasAt (fun b => x0 (ix2 b ⟨8 * (i 0).val + (y 0).val, col_lt i (y 0)⟩)) (y 1) (y 2)

theorem tile_piece (arg1 : Memref sig .tc .smem S32x32 .f32) (harg1 : arg1.IsWhole) (x0 : Vec Ideal S32x32 .f32) (i : grid0.Coords) (g : Fin 8) (j : S1x256x512.Idx) :
    tile (entry arg1 harg1 x0 i g 0) (entry arg1 harg1 x0 i g 1) (entry arg1 harg1 x0 i g 2) (entry arg1 harg1 x0 i g 3) (entry arg1 harg1 x0 i g 4) (entry arg1 harg1 x0 i g 5) (entry arg1 harg1 x0 i g 6) (entry arg1 harg1 x0 i g 7) (entry arg1 harg1 x0 i g 8) (entry arg1 harg1 x0 i g 9) (entry arg1 harg1 x0 i g 10) (entry arg1 harg1 x0 i g 11) (entry arg1 harg1 x0 i g 12) (entry arg1 harg1 x0 i g 13) (entry arg1 harg1 x0 i g 14) (entry arg1 harg1 x0 i g 15) (entry arg1 harg1 x0 i g 16) (entry arg1 harg1 x0 i g 17) (entry arg1 harg1 x0 i g 18) (entry arg1 harg1 x0 i g 19) (entry arg1 harg1 x0 i g 20) (entry arg1 harg1 x0 i g 21) (entry arg1 harg1 x0 i g 22) (entry arg1 harg1 x0 i g 23) (entry arg1 harg1 x0 i g 24) (entry arg1 harg1 x0 i g 25) (entry arg1 harg1 x0 i g 26) (entry arg1 harg1 x0 i g 27) (entry arg1 harg1 x0 i g 28) (entry arg1 harg1 x0 i g 29) (entry arg1 harg1 x0 i g 30) (entry arg1 harg1 x0 i g 31) j = tiles i x0 ((Rect.unit (s := S8x256x512) ![g.val, 0, 0] S1x256x512.size (by decide +revert)).emb j) := by
  obtain ⟨z, r, c, rfl⟩ : ∃ z r c, j = ix3 z r c := ⟨_, _, _, eq_ix3 j⟩
  obtain rfl : z = 0 := Subsingleton.elim _ _
  rw [tile_apply]
  have hv : ((Rect.unit (s := S8x256x512) ![g.val, 0, 0] S1x256x512.size (by decide +revert)).emb (ix3 0 r c)) = (ix3 g r c : S8x256x512.Idx) := by
    refine funext fun a => Fin.ext ?_
    rw [Rect.emb_apply]
    match a with
    | ⟨0, _⟩ => exact (by simp [Rect.unit] : g.val + 1 * 0 = g.val)
    | ⟨1, _⟩ => exact (by simp [Rect.unit] : 0 + 1 * r.val = r.val)
    | ⟨2, _⟩ => exact (by simp [Rect.unit] : 0 + 1 * c.val = c.val)
  rw [hv]
  have hT : (![(entry arg1 harg1 x0 i g 0), (entry arg1 harg1 x0 i g 1), (entry arg1 harg1 x0 i g 2), (entry arg1 harg1 x0 i g 3), (entry arg1 harg1 x0 i g 4), (entry arg1 harg1 x0 i g 5), (entry arg1 harg1 x0 i g 6), (entry arg1 harg1 x0 i g 7), (entry arg1 harg1 x0 i g 8), (entry arg1 harg1 x0 i g 9), (entry arg1 harg1 x0 i g 10), (entry arg1 harg1 x0 i g 11), (entry arg1 harg1 x0 i g 12), (entry arg1 harg1 x0 i g 13), (entry arg1 harg1 x0 i g 14), (entry arg1 harg1 x0 i g 15), (entry arg1 harg1 x0 i g 16), (entry arg1 harg1 x0 i g 17), (entry arg1 harg1 x0 i g 18), (entry arg1 harg1 x0 i g 19), (entry arg1 harg1 x0 i g 20), (entry arg1 harg1 x0 i g 21), (entry arg1 harg1 x0 i g 22), (entry arg1 harg1 x0 i g 23), (entry arg1 harg1 x0 i g 24), (entry arg1 harg1 x0 i g 25), (entry arg1 harg1 x0 i g 26), (entry arg1 harg1 x0 i g 27), (entry arg1 harg1 x0 i g 28), (entry arg1 harg1 x0 i g 29), (entry arg1 harg1 x0 i g 30), (entry arg1 harg1 x0 i g 31)] : Fin 32 → EReal) = fun b => x0 (ix2 b ⟨8 * (i 0).val + g.val, col_lt i g⟩) := by
    simp only [entry_apply]
    funext b
    match b with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨n + 32, hn⟩ => exact absurd hn (by omega)
  rw [hT]
  rfl

set_option maxHeartbeats 4000000 in
/-- THE TILES a grid point leaves in the window's output block. -/
theorem out0_eq (c : Dev nD) (i : grid0.Coords) (arg1 : Memref sig .tc .smem S32x32 .f32) (harg1 : arg1.IsWhole) (arg2 : Memref sig .tc .vmem S8x256x512 .f32) (harg2 : arg2.IsWhole) (arg3 : Memref sig .tc .vmem S8x256x512 .f32) (harg3 : arg3.IsWhole)
    (x0 : Vec Ideal S32x32 .f32) :
    out0_A_2 (F := Ideal) c i arg1 harg1 arg2 harg2 arg3 harg3 x0 = tiles i x0 := by
  funext y
  unfold out0_A_2
  rw [View.read_writes_eq_canon _ _ _ (cover0_A_2 c i arg1 harg1 arg2 harg2 arg3 harg3 x0)]
  refine View.canon_apply_of_pieces _ _ (fun p hp j => ?_) y (cover0_A_2 c i arg1 harg1 arg2 harg2 arg3 harg3 x0 y)
  unfold kernelRun0_A at hp
  dsimp only at hp
  simp only [List.mem_cons, List.mem_nil_iff, or_false] at hp
  rcases hp with rfl | rfl | rfl | rfl | rfl | rfl | rfl | rfl
  · exact tile_piece arg1 harg1 x0 i 7 j
  · exact tile_piece arg1 harg1 x0 i 6 j
  · exact tile_piece arg1 harg1 x0 i 5 j
  · exact tile_piece arg1 harg1 x0 i 4 j
  · exact tile_piece arg1 harg1 x0 i 3 j
  · exact tile_piece arg1 harg1 x0 i 2 j
  · exact tile_piece arg1 harg1 x0 i 1 j
  · exact tile_piece arg1 harg1 x0 i 0 j

/-- The biases of all the heads, as contents of the window's array. -/
def biasArr (x0 : Vec Ideal S32x32 .f32) (y : S32x256x512.Idx) : EReal :=
  biasAt (fun b => x0 (ix2 b (y 0))) (y 1) (y 2)

variable (V : (c : Dev nD) → (b : Ref sig .tc) → Buf (Elt Ideal) ((c : Thread nD τ).loc b))

theorem index0_0 : ∀ t : Fin cfg0.N, win0_0.index t = ![0, 0] := (by decide +kernel : ∀ t : Fin grid0.N, _)
theorem index0_2 : ∀ t : Fin cfg0.N, win0_2.index t = ![(grid0.coords t 0).val, 0, 0] := (by decide +kernel : ∀ t : Fin grid0.N, _)

theorem table_apply (c : Dev nD) (t : Fin cfg0.N) (r l : Fin 32) :
    iblk0 V c 0 t (ix2 r l) = (V c main_arg4 : Vec Ideal S32x32 .f32) (ix2 r l) := by
  unfold iblk0
  blk_simp
  exact congrArg (V c main_arg4 : Vec Ideal S32x32 .f32) (by blk_ext [index0_0])

/-- THE ARRAY OF BIASES of the windowed attention, from the table. -/
theorem bias_final (c : Dev nD) : (dat0 V c).arrAt 2 cfg0.N = biasArr (V c main_arg4) := by
  refine (dat0 V c).arrAt_eq_of_covers 2 _ (by decide +kernel) fun t hf y => ?_
  blk_simp
  rw [after0_2]
  unfold outsAt0
  rw [out0_eq]
  obtain ⟨g, r, l, rfl⟩ : ∃ (g : Fin 8) (r : Fin 256) (l : Fin 512), y = ix3 g r l := ⟨_, _, _, eq_ix3 y⟩
  rw [show (win0_2.blk t).view.emb (ix3 g r l) = (ix3 ⟨8 * (grid0.coords t 0).val + g.val, col_lt _ g⟩ r l : S32x256x512.Idx) from by
    blk_ext [index0_2]]
  unfold tiles biasArr
  exact congrArg (fun T => biasAt T r l) (funext fun b => table_apply V c t b _)

end Cert.Attend
end
-- ==== Proof.Result.lean ====
/-
  The kernel's run: its result array is the windowed attention of the arrays its two launches read.
-/
module

public import proofs.«01_k».proof.Proof.Bias

@[expose] public section

set_option maxRecDepth 16384

noncomputable section

namespace Cert.Attend

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

/-- The result array from the arguments' arrays and the two arrays the host prepares. -/
theorem result_eq (c : Dev nD) : W3 m ρ c main_v15
    = attendArr (m ((c : Thread nD τ).loc main_arg3)) (V1 m ρ c main_v5) (V1 m ρ c main_v13)
        (biasArr (m ((c : Thread nD τ).loc main_arg4))) := by
  refine (W3_arr m ρ c 7).trans ?_
  rw [attend_final]
  have e3 : V2 m ρ c main_arg3 = m ((c : Thread nD τ).loc main_arg3) := W2_args m ρ c main_arg3 (by decide)
  have e5 : V2 m ρ c main_v5 = V1 m ρ c main_v5 := W2_of m ρ c main_v5 (by decide)
  have e13 : V2 m ρ c main_v13 = V1 m ρ c main_v13 := W2_of m ρ c main_v13 (by decide)
  have e4 : V1 m ρ c main_arg4 = m ((c : Thread nD τ).loc main_arg4) := W1_args m ρ c main_arg4 (by decide)
  have eb : V2 m ρ c main_v14_1 = biasArr (m ((c : Thread nD τ).loc main_arg4)) := by
    rw [← e4]
    exact (W2_arr m ρ c 2).trans (bias_final (V1 m ρ) c)
  rw [e3, e5, e13, eb]

-- `θ_run_regions_kit_sems`'s implicit arguments are found by unifying its conclusion with this one, which takes unfolding
-- plain definitions in a metavariable's type
set_option backward.isDefEq.respectTransparency.types false in
/-- THE RUN of the kernel, with the result array. -/
theorem kernel_run : θ_run defs (onTc (τ := τ) (main (F := Ideal))) ⟨m, fun _ => 0, ρ⟩ (fun r => ∀ c : Dev nD,
      r.2.mem ((c.tc : Thread nD τ).loc main_v15) = attendArr (m ((c : Thread nD τ).loc main_arg3)) (V1 m ρ c main_v5) (V1 m ρ c main_v13)
        (biasArr (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v15 (by decide))).trans (result_eq m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Attend
end
-- ==== Proof.Soft.lean ====
/-
  The softmax with a sink, in base e and in base two.
-/
module

public import proofs.«01_k».proof.Proof.Result

@[expose] public section

set_option maxRecDepth 16384

noncomputable section

namespace Cert.Attend

open Idealize.ShloMosaic Idealize.ShloMosaic.TcCoe Idealize.ShloMosaic.Tactic

/-- Attention in base e over 256 scores `S`, a sink `t` and one value lane `V`, each weight divided first. -/
def row1 (S : Fin 256 → EReal) (t : EReal) (V : Fin 256 → EReal) : EReal :=
  ∑ c, V c * Ideal.div (Ideal.exp (S c - max (Finset.univ.fold max ⊥ S) t))
    ((∑ c, Ideal.exp (S c - max (Finset.univ.fold max ⊥ S) t)) + Ideal.exp (t - max (Finset.univ.fold max ⊥ S) t))

theorem log2e_pos : (0 : ℝ) < (Real.log 2)⁻¹ := inv_pos.2 (Real.log_pos one_lt_two)

theorem bot_mul_log2e : (⊥ : EReal) * log2e = ⊥ := EReal.bot_mul_coe_of_pos log2e_pos

/-- Scaling by `log2e` keeps the order. -/
theorem scale_mono : Monotone fun x : EReal => x * log2e := fun x y h =>
  mul_le_mul_of_nonneg_right h (EReal.coe_nonneg.2 log2e_pos.le)

theorem fold_scale (S : Fin 256 → EReal) :
    Finset.univ.fold max ⊥ (fun c => S c * log2e) = Finset.univ.fold max ⊥ S * log2e := by
  have h := Finset.fold_hom (op := max) (op' := max) (m := fun x : EReal => x * log2e) (s := (Finset.univ : Finset (Fin 256)))
    (b := (⊥ : EReal)) (f := S) (fun x y => scale_mono.map_max)
  rw [bot_mul_log2e] at h
  exact h

/-- The two exponentials, at a finite maximum. -/
theorem exp2_scale (x : EReal) (M : ℝ) (hx : x ≠ ⊤) :
    Ideal.exp2 (x * log2e - (M : EReal) * log2e) = Ideal.exp (x - M) := by
  induction x with
  | bot => rw [bot_mul_log2e, log2e, ← EReal.coe_mul, EReal.bot_sub, EReal.bot_sub]; rfl
  | top => exact absurd rfl hx
  | coe x =>
    rw [log2e, ← EReal.coe_mul, ← EReal.coe_mul, ← EReal.coe_sub, ← EReal.coe_sub]
    show ((Real.rpow 2 (x * (Real.log 2)⁻¹ - M * (Real.log 2)⁻¹) : ℝ) : EReal) = ((Real.exp (x - M) : ℝ) : EReal)
    refine congrArg _ ?_
    show (2 : ℝ) ^ (x * (Real.log 2)⁻¹ - M * (Real.log 2)⁻¹) = _
    rw [Real.rpow_def_of_pos two_pos]
    refine congrArg _ ?_
    have := (Real.log_pos one_lt_two).ne'
    field_simp

/-- An exponential of what is not plus infinity is a nonnegative real. -/
theorem exp_real (x : EReal) (M : ℝ) (hx : x ≠ ⊤) : ∃ e : ℝ, 0 ≤ e ∧ Ideal.exp (x - M) = e := by
  induction x with
  | bot => exact ⟨0, le_rfl, by rw [EReal.bot_sub]; rfl⟩
  | top => exact absurd rfl hx
  | coe x => exact ⟨Real.exp (x - M), (Real.exp_pos _).le, by rw [← EReal.coe_sub]; rfl⟩

/-- A sum times a nonnegative real. -/
theorem sum_mul_real {n : ℕ} (f : Fin n → EReal) (w : ℝ) (hw : 0 ≤ w) :
    (∑ c, f c) * (w : EReal) = ∑ c, f c * (w : EReal) := by
  have h : ∀ s : Finset (Fin n), (∑ c ∈ s, f c) * (w : EReal) = ∑ c ∈ s, f c * (w : EReal) := by
    intro s
    induction s using Finset.induction_on with
    | empty => simp
    | insert a s ha ih =>
      rw [Finset.sum_insert ha, Finset.sum_insert ha, ← ih, mul_comm,
        EReal.left_distrib_of_nonneg_of_ne_top (EReal.coe_nonneg.2 hw) (EReal.coe_ne_top w), mul_comm, mul_comm (w : EReal)]
  exact h _

/-- A sum of reals. -/
theorem coe_sum {n : ℕ} (f : Fin n → ℝ) : ∑ c, (f c : EReal) = ((∑ c, f c : ℝ) : EReal) := by
  have h : ∀ s : Finset (Fin n), ∑ c ∈ s, (f c : EReal) = ((∑ c ∈ s, f c : ℝ) : EReal) := by
    intro s
    induction s using Finset.induction_on with
    | empty => simp
    | insert a s ha ih => rw [Finset.sum_insert ha, Finset.sum_insert ha, ih, EReal.coe_add]
  exact h _

/-- THE SOFTMAX IN BASE TWO is the softmax in base e, where no score is plus infinity and the sink is a real; a value
    whose score is minus infinity may be replaced by any other. -/
theorem row2_eq_row1 (S : Fin 256 → EReal) (t : ℝ) (V W : Fin 256 → EReal) (hS : ∀ c, S c ≠ ⊤)
    (hV : ∀ c, S c ≠ ⊥ → V c = W c) :
    row2 (fun c => S c * log2e) ((t : EReal) * log2e) V = row1 S t W := by
  obtain ⟨M, hM⟩ : ∃ M : ℝ, max (Finset.univ.fold max ⊥ S) (t : EReal) = M := by
    have h1 : max (Finset.univ.fold max ⊥ S) (t : EReal) ≠ ⊤ := by
      refine ne_of_lt (max_lt ?_ (EReal.coe_lt_top t))
      exact (Finset.fold_max_lt _).2 ⟨bot_lt_top, fun c _ => lt_top_iff_ne_top.2 (hS c)⟩
    have h2 : max (Finset.univ.fold max ⊥ S) (t : EReal) ≠ ⊥ :=
      ne_of_gt (lt_of_lt_of_le (EReal.bot_lt_coe t) (le_max_right _ _))
    exact ⟨_, (EReal.coe_toReal h1 h2).symm⟩
  have hM2 : max (Finset.univ.fold max ⊥ fun c => S c * log2e) ((t : EReal) * log2e) = (M : EReal) * log2e := by
    rw [fold_scale, ← hM]
    exact (scale_mono.map_max (a := Finset.univ.fold max ⊥ S) (b := (t : EReal))).symm
  unfold row2 row1
  rw [hM2, hM]
  have e1 : ∀ c, Ideal.exp2 (S c * log2e - (M : EReal) * log2e) = Ideal.exp (S c - M) := fun c => exp2_scale _ _ (hS c)
  simp only [e1]
  rw [exp2_scale _ _ (EReal.coe_ne_top t)]
  choose e he0 he using fun c => exp_real (S c) M (hS c)
  have ht : Ideal.exp ((t : EReal) - M) = ((Real.exp (t - M) : ℝ) : EReal) := by rw [← EReal.coe_sub]; rfl
  have hVW : ∀ c, ((e c : ℝ) : EReal) * V c = ((e c : ℝ) : EReal) * W c := by
    intro c
    by_cases h : S c = ⊥
    · have h0 : ((e c : ℝ) : EReal) = 0 := by rw [← he c, h, EReal.bot_sub]; rfl
      rw [h0, zero_mul, zero_mul]
    · rw [hV c h]
  simp only [he, ht, hVW]
  rw [coe_sum, ← EReal.coe_add]
  have hD : (0 : ℝ) < (∑ c, e c) + Real.exp (t - M) :=
    add_pos_of_nonneg_of_pos (Finset.sum_nonneg fun c _ => he0 c) (Real.exp_pos _)
  rw [Ideal.div_coe hD.ne', sum_mul_real _ _ (one_div_pos.2 hD).le]
  refine Finset.sum_congr rfl fun c _ => ?_
  rw [Ideal.div_coe hD.ne', mul_comm ((e c : ℝ) : EReal), mul_assoc]

/-- The softmax over 257 scores of which the last is the sink. -/
theorem soft_row (f : Fin 257 → EReal) (V : Fin 256 → EReal) :
    ∑ c : Fin 256, V c * Ideal.div (Ideal.exp (f c.castSucc - max ⊥ (Finset.univ.fold max ⊥ f)))
        (∑ k, Ideal.exp (f k - max ⊥ (Finset.univ.fold max ⊥ f)))
      = row1 (fun c => f c.castSucc) (f (Fin.last 256)) V := by
  have hm : max ⊥ (Finset.univ.fold max ⊥ f) = max (Finset.univ.fold max ⊥ fun c : Fin 256 => f c.castSucc) (f (Fin.last 256)) := by
    rw [max_eq_right bot_le, Fin.univ_castSuccEmb, Finset.fold_cons, Finset.fold_map, max_comm]
    rfl
  unfold row1
  rw [hm, Fin.sum_univ_castSucc (n := 256)]

end Cert.Attend
-- ==== Proof.Ref.lean ====
/-
  The reference's arrays, read at an index: the keys of a block, the mask, the bias, the scores, and the softmax over a
  row's keys and its sink.
-/
module

public import proofs.«01_k».proof.Proof.Soft
public import proofs.«01_k».proof.Proof.Gen.ReferenceIdeal.Read

@[expose] public section

set_option maxRecDepth 16384

noncomputable section

namespace Cert.Attend

open Idealize.ShloMosaic Idealize.ShloMosaic.TcCoe Idealize.ShloMosaic.Tactic
open Cert.ReferenceIdeal Cert.ReferenceIdeal.Gen Cert.ReferenceIdeal.Read

/-- The keys of a block, where the key exists: the previous block's rows, then its own. -/
theorem ref_keys (x1 : Vec Ideal S4x2048x512 .f32) (b : Fin 4) (n : Fin 16) (c : Fin 256) (h : Fin 8) (d : Fin 64)
    (hv : 128 ≤ n.val * 128 + c.val) :
    val_main_v7 (F := Ideal) x1 (ix5 b n c h d)
      = x1 (ix3 b ⟨n.val * 128 + c.val - 128, by omega⟩ ⟨h.val * 64 + d.val, by omega⟩) := by
  pointwise [val_main_v7, val_main_v5, val_main_v6, val_main_v2, val_main_v1, val_main_call0_v0, val_main_c]
  split
  · rw [dif_pos (by omega)]
  · rw [dif_pos (by omega)]
    exact congrArg x1 (congrArg (fun p => ix3 b p _) (Fin.ext (by dsimp only; omega)))

/-- The values of a block, where the key exists. -/
theorem ref_values (x2 : Vec Ideal S4x2048x512 .f32) (b : Fin 4) (n : Fin 16) (c : Fin 256) (h : Fin 8) (d : Fin 64)
    (hv : 128 ≤ n.val * 128 + c.val) :
    val_main_v10 (F := Ideal) x2 (ix5 b n c h d)
      = x2 (ix3 b ⟨n.val * 128 + c.val - 128, by omega⟩ ⟨h.val * 64 + d.val, by omega⟩) := by
  pointwise [val_main_v10, val_main_v8, val_main_v9, val_main_v4, val_main_v3, val_main_call1_v0, val_main_c_0]
  split
  · rw [dif_pos (by omega)]
  · rw [dif_pos (by omega)]
    exact congrArg x2 (congrArg (fun p => ix3 b p _) (Fin.ext (by dsimp only; omega)))

/-- The distance of a query row and a key of a block, as a signed word. -/
theorem ref_distance_toInt (r : Fin 128) (c : Fin 256) :
    (BitVec.ofNat 32 r.val - (BitVec.ofNat 32 c.val - 128#32)).toInt = (r.val : ℤ) + 128 - c.val := by
  rw [BitVec.toInt_eq_toNat_cond]
  simp only [BitVec.toNat_sub, BitVec.toNat_ofNat]
  split <;> omega

/-- The distances. -/
theorem ref_distances (r : Fin 128) (c : Fin 256) :
    val_main_v19 (F := Ideal) (ix2 r c) = BitVec.ofNat 32 r.val - (BitVec.ofNat 32 c.val - 128#32) := by
  pointwise [val_main_v19, val_main_v18, val_main_v17, val_main_v16, val_main_v15, val_main_v14, val_main_v13,
    val_main_v12, val_main_v11, val_main_c_1]
  rfl

/-- The band: a distance from 0 to 127. -/
theorem ref_band (r : Fin 128) (c : Fin 256) :
    val_main_v24 (F := Ideal) (ix2 r c) = if c.val ≤ r.val + 128 ∧ r.val < c.val then 1#1 else 0#1 := by
  pointwise [val_main_v24, val_main_v23, val_main_v22, val_main_v21, val_main_v20, val_main_c_2, val_main_c_3]
  rw [ref_distances]
  show BitVec.ofBool (BitVec.sle 0#32 (BitVec.ofNat 32 r.val - (BitVec.ofNat 32 c.val - 128#32)))
    &&& BitVec.ofBool (BitVec.slt (BitVec.ofNat 32 r.val - (BitVec.ofNat 32 c.val - 128#32)) 128#32) = _
  rw [BitVec.sle, BitVec.slt, ref_distance_toInt]
  have e1 : decide ((0#32 : BitVec 32).toInt ≤ (r.val : ℤ) + 128 - c.val) = decide (c.val ≤ r.val + 128) :=
    decide_eq_decide.2 (by show (0 : ℤ) ≤ _ ↔ _; omega)
  have e2 : decide ((r.val : ℤ) + 128 - c.val < (128#32 : BitVec 32).toInt) = decide (r.val < c.val) :=
    decide_eq_decide.2 (by show _ < (128 : ℤ) ↔ _; omega)
  rw [e1, e2]
  by_cases h1 : c.val ≤ r.val + 128 <;> by_cases h2 : r.val < c.val <;> simp [h1, h2]

/-- The keys that exist: all but the first block's previous rows. -/
theorem ref_exists (n : Fin 16) (c : Fin 256) :
    val_main_v34 (F := Ideal) (ix2 n c) = if 0 < n.val ∨ 128 ≤ c.val then 1#1 else 0#1 := by
  pointwise [val_main_v34, val_main_v33, val_main_v32, val_main_v31, val_main_v30, val_main_v29, val_main_v28, val_main_v27,
    val_main_v26, val_main_v25, val_main_v14, val_main_v13, val_main_v12, val_main_c_1, val_main_c_4, val_main_c_5]
  revert n c
  decide +kernel

/-- The mask. -/
theorem ref_mask (n : Fin 16) (r : Fin 128) (c : Fin 256) :
    val_main_v39 (F := Ideal) (ix3 n r c)
      = if (c.val ≤ r.val + 128 ∧ r.val < c.val) ∧ (0 < n.val ∨ 128 ≤ c.val) then 1#1 else 0#1 := by
  pointwise [val_main_v39, val_main_v37, val_main_v38, val_main_v36, val_main_v35]
  rw [ref_band, ref_exists]
  by_cases h1 : c.val ≤ r.val + 128 ∧ r.val < c.val <;> by_cases h2 : 0 < n.val ∨ 128 ≤ c.val
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

/-- The table's rows picked by the buckets. -/
theorem ref_gather (x4 : Vec Ideal S32x32 .f32) (idx : IVec S128x256x1 32) (r : Fin 128) (c : Fin 256) (h b : Fin 32)
    (hb : idx (ix3 r c 0) = BitVec.ofNat 32 b.val) :
    Host.gather gather_S32x32_S128x256x1_S128x256x32_2_0_n_n_0_2_132 x4 idx (ix3 r c h) = x4 (ix2 b h) := by
  unfold Host.gather
  refine congrArg x4 (funext fun a => Fin.ext ?_)
  match a with
  | ⟨0, _⟩ =>
    show GatherDims.start gather_S32x32_S128x256x1_S128x256x32_2_0_n_n_0_2_132 (ix3 r c h) idx 0
      + GatherDims.batchCoord gather_S32x32_S128x256x1_S128x256x32_2_0_n_n_0_2_132 (ix3 r c h) 0
      + GatherDims.offCoord gather_S32x32_S128x256x1_S128x256x32_2_0_n_n_0_2_132 (ix3 r c h) 0 = b.val
    rw [GatherDims.batchCoord_eq_zero _ _ _ (fun h => by exact absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x32_S128x256x1_S128x256x32_2_0_n_n_0_2_132.startIndexMap from List.mem_singleton.mpr rfl)]
    have hsi : gather_S32x32_S128x256x1_S128x256x32_2_0_n_n_0_2_132.siIdx (ix3 r c h)
        ⟨List.idxOf (0 : Fin 2) gather_S32x32_S128x256x1_S128x256x32_2_0_n_n_0_2_132.startIndexMap,
          List.idxOf_lt_length_iff.2 (List.mem_singleton.mpr rfl)⟩ = ix3 r c 0 := by
      funext b
      refine Fin.ext ?_
      match b with
      | ⟨0, _⟩ => rfl
      | ⟨1, _⟩ => rfl
      | ⟨2, _⟩ => rfl
    rw [hsi, hb]
    clear hsi hb
    revert b
    decide +kernel
  | ⟨1, _⟩ =>
    have hk : (1 : Fin 2) ∈ gather_S32x32_S128x256x1_S128x256x32_2_0_n_n_0_2_132.sKept :=
      (GatherDims.mem_sKept _ _).2 ⟨fun h => absurd (List.mem_singleton.mp h) (by decide), fun h => by exact absurd h List.not_mem_nil⟩
    show GatherDims.start gather_S32x32_S128x256x1_S128x256x32_2_0_n_n_0_2_132 (ix3 r c h) idx 1
      + GatherDims.batchCoord gather_S32x32_S128x256x1_S128x256x32_2_0_n_n_0_2_132 (ix3 r c h) 1
      + GatherDims.offCoord gather_S32x32_S128x256x1_S128x256x32_2_0_n_n_0_2_132 (ix3 r c h) 1 = h.val
    rw [GatherDims.batchCoord_eq_zero _ _ _ (fun h => by exact absurd h List.not_mem_nil)]
    unfold GatherDims.start GatherDims.offCoord
    have hm : (1 : Fin 2) ∉ gather_S32x32_S128x256x1_S128x256x32_2_0_n_n_0_2_132.startIndexMap :=
      fun h => absurd (List.mem_singleton.mp h) (by decide)
    rw [dif_neg hm, dif_pos hk]
    simp only [Nat.zero_add]
    rfl

/-- A score before the bias. -/
theorem ref_score (x0 : Vec Ideal S4x2048x2048 .f32) (x1 : Vec Ideal S4x2048x512 .f32) (b : Fin 4) (n : Fin 16)
    (h : Fin 8) (g : Fin 4) (r : Fin 128) (c : Fin 256) :
    val_main_v72 (F := Ideal) x0 x1 (ix6 b n h g r c)
      = (∑ d : Fin 64, val_main_v7 (F := Ideal) x1 (ix5 b n c h d)
          * x0 (ix3 b ⟨n.val * 128 + r.val, by omega⟩ ⟨h.val * 256 + g.val * 64 + d.val, by omega⟩)) * ((1 / 8 : ℝ) : EReal) := by
  pointwise [val_main_v72, val_main_v71, val_main_v70, val_main_v69, val_main_v0, val_main_cst_15]
  rw [← ofBits_eighth]

/-- The masked score of a row and a key, or the sink at the last place. -/
theorem ref_scores (x0 : Vec Ideal S4x2048x2048 .f32) (x1 : Vec Ideal S4x2048x512 .f32) (x3 : Vec Ideal S32 .f32)
    (x4 : Vec Ideal S32x32 .f32) (b : Fin 4) (n : Fin 16) (h : Fin 8) (g : Fin 4) (r : Fin 128) (c : Fin 257) :
    val_main_v80 (F := Ideal) x0 x1 x3 x4 (ix6 b n h g r c)
      = if hc : c.val < 256 then
          Scalar.select (val_main_v39 (F := Ideal) (ix3 n r ⟨c.val, hc⟩))
            (val_main_v72 (F := Ideal) x0 x1 (ix6 b n h g r ⟨c.val, hc⟩)
              + val_main_v66 (F := Ideal) x4 (ix3 r ⟨c.val, hc⟩ ⟨h.val * 4 + g.val, by omega⟩)) ⊥
        else x3 (ix1 ⟨h.val * 4 + g.val, by omega⟩) := by
  pointwise [val_main_v80, val_main_v79, val_main_v78, val_main_v77, val_main_call3_v1, val_main_call3_v2, val_main_v76,
    val_main_v75, val_main_v74, val_main_v73, val_main_v68, val_main_v67, val_main_call3_v0, val_main_cst_16]
  rw [← ofBits_neg_inf]
  rfl

/-- The maximum of a row's scores and its sink. -/
theorem ref_max (x0 : Vec Ideal S4x2048x2048 .f32) (x1 : Vec Ideal S4x2048x512 .f32) (x3 : Vec Ideal S32 .f32)
    (x4 : Vec Ideal S32x32 .f32) (b : Fin 4) (n : Fin 16) (h : Fin 8) (g : Fin 4) (r : Fin 128) :
    val_main_v83 (F := Ideal) x0 x1 x3 x4 (ix5 b n h g r)
      = max ⊥ (Finset.univ.fold max ⊥ fun k : Fin 257 => val_main_v80 (F := Ideal) x0 x1 x3 x4 (ix6 b n h g r k)) := by
  rw [val_main_v83_apply, val_main_v82_apply, val_main_v81]
  rw [Host.reduce_eq_fold_single _ _ _ _ (by decide)]
  show max (Ideal.ofBits FTy.f32 0xFF800000#32) (Finset.univ.fold max (Ideal.ofBits FTy.f32 0xFF800000#32) _) = _
  rw [ofBits_neg_inf]
  refine congrArg (max ⊥) (Finset.fold_congr fun k _ => ?_)
  show val_main_v80 (F := Ideal) x0 x1 x3 x4 _ = _
  exact congrArg _ (funext fun a => Fin.ext (by
    match a with | ⟨0, _⟩ => rfl | ⟨1, _⟩ => rfl | ⟨2, _⟩ => rfl | ⟨3, _⟩ => rfl | ⟨4, _⟩ => rfl | ⟨5, _⟩ => rfl))

/-- An exponential. -/
theorem ref_exp (x0 : Vec Ideal S4x2048x2048 .f32) (x1 : Vec Ideal S4x2048x512 .f32) (x3 : Vec Ideal S32 .f32)
    (x4 : Vec Ideal S32x32 .f32) (b : Fin 4) (n : Fin 16) (h : Fin 8) (g : Fin 4) (r : Fin 128) (k : Fin 257) :
    val_main_v87 (F := Ideal) x0 x1 x3 x4 (ix6 b n h g r k)
      = Ideal.exp (val_main_v80 (F := Ideal) x0 x1 x3 x4 (ix6 b n h g r k)
          - val_main_v83 (F := Ideal) x0 x1 x3 x4 (ix5 b n h g r)) := by
  pointwise [val_main_v87, val_main_v86, val_main_v85, val_main_v84]

/-- The sum of a row's exponentials. -/
theorem ref_den (x0 : Vec Ideal S4x2048x2048 .f32) (x1 : Vec Ideal S4x2048x512 .f32) (x3 : Vec Ideal S32 .f32)
    (x4 : Vec Ideal S32x32 .f32) (b : Fin 4) (n : Fin 16) (h : Fin 8) (g : Fin 4) (r : Fin 128) :
    val_main_v88 (F := Ideal) x0 x1 x3 x4 (ix5 b n h g r)
      = ∑ k : Fin 257, val_main_v87 (F := Ideal) x0 x1 x3 x4 (ix6 b n h g r k) := by
  rw [val_main_v88_apply]
  show Ideal.ofBits FTy.f32 0x00000000#32 + _ = _
  rw [Ideal.ofBits_zero_f32, zero_add]
  refine Finset.sum_congr rfl fun k _ => congrArg _ (funext fun a => Fin.ext (by
    match a with | ⟨0, _⟩ => rfl | ⟨1, _⟩ => rfl | ⟨2, _⟩ => rfl | ⟨3, _⟩ => rfl | ⟨4, _⟩ => rfl | ⟨5, _⟩ => rfl))

/-- The result. -/
theorem ref_out (x0 : Vec Ideal S4x2048x2048 .f32) (x1 x2 : Vec Ideal S4x2048x512 .f32) (x3 : Vec Ideal S32 .f32)
    (x4 : Vec Ideal S32x32 .f32) (n : Fin 8192) (l : Fin 2048) :
    val_main_v96 (F := Ideal) x0 x1 x2 x3 x4 (ix2 n l)
      = ∑ c : Fin 256, val_main_v10 (F := Ideal) x2 (ix5 ⟨n.val / 2048, by omega⟩ ⟨n.val / 128 % 16, by omega⟩ c
            ⟨l.val / 256, by omega⟩ ⟨l.val % 64, by omega⟩)
          * Ideal.div (val_main_v87 (F := Ideal) x0 x1 x3 x4 (ix6 ⟨n.val / 2048, by omega⟩ ⟨n.val / 128 % 16, by omega⟩
              ⟨l.val / 256, by omega⟩ ⟨l.val / 64 % 4, by omega⟩ ⟨n.val % 128, by omega⟩ ⟨c.val, by omega⟩))
            (val_main_v88 (F := Ideal) x0 x1 x3 x4 (ix5 ⟨n.val / 2048, by omega⟩ ⟨n.val / 128 % 16, by omega⟩
              ⟨l.val / 256, by omega⟩ ⟨l.val / 64 % 4, by omega⟩ ⟨n.val % 128, by omega⟩)) := by
  pointwise [val_main_v96, val_main_v95, val_main_v94, val_main_v93, val_main_v92, val_main_v91, val_main_v90, val_main_v89]

end Cert.Attend
-- ==== Proof.Buckets.lean ====
/-
  The reference's buckets: the logarithm's integer part is the count of thresholds, and a distance in the window takes
  the table's row of its bucket.
-/
module

public import proofs.«01_k».proof.Proof.Ref

@[expose] public section

set_option maxRecDepth 16384

noncomputable section

namespace Cert.Attend

open Idealize.ShloMosaic Idealize.ShloMosaic.TcCoe Idealize.ShloMosaic.Tactic
open Cert.ReferenceIdeal Cert.ReferenceIdeal.Gen Cert.ReferenceIdeal.Read

/-- The pattern of sixteen. -/
theorem ofBits_sixteen : Ideal.ofBits FTy.f32 0x41800000#32 = ((16 : ℝ) : EReal) := by
  simp [Ideal.ofBits, Ideal.ieee]
  rw [← EReal.coe_mul]; norm_num

/-- The reference's rounded logarithm of eight. -/
def logEight : ℝ := 8721810 / 4194304

theorem ofBits_log_eight : Ideal.ofBits FTy.f32 0x40051592#32 = (logEight : EReal) := by
  simp [Ideal.ofBits, Ideal.ieee, logEight]
  rw [← EReal.coe_mul]; norm_num

/-- The logarithm of two from below. -/
theorem log_two_lower : (0.69314717 : ℝ) < Real.log 2 := by
  rw [Real.lt_log_iff_exp_lt two_pos]
  refine lt_of_le_of_lt (Real.exp_bound' (n := 12) (by norm_num) (by norm_num) (by norm_num)) ?_
  norm_num [Finset.sum_range_succ, Nat.factorial]

/-- The logarithm of two from above. -/
theorem log_two_upper : Real.log 2 < (0.693147182 : ℝ) := by
  rw [Real.log_lt_iff_lt_exp two_pos]
  refine lt_of_lt_of_le ?_ (Real.sum_le_exp_of_nonneg (by norm_num) 13)
  norm_num [Finset.sum_range_succ, Nat.factorial]

/-- The bucket of a distance from 17 to 127 by powers of two: the distance's sixteenth power clears the bucket's power
    by one part in a million, and is under the next. -/
theorem bucket_powers : ∀ d : Fin 128, 17 ≤ d.val →
    16 ≤ bucket d.val ∧ bucket d.val ≤ 31 ∧
      1000001 * 2 ^ (64 + 3 * (bucket d.val - 16)) ≤ 1000000 * d.val ^ 16 ∧
      d.val ^ 16 < 2 ^ (64 + 3 * (bucket d.val - 16 + 1)) := by
  decide +kernel

/-- The logarithm's place between the multiples of the rounded logarithm of eight. -/
theorem log_between (n k : ℕ) (hn : 0 < n) (hk : k ≤ 15) (hA : 1000001 * 2 ^ (64 + 3 * k) ≤ 1000000 * n ^ 16)
    (hB : n ^ 16 < 2 ^ (64 + 3 * (k + 1))) :
    (k : ℝ) * logEight ≤ Real.log (n * (1 / 16)) * 16 ∧ Real.log (n * (1 / 16)) * 16 < ((k : ℝ) + 1) * logEight := by
  have hn' : (0 : ℝ) < n := Nat.cast_pos.2 hn
  have hX : Real.log (n * (1 / 16)) * 16 = Real.log ((n : ℝ) ^ 16) - 64 * Real.log 2 := by
    rw [mul_one_div, Real.log_div hn'.ne' (by norm_num), Real.log_pow, show (16 : ℝ) = 2 ^ 4 by norm_num, Real.log_pow]
    push_cast; ring
  have hA' : (1000001 : ℝ) * 2 ^ (64 + 3 * k) ≤ 1000000 * (n : ℝ) ^ 16 := by exact_mod_cast hA
  have hB' : (n : ℝ) ^ 16 < 2 ^ (64 + 3 * (k + 1)) := by exact_mod_cast hB
  have l1 := log_two_lower
  have l2 := log_two_upper
  have hk' : (k : ℝ) ≤ 15 := by exact_mod_cast hk
  have hk0 : (0 : ℝ) ≤ k := Nat.cast_nonneg k
  have hL : logEight = 8721810 / 4194304 := rfl
  constructor
  · have h1 : Real.log (1000001 / 1000000 * 2 ^ (64 + 3 * k)) ≤ Real.log ((n : ℝ) ^ 16) :=
      Real.log_le_log (by positivity) (by linarith)
    rw [Real.log_mul (by norm_num) (by positivity), Real.log_pow] at h1
    have h2 := Real.one_sub_inv_le_log_of_pos (show (0 : ℝ) < 1000001 / 1000000 by norm_num)
    push_cast at h1
    rw [hX, hL]
    have h3 : (1 : ℝ) - (1000001 / 1000000)⁻¹ ≥ 9 / 10000000 := by norm_num
    nlinarith
  · have h1 : Real.log ((n : ℝ) ^ 16) < Real.log (2 ^ (64 + 3 * (k + 1))) := Real.log_lt_log (by positivity) hB'
    rw [Real.log_pow 2 (64 + 3 * (k + 1))] at h1
    push_cast at h1
    rw [hX, hL]
    nlinarith

/-- The integer part of a real between two consecutive integers, as a word. -/
theorem fptosi_between (x : ℝ) (k : ℕ) (hk : k ≤ 31) (h1 : (k : ℝ) ≤ x) (h2 : x < (k : ℝ) + 1) :
    Ideal.fptosi 32 (x : EReal) = BitVec.ofNat 32 k := by
  have hf : ⌊x⌋ = (k : ℤ) := Int.floor_eq_iff.2 ⟨by exact_mod_cast h1, by exact_mod_cast h2⟩
  have hx : (0 : ℝ) ≤ x := (Nat.cast_nonneg k).trans h1
  unfold Ideal.fptosi
  have he : Ideal.toIntClamped (-(2 ^ (32 - 1) : Nat)) ((2 ^ (32 - 1) : Nat) - 1) (x : EReal) = (k : ℤ) := by
    show max _ (min _ (if 0 ≤ x then ⌊x⌋ else ⌈x⌉)) = _
    rw [if_pos hx, hf]
    norm_num
    omega
  rw [he]
  exact BitVec.ofInt_natCast 32 k

/-- The logarithmic part of a bucket. -/
theorem log_bucket (d : Fin 128) (hd : 16 ≤ d.val) :
    Ideal.fptosi 32 (Ideal.div (Ideal.log (Ideal.div (((d.val : ℝ) : EReal)) ((16 : ℝ) : EReal))) (logEight : EReal)
      * ((16 : ℝ) : EReal)) = BitVec.ofNat 32 (bucket d.val - 16) := by
  have hL : (0 : ℝ) < logEight := by unfold logEight; norm_num
  have hd' : (0 : ℝ) < d.val := Nat.cast_pos.2 (by omega)
  have hlog : Ideal.log (((d.val : ℝ) * (1 / 16) : ℝ) : EReal) = ((Real.log ((d.val : ℝ) * (1 / 16)) : ℝ) : EReal) := by
    show (if (d.val : ℝ) * (1 / 16) ≤ 0 then (⊥ : EReal) else _) = _
    rw [if_neg (not_le.2 (by positivity))]
  rw [Ideal.div_coe (show (16 : ℝ) ≠ 0 by norm_num), ← EReal.coe_mul, hlog, Ideal.div_coe hL.ne', ← EReal.coe_mul, ← EReal.coe_mul]
  by_cases h17 : 17 ≤ d.val
  · obtain ⟨b1, b2, hA, hB⟩ := bucket_powers d h17
    obtain ⟨g1, g2⟩ := log_between d.val (bucket d.val - 16) (by omega) (by omega) hA hB
    refine fptosi_between _ _ (by omega) ?_ ?_
    · rw [mul_right_comm, mul_one_div, le_div_iff₀ hL]; exact g1
    · rw [mul_right_comm, mul_one_div, div_lt_iff₀ hL]; exact g2
  · have he : d.val = 16 := by omega
    rw [he]
    refine fptosi_between _ _ (by decide) ?_ ?_
    · rw [show bucket 16 - 16 = 0 by decide]; norm_num
    · rw [show bucket 16 - 16 = 0 by decide]; norm_num

/-- The bucket of a distance in the window. -/
theorem ref_bucket (r : Fin 128) (c : Fin 256) (d : Fin 128) (h : r.val + 128 = c.val + d.val) :
    val_main_v64 (F := Ideal) (ix2 r c) = BitVec.ofNat 32 (bucket d.val) := by
  have hd : BitVec.ofNat 32 r.val - (BitVec.ofNat 32 c.val - 128#32) = BitVec.ofNat 32 d.val := by
    apply BitVec.eq_of_toNat_eq
    simp only [BitVec.toNat_sub, BitVec.toNat_ofNat]
    omega
  pointwise [val_main_v64, val_main_v63, val_main_v62, val_main_v61, val_main_v60, val_main_v59, val_main_v58, val_main_v57,
    val_main_v56, val_main_v55, val_main_v54, val_main_v53, val_main_v52, val_main_v51, val_main_v50, val_main_v49,
    val_main_v48, val_main_v47, val_main_v46, val_main_v45, val_main_v44, val_main_v43, val_main_v42, val_main_v41,
    val_main_v40, val_main_c_6, val_main_c_7, val_main_cst, val_main_cst_8, val_main_cst_9, val_main_c_10, val_main_c_11,
    val_main_c_12, val_main_c_13, val_main_c_14]
  rw [ref_distances, hd, ofBits_sixteen, ofBits_log_eight]
  have e0 : IntOp.maxsi (BitVec.ofNat 32 d.val) 0#32 = BitVec.ofNat 32 d.val := by clear hd h; revert d; decide +kernel
  rw [e0]
  by_cases h16 : d.val < 16
  · have e1 : IntOp.cmpi CmpIPredicate.slt (BitVec.ofNat 32 d.val) 16#32 = 1#1 := by
      clear hd h e0; revert d; decide +kernel
    have e2 : IntOp.cmpi CmpIPredicate.slt (BitVec.ofNat 32 d.val) 0#32 = 0#1 := by
      clear hd h e0 e1 h16; revert d; decide +kernel
    rw [e1, sel_one, e2, sel_zero, bucket, if_pos h16]
  · have e1 : IntOp.cmpi CmpIPredicate.slt (BitVec.ofNat 32 d.val) 16#32 = 0#1 := by
      clear hd h e0; revert d; decide +kernel
    have e2 : IntOp.maxsi (BitVec.ofNat 32 d.val) 1#32 = BitVec.ofNat 32 d.val := by
      clear hd h e0 e1; revert d; decide +kernel
    have e3 : FloatOps.sitofp (F := Ideal) FTy.f32 (BitVec.ofNat 32 d.val) = ((d.val : ℝ) : EReal) := by
      show (((BitVec.ofNat 32 d.val).toInt : ℝ) : EReal) = _
      have : (BitVec.ofNat 32 d.val).toInt = (d.val : ℤ) := by clear hd h e0 e1 e2 h16; revert d; decide +kernel
      rw [this, Int.cast_natCast]
    rw [e1, sel_zero, e2, e3]
    have e4 : FloatOps.fptosi (F := Ideal) (φ := FTy.f32) 32 (Ideal.div (Ideal.log (Ideal.div (((d.val : ℝ) : EReal)) ((16 : ℝ) : EReal)))
        (logEight : EReal) * ((16 : ℝ) : EReal)) = BitVec.ofNat 32 (bucket d.val - 16) := log_bucket d (by omega)
    rw [e4]
    have e5 : IntOp.minsi (IntOp.addi 16#32 (BitVec.ofNat 32 (bucket d.val - 16))) 31#32 = BitVec.ofNat 32 (bucket d.val) := by
      clear hd h e0 e1 e2 e3 e4; revert d; decide +kernel
    have e6 : IntOp.cmpi CmpIPredicate.slt (BitVec.ofNat 32 (bucket d.val)) 0#32 = 0#1 := by
      clear hd h e0 e1 e2 e3 e4 e5 h16; revert d; decide +kernel
    rw [e5, e6, sel_zero]

/-- The bias of a query row and a key in the window: the table's entry of the distance's bucket and the head. -/
theorem ref_bias (x4 : Vec Ideal S32x32 .f32) (r : Fin 128) (c : Fin 256) (h : Fin 32) (d : Fin 128)
    (hd : r.val + 128 = c.val + d.val) :
    val_main_v66 (F := Ideal) x4 (ix3 r c h) = x4 (ix2 ⟨bucket d.val, bucket_lt d⟩ h) := by
  rw [val_main_v66]
  refine ref_gather x4 _ r c h ⟨bucket d.val, bucket_lt d⟩ ?_
  rw [← ref_bucket r c d hd]
  pointwise [val_main_v65]

end Cert.Attend
-- ==== Proof.Equal.lean ====
/-
  The kernel's result is the reference's, where queries, keys, sinks and table are real numbers.
-/
module

public import proofs.«01_k».proof.Proof.Buckets

@[expose] public section

set_option maxRecDepth 16384

noncomputable section

namespace Cert.Attend

open Idealize.ShloMosaic Idealize.ShloMosaic.TcCoe Idealize.ShloMosaic.Tactic
open Cert.KernelIdeal Cert.KernelIdeal.Gen
open Cert.ReferenceIdeal.Read

/-- Three coordinates with equal values give the same element. -/
theorem ix3_congr {α : Type} {A B C : ℕ} (f : (⟨3, ![A, B, C]⟩ : Shape).Idx → α) {a a' : Fin A} {b b' : Fin B} {c c' : Fin C}
    (ha : a.val = a'.val) (hb : b.val = b'.val) (hc : c.val = c'.val) : f (ix3 a b c) = f (ix3 a' b' c') := by
  obtain rfl := Fin.ext ha; obtain rfl := Fin.ext hb; obtain rfl := Fin.ext hc; rfl

/-- The reference's row of the result as a softmax over its scores. -/
theorem ref_row (x0 : Vec Ideal S4x2048x2048 .f32) (x1 x2 : Vec Ideal S4x2048x512 .f32) (x3 : Vec Ideal S32 .f32)
    (x4 : Vec Ideal S32x32 .f32) (n : Fin 8192) (l : Fin 2048) (b : Fin 4) (nb : Fin 16) (h : Fin 8) (g : Fin 4) (r : Fin 128)
    (d : Fin 64) (hb : b.val = n.val / 2048) (hnb : nb.val = n.val / 128 % 16) (hh : h.val = l.val / 256)
    (hg : g.val = l.val / 64 % 4) (hr : r.val = n.val % 128) (hd : d.val = l.val % 64) :
    val_main_v96 (F := Ideal) x0 x1 x2 x3 x4 (ix2 n l)
      = row1 (fun c => val_main_v80 (F := Ideal) x0 x1 x3 x4 (ix6 b nb h g r c.castSucc))
          (val_main_v80 (F := Ideal) x0 x1 x3 x4 (ix6 b nb h g r (Fin.last 256)))
          (fun c => val_main_v10 (F := Ideal) x2 (ix5 b nb c h d)) := by
  rw [ref_out, show (⟨n.val / 2048, by omega⟩ : Fin 4) = b from Fin.ext hb.symm,
    show (⟨n.val / 128 % 16, by omega⟩ : Fin 16) = nb from Fin.ext hnb.symm,
    show (⟨l.val / 256, by omega⟩ : Fin 8) = h from Fin.ext hh.symm,
    show (⟨l.val / 64 % 4, by omega⟩ : Fin 4) = g from Fin.ext hg.symm,
    show (⟨n.val % 128, by omega⟩ : Fin 128) = r from Fin.ext hr.symm,
    show (⟨l.val % 64, by omega⟩ : Fin 64) = d from Fin.ext hd.symm]
  refine Eq.trans ?_ (soft_row (fun k => val_main_v80 (F := Ideal) x0 x1 x3 x4 (ix6 b nb h g r k)) _)
  refine Finset.sum_congr rfl fun c _ => ?_
  rw [ref_exp, ref_den, ref_max]
  simp only [ref_exp, ref_max]
  rfl

/-- A key's masked score. -/
theorem ref_key (x0 : Vec Ideal S4x2048x2048 .f32) (x1 : Vec Ideal S4x2048x512 .f32) (x3 : Vec Ideal S32 .f32)
    (x4 : Vec Ideal S32x32 .f32) (b : Fin 4) (n : Fin 16) (h : Fin 8) (g : Fin 4) (r : Fin 128) (c : Fin 256) :
    val_main_v80 (F := Ideal) x0 x1 x3 x4 (ix6 b n h g r c.castSucc)
      = Scalar.select (val_main_v39 (F := Ideal) (ix3 n r c))
          (val_main_v72 (F := Ideal) x0 x1 (ix6 b n h g r c)
            + val_main_v66 (F := Ideal) x4 (ix3 r c ⟨h.val * 4 + g.val, by omega⟩)) ⊥ := by
  rw [ref_scores, dif_pos (by exact c.isLt)]
  rfl

/-- The scaled score of a query and a key of real numbers. -/
theorem score_scale (q k : Fin 64 → ℝ) (T : ℝ) :
    (∑ d, ((q d : EReal) * qscale) * (k d : EReal)) + (T : EReal) * log2e
      = ((∑ d, (k d : EReal) * (q d : EReal)) * ((1 / 8 : ℝ) : EReal) + (T : EReal)) * log2e := by
  have e1 : ∀ d, ((q d : EReal) * qscale) * (k d : EReal) = ((q d * (1 / 8 * (Real.log 2)⁻¹) * k d : ℝ) : EReal) := fun d => by
    rw [qscale, ← EReal.coe_mul, ← EReal.coe_mul]
  have e2 : ∀ d, (k d : EReal) * (q d : EReal) = ((k d * q d : ℝ) : EReal) := fun d => (EReal.coe_mul _ _).symm
  simp only [e1, e2]
  rw [coe_sum, coe_sum, log2e, ← EReal.coe_mul, ← EReal.coe_mul, ← EReal.coe_add, ← EReal.coe_add, ← EReal.coe_mul]
  refine congrArg _ ?_
  rw [add_mul, mul_assoc, Finset.sum_mul]
  refine congrArg (· + _) (Finset.sum_congr rfl fun d _ => by ring)

/-- The score of a query and a key of real numbers is a real. -/
theorem score_real (q k : Fin 64 → ℝ) (T : ℝ) :
    (∑ d, (k d : EReal) * (q d : EReal)) * ((1 / 8 : ℝ) : EReal) + (T : EReal) ≠ ⊤ := by
  have e2 : ∀ d, (k d : EReal) * (q d : EReal) = ((k d * q d : ℝ) : EReal) := fun d => (EReal.coe_mul _ _).symm
  simp only [e2]
  rw [coe_sum, ← EReal.coe_mul, ← EReal.coe_add]
  exact EReal.coe_ne_top _

variable (m : (ℓ : Loc nD τ sig) → Buf (Elt Ideal) ℓ) (ρ : Dev nD → PrngReg)

set_option maxHeartbeats 2000000 in
/-- THE KERNEL'S RESULT IS THE REFERENCE'S. -/
theorem attend_eq (c : Dev nD) (x3 : Vec Ideal S32 .f32) (x4 : Vec Ideal S32x32 .f32)
    (hq : ∀ i, ∃ a : ℝ, argQ m c i = (a : EReal)) (hk : ∀ i, ∃ a : ℝ, argK m c i = (a : EReal))
    (hs : ∀ i, ∃ a : ℝ, x3 i = (a : EReal)) (ht : ∀ i, ∃ a : ℝ, x4 i = (a : EReal)) :
    attendArr x3 (V1 m ρ c main_v5) (V1 m ρ c main_v13) (biasArr x4)
      = val_main_v96 (F := Ideal) (argQ m c) (argK m c) (argV m c) x3 x4 := by
  choose qr hqr using hq
  choose kr hkr using hk
  choose tr htr using ht
  funext y
  obtain ⟨n, l, rfl⟩ : ∃ (n : Fin 8192) (l : Fin 2048), y = ix2 n l := ⟨_, _, eq_ix2 y⟩
  obtain ⟨b, hb⟩ : ∃ b : Fin 4, b.val = n.val / 2048 := ⟨⟨n.val / 2048, by omega⟩, rfl⟩
  obtain ⟨nb, hnb⟩ : ∃ b : Fin 16, b.val = n.val / 128 % 16 := ⟨⟨n.val / 128 % 16, by omega⟩, rfl⟩
  obtain ⟨h, hh⟩ : ∃ b : Fin 8, b.val = l.val / 256 := ⟨⟨l.val / 256, by omega⟩, rfl⟩
  obtain ⟨g, hg⟩ : ∃ b : Fin 4, b.val = l.val / 64 % 4 := ⟨⟨l.val / 64 % 4, by omega⟩, rfl⟩
  obtain ⟨r, hr⟩ : ∃ b : Fin 128, b.val = n.val % 128 := ⟨⟨n.val % 128, by omega⟩, rfl⟩
  obtain ⟨d, hd⟩ : ∃ b : Fin 64, b.val = l.val % 64 := ⟨⟨l.val % 64, by omega⟩, rfl⟩
  obtain ⟨hd32, hhd⟩ : ∃ b : Fin 32, b.val = l.val / 64 := ⟨⟨l.val / 64, by omega⟩, rfl⟩
  rw [ref_row _ _ _ _ _ n l b nb h g r d hb hnb hh hg hr hd]
  have hL : attendArr x3 (V1 m ρ c main_v5) (V1 m ρ c main_v13) (biasArr x4) (ix2 n l)
      = attend2 x3 (V1 m ρ c main_v5) (V1 m ρ c main_v13) (biasArr x4) n hd32 d := by
    exact congrArg₂ (attend2 x3 (V1 m ρ c main_v5) (V1 m ρ c main_v13) (biasArr x4) n) (Fin.ext hhd.symm) (Fin.ext hd.symm)
  rw [hL]
  have hsink : val_main_v80 (F := Ideal) (argQ m c) (argK m c) x3 x4 (ix6 b nb h g r (Fin.last 256)) = x3 (ix1 hd32) := by
    rw [ref_scores, dif_neg (by simp)]
    exact congrArg x3 (congrArg ix1 (Fin.ext (by dsimp only; omega)))
  obtain ⟨t, ht⟩ := hs (ix1 hd32)
  rw [hsink, attend2, ht]
  -- a key's score, where it exists and is in the window
  have hK : ∀ cc : Fin 256, ¬ (cc.val < 128 ∧ n.val / 128 % 16 = 0) → ∀ d' : Fin 64,
      (V1 m ρ c main_v13 : Vec Ideal S8192x2048 .bf16) (ix2 (keyRow n cc) ⟨(kcol hd32 d').val, by have := (kcol hd32 d').isLt; omega⟩)
        = argK m c (ix3 b ⟨nb.val * 128 + cc.val - 128, by omega⟩ ⟨h.val * 64 + d'.val, by omega⟩) := by
    intro cc hcc d'
    rw [keyvals_apply, dif_pos (by exact (kcol hd32 d').isLt)]
    refine ix3_congr (argK m c) ?_ ?_ ?_
    · simp only [keyRow]; split <;> omega
    · simp only [keyRow]; split <;> omega
    · simp only [kcol]; omega
  have hVal : ∀ cc : Fin 256, ¬ (cc.val < 128 ∧ n.val / 128 % 16 = 0) →
      (V1 m ρ c main_v13 : Vec Ideal S8192x2048 .bf16) (ix2 (keyRow n cc) ⟨1024 + (kcol hd32 d).val, by have := (kcol hd32 d).isLt; omega⟩)
        = argV m c (ix3 b ⟨nb.val * 128 + cc.val - 128, by omega⟩ ⟨h.val * 64 + d.val, by omega⟩) := by
    intro cc hcc
    rw [keyvals_apply, dif_neg (by dsimp only; omega)]
    refine ix3_congr (argV m c) ?_ ?_ ?_
    · simp only [keyRow]; split <;> omega
    · simp only [keyRow]; split <;> omega
    · simp only [kcol]; omega
  have hQ : ∀ d' : Fin 64, (V1 m ρ c main_v5 : Vec Ideal S8192x2048 .bf16) (ix2 n (qcol hd32 d'))
      = (qr (ix3 b ⟨nb.val * 128 + r.val, by omega⟩ ⟨h.val * 256 + g.val * 64 + d'.val, by omega⟩) : EReal) * qscale := by
    intro d'
    rw [queries_apply, ← hqr]
    refine congrArg (· * qscale) (ix3_congr (argQ m c) ?_ ?_ ?_)
    · dsimp only; omega
    · dsimp only; omega
    · simp only [qcol]; omega
  -- the reference's score, by cases
  have hbot : ∀ cc : Fin 256, ¬ ((cc.val ≤ r.val + 128 ∧ r.val < cc.val) ∧ (0 < nb.val ∨ 128 ≤ cc.val)) →
      val_main_v80 (F := Ideal) (argQ m c) (argK m c) x3 x4 (ix6 b nb h g r cc.castSucc) = ⊥ := by
    intro cc hcc
    rw [ref_key, ref_mask, if_neg hcc, sel_zero]
  have hin : ∀ cc : Fin 256, ∀ hw : cc.val ≤ r.val + 128 ∧ r.val < cc.val, (0 < nb.val ∨ 128 ≤ cc.val) →
      val_main_v80 (F := Ideal) (argQ m c) (argK m c) x3 x4 (ix6 b nb h g r cc.castSucc)
        = (∑ d' : Fin 64, (kr (ix3 b ⟨nb.val * 128 + cc.val - 128, by omega⟩ ⟨h.val * 64 + d'.val, by omega⟩) : EReal)
            * (qr (ix3 b ⟨nb.val * 128 + r.val, by omega⟩ ⟨h.val * 256 + g.val * 64 + d'.val, by omega⟩) : EReal))
            * ((1 / 8 : ℝ) : EReal)
          + (tr (ix2 ⟨bucket (r.val + 128 - cc.val), bucket_lt ⟨r.val + 128 - cc.val, by omega⟩⟩ hd32) : EReal) := by
    intro cc hw he
    rw [ref_key, ref_mask, if_pos ⟨hw, he⟩, sel_one, ref_score,
      ref_bias _ _ _ _ ⟨r.val + 128 - cc.val, by omega⟩ (by dsimp only; omega), htr]
    refine congrArg₂ (· + ·) (congrArg (· * _) (Finset.sum_congr rfl fun d' _ => ?_)) ?_
    · rw [ref_keys _ _ _ _ _ _ (by omega), hkr, hqr]
    · exact ix2_congr (fun i => (tr i : EReal)) rfl (by dsimp only; omega)
  have hS : ∀ cc : Fin 256, val_main_v80 (F := Ideal) (argQ m c) (argK m c) x3 x4 (ix6 b nb h g r cc.castSucc) ≠ ⊤ := by
    intro cc
    by_cases hM : (cc.val ≤ r.val + 128 ∧ r.val < cc.val) ∧ (0 < nb.val ∨ 128 ≤ cc.val)
    · rw [hin cc hM.1 hM.2]; exact score_real _ _ _
    · rw [hbot cc hM]; exact bot_ne_top
  refine Eq.trans ?_ (row2_eq_row1 _ t (fun cc => (V1 m ρ c main_v13 : Vec Ideal S8192x2048 .bf16)
    (ix2 (keyRow n cc) ⟨1024 + (kcol hd32 d).val, by have := (kcol hd32 d).isLt; omega⟩)) _ hS ?_)
  · refine congrArg (fun S => row2 S _ _) (funext fun cc => ?_)
    by_cases hK0 : cc.val < 128 ∧ n.val / 128 % 16 = 0
    · rw [if_pos hK0, hbot cc (by omega), bot_mul_log2e]
    · rw [if_neg hK0]
      by_cases hw : cc.val ≤ r.val + 128 ∧ r.val < cc.val
      · rw [hin cc hw (by omega)]
        simp only [hK cc hK0, hQ, hkr]
        have hB : biasArr x4 (ix3 hd32 ⟨128 + n.val % 128, by omega⟩ ⟨256 + cc.val, by omega⟩)
            = (tr (ix2 ⟨bucket (r.val + 128 - cc.val), bucket_lt ⟨r.val + 128 - cc.val, by omega⟩⟩ hd32) : EReal) * log2e := by
          show biasAt (fun b => x4 (ix2 b hd32)) ⟨128 + n.val % 128, by omega⟩ ⟨256 + cc.val, by omega⟩ = _
          unfold biasAt
          rw [dif_pos (by dsimp only; omega), ← htr]
          refine congrArg (· * log2e) (ix2_congr x4 ?_ rfl)
          exact congrArg bucket (by dsimp only; omega)
        rw [hB]
        exact score_scale _ _ _
      · rw [hbot cc (fun h => hw h.1), bot_mul_log2e]
        have hB : biasArr x4 (ix3 hd32 ⟨128 + n.val % 128, by omega⟩ ⟨256 + cc.val, by omega⟩) = ⊥ := by
          show biasAt (fun b => x4 (ix2 b hd32)) ⟨128 + n.val % 128, by omega⟩ ⟨256 + cc.val, by omega⟩ = _
          unfold biasAt
          rw [dif_neg (by dsimp only; omega)]
        rw [hB, EReal.add_bot]
  · intro cc hne
    have hK0 : ¬ (cc.val < 128 ∧ n.val / 128 % 16 = 0) := fun h => hne (hbot cc (by omega))
    rw [hVal cc hK0, ref_values _ _ _ _ _ _ (by omega)]

end Cert.Attend
-- ==== Proof.Finite.lean ====
/-
  What the precondition says: an array whose magnitudes are all below infinity holds real numbers.
-/
module

public import proofs.«01_k».proof.Proof.Equal
public import proofs.«01_k».proof.Proof.Gen.Pre_finite
public import Idealize.ShloMosaic.Lib.ReduceAll

@[expose] public section

set_option maxRecDepth 16384

noncomputable section

namespace Cert.Attend

open Idealize.ShloMosaic Idealize.ShloMosaic.TcCoe Idealize.ShloMosaic.Tactic

/-- The pattern of the infinity the precondition compares with. -/
theorem ofBits_pos_inf : Ideal.ofBits FTy.f32 0x7F800000#32 = (⊤ : EReal) := by
  simp [Ideal.ofBits, Ideal.ieee]

/-- A value whose magnitude is below infinity is a real number. -/
theorem real_of_abs_lt (x : EReal) (h : max x (-x) < ⊤) : ∃ a : ℝ, x = (a : EReal) := by
  induction x with
  | bot => simp at h
  | top => simp at h
  | coe a => exact ⟨a, rfl⟩

/-- An array of which "every magnitude is below infinity" holds is an array of real numbers. -/
theorem real_of_all {s t : Shape} [Subsingleton t.Idx] {axes : List (Fin s.rank)} (x y : FVec Ideal s .f32)
    (hy : ∀ i, y i = (⊤ : EReal)) (init : IVec t 1) (h : s.ReducesTo axes t) (hu : 0 < t.numel) (j : t.Idx)
    (hr : Host.reduce IntOp.andi (cmpf .olt (Host.absf x) y) init h hu j = 1#1) (i : s.Idx) : ∃ a : ℝ, x i = (a : EReal) := by
  have h1 : cmpf .olt (Host.absf x) y i = 1#1 := Host.reduce_andi_all _ _ h hu j hr i
  have h2 : BitVec.ofBool (decide (max (x i) (-(x i)) < y i)) = 1#1 := h1
  rw [hy i] at h2
  refine real_of_abs_lt _ (by_contra fun hn => ?_)
  rw [decide_eq_false hn] at h2
  exact absurd h2 (by decide)

/-- The bits of a conjunction that is 1 are both 1. -/
theorem andi_split (a b : BitVec 1) (h : IntOp.andi a b = 1#1) : a = 1#1 ∧ b = 1#1 := by
  revert a b; decide

/-- The precondition: queries, keys, sinks and table hold real numbers. -/
theorem real_of_finite (x0 : FVec Ideal Cert.Pre_finite.S4x2048x2048 .f32) (x1 x2 : FVec Ideal Cert.Pre_finite.S4x2048x512 .f32)
    (x3 : FVec Ideal Cert.Pre_finite.S32 .f32) (x4 : FVec Ideal Cert.Pre_finite.S32x32 .f32)
    (h : Cert.Pre_finite.fn (F := Ideal) x0 x1 x2 x3 x4 = fun _ => 1#1) :
    (∀ i, ∃ a : ℝ, x0 i = (a : EReal)) ∧ (∀ i, ∃ a : ℝ, x1 i = (a : EReal)) ∧ (∀ i, ∃ a : ℝ, x3 i = (a : EReal))
      ∧ ∀ i, ∃ a : ℝ, x4 i = (a : EReal) := by
  have hs : Subsingleton Cert.Pre_finite.S_.Idx := ⟨fun a b => funext fun k => k.elim0⟩
  have h0 := congrFun h (Shape.Idx.first Cert.Pre_finite.Facts.h_S_)
  obtain ⟨h1, ht⟩ := andi_split _ _ h0
  obtain ⟨h2, hs'⟩ := andi_split _ _ h1
  obtain ⟨hq, hk⟩ := andi_split _ _ h2
  exact ⟨real_of_all x0 _ (fun _ => ofBits_pos_inf) _ _ _ _ hq, real_of_all x1 _ (fun _ => ofBits_pos_inf) _ _ _ _ hk,
    real_of_all x3 _ (fun _ => ofBits_pos_inf) _ _ _ _ hs', real_of_all x4 _ (fun _ => ofBits_pos_inf) _ _ _ _ ht⟩

end Cert.Attend
-- ==== Proof.Claims.lean ====
/-
  The claims about the sliding-window attention.
-/
module

public import proofs.«01_k».proof.Defs
public import proofs.«01_k».proof.Proof.Result
public import proofs.«01_k».proof.Proof.Finite
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Quiescent

@[expose] public section

noncomputable section

namespace Cert.Proof.AttendClaims

open Idealize.ShloMosaic Idealize.ShloMosaic.TcCoe Idealize.SL.Sem

/-- The kernel as shipped ends from every memory, its arguments unchanged. -/
theorem frame_p : Cert.quiescent_Kernel := fun m ρ _ => Cert.Kernel.Gen.frame m ρ

/-- The idealized kernel ends from every memory, its arguments unchanged. -/
theorem frame_pi : Cert.quiescent_KernelIdeal := fun m ρ _ => Cert.KernelIdeal.Gen.frame m ρ

/-- The same where the precondition holds. -/
theorem frame_pi_finite : Cert.quiescent_KernelIdeal_pre_finite := fun m ρ _ => Cert.KernelIdeal.Gen.frame m ρ

/-- The reference ends from every memory, its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same where the precondition holds. -/
theorem frame_ri_finite : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant, `log2e`, rounds the reciprocal of the logarithm of two. -/
theorem preserves : Cert.preserves_Kernel_KernelIdeal :=
  IdealRules.named_const.statement Cert.KernelIdeal.κ "log2e" .f32 0x3FB8AA3B#32 (((Real.log 2)⁻¹ : ℝ) : EReal) rfl

/-- Over the extended reals, kernel and reference end with one result where queries, keys, sinks and table are real. -/
theorem algebraic : Cert.algebraic_KernelIdeal_ReferenceIdeal_pre_finite := by
  intro m ρ m' ρ' hpre hagree
  refine ⟨_, Cert.Attend.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hs, ht⟩ := Cert.Attend.real_of_finite _ _ _ _ _ (hpre c)
  obtain ⟨e0, e1, e2, e3, e4⟩ := hagree c
  rw [Cert.ReferenceIdeal.Read.val_main_v96_eq m' c, e0, e1, e2, e3, e4]
  exact (Cert.Attend.attend_eq m ρ c _ _ hq hk hs ht).symm

end Cert.Proof.AttendClaims

end
-- ==== Proof.UpRows.lean ====
/-
  A causal convolution of three taps and a gate, column by column over the extended reals: the arithmetic both programs of
  the up-projection's claim come to, and the convolution as the kernel does it, 512 rows at a time.
-/
module

public import Idealize.ShloMosaic.PureOps.Ideal.Laws
public import Idealize.ShloMosaic.Lib.Pointwise

@[expose] public section

noncomputable section

namespace Cert.Up

open Idealize.ShloMosaic

/-- The entry some rows earlier in a column, zero before the first row. -/
def back (u : Fin 2048 → EReal) (k : ℕ) (n : Fin 2048) : EReal := if k ≤ n.val then u ⟨n.val - k, by omega⟩ else 0

/-- The convolution of a column with three taps, the last on the row itself. -/
def conv (c : Fin 3 → EReal) (u : Fin 2048 → EReal) (n : Fin 2048) : EReal := c 0 * back u 2 n + c 1 * back u 1 n + c 2 * u n

/-- A number times its logistic value. -/
def silu (x : EReal) : EReal := x * Ideal.div 1 (1 + Ideal.exp (-x))

/-- The gated product of two columns, each convolved with its taps. -/
def gated (cg cv : Fin 3 → EReal) (ug uv : Fin 2048 → EReal) (n : Fin 2048) : EReal := silu (conv cg ug n) * conv cv uv n

/-! ## 512 rows at a time -/

/-- Row `r` of the group `s` of 512 rows. -/
def row (s : Fin 4) (r : Fin 512) : Fin 2048 := ⟨512 * s.val + r.val, by omega⟩

theorem ge_one (r : Fin 512) : IntOp.cmpi .sge (BitVec.ofNat 32 r.val) 1#32 = if 1 ≤ r.val then 1#1 else 0#1 := by
  revert r; decide +kernel
theorem ge_two (r : Fin 512) : IntOp.cmpi .sge (BitVec.ofNat 32 r.val) 2#32 = if 2 ≤ r.val then 1#1 else 0#1 := by
  revert r; decide +kernel
theorem eq_one (r : Fin 512) : IntOp.cmpi .eq (BitVec.ofNat 32 r.val) 1#32 = if r.val = 1 then 1#1 else 0#1 := by
  revert r; decide +kernel

theorem select_one (x y : EReal) : Scalar.select 1#1 x y = x := rfl
theorem select_zero (x y : EReal) : Scalar.select 0#1 x y = y := rfl

/-- The two entries before a group's first row, as the kernel carries them from the group before. -/
structure Carry (u : Fin 2048 → EReal) (s : Fin 4) (p0 p1 : EReal) : Prop where
  two : p0 = back u 2 (row s 0)
  one : p1 = back u 1 (row s 0)
  one' : p1 = back u 2 (row s 1)

theorem carry_first (u : Fin 2048 → EReal) : Carry u 0 0 0 := ⟨rfl, rfl, rfl⟩

theorem carry_next (u : Fin 2048 → EReal) (s s' : Fin 4) (h : s'.val = s.val + 1) : Carry u s' (u (row s 510)) (u (row s 511)) := by
  have e0 : (row s' 0).val = 512 * s'.val := rfl
  have e1 : (row s' 1).val = 512 * s'.val + 1 := rfl
  refine ⟨?_, ?_, ?_⟩
  · unfold back; rw [if_pos (by omega)]
    exact congrArg u (Fin.ext (by show 512 * s.val + 510 = _; simp only [e0]; omega))
  · unfold back; rw [if_pos (by omega)]
    exact congrArg u (Fin.ext (by show 512 * s.val + 511 = _; simp only [e0]; omega))
  · unfold back; rw [if_pos (by omega)]
    exact congrArg u (Fin.ext (by show 512 * s.val + 511 = _; simp only [e1]; omega))

/-- The entry one row earlier: from the same group, or carried. -/
theorem shift_one (u : Fin 2048 → EReal) (s : Fin 4) {p0 p1 : EReal} (h : Carry u s p0 p1) (r : Fin 512) (hr : (r.val + 512 - 1) % 512 < 512) :
    Scalar.select (IntOp.cmpi .sge (BitVec.ofNat 32 r.val) 1#32) (u (row s ⟨(r.val + 512 - 1) % 512, hr⟩)) p1 = back u 1 (row s r) := by
  rw [ge_one]
  by_cases h1 : 1 ≤ r.val
  · rw [if_pos h1, select_one]
    unfold back; rw [if_pos (by show 1 ≤ 512 * s.val + r.val; omega)]
    exact congrArg u (Fin.ext (by show 512 * s.val + (r.val + 512 - 1) % 512 = 512 * s.val + r.val - 1; omega))
  · rw [if_neg h1, select_zero, h.one, show r = 0 from Fin.ext (by show r.val = 0; omega)]

/-- The entry two rows earlier: from the same group, or one of the two carried. -/
theorem shift_two (u : Fin 2048 → EReal) (s : Fin 4) {p0 p1 : EReal} (h : Carry u s p0 p1) (r : Fin 512) (hr : (r.val + 512 - 2) % 512 < 512) :
    Scalar.select (IntOp.cmpi .sge (BitVec.ofNat 32 r.val) 2#32) (u (row s ⟨(r.val + 512 - 2) % 512, hr⟩))
      (Scalar.select (IntOp.cmpi .eq (BitVec.ofNat 32 r.val) 1#32) p1 p0) = back u 2 (row s r) := by
  rw [ge_two, eq_one]
  by_cases h2 : 2 ≤ r.val
  · rw [if_pos h2, select_one]
    unfold back; rw [if_pos (by show 2 ≤ 512 * s.val + r.val; omega)]
    exact congrArg u (Fin.ext (by show 512 * s.val + (r.val + 512 - 2) % 512 = 512 * s.val + r.val - 2; omega))
  · rw [if_neg h2, select_zero]
    by_cases h1 : r.val = 1
    · rw [if_pos h1, select_one, h.one', show r = 1 from Fin.ext h1]
    · rw [if_neg h1, select_zero, h.two, show r = 0 from Fin.ext (by show r.val = 0; omega)]

/-! In the first group nothing is carried, and the tap may be multiplied in first. -/

theorem select_mul (b : BitVec 1) (c x : EReal) : Scalar.select b (c * x) 0 = c * Scalar.select b x 0 := by
  unfold Scalar.select
  split
  · rfl
  · rw [mul_zero]

theorem first_one (c : EReal) (u : Fin 2048 → EReal) (r : Fin 512) (hr : (r.val + 512 - 1) % 512 < 512) :
    Scalar.select (IntOp.cmpi .sge (BitVec.ofNat 32 r.val) 1#32) (c * u (row 0 ⟨(r.val + 512 - 1) % 512, hr⟩)) 0
      = c * back u 1 (row 0 r) := by
  rw [select_mul, shift_one u 0 (carry_first u) r hr]

theorem first_two (c : EReal) (u : Fin 2048 → EReal) (r : Fin 512) (hr : (r.val + 512 - 2) % 512 < 512) :
    Scalar.select (IntOp.cmpi .sge (BitVec.ofNat 32 r.val) 2#32) (c * u (row 0 ⟨(r.val + 512 - 2) % 512, hr⟩)) 0
      = c * back u 2 (row 0 r) := by
  rw [← shift_two u 0 (carry_first u) r hr, select_mul]
  congr 2
  unfold Scalar.select
  split <;> rfl

end Cert.Up
end
-- ==== Proof.UpRef.lean ====
/-
  The reference's gated up-projection, read at an index.
-/
module

public import proofs.«01_k».proof.Proof.UpRows
public import proofs.«01_k».proof.Proof.Gen.UpRefIdeal.Read

@[expose] public section

set_option maxRecDepth 16384

noncomputable section

namespace Cert.Up

open Idealize.ShloMosaic Idealize.ShloMosaic.TcCoe Idealize.ShloMosaic.Tactic
open Cert.UpRefIdeal Cert.UpRefIdeal.Gen Cert.UpRefIdeal.Read

variable (x0 : Vec Ideal S4x2048x2048 .f32) (x1 : Vec Ideal S4x2048x11264 .f32) (x2 : Vec Ideal S4x3x11264 .f32)
  (x3 : Vec Ideal S4x5632x2048 .f32)

/-- A column of the projected rows of a batch element. -/
def refCol (b : Fin 4) (l : Fin 11264) (n : Fin 2048) : EReal := ∑ k : Fin 2048, x0 (ix3 b n k) * x1 (ix3 0 k l)
/-- A column's taps. -/
def refTap (l : Fin 11264) (a : Fin 3) : EReal := x2 (ix3 0 a l)

theorem ref_dot (b : Fin 4) (n : Fin 2048) (l : Fin 11264) : val_main_v4 (F := Ideal) x0 x1 (ix3 b n l) = refCol x0 x1 b l n := by
  pointwise [val_main_v4, val_main_v1, val_main_v0]
  rfl

theorem ref_pad (b : Fin 4) (n : Fin 2050) (l : Fin 11264) : val_main_v5 (F := Ideal) x0 x1 (ix3 b n l)
    = if h : 2 ≤ n.val then refCol x0 x1 b l ⟨n.val - 2, by omega⟩ else 0 := by
  pointwise [val_main_v5, val_main_call0_v0, val_main_c]
  by_cases h : 2 ≤ n.val
  · rw [dif_pos ⟨h, by omega⟩, dif_pos h, ref_dot]
  · rw [dif_neg (fun e => h e.1), dif_neg h]
    show ((((0#32 : BitVec 32).toInt : ℤ) : ℝ) : EReal) = 0
    norm_num

theorem ref_conv (b : Fin 4) (n : Fin 2048) (l : Fin 11264) : val_main_v25 (F := Ideal) x0 x1 x2 (ix3 b n l)
    = conv (refTap x2 l) (refCol x0 x1 b l) n := by
  pointwise [val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v3, val_main_v2]
  rw [ref_pad, ref_pad, ref_pad]
  unfold conv back
  have e2 : (if h : 2 ≤ 2 + n.val then refCol x0 x1 b l ⟨2 + n.val - 2, by omega⟩ else 0) = refCol x0 x1 b l n := by
    rw [dif_pos (by omega)]; exact congrArg _ (Fin.ext (by show 2 + n.val - 2 = n.val; omega))
  have e1 : (if h : 2 ≤ 1 + n.val then refCol x0 x1 b l ⟨1 + n.val - 2, by omega⟩ else 0)
      = if 1 ≤ n.val then refCol x0 x1 b l ⟨n.val - 1, by omega⟩ else 0 := by
    by_cases h : 1 ≤ n.val
    · rw [dif_pos (by omega), if_pos h]; exact congrArg _ (Fin.ext (by show 1 + n.val - 2 = n.val - 1; omega))
    · rw [dif_neg (by omega), if_neg h]
  have e0 : (if h : 2 ≤ n.val then refCol x0 x1 b l ⟨n.val - 2, by omega⟩ else 0)
      = if 2 ≤ n.val then refCol x0 x1 b l ⟨n.val - 2, by omega⟩ else 0 := by
    by_cases h : 2 ≤ n.val
    · rw [dif_pos h, if_pos h]
    · rw [dif_neg h, if_neg h]
  rw [← e0, ← e1]
  refine (congrArg (fun z => _ + x2 (ix3 0 2 l) * z) e2).trans ?_
  rfl

/-- The gated product of two columns of a batch element. -/
abbrev refGated (b : Fin 4) (n : Fin 2048) (l : Fin 5632) : EReal :=
  gated (refTap x2 ⟨l.val, by omega⟩) (refTap x2 ⟨5632 + l.val, by omega⟩) (refCol x0 x1 b ⟨l.val, by omega⟩)
    (refCol x0 x1 b ⟨5632 + l.val, by omega⟩) n

/-- The reference's first result. -/
theorem ref_first (n : Fin 8192) (l : Fin 5632) : val_main_v31 (F := Ideal) x0 x1 x2 (ix2 n l)
    = refGated x0 x1 x2 ⟨n.val / 2048, by omega⟩ ⟨n.val % 2048, by omega⟩ l := by
  pointwise [val_main_v31, val_main_v30, val_main_v29, val_main_v28, val_main_v27, val_main_v26, val_main_call1_v5,
   val_main_call1_v4, val_main_call1_v3, val_main_call1_v2, val_main_call1_v1, val_main_call1_v0, val_main_call1_cst, val_main_call1_cst_0]
  rw [ref_conv, ref_conv]
  rfl

/-- The reference's second result. -/
theorem ref_second (n : Fin 5632) (l : Fin 2048) : val_main_v33 (F := Ideal) x3 (ix3 0 n l) = x3 (ix3 0 n l) := by
  pointwise [val_main_v33, val_main_v32]

end Cert.Up
end
-- ==== Proof.UpBody.lean ====
/-
  The kernel's gated up-projection: the body's run at a grid point, and the buffers it leaves.
-/
module

public import proofs.«01_k».proof.Proof.Gen.UpIdeal.Skeleton
public import proofs.«01_k».proof.Proof.Gen.UpIdeal.Frame

@[expose] public section

set_option maxRecDepth 16384

noncomputable section

namespace Cert.UpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.UpIdeal Cert.UpIdeal.Gen

variable {F : FTy → Type} [FloatOps F]

local notation "𝕄" => MT nD τ sig Unit (Elt F) ℕ (UR sig nD τ) ℕ

/-! The rectangles the body loads and stores: four groups of 512 rows of the activations and of the result, the others whole. -/
abbrev ra0 : Rect S2048x2048 := Rect.unit (s := S2048x2048) ![0, 0] S512x2048.size inb_S2048x2048_S512x2048_0_0
abbrev ra1 : Rect S2048x2048 := Rect.unit (s := S2048x2048) ![512, 0] S512x2048.size inb_S2048x2048_S512x2048_512_0
abbrev ra2 : Rect S2048x2048 := Rect.unit (s := S2048x2048) ![1024, 0] S512x2048.size inb_S2048x2048_S512x2048_1024_0
abbrev ra3 : Rect S2048x2048 := Rect.unit (s := S2048x2048) ![1536, 0] S512x2048.size inb_S2048x2048_S512x2048_1536_0
abbrev rw : Rect S1x2048x512 := Rect.unit (s := S1x2048x512) ![0, 0, 0] S1x2048x512.size inb_S1x2048x512_S1x2048x512_0_0_0
abbrev rc : Rect S1x3x512 := Rect.unit (s := S1x3x512) ![0, 0, 0] S1x3x512.size inb_S1x3x512_S1x3x512_0_0_0
abbrev rd : Rect S1x512x2048 := Rect.unit (s := S1x512x2048) ![0, 0, 0] S1x512x2048.size inb_S1x512x2048_S1x512x2048_0_0_0
abbrev ro0 : Rect S2048x512 := Rect.unit (s := S2048x512) ![0, 0] S512x512.size inb_S2048x512_S512x512_0_0
abbrev ro1 : Rect S2048x512 := Rect.unit (s := S2048x512) ![512, 0] S512x512.size inb_S2048x512_S512x512_512_0
abbrev ro2 : Rect S2048x512 := Rect.unit (s := S2048x512) ![1024, 0] S512x512.size inb_S2048x512_S512x512_1024_0
abbrev ro3 : Rect S2048x512 := Rect.unit (s := S2048x512) ![1536, 0] S512x512.size inb_S2048x512_S512x512_1536_0

/-! The values the body computes, from the blocks of its input windows. -/
section values
variable (x0 : Vec F S2048x2048 .bf16) (x1 x2 : Vec F S1x2048x512 .f32) (x3 x4 : Vec F S1x3x512 .f32)

/-- The two halves of the weights' columns and of the convolution's taps. -/
abbrev wg : FVec F S2048x512 .bf16 := k0_pay2 (View.ld x1 rw)
abbrev wv : FVec F S2048x512 .bf16 := k0_pay3 (View.ld x2 rw)
abbrev cg : FVec F S3x512 .f32 := k0_pay4 (View.ld x3 rc)
abbrev cv : FVec F S3x512 .f32 := k0_pay5 (View.ld x4 rc)
abbrev it : IVec S512x1 32 := iota .tc S512x1 32 [0] iota_S512x1_d0_w32
/-- The products of each group of rows with the two halves. -/
abbrev g0 : FVec F S512x512 .f32 := k0_pay8 (View.ld x1 rw) (View.ld x0 ra0)
abbrev v0 : FVec F S512x512 .f32 := k0_pay9 (View.ld x2 rw) (View.ld x0 ra0)
abbrev g1 : FVec F S512x512 .f32 := k0_pay25 (wg x1) (View.ld x0 ra1)
abbrev v1 : FVec F S512x512 .f32 := k0_pay26 (wv x2) (View.ld x0 ra1)
abbrev g2 : FVec F S512x512 .f32 := k0_pay39 (wg x1) (View.ld x0 ra2)
abbrev v2 : FVec F S512x512 .f32 := k0_pay40 (wv x2) (View.ld x0 ra2)
abbrev v3 : FVec F S512x512 .f32 := k0_pay46 (wv x2) (View.ld x0 ra3)

/-- What the body stores to each group of rows. -/
def piece0 : FVec F S512x512 .bf16 :=
  k0_pay21 (cv x4) (v0 x0 x2)
    (k0_pay14 (cg x3) k0_pay6 (g0 x0 x1) (k0_pay10 (View.ld x1 rw) (View.ld x0 ra0)) k0_pay11 (k0_pay12 (View.ld x1 rw) (View.ld x0 ra0)) k0_pay13)
    (k0_pay15 it k0_pay6 (v0 x0 x2)) (k0_pay16 it) (k0_pay17 (v0 x0 x2)) (k0_pay18 it) (k0_pay19 k0_pay6) (k0_pay20 k0_pay6)
def piece1 : FVec F S512x512 .bf16 :=
  k0_pay35 (cv x4) (v1 x0 x2)
    (k0_pay31 (cg x3) (g1 x0 x1) (k0_pay27 it (wg x1) (g0 x0 x1) (View.ld x0 ra1)) (k0_pay28 it) (k0_pay29 (wg x1) (View.ld x0 ra1)) (k0_pay30 it (g0 x0 x1)))
    (k0_pay32 it (k0_pay23 (v0 x0 x2)) (v1 x0 x2)) (k0_pay33 it (cv x4) (k0_pay23 (v0 x0 x2)) (v1 x0 x2)) (k0_pay34 (cv x4))
def piece2 : FVec F S512x512 .bf16 :=
  k0_pay43 it (cg x3) (cv x4) (k0_pay37 (v1 x0 x2)) (g2 x0 x1) (v2 x0 x2)
    (k0_pay41 it (wg x1) (cg x3) (g1 x0 x1) (View.ld x0 ra2)) (k0_pay42 it (wg x1) (cg x3) (g1 x0 x1) (View.ld x0 ra2))
def piece3 : FVec F S512x512 .bf16 :=
  k0_pay49 it (cv x4) (k0_pay44 (v2 x0 x2)) (v3 x0 x2)
    (k0_pay47 it (wg x1) (cg x3) (g2 x0 x1) (View.ld x0 ra3)) (k0_pay48 it (wg x1) (cg x3) (g2 x0 x1) (View.ld x0 ra3))

/-- The result's buffer after the body. -/
def out6 : Vec F S2048x512 .bf16 :=
  View.canon [⟨ro3, piece3 x0 x1 x2 x3 x4⟩, ⟨ro2, piece2 x0 x1 x2 x3 x4⟩, ⟨ro1, piece1 x0 x1 x2 x3 x4⟩, ⟨ro0, piece0 x0 x1 x2 x3 x4⟩]
end values

/-- The down-projection weights' buffer after the body, at the points that write it. -/
def out7 (x5 : Vec F S1x512x2048 .f32) : Vec F S1x512x2048 .bf16 := View.canon [⟨rd, k0_pay1 (View.ld x5 rd)⟩]

/-- The four groups of rows cover the result's buffer. -/
theorem cover6 (p0 p1 p2 p3 : Vec F S512x512 .bf16) (y : S2048x512.Idx) :
    ∃ pc ∈ ([⟨ro3, p0⟩, ⟨ro2, p1⟩, ⟨ro1, p2⟩, ⟨ro0, p3⟩] : List (View.Piece (Elt F) S2048x512 .bf16)), y ∈ pc.1.set :=
  View.cover_of_tiled [⟨ro3, p0⟩, ⟨ro2, p1⟩, ⟨ro1, p2⟩, ⟨ro0, p3⟩] S512x512.size (by rfl) y
/-- The one store covers the weights' buffer. -/
theorem cover7 (p0 : Vec F S1x512x2048 .bf16) (y : S1x512x2048.Idx) :
    ∃ pc ∈ ([⟨rd, p0⟩] : List (View.Piece (Elt F) S1x512x2048 .bf16)), y ∈ pc.1.set :=
  View.cover_of_tiled [⟨rd, p0⟩] S1x512x2048.size (by rfl) y

set_option maxHeartbeats 4000000 in
/-- The body at a point that writes the weights: from whole buffers, the inputs kept, both results at their values. -/
theorem run_first (c : Dev nD) (E : Set ℕ) (i : grid0.Coords) (hc : k0_cond1 i = 1#1) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x512x2048 .f32) (harg7 : arg7.IsWhole) (arg8 : Memref sig .tc .vmem S2048x512 .bf16) (harg8 : arg8.IsWhole) (arg9 : Memref sig .tc .vmem S1x512x2048 .bf16) (harg9 : arg9.IsWhole)
    (x0 : Vec F S2048x2048 .bf16) (x1 x2 : Vec F S1x2048x512 .f32) (x3 x4 : Vec F S1x3x512 .f32) (x5 : Vec F S1x512x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x1 x2 x3 x4) ∗ owns (c : Thread nD τ) arg9 fullShare (out7 x5)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part8_eq_skeleton]; unfold k0_part8_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _ _ _ _)
  iexists _; isplitr
  swap; · iexact H7
  ipureintro
  exact View.read_writes_eq_canon _ _ _ (cover7 _)

set_option maxHeartbeats 4000000 in
/-- The body at a point that does not: the weights' buffer as it was found. -/
theorem run_other (c : Dev nD) (E : Set ℕ) (i : grid0.Coords) (hc : ¬ k0_cond1 i = 1#1) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x512x2048 .f32) (harg7 : arg7.IsWhole) (arg8 : Memref sig .tc .vmem S2048x512 .bf16) (harg8 : arg8.IsWhole) (arg9 : Memref sig .tc .vmem S1x512x2048 .bf16) (harg9 : arg9.IsWhole)
    (x0 : Vec F S2048x2048 .bf16) (x1 x2 : Vec F S1x2048x512 .f32) (x3 x4 : Vec F S1x3x512 .f32) (x5 : Vec F S1x512x2048 .f32) (x7 : Vec F S1x512x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x1 x2 x3 x4) ∗ owns (c : Thread nD τ) arg9 fullShare x7) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part8_eq_skeleton]; unfold k0_part8_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _ _ _ _)
  iexists f7; isplitr; · ipureintro; exact hf7
  iexact H7

end Cert.UpRun

end
-- ==== Proof.UpPieces.lean ====
/-
  What the gated up-projection's body stores to each group of rows, read at an index.
-/
module

public import proofs.«01_k».proof.Proof.UpRows
public import proofs.«01_k».proof.Proof.UpBody
public import Idealize.ShloMosaic.Lib.Pipeline.ValueKit.Geometry

@[expose] public section

set_option maxRecDepth 16384

noncomputable section

namespace Cert.Up

open Idealize.ShloMosaic Idealize.ShloMosaic.TcCoe Idealize.ShloMosaic.Tactic Idealize.ShloMosaic.Pipeline
open Cert.UpIdeal Cert.UpIdeal.Gen Cert.UpRun

variable (x0 : Vec Ideal S2048x2048 .bf16) (x1 x2 : Vec Ideal S1x2048x512 .f32) (x3 x4 : Vec Ideal S1x3x512 .f32)

/-- A column of the rows' product with a block of weights. -/
def col (w : Vec Ideal S1x2048x512 .f32) (l : Fin 512) (n : Fin 2048) : EReal := ∑ k : Fin 2048, x0 (ix2 n k) * w (ix3 0 k l)
/-- A column's taps. -/
def tap (c : Vec Ideal S1x3x512 .f32) (l : Fin 512) (a : Fin 3) : EReal := c (ix3 0 a l)

/-! Loads over whole buffers give the buffers. -/

theorem load_w (w : Vec Ideal S1x2048x512 .f32) : View.ld w rw = w :=
  View.ld_unit_lit (S := S1x2048x512) (off := ![0, 0, 0]) _ w (by decide)
theorem load_c (c : Vec Ideal S1x3x512 .f32) : View.ld c rc = c :=
  View.ld_unit_lit (S := S1x3x512) (off := ![0, 0, 0]) _ c (by decide)

/-! The products of the groups of rows with the two blocks of weights. -/

theorem g0_apply (r l : Fin 512) : g0 x0 x1 (ix2 r l) = col x0 x1 l (row 0 r) := by
  pointwise [g0, wg, wv, k0_pay8, k0_pay7, k0_pay2]
  rw [show row 0 r = ⟨r.val, by omega⟩ from Fin.ext (by show 512 * 0 + r.val = r.val; omega)]
  rfl
theorem v0_apply (r l : Fin 512) : v0 x0 x2 (ix2 r l) = col x0 x2 l (row 0 r) := by
  pointwise [v0, wg, wv, k0_pay9, k0_pay7, k0_pay3]
  rw [show row 0 r = ⟨r.val, by omega⟩ from Fin.ext (by show 512 * 0 + r.val = r.val; omega)]
  rfl
theorem g1_apply (r l : Fin 512) : g1 x0 x1 (ix2 r l) = col x0 x1 l (row 1 r) := by
  pointwise [g1, wg, wv, k0_pay25, k0_pay24, k0_pay2]
  rfl
theorem v1_apply (r l : Fin 512) : v1 x0 x2 (ix2 r l) = col x0 x2 l (row 1 r) := by
  pointwise [v1, wg, wv, k0_pay26, k0_pay24, k0_pay3]
  rfl
theorem g2_apply (r l : Fin 512) : g2 x0 x1 (ix2 r l) = col x0 x1 l (row 2 r) := by
  pointwise [g2, wg, wv, k0_pay39, k0_pay38, k0_pay2]
  rfl
theorem v2_apply (r l : Fin 512) : v2 x0 x2 (ix2 r l) = col x0 x2 l (row 2 r) := by
  pointwise [v2, wg, wv, k0_pay40, k0_pay38, k0_pay3]
  rfl
theorem v3_apply (r l : Fin 512) : v3 x0 x2 (ix2 r l) = col x0 x2 l (row 3 r) := by
  pointwise [v3, wg, wv, k0_pay46, k0_pay45, k0_pay3]
  rfl
/-- What is stored to the first group of rows. -/
theorem piece0_apply (r l : Fin 512) : piece0 x0 x1 x2 x3 x4 (ix2 r l)
    = gated (tap x3 l) (tap x4 l) (col x0 x1 l) (col x0 x2 l) (row 0 r) := by
  pointwise [piece0, it, cg, cv, wg, k0_pay4, k0_pay5, k0_pay21, k0_pay14, k0_pay10, k0_pay11, k0_pay12, k0_pay13, k0_pay15, k0_pay16, k0_pay17, k0_pay18, k0_pay19, k0_pay20, k0_pay6]
  simp only [load_c, g0_apply, v0_apply, g1_apply, v1_apply, g2_apply, v2_apply, v3_apply, zero_sub]
  rw [first_two _ (col x0 x1 l), first_one _ (col x0 x1 l), first_two _ (col x0 x2 l), first_one _ (col x0 x2 l)]
  rfl

/-- What is stored to the second group of rows. -/
theorem piece1_apply (r l : Fin 512) : piece1 x0 x1 x2 x3 x4 (ix2 r l)
    = gated (tap x3 l) (tap x4 l) (col x0 x1 l) (col x0 x2 l) (row 1 r) := by
  pointwise [piece1, it, cg, cv, wg, k0_pay4, k0_pay5, k0_pay35, k0_pay31, k0_pay27, k0_pay28, k0_pay29, k0_pay30, k0_pay32, k0_pay33, k0_pay34, k0_pay22, k0_pay23]
  simp only [load_c, g0_apply, v0_apply, g1_apply, v1_apply, g2_apply, v2_apply, v3_apply, zero_sub]
  rw [shift_one (col x0 x1 l) 1 (carry_next _ 0 1 rfl), shift_two (col x0 x1 l) 1 (carry_next _ 0 1 rfl), shift_one (col x0 x2 l) 1 (carry_next _ 0 1 rfl),
    shift_two (col x0 x2 l) 1 (carry_next _ 0 1 rfl)]
  rfl

/-- What is stored to the third group of rows. -/
theorem piece2_apply (r l : Fin 512) : piece2 x0 x1 x2 x3 x4 (ix2 r l)
    = gated (tap x3 l) (tap x4 l) (col x0 x1 l) (col x0 x2 l) (row 2 r) := by
  pointwise [piece2, it, cg, cv, k0_pay4, k0_pay5, k0_pay43, k0_pay41, k0_pay42, k0_pay36, k0_pay37]
  simp only [load_c, g0_apply, v0_apply, g1_apply, v1_apply, g2_apply, v2_apply, v3_apply, zero_sub]
  rw [shift_one (col x0 x1 l) 2 (carry_next _ 1 2 rfl), shift_two (col x0 x1 l) 2 (carry_next _ 1 2 rfl), shift_one (col x0 x2 l) 2 (carry_next _ 1 2 rfl),
    shift_two (col x0 x2 l) 2 (carry_next _ 1 2 rfl)]
  rfl

/-- What is stored to the fourth group of rows. -/
theorem piece3_apply (r l : Fin 512) : piece3 x0 x1 x2 x3 x4 (ix2 r l)
    = gated (tap x3 l) (tap x4 l) (col x0 x1 l) (col x0 x2 l) (row 3 r) := by
  pointwise [piece3, it, cg, cv, wg, k0_pay4, k0_pay5, k0_pay49, k0_pay47, k0_pay48, k0_pay44, k0_pay45, k0_pay2]
  simp only [load_c, g0_apply, v0_apply, g1_apply, v1_apply, g2_apply, v2_apply, v3_apply, zero_sub]
  have h1 := carry_next (col x0 x1 l) 2 3 rfl
  have h2 := carry_next (col x0 x2 l) 2 3 rfl
  unfold gated silu conv
  rw [← shift_one _ 3 h1 r (Nat.mod_lt _ (by decide)), ← shift_two _ 3 h1 r (Nat.mod_lt _ (by decide)),
    ← shift_one _ 3 h2 r (Nat.mod_lt _ (by decide)), ← shift_two _ 3 h2 r (Nat.mod_lt _ (by decide))]
  rfl

end Cert.Up
end
-- ==== Proof.UpFrame.lean ====
/-
  The kernel's gated up-projection: the run of the program, the buffers at every grid point named.
-/
module

public import proofs.«01_k».proof.Proof.UpBody
public import Idealize.ShloMosaic.Lib.Claim

@[expose] public section

set_option maxRecDepth 16384

noncomputable section

namespace Cert.UpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.UpIdeal Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the windows' buffers hold after the body at a grid point: the inputs their blocks, the results their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t)
    | ⟨7, _⟩ => out7 (iblk m c 5 t)
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) := by dsimp only [dats]
theorem after7 (c : Dev nD) (t : Fin cfg0.N) : (dats m 0 c).after 7 t = out7 (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! The points that write the weights' buffer are those whose number is a multiple of four. -/

theorem cond_of : ∀ t : Fin cfg0.N, t.val % 4 = 0 → k0_cond1 (grid0.coords t) = 1#1 := (by decide +kernel : ∀ t : Fin grid0.N, _)
theorem not_cond_of : ∀ t : Fin cfg0.N, t.val % 4 ≠ 0 → ¬ k0_cond1 (grid0.coords t) = 1#1 := (by decide +kernel : ∀ t : Fin grid0.N, _)
theorem live_of (t : Fin cfg0.N) (h : t.val % 4 = 0) : cfg0.idle 7 (cfg0.grid.coords t) = false := by
  show (!(k0_cond1 (grid0.coords t) == 1#1)) = false
  rw [cond_of t h]; rfl
theorem idle_of (t : Fin cfg0.N) (h : t.val % 4 ≠ 0) : cfg0.idle 7 (cfg0.grid.coords t) = true := by
  show (!(k0_cond1 (grid0.coords t) == 1#1)) = true
  rw [beq_eq_false_iff_ne.mpr (not_cond_of t h)]; rfl
theorem index5_pred : ∀ t : Fin cfg0.N, t.val % 4 ≠ 0 →
    win0_5.index t = win0_5.index ⟨t.val - 1, Nat.lt_of_le_of_lt (Nat.sub_le _ _) t.isLt⟩ := (by decide +kernel : ∀ t : Fin grid0.N, _)

/-- The weights' block is the same at the four points of a group. -/
theorem block5_pred (c : Dev nD) (t : Fin cfg0.N) (h : t.val % 4 ≠ 0) :
    iblk m c 5 ⟨t.val - 1, Nat.lt_of_le_of_lt (Nat.sub_le _ _) t.isLt⟩ = iblk m c 5 t := by
  rw [← before5 m c t (iblk m c 5 t)]
  have hf : (cfg0.win 5).fetch t = false := Bool.eq_false_iff.mpr (fun e => h ((fetch0_5 t).mp e))
  rw [Dat.before_of_pos _ 5 t (by omega) hf]
  rw [if_neg (show ¬ (cfg0.win 5).flush _ = true from by simp [Window.flush])]
  unfold Dat.left
  show _ = (dats m 0 c).kept 5 _ _
  rw [show (dats m 0 c).kept 5 _ _ = (dats m 0 c).after 5 _ from by unfold Dat.kept; rfl, after5]

/-- Between the points that write it, the weights' buffer keeps what was stored. -/
theorem before7 (c : Dev nD) (d) : ∀ (k : Nat) (hk : k < cfg0.N), k % 4 ≠ 0 → (dats m 0 c).before 7 ⟨k, hk⟩ d = out7 (iblk m c 5 ⟨k, hk⟩) := by
  intro k
  induction k using Nat.strong_induction_on with
  | _ k ih =>
    intro hk h
    have hpos : k ≠ 0 := by rintro rfl; exact h rfl
    rw [Dat.before_of_pos _ 7 ⟨k, hk⟩ hpos rfl]
    have hfl : ¬ (cfg0.win 7).flush ⟨k - 1, Nat.lt_of_le_of_lt (Nat.sub_le _ _) hk⟩ = true := fun e => by
      have := (flush0_7 _).mp e
      simp only at this
      omega
    rw [if_neg hfl, ← block5_pred m c ⟨k, hk⟩ h]
    unfold Dat.left
    by_cases h1 : (k - 1) % 4 = 0
    · rw [live_of ⟨k - 1, Nat.lt_of_le_of_lt (Nat.sub_le _ _) hk⟩ h1]
      show (dats m 0 c).kept 7 _ _ = _
      rw [show (dats m 0 c).kept 7 _ _ = (dats m 0 c).after 7 _ from by unfold Dat.kept; rfl, after7]
    · rw [idle_of ⟨k - 1, Nat.lt_of_le_of_lt (Nat.sub_le _ _) hk⟩ h1]
      exact ih (k - 1) (by omega) _ h1

/-- What the weights' buffer holds after the body. -/
def left7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ left7 m c t)

/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val % 4 = 0
  · rw [show left7 m c t = owns (c : Thread nD τ) (st0_7 t) fullShare (out7 (iblk m c 5 t)) from by
      unfold left7; rw [live_of t h, after7]]
    iapply (run_first c Set.univ (grid0.coords t) (cond_of t h) _ _ _ _ _ _ _ _ _ _ _ _ _ _ _ _ (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).before 7 t d7 = out7 (iblk m c 5 t) from before7 m c d7 t.val t.isLt h]
    have hl : owns (c : Thread nD τ) (st0_7 t) fullShare (out7 (iblk m c 5 t)) ⊢ left7 m c t := by
      unfold left7; rw [idle_of t h]
      cases (cfg0.win 7).flush t
      · iintro H
        iexists d7
        rw [show (dats m 0 c).before 7 t d7 = out7 (iblk m c 5 t) from before7 m c d7 t.val t.isLt h]
        iexact H
      · rw [after7]
    iapply (run_other c Set.univ (grid0.coords t) (not_cond_of t h) _ _ _ _ _ _ _ _ _ _ _ _ _ _ _ _ (iblk m c 0 t) (iblk m c 1 t) (iblk m c 2 t) (iblk m c 3 t) (iblk m c 4 t) (iblk m c 5 t) (out7 (iblk m c 5 t)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hl; iexact H7

theorem defs₀_row (t : Fin cfg0.N) :
    defs₀ (F := F) .tc cfg0.body (cfg0.bodyArgs t (cfg0.slots t)) = bodyAt0 t := by
  unfold defs₀; rw [Defs.onTc_tc]

/-- The body at every grid point, as the run asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the program, every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends from every memory, its arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The same run with the two result arrays. -/
theorem run_blocks : θ_run defs (onTc (τ := τ) (main (F := F))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 6, (h.1 c).1 7, (h.2 c)⟩)
    (θ_run_and (run_main m ρ) (frame_of m ρ (dats m) (A_eq m) (run_main m ρ)))

end Cert.UpRun

end
-- ==== Proof.UpBlock.lean ====
/-
  The kernel's gated up-projection: its blocks at a grid point, and its two result arrays.
-/
module

public import proofs.«01_k».proof.Proof.UpPieces
public import proofs.«01_k».proof.Proof.UpFrame

@[expose] public section

set_option maxRecDepth 16384

noncomputable section

namespace Cert.Up

open Idealize.ShloMosaic Idealize.ShloMosaic.TcCoe Idealize.ShloMosaic.Tactic Idealize.ShloMosaic.Pipeline
open Cert.UpIdeal Cert.UpIdeal.Gen Cert.UpRun

section pieces
variable (x0 : Vec Ideal S2048x2048 .bf16) (x1 x2 : Vec Ideal S1x2048x512 .f32) (x3 x4 : Vec Ideal S1x3x512 .f32)

/-- What the body leaves in the first result's buffer, as an array. -/
def blockArr (y : S2048x512.Idx) : EReal :=
  gated (tap x3 (y 1)) (tap x4 (y 1)) (col x0 x1 (y 1)) (col x0 x2 (y 1)) (y 0)

theorem emb0 (r l : Fin 512) : ro0.emb (ix2 r l) = (ix2 (row 0 r) l : S2048x512.Idx) := funext fun a => match a with
  | ⟨0, _⟩ => Fin.ext (by show 0 + 1 * r.val = 512 * 0 + r.val; omega)
  | ⟨1, _⟩ => Fin.ext (by show 0 + 1 * l.val = l.val; omega)
theorem emb1 (r l : Fin 512) : ro1.emb (ix2 r l) = (ix2 (row 1 r) l : S2048x512.Idx) := funext fun a => match a with
  | ⟨0, _⟩ => Fin.ext (by show 512 + 1 * r.val = 512 * 1 + r.val; omega)
  | ⟨1, _⟩ => Fin.ext (by show 0 + 1 * l.val = l.val; omega)
theorem emb2 (r l : Fin 512) : ro2.emb (ix2 r l) = (ix2 (row 2 r) l : S2048x512.Idx) := funext fun a => match a with
  | ⟨0, _⟩ => Fin.ext (by show 1024 + 1 * r.val = 512 * 2 + r.val; omega)
  | ⟨1, _⟩ => Fin.ext (by show 0 + 1 * l.val = l.val; omega)
theorem emb3 (r l : Fin 512) : ro3.emb (ix2 r l) = (ix2 (row 3 r) l : S2048x512.Idx) := funext fun a => match a with
  | ⟨0, _⟩ => Fin.ext (by show 1536 + 1 * r.val = 512 * 3 + r.val; omega)
  | ⟨1, _⟩ => Fin.ext (by show 0 + 1 * l.val = l.val; omega)

theorem out6_eq (y : S2048x512.Idx) : out6 (F := Ideal) x0 x1 x2 x3 x4 y = blockArr x0 x1 x2 x3 x4 y := by
  unfold out6
  refine View.canon_apply_of_pieces (Val := Elt Ideal) (e := .bf16) (blockArr x0 x1 x2 x3 x4) _ (fun p hp j => ?_) y (cover6 _ _ _ _ y)
  simp only [List.mem_cons, List.mem_nil_iff, or_false] at hp
  rcases hp with rfl | rfl | rfl | rfl
  · obtain ⟨r, l, rfl⟩ : ∃ (r l : Fin 512), j = ix2 r l := ⟨_, _, eq_ix2 j⟩
    exact (piece3_apply x0 x1 x2 x3 x4 r l).trans (congrArg (blockArr x0 x1 x2 x3 x4) (emb3 r l)).symm
  · obtain ⟨r, l, rfl⟩ : ∃ (r l : Fin 512), j = ix2 r l := ⟨_, _, eq_ix2 j⟩
    exact (piece2_apply x0 x1 x2 x3 x4 r l).trans (congrArg (blockArr x0 x1 x2 x3 x4) (emb2 r l)).symm
  · obtain ⟨r, l, rfl⟩ : ∃ (r l : Fin 512), j = ix2 r l := ⟨_, _, eq_ix2 j⟩
    exact (piece1_apply x0 x1 x2 x3 x4 r l).trans (congrArg (blockArr x0 x1 x2 x3 x4) (emb1 r l)).symm
  · obtain ⟨r, l, rfl⟩ : ∃ (r l : Fin 512), j = ix2 r l := ⟨_, _, eq_ix2 j⟩
    exact (piece0_apply x0 x1 x2 x3 x4 r l).trans (congrArg (blockArr x0 x1 x2 x3 x4) (emb0 r l)).symm

theorem store_d {e : EltTy} (v : Vec Ideal S1x512x2048 e) :
    View.canon [(⟨rd, v⟩ : View.Piece (Elt Ideal) S1x512x2048 e)] = v :=
  View.canon_cons_unit_lit (S := S1x512x2048) (off := ![0, 0, 0]) _ v [] (by decide)
theorem load_d (v : Vec Ideal S1x512x2048 .f32) : View.ld v rd = v :=
  View.ld_unit_lit (S := S1x512x2048) (off := ![0, 0, 0]) _ v (by decide)

theorem out7_eq (x5 : Vec Ideal S1x512x2048 .f32) (r : Fin 512) (l : Fin 2048) :
    out7 (F := Ideal) x5 (ix3 0 r l) = x5 (ix3 0 r l) := by
  unfold out7
  rw [store_d, load_d]
  pointwise [k0_pay1]
end pieces

/-! The blocks' coordinates at a grid point: the first names the block of columns, the second the batch element. -/

theorem index0 : ∀ t : Fin cfg0.N, win0_0.index t = ![(grid0.coords t 1).val, 0] := (by decide +kernel : ∀ t : Fin grid0.N, _)
theorem index1 : ∀ t : Fin cfg0.N, win0_1.index t = ![0, 0, (grid0.coords t 0).val] := (by decide +kernel : ∀ t : Fin grid0.N, _)
theorem index2 : ∀ t : Fin cfg0.N, win0_2.index t = ![0, 0, 11 + (grid0.coords t 0).val] := (by decide +kernel : ∀ t : Fin grid0.N, _)
theorem index3 : ∀ t : Fin cfg0.N, win0_3.index t = ![0, 0, (grid0.coords t 0).val] := (by decide +kernel : ∀ t : Fin grid0.N, _)
theorem index4 : ∀ t : Fin cfg0.N, win0_4.index t = ![0, 0, 11 + (grid0.coords t 0).val] := (by decide +kernel : ∀ t : Fin grid0.N, _)
theorem index5 : ∀ t : Fin cfg0.N, win0_5.index t = ![0, (grid0.coords t 0).val, 0] := (by decide +kernel : ∀ t : Fin grid0.N, _)
theorem index6 : ∀ t : Fin cfg0.N, win0_6.index t = ![(grid0.coords t 1).val, (grid0.coords t 0).val] := (by decide +kernel : ∀ t : Fin grid0.N, _)
theorem index7 : ∀ t : Fin cfg0.N, win0_7.index t = ![0, (grid0.coords t 0).val, 0] := (by decide +kernel : ∀ t : Fin grid0.N, _)

theorem lt0 (i : grid0.Coords) : (i 0).val < 11 := (i 0).isLt
theorem lt1 (i : grid0.Coords) : (i 1).val < 4 := (i 1).isLt

/-- A grid point's row among all 8192, its batch element, its gate and value columns, and its row of the down-projection. -/
def atRow (i : grid0.Coords) (n : Fin 2048) : Fin 8192 := ⟨(i 1).val * 2048 + n.val, by have := lt1 i; omega⟩
def atBatch (i : grid0.Coords) : Fin 4 := ⟨(i 1).val, lt1 i⟩
def atCol (i : grid0.Coords) (l : Fin 512) : Fin 5632 := ⟨(i 0).val * 512 + l.val, by have := lt0 i; omega⟩
def atGate (i : grid0.Coords) (l : Fin 512) : Fin 11264 := ⟨(i 0).val * 512 + l.val, by have := lt0 i; omega⟩
def atVal (i : grid0.Coords) (l : Fin 512) : Fin 11264 := ⟨(11 + (i 0).val) * 512 + l.val, by have := lt0 i; omega⟩

variable (m : (ℓ : Loc nD τ sig) → Buf (Elt Ideal) ℓ) (ρ : Dev nD → PrngReg)

theorem blk0 (c : Dev nD) (t : Fin cfg0.N) (n k : Fin 2048) :
    iblk m c 0 t (ix2 n k) = (V m c main_v1 : Vec Ideal S8192x2048 .bf16) (ix2 (atRow (grid0.coords t) n) k) := by
  unfold iblk
  blk_simp
  exact congrArg (V m c main_v1 : Vec Ideal S8192x2048 .bf16) (by blk_ext [index0, atRow])
theorem blk1 (c : Dev nD) (t : Fin cfg0.N) (k : Fin 2048) (l : Fin 512) :
    iblk m c 1 t (ix3 0 k l) = (V m c main_arg1 : Vec Ideal S4x2048x11264 .f32) (ix3 0 k (atGate (grid0.coords t) l)) := by
  unfold iblk
  blk_simp
  exact congrArg (V m c main_arg1 : Vec Ideal S4x2048x11264 .f32) (by blk_ext [index1, atGate])
theorem blk2 (c : Dev nD) (t : Fin cfg0.N) (k : Fin 2048) (l : Fin 512) :
    iblk m c 2 t (ix3 0 k l) = (V m c main_arg1 : Vec Ideal S4x2048x11264 .f32) (ix3 0 k (atVal (grid0.coords t) l)) := by
  unfold iblk
  blk_simp
  exact congrArg (V m c main_arg1 : Vec Ideal S4x2048x11264 .f32) (by blk_ext [index2, atVal])
theorem blk3 (c : Dev nD) (t : Fin cfg0.N) (a : Fin 3) (l : Fin 512) :
    iblk m c 3 t (ix3 0 a l) = (V m c main_arg2 : Vec Ideal S4x3x11264 .f32) (ix3 0 a (atGate (grid0.coords t) l)) := by
  unfold iblk
  blk_simp
  exact congrArg (V m c main_arg2 : Vec Ideal S4x3x11264 .f32) (by blk_ext [index3, atGate])
theorem blk4 (c : Dev nD) (t : Fin cfg0.N) (a : Fin 3) (l : Fin 512) :
    iblk m c 4 t (ix3 0 a l) = (V m c main_arg2 : Vec Ideal S4x3x11264 .f32) (ix3 0 a (atVal (grid0.coords t) l)) := by
  unfold iblk
  blk_simp
  exact congrArg (V m c main_arg2 : Vec Ideal S4x3x11264 .f32) (by blk_ext [index4, atVal])
theorem blk5 (c : Dev nD) (t : Fin cfg0.N) (r : Fin 512) (l : Fin 2048) :
    iblk m c 5 t (ix3 0 r l) = (V m c main_arg3 : Vec Ideal S4x5632x2048 .f32) (ix3 0 (atCol (grid0.coords t) r) l) := by
  unfold iblk
  blk_simp
  exact congrArg (V m c main_arg3 : Vec Ideal S4x5632x2048 .f32) (by blk_ext [index5, atCol])

/-- The launch arguments, read as arrays. -/
abbrev argH (c : Dev nD) : Vec Ideal S4x2048x2048 .f32 := m ((c : Thread nD τ).loc main_arg0)
abbrev argW (c : Dev nD) : Vec Ideal S4x2048x11264 .f32 := m ((c : Thread nD τ).loc main_arg1)
abbrev argC (c : Dev nD) : Vec Ideal S4x3x11264 .f32 := m ((c : Thread nD τ).loc main_arg2)
abbrev argD (c : Dev nD) : Vec Ideal S4x5632x2048 .f32 := m ((c : Thread nD τ).loc main_arg3)

/-- The array the first window reads, from the launch arguments. -/
theorem arr_h (c : Dev nD) (n : Fin 8192) (k : Fin 2048) : (V m c main_v1 : Vec Ideal S8192x2048 .bf16) (ix2 n k)
    = argH m c (ix3 ⟨n.val / 2048, by omega⟩ ⟨n.val % 2048, by omega⟩ k) := by
  show (StableHlo.after hostOps0 _ (Proc.devRef .tc main_v1) : Vec Ideal S8192x2048 .bf16) _ = _
  after_results
  pointwise

/-- A column of the projected rows of a batch element, from the launch arguments. -/
def argCol (x0 : Vec Ideal S4x2048x2048 .f32) (x1 : Vec Ideal S4x2048x11264 .f32) (b : Fin 4) (l : Fin 11264) (n : Fin 2048) : EReal :=
  ∑ k : Fin 2048, x0 (ix3 b n k) * x1 (ix3 0 k l)
/-- A column's taps, from the launch arguments. -/
def argTap (x2 : Vec Ideal S4x3x11264 .f32) (l : Fin 11264) (a : Fin 3) : EReal := x2 (ix3 0 a l)

theorem col_block (c : Dev nD) (t : Fin cfg0.N) (w : Vec Ideal S1x2048x512 .f32) (l : Fin 512) (l' : Fin 11264)
    (hw : ∀ k, w (ix3 0 k l) = argW m c (ix3 0 k l')) :
    col (iblk m c 0 t) w l = argCol (argH m c) (argW m c) (atBatch (grid0.coords t)) l' := by
  funext n
  unfold col argCol
  refine Finset.sum_congr rfl fun k _ => ?_
  rw [hw, blk0, arr_h]
  refine congrArg (fun z => argH m c z * _) ?_
  have hn := n.isLt
  have e1 : (atRow (grid0.coords t) n).val / 2048 = (grid0.coords t 1).val := by
    show ((grid0.coords t 1).val * 2048 + n.val) / 2048 = _; omega
  have e2 : (atRow (grid0.coords t) n).val % 2048 = n.val := by
    show ((grid0.coords t 1).val * 2048 + n.val) % 2048 = _; omega
  rw [show (⟨(atRow (grid0.coords t) n).val / 2048, by omega⟩ : Fin 4) = atBatch (grid0.coords t) from Fin.ext e1,
    show (⟨(atRow (grid0.coords t) n).val % 2048, by omega⟩ : Fin 2048) = n from Fin.ext e2]

theorem col_gate (c : Dev nD) (t : Fin cfg0.N) (l : Fin 512) : col (iblk m c 0 t) (iblk m c 1 t) l
    = argCol (argH m c) (argW m c) (atBatch (grid0.coords t)) (atGate (grid0.coords t) l) :=
  col_block m c t _ l _ fun k => (blk1 m c t k l).trans (congrFun (V_main_arg1 m c) _)
theorem col_val (c : Dev nD) (t : Fin cfg0.N) (l : Fin 512) : col (iblk m c 0 t) (iblk m c 2 t) l
    = argCol (argH m c) (argW m c) (atBatch (grid0.coords t)) (atVal (grid0.coords t) l) :=
  col_block m c t _ l _ fun k => (blk2 m c t k l).trans (congrFun (V_main_arg1 m c) _)
theorem tap_gate (c : Dev nD) (t : Fin cfg0.N) (l : Fin 512) : tap (iblk m c 3 t) l = argTap (argC m c) (atGate (grid0.coords t) l) :=
  funext fun a => (blk3 m c t a l).trans (congrFun (V_main_arg2 m c) _)
theorem tap_val (c : Dev nD) (t : Fin cfg0.N) (l : Fin 512) : tap (iblk m c 4 t) l = argTap (argC m c) (atVal (grid0.coords t) l) :=
  funext fun a => (blk4 m c t a l).trans (congrFun (V_main_arg2 m c) _)

/-- The gated product of two columns of a batch element, from the launch arguments. -/
def argGated (x0 : Vec Ideal S4x2048x2048 .f32) (x1 : Vec Ideal S4x2048x11264 .f32) (x2 : Vec Ideal S4x3x11264 .f32)
    (b : Fin 4) (n : Fin 2048) (l : Fin 5632) : EReal :=
  gated (argTap x2 ⟨l.val, by omega⟩) (argTap x2 ⟨5632 + l.val, by omega⟩) (argCol x0 x1 b ⟨l.val, by omega⟩)
    (argCol x0 x1 b ⟨5632 + l.val, by omega⟩) n

/-- The first result, as an array. -/
def firstArr (x0 : Vec Ideal S4x2048x2048 .f32) (x1 : Vec Ideal S4x2048x11264 .f32) (x2 : Vec Ideal S4x3x11264 .f32)
    (y : S8192x5632.Idx) : EReal :=
  argGated x0 x1 x2 ⟨(y 0).val / 2048, by have h : (y 0).val < 8192 := (y 0).isLt; omega⟩ ⟨(y 0).val % 2048, by omega⟩ (y 1)
/-- The second result, as an array. -/
def secondArr (x3 : Vec Ideal S4x5632x2048 .f32) (y : S1x5632x2048.Idx) : EReal := x3 (ix3 0 (y 1) (y 2))

theorem firstArr_at (x0 : Vec Ideal S4x2048x2048 .f32) (x1 : Vec Ideal S4x2048x11264 .f32) (x2 : Vec Ideal S4x3x11264 .f32)
    (i : grid0.Coords) (n : Fin 2048) (l : Fin 512) : firstArr x0 x1 x2 (ix2 (atRow i n) (atCol i l))
      = gated (argTap x2 (atGate i l)) (argTap x2 (atVal i l)) (argCol x0 x1 (atBatch i) (atGate i l)) (argCol x0 x1 (atBatch i) (atVal i l)) n := by
  have hn := n.isLt
  have e1 : (⟨(atRow i n).val / 2048, by omega⟩ : Fin 4) = atBatch i := Fin.ext (by
    show ((i 1).val * 2048 + n.val) / 2048 = (i 1).val; omega)
  have e2 : (⟨(atRow i n).val % 2048, by omega⟩ : Fin 2048) = n := Fin.ext (by
    show ((i 1).val * 2048 + n.val) % 2048 = n.val; omega)
  have e3 : (⟨5632 + (atCol i l).val, by omega⟩ : Fin 11264) = atVal i l := Fin.ext (by
    show 5632 + ((i 0).val * 512 + l.val) = (11 + (i 0).val) * 512 + l.val; omega)
  show argGated x0 x1 x2 ⟨(atRow i n).val / 2048, _⟩ ⟨(atRow i n).val % 2048, _⟩ (atCol i l) = _
  rw [e1, e2]
  unfold argGated
  rw [e3]
  rfl

theorem final6 (c : Dev nD) : (dats m 0 c).arrAt 6 cfg0.N = firstArr (argH m c) (argW m c) (argC m c) := by
  refine (dats m 0 c).arrAt_eq_of_covers 6 _ (by decide +kernel) fun t hf y => ?_
  blk_simp
  rw [after6]
  obtain ⟨n, l, rfl⟩ : ∃ (n : Fin 2048) (l : Fin 512), y = ix2 n l := ⟨_, _, eq_ix2 y⟩
  rw [show (win0_6.blk t).view.emb (ix2 n l) = (ix2 (atRow (grid0.coords t) n) (atCol (grid0.coords t) l) : S8192x5632.Idx) from by
    blk_ext [index6, atRow, atCol]]
  rw [out6_eq, firstArr_at, ← col_gate, ← col_val, ← tap_gate, ← tap_val]
  rfl
theorem final7 (c : Dev nD) : (dats m 0 c).arrAt 7 cfg0.N = secondArr (argD m c) := by
  refine (dats m 0 c).arrAt_eq_of_covers 7 _ (by decide +kernel) fun t hf y => ?_
  blk_simp
  rw [after7]
  obtain ⟨z, r, l, rfl⟩ : ∃ (z : Fin 1) (r : Fin 512) (l : Fin 2048), y = ix3 z r l := ⟨_, _, _, eq_ix3 y⟩
  obtain rfl : z = 0 := Subsingleton.elim _ _
  rw [show (win0_7.blk t).view.emb (ix3 0 r l) = (ix3 0 (atCol (grid0.coords t) r) l : S1x5632x2048.Idx) from by
    blk_ext [index7, atCol]]
  rw [out7_eq, blk5]
  exact congrFun (V_main_arg3 m c) _

end Cert.Up
end
-- ==== Proof.UpClaims.lean ====
/-
  The claims about the gated up-projection.
-/
module

public import proofs.«01_k».proof.Defs
public import proofs.«01_k».proof.Proof.UpRef
public import proofs.«01_k».proof.Proof.UpBlock
public import proofs.«01_k».proof.Proof.Gen.Up.Frame
public import proofs.«01_k».proof.Proof.Gen.UpRefIdeal.Run
public import Idealize.ShloMosaic.Lib.Quiescent

@[expose] public section

noncomputable section

namespace Cert.Proof.UpClaims

open Idealize.ShloMosaic Idealize.ShloMosaic.TcCoe Idealize.SL.Sem

/-- The idealized kernel ends from every memory, its arguments unchanged. -/
theorem frame_pi : Cert.quiescent_UpIdeal := fun m ρ _ => Cert.UpRun.run_frame m ρ

/-- The kernel's body table is the idealized kernel's: it is the same text. -/
theorem table_eq : Cert.Up.defs₀ (F := Bits) = Cert.UpIdeal.defs₀ (F := Bits) := by
  unfold Cert.Up.defs₀ Cert.UpIdeal.defs₀
  refine congrArg Defs.onTc ?_
  funext l a
  match l with
  | 0 =>
    obtain ⟨t, s⟩ := a
    rfl

/-- The same for the whole table. -/
theorem defs_eq : Cert.Up.defs (F := Bits) = Cert.UpIdeal.defs (F := Bits) := by
  unfold Cert.Up.defs Cert.UpIdeal.defs
  rw [table_eq]
  rfl

/-- The kernel as shipped ends from every memory, its arguments unchanged. -/
theorem frame_p : Cert.quiescent_Up := fun m ρ _ => by
  rw [defs_eq]
  exact Cert.UpRun.run_frame (F := Bits) m ρ

/-- The reference ends from every memory, its arguments unchanged. -/
theorem frame_ri : Cert.quiescent_UpRefIdeal := fun m ρ _ =>
  (θ_run Cert.UpRefIdeal.defs _ _).mono (fun r h => ⟨fun c => (h c).2.2,
      Idealize.ShloMosaic.sem_eq_zero_of_no_sems (by decide) r.2⟩)
    (Cert.UpRefIdeal.Value.run (F := Ideal) m ρ)

/-- The idealized kernel is the kernel's own text. -/
theorem preserves : Cert.preserves_Up_UpIdeal := trivial

/-- The kernel's first result is the reference's. -/
theorem first_eq (x0 : Vec Ideal Cert.UpIdeal.S4x2048x2048 .f32) (x1 : Vec Ideal Cert.UpIdeal.S4x2048x11264 .f32)
    (x2 : Vec Ideal Cert.UpIdeal.S4x3x11264 .f32) :
    Cert.UpRefIdeal.Read.val_main_v31 (F := Ideal) x0 x1 x2 = Cert.Up.firstArr x0 x1 x2 :=
  funext fun y => by
    obtain ⟨n, l, rfl⟩ : ∃ (n : Fin 8192) (l : Fin 5632), y = ix2 n l := ⟨_, _, eq_ix2 y⟩
    exact Cert.Up.ref_first x0 x1 x2 n l

/-- The kernel's second result is the reference's. -/
theorem second_eq (x3 : Vec Ideal Cert.UpIdeal.S4x5632x2048 .f32) :
    Cert.UpRefIdeal.Read.val_main_v33 (F := Ideal) x3 = Cert.Up.secondArr x3 :=
  funext fun y => by
    obtain ⟨z, n, l, rfl⟩ : ∃ (z : Fin 1) (n : Fin 5632) (l : Fin 2048), y = ix3 z n l := ⟨_, _, _, eq_ix3 y⟩
    obtain rfl : z = 0 := Subsingleton.elim _ _
    exact Cert.Up.ref_second x3 n l

/-- Over the extended reals, kernel and reference end with the same two results. -/
theorem algebraic : Cert.algebraic_UpIdeal_UpRefIdeal := by
  intro m ρ m' ρ' hpre hagree
  refine ⟨_, _, Cert.UpRun.run_blocks m ρ, ?_⟩
  refine (θ_run Cert.UpRefIdeal.defs _ _).mono (fun _ h c => ⟨(h c).1.trans ?_, (h c).2.1.trans ?_, (h c).2.2⟩)
    (Cert.UpRefIdeal.Value.run (F := Ideal) m' ρ')
  · obtain ⟨e0, e1, e2, e3⟩ := hagree c
    rw [Cert.Up.final6, Cert.UpRefIdeal.Read.val_main_v31_eq, e0, e1, e2]
    exact first_eq _ _ _
  · obtain ⟨e0, e1, e2, e3⟩ := hagree c
    rw [Cert.Up.final7, Cert.UpRefIdeal.Read.val_main_v33_eq, e3]
    exact second_eq _

end Cert.Proof.UpClaims

end
-- ==== Proof.Rows.lean ====
/-
  A projection followed by a normalized residual, row by row, over the extended reals: the arithmetic both programs of a
  projection's claim come to.
-/
module

public import Idealize.ShloMosaic.PureOps.Ideal.Laws
public import Idealize.ShloMosaic.Lib.Pointwise

@[expose] public section

noncomputable section

namespace Cert.Rows

open Idealize.ShloMosaic

/-- The factor that normalizes a row: the reciprocal square root of its squares' mean plus a small constant. -/
def norm (y : Fin 2048 → EReal) : EReal :=
  Ideal.rsqrt (Ideal.div (∑ k, y k * y k) (Ideal.ofBits .f32 0x45000000#32) + Ideal.ofBits .f32 0x358637BD#32)

/-- A row normalized and scaled lane by lane. -/
def scaled (y g : Fin 2048 → EReal) (l : Fin 2048) : EReal := y l * norm y * g l

/-- A row times a matrix. -/
def dot {K : ℕ} (a : Fin K → EReal) (w : Fin K → Fin 2048 → EReal) (l : Fin 2048) : EReal := ∑ k, a k * w k l

/-- A row plus the normalized product of another with a matrix. -/
def residual {K : ℕ} (a : Fin K → EReal) (w : Fin K → Fin 2048 → EReal) (x g : Fin 2048 → EReal) (l : Fin 2048) : EReal :=
  x l + scaled (dot a w) g l

end Cert.Rows
end
-- ==== Proof.DownRef.lean ====
/-
  The reference's down-projection, read at an index.
-/
module

public import proofs.«01_k».proof.Proof.Rows
public import proofs.«01_k».proof.Proof.Gen.DownRefIdeal.Read

@[expose] public section

set_option maxRecDepth 16384

noncomputable section

namespace Cert.Down

open Idealize.ShloMosaic Idealize.ShloMosaic.TcCoe Idealize.ShloMosaic.Tactic
open Cert.DownRefIdeal Cert.DownRefIdeal.Gen Cert.DownRefIdeal.Read Cert.Rows

variable (x0 : Vec Ideal S4x2048x5632 .f32) (x1 : Vec Ideal S4x5632x2048 .f32) (x2 : Vec Ideal S4x2048x2048 .f32)
  (x3 : Vec Ideal S4x4x2048 .f32)

/-- The residual row of a batch element's token. -/
abbrev refRow (b : Fin 4) (n : Fin 2048) : Fin 2048 → EReal :=
  residual (fun k : Fin 5632 => x0 (ix3 b n k)) (fun k l => x1 (ix3 0 k l)) (fun l => x2 (ix3 b n l)) (fun l => x3 (ix3 0 3 l))

theorem ref_dot (b : Fin 4) (n l : Fin 2048) : val_main_v2 (F := Ideal) x0 x1 (ix3 b n l)
    = dot (fun k : Fin 5632 => x0 (ix3 b n k)) (fun k l => x1 (ix3 0 k l)) l := by
  pointwise [val_main_v2, val_main_v1, val_main_v0]
  rfl

theorem ref_norm (b : Fin 4) (n : Fin 2048) : val_main_v12 (F := Ideal) x0 x1 (ix3 b n 0)
    = norm (dot (fun k : Fin 5632 => x0 (ix3 b n k)) (fun k l => x1 (ix3 0 k l))) := by
  pointwise [val_main_v12, val_main_v11, val_main_v10, val_main_v9, val_main_v8, val_main_v7, val_main_v6, val_main_v5,
    val_main_cst, val_main_cst_0, val_main_cst_1]
  simp only [ref_dot]
  rfl

theorem ref_residual (b : Fin 4) (n l : Fin 2048) : val_main_v18 (F := Ideal) x0 x1 x2 x3 (ix3 b n l)
    = refRow x0 x1 x2 x3 b n l := by
  pointwise [val_main_v18, val_main_v17, val_main_v16, val_main_v15, val_main_v14, val_main_v13, val_main_v4, val_main_v3]
  rw [ref_dot, ref_norm]
  rfl

theorem ref_norm2 (b : Fin 4) (n : Fin 2048) : val_main_v28 (F := Ideal) x0 x1 x2 x3 (ix3 b n 0)
    = norm (refRow x0 x1 x2 x3 b n) := by
  pointwise [val_main_v28, val_main_v27, val_main_v26, val_main_v25, val_main_v24, val_main_v23, val_main_v22, val_main_v21,
    val_main_cst_2, val_main_cst_3, val_main_cst_4]
  simp only [ref_residual]
  rfl

/-- The reference's first result. -/
theorem ref_first (n : Fin 8192) (l : Fin 2048) : val_main_v34 (F := Ideal) x0 x1 x2 x3 (ix2 n l)
    = refRow x0 x1 x2 x3 ⟨n.val / 2048, by omega⟩ ⟨n.val % 2048, by omega⟩ l := by
  pointwise [val_main_v34]
  rw [ref_residual]

/-- The reference's second result. -/
theorem ref_second (n : Fin 8192) (l : Fin 2048) : val_main_v36 (F := Ideal) x0 x1 x2 x3 (ix2 n l)
    = scaled (refRow x0 x1 x2 x3 ⟨n.val / 2048, by omega⟩ ⟨n.val % 2048, by omega⟩) (fun l => x3 (ix3 1 0 l)) l := by
  pointwise [val_main_v36, val_main_v35, val_main_v33, val_main_v32, val_main_v31, val_main_v30, val_main_v29, val_main_v20,
    val_main_v19]
  rw [ref_residual, ref_norm2]
  rfl

end Cert.Down
end
-- ==== Proof.DownBlock.lean ====
/-
  The kernel's down-projection: its blocks at a grid point, and its two result arrays.
-/
module

public import proofs.«01_k».proof.Proof.Rows
public import proofs.«01_k».proof.Proof.Gen.DownIdeal.Value
public import Idealize.ShloMosaic.Lib.Pipeline.ValueKit.Geometry

@[expose] public section

set_option maxRecDepth 16384

noncomputable section

namespace Cert.Down

open Idealize.ShloMosaic Idealize.ShloMosaic.TcCoe Idealize.ShloMosaic.Tactic Idealize.ShloMosaic.Pipeline
open Cert.DownIdeal Cert.DownIdeal.Gen Cert.Rows

section block
variable (a : Vec Ideal S256x5632 .bf16) (w : Vec Ideal S1x5632x2048 .bf16) (x : Vec Ideal S256x2048 .f32)
  (g g' : Vec Ideal S1x2048 .f32)

/-- The residual of a block's row. -/
abbrev blockRow (r : Fin 256) : Fin 2048 → EReal :=
  residual (fun k : Fin 5632 => a (ix2 r k)) (fun k l => w (ix3 0 k l)) (fun l => x (ix2 r l)) (fun l => g (ix2 0 l))

theorem pay_first (r : Fin 256) (l : Fin 2048) : k0_pay1 (F := Ideal) a w x g (ix2 r l) = blockRow a w x g r l := by
  pointwise [k0_pay1]
  rfl

theorem pay_second (r : Fin 256) (l : Fin 2048) : k0_pay2 (F := Ideal) a w x g g' (ix2 r l)
    = scaled (blockRow a w x g r) (fun l => g' (ix2 0 l)) l := by
  pointwise [k0_pay2]
  simp only [pay_first]
  rfl
end block

/-! The blocks' coordinates at a grid point. -/

theorem index0 : ∀ t : Fin cfg0.N, win0_0.index t = ![(grid0.coords t 0).val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, 0] := (by decide +kernel : ∀ t : Fin grid0.N, _)
theorem index6 : ∀ t : Fin cfg0.N, win0_6.index t = ![(grid0.coords t 0).val, 0] := (by decide +kernel : ∀ t : Fin grid0.N, _)

/-- Row `r` of a grid point's block, among all 8192. -/
def atRow (i : grid0.Coords) (r : Fin 256) : Fin 8192 :=
  ⟨(i 0).val * 256 + r.val, by have h0 : (i 0).val < 32 := (i 0).isLt; omega⟩

variable (m : (ℓ : Loc nD τ sig) → Buf (Elt Ideal) ℓ) (ρ : Dev nD → PrngReg)

theorem blk0 (c : Dev nD) (t : Fin cfg0.N) (r : Fin 256) (k : Fin 5632) :
    iblk m c 0 t (ix2 r k) = (V m c main_v1 : Vec Ideal S8192x5632 .bf16) (ix2 (atRow (grid0.coords t) r) k) := by
  unfold iblk
  blk_simp
  exact congrArg (V m c main_v1 : Vec Ideal S8192x5632 .bf16) (by blk_ext [index0, atRow])
theorem blk1 (c : Dev nD) (t : Fin cfg0.N) (k : Fin 5632) (l : Fin 2048) :
    iblk m c 1 t (ix3 0 k l) = (V m c main_v3 : Vec Ideal S1x5632x2048 .bf16) (ix3 0 k l) := by
  unfold iblk
  blk_simp
  exact congrArg (V m c main_v3 : Vec Ideal S1x5632x2048 .bf16) (by blk_ext [index1])
theorem blk2 (c : Dev nD) (t : Fin cfg0.N) (r : Fin 256) (l : Fin 2048) :
    iblk m c 2 t (ix2 r l) = (V m c main_v4 : Vec Ideal S8192x2048 .f32) (ix2 (atRow (grid0.coords t) r) l) := by
  unfold iblk
  blk_simp
  exact congrArg (V m c main_v4 : Vec Ideal S8192x2048 .f32) (by blk_ext [index2, atRow])
theorem blk3 (c : Dev nD) (t : Fin cfg0.N) (l : Fin 2048) :
    iblk m c 3 t (ix2 0 l) = (V m c main_v9 : Vec Ideal S1x2048 .f32) (ix2 0 l) := by
  unfold iblk
  blk_simp
  exact congrArg (V m c main_v9 : Vec Ideal S1x2048 .f32) (by blk_ext [index3])
theorem blk4 (c : Dev nD) (t : Fin cfg0.N) (l : Fin 2048) :
    iblk m c 4 t (ix2 0 l) = (V m c main_v10 : Vec Ideal S1x2048 .f32) (ix2 0 l) := by
  unfold iblk
  blk_simp
  exact congrArg (V m c main_v10 : Vec Ideal S1x2048 .f32) (by blk_ext [index4])

/-- The launch arguments, read as arrays. -/
abbrev argA (c : Dev nD) : Vec Ideal S4x2048x5632 .f32 := m ((c : Thread nD τ).loc main_arg0)
abbrev argW (c : Dev nD) : Vec Ideal S4x5632x2048 .f32 := m ((c : Thread nD τ).loc main_arg1)
abbrev argX (c : Dev nD) : Vec Ideal S4x2048x2048 .f32 := m ((c : Thread nD τ).loc main_arg2)
abbrev argG (c : Dev nD) : Vec Ideal S4x4x2048 .f32 := m ((c : Thread nD τ).loc main_arg3)

/-! The arrays the windows read, from the launch arguments. -/

theorem arr_a (c : Dev nD) (n : Fin 8192) (k : Fin 5632) : (V m c main_v1 : Vec Ideal S8192x5632 .bf16) (ix2 n k)
    = argA m c (ix3 ⟨n.val / 2048, by omega⟩ ⟨n.val % 2048, by omega⟩ k) := by
  show (StableHlo.after hostOps0 _ (Proc.devRef .tc main_v1) : Vec Ideal S8192x5632 .bf16) _ = _
  after_results
  pointwise
theorem arr_w (c : Dev nD) (k : Fin 5632) (l : Fin 2048) : (V m c main_v3 : Vec Ideal S1x5632x2048 .bf16) (ix3 0 k l)
    = argW m c (ix3 0 k l) := by
  show (StableHlo.after hostOps0 _ (Proc.devRef .tc main_v3) : Vec Ideal S1x5632x2048 .bf16) _ = _
  after_results
  pointwise
theorem arr_x (c : Dev nD) (n : Fin 8192) (l : Fin 2048) : (V m c main_v4 : Vec Ideal S8192x2048 .f32) (ix2 n l)
    = argX m c (ix3 ⟨n.val / 2048, by omega⟩ ⟨n.val % 2048, by omega⟩ l) := by
  show (StableHlo.after hostOps0 _ (Proc.devRef .tc main_v4) : Vec Ideal S8192x2048 .f32) _ = _
  after_results
  pointwise
theorem arr_g (c : Dev nD) (l : Fin 2048) : (V m c main_v9 : Vec Ideal S1x2048 .f32) (ix2 0 l) = argG m c (ix3 0 3 l) := by
  show (StableHlo.after hostOps0 _ (Proc.devRef .tc main_v9) : Vec Ideal S1x2048 .f32) _ = _
  after_results
  pointwise
theorem arr_g' (c : Dev nD) (l : Fin 2048) : (V m c main_v10 : Vec Ideal S1x2048 .f32) (ix2 0 l) = argG m c (ix3 1 0 l) := by
  show (StableHlo.after hostOps0 _ (Proc.devRef .tc main_v10) : Vec Ideal S1x2048 .f32) _ = _
  after_results
  pointwise

/-- The residual of row `n` of all 8192, from the launch arguments. -/
def outRow (x0 : Vec Ideal S4x2048x5632 .f32) (x1 : Vec Ideal S4x5632x2048 .f32) (x2 : Vec Ideal S4x2048x2048 .f32)
    (x3 : Vec Ideal S4x4x2048 .f32) (n : Fin 8192) : Fin 2048 → EReal :=
  residual (fun k : Fin 5632 => x0 (ix3 ⟨n.val / 2048, by omega⟩ ⟨n.val % 2048, by omega⟩ k)) (fun k l => x1 (ix3 0 k l))
    (fun l => x2 (ix3 ⟨n.val / 2048, by omega⟩ ⟨n.val % 2048, by omega⟩ l)) (fun l => x3 (ix3 0 3 l))

theorem blockRow_eq (c : Dev nD) (t : Fin cfg0.N) (r : Fin 256) :
    blockRow (iblk m c 0 t) (iblk m c 1 t) (iblk m c 2 t) (iblk m c 3 t) r
      = outRow (argA m c) (argW m c) (argX m c) (argG m c) (atRow (grid0.coords t) r) := by
  unfold blockRow outRow
  congr 1
  · funext k; rw [blk0]; exact arr_a m c _ k
  · funext k l; rw [blk1]; exact arr_w m c k l
  · funext l; rw [blk2]; exact arr_x m c _ l
  · funext l; rw [blk3]; exact arr_g m c l

/-- The first result, as an array. -/
def firstArr (x0 : Vec Ideal S4x2048x5632 .f32) (x1 : Vec Ideal S4x5632x2048 .f32) (x2 : Vec Ideal S4x2048x2048 .f32)
    (x3 : Vec Ideal S4x4x2048 .f32) (y : S8192x2048.Idx) : EReal := outRow x0 x1 x2 x3 (y 0) (y 1)
/-- The second result, as an array. -/
def secondArr (x0 : Vec Ideal S4x2048x5632 .f32) (x1 : Vec Ideal S4x5632x2048 .f32) (x2 : Vec Ideal S4x2048x2048 .f32)
    (x3 : Vec Ideal S4x4x2048 .f32) (y : S8192x2048.Idx) : EReal :=
  scaled (outRow x0 x1 x2 x3 (y 0)) (fun l => x3 (ix3 1 0 l)) (y 1)

/-- One store over the whole buffer leaves the payload. -/
theorem store_whole {e : EltTy} (v : Vec Ideal S256x2048 e) :
    View.canon [(⟨r0_2, v⟩ : View.Piece (Elt Ideal) S256x2048 e)] = v :=
  View.canon_cons_unit_lit (S := S256x2048) (off := ![0, 0]) _ v [] (by decide)
/-- Loads over whole buffers give the buffers. -/
theorem load_a (v : Vec Ideal S256x5632 .bf16) : View.ld v r0_0 = v :=
  View.ld_unit_lit (S := S256x5632) (off := ![0, 0]) _ v (by decide)
theorem load_w (v : Vec Ideal S1x5632x2048 .bf16) : View.ld v r0_1 = v :=
  View.ld_unit_lit (S := S1x5632x2048) (off := ![0, 0, 0]) _ v (by decide)
theorem load_x (v : Vec Ideal S256x2048 .f32) : View.ld v r0_2 = v :=
  View.ld_unit_lit (S := S256x2048) (off := ![0, 0]) _ v (by decide)
theorem load_g (v : Vec Ideal S1x2048 .f32) : View.ld v r0_3 = v :=
  View.ld_unit_lit (S := S1x2048) (off := ![0, 0]) _ v (by decide)

/-- The first result's buffer at a grid point. -/
theorem out5_apply (a : Vec Ideal S256x5632 .bf16) (w : Vec Ideal S1x5632x2048 .bf16) (x : Vec Ideal S256x2048 .f32)
    (g g' : Vec Ideal S1x2048 .f32) (r : Fin 256) (l : Fin 2048) : out0_5 (F := Ideal) a w x g g' (ix2 r l) = blockRow a w x g r l := by
  unfold out0_5
  rw [store_whole, load_a, load_w, load_x, load_g]
  exact pay_first _ _ _ _ _ _
/-- The second result's buffer at a grid point. -/
theorem out6_apply (a : Vec Ideal S256x5632 .bf16) (w : Vec Ideal S1x5632x2048 .bf16) (x : Vec Ideal S256x2048 .f32)
    (g g' : Vec Ideal S1x2048 .f32) (r : Fin 256) (l : Fin 2048) : out0_6 (F := Ideal) a w x g g' (ix2 r l)
      = scaled (blockRow a w x g r) (fun l => g' (ix2 0 l)) l := by
  unfold out0_6
  rw [store_whole, load_a, load_w, load_x, load_g, load_g]
  exact pay_second _ _ _ _ _ _ _

theorem final5 (c : Dev nD) : (dats m 0 c).arrAt 5 cfg0.N = firstArr (argA m c) (argW m c) (argX m c) (argG m c) := by
  refine (dats m 0 c).arrAt_eq_of_covers 5 _ (by decide +kernel) fun t hf y => ?_
  blk_simp
  rw [after0_5]
  obtain ⟨r, l, rfl⟩ : ∃ (r : Fin 256) (l : Fin 2048), y = ix2 r l := ⟨_, _, eq_ix2 y⟩
  rw [show (win0_5.blk t).view.emb (ix2 r l) = (ix2 (atRow (grid0.coords t) r) l : S8192x2048.Idx) from by blk_ext [index5, atRow]]
  rw [out5_apply, blockRow_eq]
  rfl
theorem final6 (c : Dev nD) : (dats m 0 c).arrAt 6 cfg0.N = secondArr (argA m c) (argW m c) (argX m c) (argG m c) := by
  refine (dats m 0 c).arrAt_eq_of_covers 6 _ (by decide +kernel) fun t hf y => ?_
  blk_simp
  rw [after0_6]
  obtain ⟨r, l, rfl⟩ : ∃ (r : Fin 256) (l : Fin 2048), y = ix2 r l := ⟨_, _, eq_ix2 y⟩
  rw [show (win0_6.blk t).view.emb (ix2 r l) = (ix2 (atRow (grid0.coords t) r) l : S8192x2048.Idx) from by blk_ext [index6, atRow]]
  rw [out6_apply, blockRow_eq]
  exact congrArg (fun g => scaled (outRow (argA m c) (argW m c) (argX m c) (argG m c) (atRow (grid0.coords t) r)) g l)
    (funext fun k => (blk4 m c t k).trans (arr_g' m c k))

end Cert.Down
end
-- ==== Proof.DownClaims.lean ====
/-
  The claims about the down-projection.
-/
module

public import proofs.«01_k».proof.Defs
public import proofs.«01_k».proof.Proof.DownRef
public import proofs.«01_k».proof.Proof.DownBlock
public import proofs.«01_k».proof.Proof.Gen.Down.Frame
public import proofs.«01_k».proof.Proof.Gen.DownIdeal.Frame
public import proofs.«01_k».proof.Proof.Gen.DownRefIdeal.Run
public import Idealize.ShloMosaic.Lib.Quiescent

@[expose] public section

noncomputable section

namespace Cert.Proof.DownClaims

open Idealize.ShloMosaic Idealize.ShloMosaic.TcCoe Idealize.SL.Sem

/-- The kernel as shipped ends from every memory, its arguments unchanged. -/
theorem frame_p : Cert.quiescent_Down := fun m ρ _ => Cert.Down.Gen.frame m ρ

/-- The idealized kernel ends from every memory, its arguments unchanged. -/
theorem frame_pi : Cert.quiescent_DownIdeal := fun m ρ _ => Cert.DownIdeal.Gen.frame m ρ

/-- The reference ends from every memory, its arguments unchanged. -/
theorem frame_ri : Cert.quiescent_DownRefIdeal := fun m ρ _ =>
  (θ_run Cert.DownRefIdeal.defs _ _).mono (fun r h => ⟨fun c => (h c).2.2,
      Idealize.ShloMosaic.sem_eq_zero_of_no_sems (by decide) r.2⟩)
    (Cert.DownRefIdeal.Value.run (F := Ideal) m ρ)

/-- The idealized kernel is the kernel's own text. -/
theorem preserves : Cert.preserves_Down_DownIdeal := trivial

/-- The kernel's first result is the reference's. -/
theorem first_eq (x0 : Vec Ideal Cert.DownIdeal.S4x2048x5632 .f32) (x1 : Vec Ideal Cert.DownIdeal.S4x5632x2048 .f32)
    (x2 : Vec Ideal Cert.DownIdeal.S4x2048x2048 .f32) (x3 : Vec Ideal Cert.DownIdeal.S4x4x2048 .f32) :
    Cert.DownRefIdeal.Read.val_main_v34 (F := Ideal) x0 x1 x2 x3 = Cert.Down.firstArr x0 x1 x2 x3 :=
  funext fun y => by
    obtain ⟨n, l, rfl⟩ : ∃ (n : Fin 8192) (l : Fin 2048), y = ix2 n l := ⟨_, _, eq_ix2 y⟩
    exact Cert.Down.ref_first x0 x1 x2 x3 n l

/-- The kernel's second result is the reference's. -/
theorem second_eq (x0 : Vec Ideal Cert.DownIdeal.S4x2048x5632 .f32) (x1 : Vec Ideal Cert.DownIdeal.S4x5632x2048 .f32)
    (x2 : Vec Ideal Cert.DownIdeal.S4x2048x2048 .f32) (x3 : Vec Ideal Cert.DownIdeal.S4x4x2048 .f32) :
    Cert.DownRefIdeal.Read.val_main_v36 (F := Ideal) x0 x1 x2 x3 = Cert.Down.secondArr x0 x1 x2 x3 :=
  funext fun y => by
    obtain ⟨n, l, rfl⟩ : ∃ (n : Fin 8192) (l : Fin 2048), y = ix2 n l := ⟨_, _, eq_ix2 y⟩
    exact Cert.Down.ref_second x0 x1 x2 x3 n l

/-- Over the extended reals, kernel and reference end with the same two results. -/
theorem algebraic : Cert.algebraic_DownIdeal_DownRefIdeal := by
  intro m ρ m' ρ' hpre hagree
  refine ⟨_, _, Cert.DownIdeal.Value.run_blocks m ρ, ?_⟩
  refine (θ_run Cert.DownRefIdeal.defs _ _).mono (fun _ h c => ⟨(h c).1.trans ?_, (h c).2.1.trans ?_, (h c).2.2⟩)
    (Cert.DownRefIdeal.Value.run (F := Ideal) m' ρ')
  · obtain ⟨e0, e1, e2, e3⟩ := hagree c
    rw [Cert.Down.final5, Cert.DownRefIdeal.Read.val_main_v34_eq, e0, e1, e2, e3]
    exact first_eq _ _ _ _
  · obtain ⟨e0, e1, e2, e3⟩ := hagree c
    rw [Cert.Down.final6, Cert.DownRefIdeal.Read.val_main_v36_eq, e0, e1, e2, e3]
    exact second_eq _ _ _ _

end Cert.Proof.DownClaims

end
-- ==== Proof.OutRef.lean ====
/-
  The reference's output projection of an attention, read at an index.
-/
module

public import proofs.«01_k».proof.Proof.Rows
public import proofs.«01_k».proof.Proof.Gen.OutRefIdeal.Read

@[expose] public section

set_option maxRecDepth 16384

noncomputable section

namespace Cert.Out

open Idealize.ShloMosaic Idealize.ShloMosaic.TcCoe Idealize.ShloMosaic.Tactic
open Cert.OutRefIdeal Cert.OutRefIdeal.Gen Cert.OutRefIdeal.Read Cert.Rows

variable (x0 : Vec Ideal S4x2048x2048 .f32) (x1 : Vec Ideal S1x2048x2048 .f32) (x2 : Vec Ideal S4x2048x2048 .f32)
  (x3 : Vec Ideal S4x4x2048 .f32)

/-- The residual row of a batch element's token. -/
abbrev refRow (b : Fin 4) (n : Fin 2048) : Fin 2048 → EReal :=
  residual (fun k : Fin 2048 => x0 (ix3 b n k)) (fun k l => x1 (ix3 0 k l)) (fun l => x2 (ix3 b n l)) (fun l => x3 (ix3 0 1 l))

theorem ref_dot (b : Fin 4) (n l : Fin 2048) : val_main_v1 (F := Ideal) x0 x1 (ix3 b n l)
    = dot (fun k : Fin 2048 => x0 (ix3 b n k)) (fun k l => x1 (ix3 0 k l)) l := by
  pointwise [val_main_v1, val_main_v0]
  rfl

theorem ref_norm (b : Fin 4) (n : Fin 2048) : val_main_v11 (F := Ideal) x0 x1 (ix3 b n 0)
    = norm (dot (fun k : Fin 2048 => x0 (ix3 b n k)) (fun k l => x1 (ix3 0 k l))) := by
  pointwise [val_main_v11, val_main_v10, val_main_v9, val_main_v8, val_main_v7, val_main_v6, val_main_v5, val_main_v4,
    val_main_cst, val_main_cst_0, val_main_cst_1]
  simp only [ref_dot]
  rfl

theorem ref_residual (b : Fin 4) (n l : Fin 2048) : val_main_v17 (F := Ideal) x0 x1 x2 x3 (ix3 b n l)
    = refRow x0 x1 x2 x3 b n l := by
  pointwise [val_main_v17, val_main_v16, val_main_v15, val_main_v14, val_main_v13, val_main_v12, val_main_v3, val_main_v2]
  rw [ref_dot, ref_norm]
  rfl

theorem ref_norm2 (b : Fin 4) (n : Fin 2048) : val_main_v27 (F := Ideal) x0 x1 x2 x3 (ix3 b n 0)
    = norm (refRow x0 x1 x2 x3 b n) := by
  pointwise [val_main_v27, val_main_v26, val_main_v25, val_main_v24, val_main_v23, val_main_v22, val_main_v21, val_main_v20,
    val_main_cst_2, val_main_cst_3, val_main_cst_4]
  simp only [ref_residual]
  rfl

/-- The reference's first result. -/
theorem ref_first (n : Fin 8192) (l : Fin 2048) : val_main_v33 (F := Ideal) x0 x1 x2 x3 (ix2 n l)
    = refRow x0 x1 x2 x3 ⟨n.val / 2048, by omega⟩ ⟨n.val % 2048, by omega⟩ l := by
  pointwise [val_main_v33]
  rw [ref_residual]

/-- The reference's second result. -/
theorem ref_second (n : Fin 8192) (l : Fin 2048) : val_main_v35 (F := Ideal) x0 x1 x2 x3 (ix2 n l)
    = scaled (refRow x0 x1 x2 x3 ⟨n.val / 2048, by omega⟩ ⟨n.val % 2048, by omega⟩) (fun l => x3 (ix3 0 2 l)) l := by
  pointwise [val_main_v35, val_main_v34, val_main_v32, val_main_v31, val_main_v30, val_main_v29, val_main_v28, val_main_v19,
    val_main_v18]
  rw [ref_residual, ref_norm2]
  rfl

end Cert.Out
end
-- ==== Proof.OutBlock.lean ====
/-
  The kernel's projection of an attention's output: its blocks at a grid point, and its two result arrays.
-/
module

public import proofs.«01_k».proof.Proof.Rows
public import proofs.«01_k».proof.Proof.Gen.OutIdeal.Value
public import Idealize.ShloMosaic.Lib.Pipeline.ValueKit.Geometry

@[expose] public section

set_option maxRecDepth 16384

noncomputable section

namespace Cert.Out

open Idealize.ShloMosaic Idealize.ShloMosaic.TcCoe Idealize.ShloMosaic.Tactic Idealize.ShloMosaic.Pipeline
open Cert.OutIdeal Cert.OutIdeal.Gen Cert.Rows

section block
variable (a : Vec Ideal S512x2048 .bf16) (w : Vec Ideal S1x2048x2048 .bf16) (x : Vec Ideal S512x2048 .f32) (g g' : Vec Ideal S1x2048 .f32)

/-- The residual of a block's row. -/
abbrev blockRow (r : Fin 512) : Fin 2048 → EReal :=
  residual (fun k : Fin 2048 => a (ix2 r k)) (fun k l => w (ix3 0 k l)) (fun l => x (ix2 r l)) (fun l => g (ix2 0 l))

/-- Row `r` of the group `s` of 128 rows. -/
def row (s : Fin 4) (r : Fin 128) : Fin 512 := ⟨128 * s.val + r.val, by omega⟩

/-- Loads over whole buffers give the buffers. -/
theorem load_w (v : Vec Ideal S1x2048x2048 .bf16) : View.ld v r0_1 = v :=
  View.ld_unit_lit (S := S1x2048x2048) (off := ![0, 0, 0]) _ v (by decide)
theorem load_g (v : Vec Ideal S1x2048 .f32) : View.ld v r0_5 = v :=
  View.ld_unit_lit (S := S1x2048) (off := ![0, 0]) _ v (by decide)

/-! The four groups of rows: where a group's store goes, and what a load of it reads. -/

theorem emb0 (r : Fin 128) (l : Fin 2048) : r0_0.emb (ix2 r l) = (ix2 (row 0 r) l : S512x2048.Idx) := funext fun a => match a with
  | ⟨0, _⟩ => Fin.ext (by show 0 + 1 * r.val = 128 * 0 + r.val; omega)
  | ⟨1, _⟩ => Fin.ext (by show 0 + 1 * l.val = l.val; omega)
theorem load0 {e : EltTy} (v : Vec Ideal S512x2048 e) (r : Fin 128) (l : Fin 2048) : View.ld v r0_0 (ix2 r l) = v (ix2 (row 0 r) l) :=
  congrArg v (emb0 r l)
theorem emb1 (r : Fin 128) (l : Fin 2048) : r0_2.emb (ix2 r l) = (ix2 (row 1 r) l : S512x2048.Idx) := funext fun a => match a with
  | ⟨0, _⟩ => Fin.ext (by show 128 + 1 * r.val = 128 * 1 + r.val; omega)
  | ⟨1, _⟩ => Fin.ext (by show 0 + 1 * l.val = l.val; omega)
theorem load1 {e : EltTy} (v : Vec Ideal S512x2048 e) (r : Fin 128) (l : Fin 2048) : View.ld v r0_2 (ix2 r l) = v (ix2 (row 1 r) l) :=
  congrArg v (emb1 r l)
theorem emb2 (r : Fin 128) (l : Fin 2048) : r0_3.emb (ix2 r l) = (ix2 (row 2 r) l : S512x2048.Idx) := funext fun a => match a with
  | ⟨0, _⟩ => Fin.ext (by show 256 + 1 * r.val = 128 * 2 + r.val; omega)
  | ⟨1, _⟩ => Fin.ext (by show 0 + 1 * l.val = l.val; omega)
theorem load2 {e : EltTy} (v : Vec Ideal S512x2048 e) (r : Fin 128) (l : Fin 2048) : View.ld v r0_3 (ix2 r l) = v (ix2 (row 2 r) l) :=
  congrArg v (emb2 r l)
theorem emb3 (r : Fin 128) (l : Fin 2048) : r0_4.emb (ix2 r l) = (ix2 (row 3 r) l : S512x2048.Idx) := funext fun a => match a with
  | ⟨0, _⟩ => Fin.ext (by show 384 + 1 * r.val = 128 * 3 + r.val; omega)
  | ⟨1, _⟩ => Fin.ext (by show 0 + 1 * l.val = l.val; omega)
theorem load3 {e : EltTy} (v : Vec Ideal S512x2048 e) (r : Fin 128) (l : Fin 2048) : View.ld v r0_4 (ix2 r l) = v (ix2 (row 3 r) l) :=
  congrArg v (emb3 r l)

/-- The arithmetic of a group of rows, from its loads. -/
theorem group_first (a : Vec Ideal S128x2048 .bf16) (w : Vec Ideal S1x2048x2048 .bf16) (x : Vec Ideal S128x2048 .f32) (g : Vec Ideal S1x2048 .f32)
    (r : Fin 128) (l : Fin 2048) : k0_pay17 (F := Ideal) (k0_pay5 a w) x g (ix2 r l)
      = residual (fun k : Fin 2048 => a (ix2 r k)) (fun k l => w (ix3 0 k l)) (fun l => x (ix2 r l)) (fun l => g (ix2 0 l)) l := by
  pointwise [k0_pay17, k0_pay5]
  rfl
theorem group_first_0 (a : Vec Ideal S128x2048 .bf16) (w : Vec Ideal S1x2048x2048 .bf16) (x : Vec Ideal S128x2048 .f32) (g : Vec Ideal S1x2048 .f32) :
    k0_pay9 (F := Ideal) (k0_pay2 a w) (k0_pay6 x) (k0_pay7 g) (k0_pay8 a w) = k0_pay17 (F := Ideal) (k0_pay5 a w) x g := rfl
theorem group_first_1 (a : Vec Ideal S128x2048 .bf16) (w : Vec Ideal S1x2048x2048 .bf16) (x : Vec Ideal S128x2048 .f32) (g : Vec Ideal S1x2048 .f32) :
    k0_pay13 (F := Ideal) (k0_pay11 x) (k0_pay12 (k0_pay3 a w) g) = k0_pay17 (F := Ideal) (k0_pay5 a w) x g := rfl
theorem group_first_2 (a : Vec Ideal S128x2048 .bf16) (w : Vec Ideal S1x2048x2048 .bf16) (x : Vec Ideal S128x2048 .f32) (g : Vec Ideal S1x2048 .f32) :
    k0_pay15 (F := Ideal) (k0_pay4 a w) x g = k0_pay17 (F := Ideal) (k0_pay5 a w) x g := rfl
theorem group_second (y : Vec Ideal S128x2048 .f32) (g : Vec Ideal S1x2048 .f32) (r : Fin 128) (l : Fin 2048) :
    k0_pay16 (F := Ideal) y g (ix2 r l) = scaled (fun l => y (ix2 r l)) (fun l => g (ix2 0 l)) l := by
  pointwise [k0_pay16]
  rfl
theorem group_second_0 (a : Vec Ideal S128x2048 .bf16) (w : Vec Ideal S1x2048x2048 .bf16) (x : Vec Ideal S128x2048 .f32) (g g' : Vec Ideal S1x2048 .f32) :
    k0_pay10 (F := Ideal) (k0_pay2 a w) (k0_pay6 x) (k0_pay7 g) (k0_pay8 a w) g' = k0_pay16 (F := Ideal) (k0_pay17 (k0_pay5 a w) x g) g' := rfl
theorem group_second_1 (a : Vec Ideal S128x2048 .bf16) (w : Vec Ideal S1x2048x2048 .bf16) (x : Vec Ideal S128x2048 .f32) (g g' : Vec Ideal S1x2048 .f32) :
    k0_pay14 (F := Ideal) (k0_pay11 x) (k0_pay12 (k0_pay3 a w) g) g' = k0_pay16 (F := Ideal) (k0_pay17 (k0_pay5 a w) x g) g' := rfl
theorem group_second_3 (a : Vec Ideal S128x2048 .bf16) (w : Vec Ideal S1x2048x2048 .bf16) (x : Vec Ideal S128x2048 .f32) (g g' : Vec Ideal S1x2048 .f32) :
    k0_pay1 (F := Ideal) (k0_pay17 (k0_pay5 a w) x g) (k0_pay18 g') (k0_pay19 (k0_pay5 a w) x g) = k0_pay16 (F := Ideal) (k0_pay17 (k0_pay5 a w) x g) g' := rfl

/-- What the body leaves in the two results' buffers, as arrays. -/
def blockFirst (y : S512x2048.Idx) : EReal := blockRow a w x g (y 0) (y 1)
def blockSecond (y : S512x2048.Idx) : EReal := scaled (blockRow a w x g (y 0)) (fun l => g' (ix2 0 l)) (y 1)

theorem piece_first0 (r : Fin 128) (l : Fin 2048) :
    k0_pay17 (F := Ideal) (k0_pay5 (View.ld a r0_0) (View.ld w r0_1)) (View.ld x r0_0) (View.ld g r0_5) (ix2 r l)
      = blockFirst a w x g (r0_0.emb (ix2 r l)) := by
  rw [group_first, emb0, load_w, load_g]
  exact congrArg₂ (fun u v => residual u (fun k l => w (ix3 0 k l)) v (fun l => g (ix2 0 l)) l)
    (funext fun k => load0 a r k) (funext fun l => load0 x r l)
theorem piece_second0 (r : Fin 128) (l : Fin 2048) :
    k0_pay16 (F := Ideal) (k0_pay17 (F := Ideal) (k0_pay5 (View.ld a r0_0) (View.ld w r0_1)) (View.ld x r0_0) (View.ld g r0_5)) (View.ld g' r0_5) (ix2 r l)
      = blockSecond a w x g g' (r0_0.emb (ix2 r l)) := by
  rw [group_second, load_g g']
  simp only [piece_first0, emb0]
  rfl
theorem piece_first1 (r : Fin 128) (l : Fin 2048) :
    k0_pay17 (F := Ideal) (k0_pay5 (View.ld a r0_2) (View.ld w r0_1)) (View.ld x r0_2) (View.ld g r0_5) (ix2 r l)
      = blockFirst a w x g (r0_2.emb (ix2 r l)) := by
  rw [group_first, emb1, load_w, load_g]
  exact congrArg₂ (fun u v => residual u (fun k l => w (ix3 0 k l)) v (fun l => g (ix2 0 l)) l)
    (funext fun k => load1 a r k) (funext fun l => load1 x r l)
theorem piece_second1 (r : Fin 128) (l : Fin 2048) :
    k0_pay16 (F := Ideal) (k0_pay17 (F := Ideal) (k0_pay5 (View.ld a r0_2) (View.ld w r0_1)) (View.ld x r0_2) (View.ld g r0_5)) (View.ld g' r0_5) (ix2 r l)
      = blockSecond a w x g g' (r0_2.emb (ix2 r l)) := by
  rw [group_second, load_g g']
  simp only [piece_first1, emb1]
  rfl
theorem piece_first2 (r : Fin 128) (l : Fin 2048) :
    k0_pay17 (F := Ideal) (k0_pay5 (View.ld a r0_3) (View.ld w r0_1)) (View.ld x r0_3) (View.ld g r0_5) (ix2 r l)
      = blockFirst a w x g (r0_3.emb (ix2 r l)) := by
  rw [group_first, emb2, load_w, load_g]
  exact congrArg₂ (fun u v => residual u (fun k l => w (ix3 0 k l)) v (fun l => g (ix2 0 l)) l)
    (funext fun k => load2 a r k) (funext fun l => load2 x r l)
theorem piece_second2 (r : Fin 128) (l : Fin 2048) :
    k0_pay16 (F := Ideal) (k0_pay17 (F := Ideal) (k0_pay5 (View.ld a r0_3) (View.ld w r0_1)) (View.ld x r0_3) (View.ld g r0_5)) (View.ld g' r0_5) (ix2 r l)
      = blockSecond a w x g g' (r0_3.emb (ix2 r l)) := by
  rw [group_second, load_g g']
  simp only [piece_first2, emb2]
  rfl
theorem piece_first3 (r : Fin 128) (l : Fin 2048) :
    k0_pay17 (F := Ideal) (k0_pay5 (View.ld a r0_4) (View.ld w r0_1)) (View.ld x r0_4) (View.ld g r0_5) (ix2 r l)
      = blockFirst a w x g (r0_4.emb (ix2 r l)) := by
  rw [group_first, emb3, load_w, load_g]
  exact congrArg₂ (fun u v => residual u (fun k l => w (ix3 0 k l)) v (fun l => g (ix2 0 l)) l)
    (funext fun k => load3 a r k) (funext fun l => load3 x r l)
theorem piece_second3 (r : Fin 128) (l : Fin 2048) :
    k0_pay16 (F := Ideal) (k0_pay17 (F := Ideal) (k0_pay5 (View.ld a r0_4) (View.ld w r0_1)) (View.ld x r0_4) (View.ld g r0_5)) (View.ld g' r0_5) (ix2 r l)
      = blockSecond a w x g g' (r0_4.emb (ix2 r l)) := by
  rw [group_second, load_g g']
  simp only [piece_first3, emb3]
  rfl

/-- The first result's buffer at a grid point. -/
theorem out5_apply (y : S512x2048.Idx) : out0_5 (F := Ideal) a w x g g' y = blockFirst a w x g y := by
  unfold out0_5
  refine View.canon_apply_of_pieces (Val := Elt Ideal) (e := .f32) (blockFirst a w x g) _ (fun p hp j => ?_) y (cover0_5 _ _ _ _ y)
  simp only [List.mem_cons, List.mem_nil_iff, or_false] at hp
  rcases hp with rfl | rfl | rfl | rfl
  · obtain ⟨r, l, rfl⟩ : ∃ (r : Fin 128) (l : Fin 2048), j = ix2 r l := ⟨_, _, eq_ix2 j⟩
    exact Eq.trans rfl (piece_first3 a w x g r l)
  · obtain ⟨r, l, rfl⟩ : ∃ (r : Fin 128) (l : Fin 2048), j = ix2 r l := ⟨_, _, eq_ix2 j⟩
    exact Eq.trans (congrFun (group_first_2 _ _ _ _) _) (piece_first2 a w x g r l)
  · obtain ⟨r, l, rfl⟩ : ∃ (r : Fin 128) (l : Fin 2048), j = ix2 r l := ⟨_, _, eq_ix2 j⟩
    exact Eq.trans (congrFun (group_first_1 _ _ _ _) _) (piece_first1 a w x g r l)
  · obtain ⟨r, l, rfl⟩ : ∃ (r : Fin 128) (l : Fin 2048), j = ix2 r l := ⟨_, _, eq_ix2 j⟩
    exact Eq.trans (congrFun (group_first_0 _ _ _ _) _) (piece_first0 a w x g r l)
/-- The second result's buffer at a grid point. -/
theorem out6_apply (y : S512x2048.Idx) : out0_6 (F := Ideal) a w x g g' y = blockSecond a w x g g' y := by
  unfold out0_6
  refine View.canon_apply_of_pieces (Val := Elt Ideal) (e := .bf16) (blockSecond a w x g g') _ (fun p hp j => ?_) y (cover0_6 _ _ _ _ y)
  simp only [List.mem_cons, List.mem_nil_iff, or_false] at hp
  rcases hp with rfl | rfl | rfl | rfl
  · obtain ⟨r, l, rfl⟩ : ∃ (r : Fin 128) (l : Fin 2048), j = ix2 r l := ⟨_, _, eq_ix2 j⟩
    exact Eq.trans (congrFun (group_second_3 _ _ _ _ _) _) (piece_second3 a w x g g' r l)
  · obtain ⟨r, l, rfl⟩ : ∃ (r : Fin 128) (l : Fin 2048), j = ix2 r l := ⟨_, _, eq_ix2 j⟩
    exact Eq.trans (congrFun (congrArg (fun z => k0_pay16 (F := Ideal) z _) (group_first_2 _ _ _ _)) _) (piece_second2 a w x g g' r l)
  · obtain ⟨r, l, rfl⟩ : ∃ (r : Fin 128) (l : Fin 2048), j = ix2 r l := ⟨_, _, eq_ix2 j⟩
    exact Eq.trans (congrFun (group_second_1 _ _ _ _ _) _) (piece_second1 a w x g g' r l)
  · obtain ⟨r, l, rfl⟩ : ∃ (r : Fin 128) (l : Fin 2048), j = ix2 r l := ⟨_, _, eq_ix2 j⟩
    exact Eq.trans (congrFun (group_second_0 _ _ _ _ _) _) (piece_second0 a w x g g' r l)
end block

/-! The blocks' coordinates at a grid point. -/

theorem index0 : ∀ t : Fin cfg0.N, win0_0.index t = ![(grid0.coords t 0).val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, 0] := (by decide +kernel : ∀ t : Fin grid0.N, _)
theorem index6 : ∀ t : Fin cfg0.N, win0_6.index t = ![(grid0.coords t 0).val, 0] := (by decide +kernel : ∀ t : Fin grid0.N, _)

/-- Row `r` of a grid point's block, among all 8192. -/
def atRow (i : grid0.Coords) (r : Fin 512) : Fin 8192 :=
  ⟨(i 0).val * 512 + r.val, by have h0 : (i 0).val < 16 := (i 0).isLt; omega⟩

variable (m : (ℓ : Loc nD τ sig) → Buf (Elt Ideal) ℓ) (ρ : Dev nD → PrngReg)

theorem blk0 (c : Dev nD) (t : Fin cfg0.N) (r : Fin 512) (k : Fin 2048) :
    iblk m c 0 t (ix2 r k) = (V m c main_v1 : Vec Ideal S8192x2048 .bf16) (ix2 (atRow (grid0.coords t) r) k) := by
  unfold iblk
  blk_simp
  exact congrArg (V m c main_v1 : Vec Ideal S8192x2048 .bf16) (by blk_ext [index0, atRow])
theorem blk1 (c : Dev nD) (t : Fin cfg0.N) (k : Fin 2048) (l : Fin 2048) :
    iblk m c 1 t (ix3 0 k l) = (V m c main_v2 : Vec Ideal S1x2048x2048 .bf16) (ix3 0 k l) := by
  unfold iblk
  blk_simp
  exact congrArg (V m c main_v2 : Vec Ideal S1x2048x2048 .bf16) (by blk_ext [index1])
theorem blk2 (c : Dev nD) (t : Fin cfg0.N) (r : Fin 512) (l : Fin 2048) :
    iblk m c 2 t (ix2 r l) = (V m c main_v3 : Vec Ideal S8192x2048 .f32) (ix2 (atRow (grid0.coords t) r) l) := by
  unfold iblk
  blk_simp
  exact congrArg (V m c main_v3 : Vec Ideal S8192x2048 .f32) (by blk_ext [index2, atRow])
theorem blk3 (c : Dev nD) (t : Fin cfg0.N) (l : Fin 2048) :
    iblk m c 3 t (ix2 0 l) = (V m c main_v8 : Vec Ideal S1x2048 .f32) (ix2 0 l) := by
  unfold iblk
  blk_simp
  exact congrArg (V m c main_v8 : Vec Ideal S1x2048 .f32) (by blk_ext [index3])
theorem blk4 (c : Dev nD) (t : Fin cfg0.N) (l : Fin 2048) :
    iblk m c 4 t (ix2 0 l) = (V m c main_v9 : Vec Ideal S1x2048 .f32) (ix2 0 l) := by
  unfold iblk
  blk_simp
  exact congrArg (V m c main_v9 : Vec Ideal S1x2048 .f32) (by blk_ext [index4])

/-- The launch arguments, read as arrays. -/
abbrev argA (c : Dev nD) : Vec Ideal S4x2048x2048 .f32 := m ((c : Thread nD τ).loc main_arg0)
abbrev argW (c : Dev nD) : Vec Ideal S1x2048x2048 .f32 := m ((c : Thread nD τ).loc main_arg1)
abbrev argX (c : Dev nD) : Vec Ideal S4x2048x2048 .f32 := m ((c : Thread nD τ).loc main_arg2)
abbrev argG (c : Dev nD) : Vec Ideal S4x4x2048 .f32 := m ((c : Thread nD τ).loc main_arg3)

/-! The arrays the windows read, from the launch arguments. -/

theorem arr_a (c : Dev nD) (n : Fin 8192) (k : Fin 2048) : (V m c main_v1 : Vec Ideal S8192x2048 .bf16) (ix2 n k)
    = argA m c (ix3 ⟨n.val / 2048, by omega⟩ ⟨n.val % 2048, by omega⟩ k) := by
  show (StableHlo.after hostOps0 _ (Proc.devRef .tc main_v1) : Vec Ideal S8192x2048 .bf16) _ = _
  after_results
  pointwise
theorem arr_w (c : Dev nD) (k : Fin 2048) (l : Fin 2048) : (V m c main_v2 : Vec Ideal S1x2048x2048 .bf16) (ix3 0 k l)
    = argW m c (ix3 0 k l) := by
  show (StableHlo.after hostOps0 _ (Proc.devRef .tc main_v2) : Vec Ideal S1x2048x2048 .bf16) _ = _
  after_results
  pointwise
theorem arr_x (c : Dev nD) (n : Fin 8192) (l : Fin 2048) : (V m c main_v3 : Vec Ideal S8192x2048 .f32) (ix2 n l)
    = argX m c (ix3 ⟨n.val / 2048, by omega⟩ ⟨n.val % 2048, by omega⟩ l) := by
  show (StableHlo.after hostOps0 _ (Proc.devRef .tc main_v3) : Vec Ideal S8192x2048 .f32) _ = _
  after_results
  pointwise
theorem arr_g (c : Dev nD) (l : Fin 2048) : (V m c main_v8 : Vec Ideal S1x2048 .f32) (ix2 0 l) = argG m c (ix3 0 1 l) := by
  show (StableHlo.after hostOps0 _ (Proc.devRef .tc main_v8) : Vec Ideal S1x2048 .f32) _ = _
  after_results
  pointwise
theorem arr_g' (c : Dev nD) (l : Fin 2048) : (V m c main_v9 : Vec Ideal S1x2048 .f32) (ix2 0 l) = argG m c (ix3 0 2 l) := by
  show (StableHlo.after hostOps0 _ (Proc.devRef .tc main_v9) : Vec Ideal S1x2048 .f32) _ = _
  after_results
  pointwise

/-- The residual of row `n` of all 8192, from the launch arguments. -/
def outRow (x0 : Vec Ideal S4x2048x2048 .f32) (x1 : Vec Ideal S1x2048x2048 .f32) (x2 : Vec Ideal S4x2048x2048 .f32)
    (x3 : Vec Ideal S4x4x2048 .f32) (n : Fin 8192) : Fin 2048 → EReal :=
  residual (fun k : Fin 2048 => x0 (ix3 ⟨n.val / 2048, by omega⟩ ⟨n.val % 2048, by omega⟩ k)) (fun k l => x1 (ix3 0 k l))
    (fun l => x2 (ix3 ⟨n.val / 2048, by omega⟩ ⟨n.val % 2048, by omega⟩ l)) (fun l => x3 (ix3 0 1 l))

theorem blockRow_eq (c : Dev nD) (t : Fin cfg0.N) (r : Fin 512) :
    blockRow (iblk m c 0 t) (iblk m c 1 t) (iblk m c 2 t) (iblk m c 3 t) r
      = outRow (argA m c) (argW m c) (argX m c) (argG m c) (atRow (grid0.coords t) r) := by
  unfold blockRow outRow
  congr 1
  · funext k; rw [blk0]; exact arr_a m c _ k
  · funext k l; rw [blk1]; exact arr_w m c k l
  · funext l; rw [blk2]; exact arr_x m c _ l
  · funext l; rw [blk3]; exact arr_g m c l

/-- The first result, as an array. -/
def firstArr (x0 : Vec Ideal S4x2048x2048 .f32) (x1 : Vec Ideal S1x2048x2048 .f32) (x2 : Vec Ideal S4x2048x2048 .f32)
    (x3 : Vec Ideal S4x4x2048 .f32) (y : S8192x2048.Idx) : EReal := outRow x0 x1 x2 x3 (y 0) (y 1)
/-- The second result, as an array. -/
def secondArr (x0 : Vec Ideal S4x2048x2048 .f32) (x1 : Vec Ideal S1x2048x2048 .f32) (x2 : Vec Ideal S4x2048x2048 .f32)
    (x3 : Vec Ideal S4x4x2048 .f32) (y : S8192x2048.Idx) : EReal :=
  scaled (outRow x0 x1 x2 x3 (y 0)) (fun l => x3 (ix3 0 2 l)) (y 1)

theorem final5 (c : Dev nD) : (dats m 0 c).arrAt 5 cfg0.N = firstArr (argA m c) (argW m c) (argX m c) (argG m c) := by
  refine (dats m 0 c).arrAt_eq_of_covers 5 _ (by decide +kernel) fun t hf y => ?_
  blk_simp
  rw [after0_5]
  obtain ⟨r, l, rfl⟩ : ∃ (r : Fin 512) (l : Fin 2048), y = ix2 r l := ⟨_, _, eq_ix2 y⟩
  rw [show (win0_5.blk t).view.emb (ix2 r l) = (ix2 (atRow (grid0.coords t) r) l : S8192x2048.Idx) from by blk_ext [index5, atRow]]
  rw [out5_apply]
  exact congrFun (blockRow_eq m c t r) l
theorem final6 (c : Dev nD) : (dats m 0 c).arrAt 6 cfg0.N = secondArr (argA m c) (argW m c) (argX m c) (argG m c) := by
  refine (dats m 0 c).arrAt_eq_of_covers 6 _ (by decide +kernel) fun t hf y => ?_
  blk_simp
  rw [after0_6]
  obtain ⟨r, l, rfl⟩ : ∃ (r : Fin 512) (l : Fin 2048), y = ix2 r l := ⟨_, _, eq_ix2 y⟩
  rw [show (win0_6.blk t).view.emb (ix2 r l) = (ix2 (atRow (grid0.coords t) r) l : S8192x2048.Idx) from by blk_ext [index6, atRow]]
  rw [out6_apply]
  show scaled (blockRow (iblk m c 0 t) (iblk m c 1 t) (iblk m c 2 t) (iblk m c 3 t) r) _ l = _
  rw [blockRow_eq]
  exact congrArg (fun g => scaled (outRow (argA m c) (argW m c) (argX m c) (argG m c) (atRow (grid0.coords t) r)) g l)
    (funext fun k => (blk4 m c t k).trans (arr_g' m c k))

end Cert.Out
end
-- ==== Proof.OutClaims.lean ====
/-
  The claims about the projection of an attention's output.
-/
module

public import proofs.«01_k».proof.Defs
public import proofs.«01_k».proof.Proof.OutRef
public import proofs.«01_k».proof.Proof.OutBlock
public import proofs.«01_k».proof.Proof.Gen.Out.Frame
public import proofs.«01_k».proof.Proof.Gen.OutIdeal.Frame
public import proofs.«01_k».proof.Proof.Gen.OutRefIdeal.Run
public import Idealize.ShloMosaic.Lib.Quiescent

@[expose] public section

noncomputable section

namespace Cert.Proof.OutClaims

open Idealize.ShloMosaic Idealize.ShloMosaic.TcCoe Idealize.SL.Sem

/-- The kernel as shipped ends from every memory, its arguments unchanged. -/
theorem frame_p : Cert.quiescent_Out := fun m ρ _ => Cert.Out.Gen.frame m ρ

/-- The idealized kernel ends from every memory, its arguments unchanged. -/
theorem frame_pi : Cert.quiescent_OutIdeal := fun m ρ _ => Cert.OutIdeal.Gen.frame m ρ

/-- The reference ends from every memory, its arguments unchanged. -/
theorem frame_ri : Cert.quiescent_OutRefIdeal := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

/-- The idealized kernel is the kernel's own text. -/
theorem preserves : Cert.preserves_Out_OutIdeal := trivial

/-- The kernel's first result is the reference's. -/
theorem first_eq (x0 : Vec Ideal Cert.OutIdeal.S4x2048x2048 .f32) (x1 : Vec Ideal Cert.OutIdeal.S1x2048x2048 .f32)
    (x2 : Vec Ideal Cert.OutIdeal.S4x2048x2048 .f32) (x3 : Vec Ideal Cert.OutIdeal.S4x4x2048 .f32) :
    Cert.OutRefIdeal.Read.val_main_v33 (F := Ideal) x0 x1 x2 x3 = Cert.Out.firstArr x0 x1 x2 x3 :=
  funext fun y => by
    obtain ⟨n, l, rfl⟩ : ∃ (n : Fin 8192) (l : Fin 2048), y = ix2 n l := ⟨_, _, eq_ix2 y⟩
    exact Cert.Out.ref_first x0 x1 x2 x3 n l

/-- The kernel's second result is the reference's. -/
theorem second_eq (x0 : Vec Ideal Cert.OutIdeal.S4x2048x2048 .f32) (x1 : Vec Ideal Cert.OutIdeal.S1x2048x2048 .f32)
    (x2 : Vec Ideal Cert.OutIdeal.S4x2048x2048 .f32) (x3 : Vec Ideal Cert.OutIdeal.S4x4x2048 .f32) :
    Cert.OutRefIdeal.Read.val_main_v35 (F := Ideal) x0 x1 x2 x3 = Cert.Out.secondArr x0 x1 x2 x3 :=
  funext fun y => by
    obtain ⟨n, l, rfl⟩ : ∃ (n : Fin 8192) (l : Fin 2048), y = ix2 n l := ⟨_, _, eq_ix2 y⟩
    exact Cert.Out.ref_second x0 x1 x2 x3 n l

/-- Over the extended reals, kernel and reference end with the same two results. -/
theorem algebraic : Cert.algebraic_OutIdeal_OutRefIdeal := by
  intro m ρ m' ρ' hpre hagree
  refine ⟨_, _, Cert.OutIdeal.Value.run_blocks m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  · obtain ⟨e0, e1, e2, e3⟩ := hagree c
    rw [Cert.Out.final5, Cert.OutRefIdeal.Read.val_main_v33_eq, e0, e1, e2, e3]
    exact first_eq _ _ _ _
  · obtain ⟨e0, e1, e2, e3⟩ := hagree c
    rw [Cert.Out.final6, Cert.OutRefIdeal.Read.val_main_v35_eq, e0, e1, e2, e3]
    exact second_eq _ _ _ _

end Cert.Proof.OutClaims

end
-- ==== Proof.HgrnInBlock.lean ====
/-
  The kernel's input projection of the recurrence: its block at a grid point, the weight block it carries between points,
  and its result array.
-/
module

public import proofs.«01_k».proof.Proof.Gen.HgrnInIdeal.Value
public import Idealize.ShloMosaic.Lib.Pointwise
public import Idealize.ShloMosaic.Lib.Pipeline.ValueKit.Geometry

@[expose] public section

set_option maxRecDepth 16384

noncomputable section

namespace Cert.HgrnIn

open Idealize.ShloMosaic Idealize.ShloMosaic.TcCoe Idealize.ShloMosaic.Tactic Idealize.ShloMosaic.Pipeline
open Cert.HgrnInIdeal Cert.HgrnInIdeal.Gen

/-! What the body leaves, at a point where it casts the weight block and at one where it keeps it. -/

theorem zeros : (![0, 0] : Fin 2 → ℕ) = fun _ => 0 := funext fun a => by fin_cases a <;> rfl

section body
variable {F : FTy → Type} [FloatOps F] (c : Dev nD) (i : grid0.Coords)
  (a2 : Memref sig .tc .vmem S1024x2048 .bf16) (h2 : a2.IsWhole) (a3 : Memref sig .tc .vmem S1x2048 .f32) (h3 : a3.IsWhole)
  (a4 : Memref sig .tc .vmem S2048x1024 .f32) (h4 : a4.IsWhole) (a5 : Memref sig .tc .vmem S1024x1024 .f32) (h5 : a5.IsWhole)
  (a6 : Memref sig .tc .vmem S2048x1024 .bf16) (h6 : a6.IsWhole)
  (x0 : Vec F S1024x2048 .bf16) (x1 : Vec F S1x2048 .f32) (x2 : Vec F S2048x1024 .f32) (s : Vec F S2048x1024 .bf16)

/-- The carried block, cast. -/
theorem carried_first (hc : cond0_0 i) : sout0_A_0 c i a2 h2 a3 h3 a4 h4 a5 h5 a6 h6 hc x0 x1 x2 = k0_pay1 x2 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeros]
  simp only [View.readAt_eq_ld, h4.read_unread, View.ld_unit_zero (S := S2048x1024) zeros]

/-- The product at a point that casts. -/
theorem product_first (hc : cond0_0 i) : out0_A_3 c i a2 h2 a3 h3 a4 h4 a5 h5 a6 h6 hc x0 x1 x2 = k0_pay2 x0 (k0_pay1 x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeros, View.readCov_unit_zero (S := S2048x1024) _ zeros]
  simp only [View.readAt_eq_ld, h2.read_unread, h4.read_unread, View.ld_unit_zero (S := S2048x1024) zeros,
    View.ld_unit_zero (S := S1024x2048) zeros]

/-- The carried block, kept. -/
theorem carried_next (hc : ¬cond0_0 i) : sout0_B_0 c i a2 h2 a3 h3 a4 h4 a5 h5 a6 h6 hc x0 x1 x2 s = s := rfl

/-- The product at a point that keeps the carried block. -/
theorem product_next (hc : ¬cond0_0 i) : out0_B_3 c i a2 h2 a3 h3 a4 h4 a5 h5 a6 h6 hc x0 x1 x2 s = k0_pay2 x0 s := by
  unfold out0_B_3
  rw [View.read_writes_eq_canon _ _ _ (cover0_B_3 c i a2 h2 a3 h3 a4 h4 a5 h5 a6 h6 hc x0 x1 x2 s)]
  unfold kernelRun0_B
  dsimp only
  rw [View.canon_unit_zero zeros]
  simp only [View.readAt_eq_ld, h2.read_unread, h6.read_unread, View.ld_unit_zero (S := S2048x1024) zeros,
    View.ld_unit_zero (S := S1024x2048) zeros]
end body

/-! The blocks' coordinates at a grid point. -/

theorem index0 : ∀ t : Fin cfg0.N, win0_0.index t = ![(grid0.coords t 1).val, 0] := (by decide +kernel : ∀ t : Fin grid0.N, _)
theorem index2 : ∀ t : Fin cfg0.N, win0_2.index t = ![0, (grid0.coords t 0).val] := (by decide +kernel : ∀ t : Fin grid0.N, _)
theorem index3 : ∀ t : Fin cfg0.N, win0_3.index t = ![(grid0.coords t 1).val, (grid0.coords t 0).val] :=
  (by decide +kernel : ∀ t : Fin grid0.N, _)
theorem coords0 : ∀ t : Fin cfg0.N, (grid0.coords t 0).val = t.val / 8 := (by decide +kernel : ∀ t : Fin grid0.N, _)

/-- Row `r` of a grid point's block, among all 8192. -/
def atRow (i : grid0.Coords) (r : Fin 1024) : Fin 8192 :=
  ⟨(i 1).val * 1024 + r.val, by have h : (i 1).val < 8 := (i 1).isLt; omega⟩
/-- Column `l` of a grid point's block, among all 8192. -/
def atCol (i : grid0.Coords) (l : Fin 1024) : Fin 8192 :=
  ⟨(i 0).val * 1024 + l.val, by have h : (i 0).val < 8 := (i 0).isLt; omega⟩

variable (m : (ℓ : Loc nD τ sig) → Buf (Elt Ideal) ℓ) (ρ : Dev nD → PrngReg)

theorem blk0 (c : Dev nD) (t : Fin cfg0.N) (r : Fin 1024) (k : Fin 2048) :
    iblk m c 0 t (ix2 r k) = (V m c main_v1 : Vec Ideal S8192x2048 .bf16) (ix2 (atRow (grid0.coords t) r) k) := by
  unfold iblk
  blk_simp
  exact congrArg (V m c main_v1 : Vec Ideal S8192x2048 .bf16) (by blk_ext [index0, atRow])
theorem blk2 (c : Dev nD) (t : Fin cfg0.N) (k : Fin 2048) (l : Fin 1024) :
    iblk m c 2 t (ix2 k l) = (V m c main_v2 : Vec Ideal S2048x8192 .f32) (ix2 k (atCol (grid0.coords t) l)) := by
  unfold iblk
  blk_simp
  exact congrArg (V m c main_v2 : Vec Ideal S2048x8192 .f32) (by blk_ext [index2, atCol])

/-- The launch arguments, read as arrays. -/
abbrev argH (c : Dev nD) : Vec Ideal S4x2048x2048 .f32 := m ((c : Thread nD τ).loc main_arg0)
abbrev argW (c : Dev nD) : Vec Ideal S1x2048x8192 .f32 := m ((c : Thread nD τ).loc main_arg1)

/-! The arrays the windows read, from the launch arguments. -/

theorem arr_h (c : Dev nD) (n : Fin 8192) (k : Fin 2048) : (V m c main_v1 : Vec Ideal S8192x2048 .bf16) (ix2 n k)
    = argH m c (ix3 ⟨n.val / 2048, by omega⟩ ⟨n.val % 2048, by omega⟩ k) := by
  show (StableHlo.after hostOps0 _ (Proc.devRef .tc main_v1) : Vec Ideal S8192x2048 .bf16) _ = _
  after_results
  pointwise
theorem arr_w (c : Dev nD) (k : Fin 2048) (l : Fin 8192) : (V m c main_v2 : Vec Ideal S2048x8192 .f32) (ix2 k l)
    = argW m c (ix3 0 k l) := by
  show (StableHlo.after hostOps0 _ (Proc.devRef .tc main_v2) : Vec Ideal S2048x8192 .f32) _ = _
  after_results
  pointwise

/-- Consecutive points of one column of blocks read the same weight block. -/
theorem weight_kept (c : Dev nD) (t t' : Fin cfg0.N) (h : t.val / 8 = t'.val / 8) : iblk m c 2 t = iblk m c 2 t' := by
  funext y
  obtain ⟨k, l, rfl⟩ : ∃ (k : Fin 2048) (l : Fin 1024), y = ix2 k l := ⟨_, _, eq_ix2 y⟩
  rw [blk2, blk2]
  refine congrArg (fun q => (V m c main_v2 : Vec Ideal S2048x8192 .f32) (ix2 k q)) (Fin.ext ?_)
  show (grid0.coords t 0).val * 1024 + l.val = (grid0.coords t' 0).val * 1024 + l.val
  rw [coords0, coords0, h]

/-- After every point the carried block is that point's weight block, cast. -/
theorem carried (c : Dev nD) : ∀ (n : ℕ) (t : Fin cfg0.N), t.val = n →
    (outsAt0 m c t.val t.isLt).2 = k0_pay1 (F := Ideal) (iblk m c 2 t)
  | 0, t, h => by rw [outsAt0_A m c t (by rw [h]), carried_first]
  | n + 1, t, h => by
    by_cases h0 : t.val % 8 = 0
    · rw [outsAt0_A m c t h0, carried_first]
    · have ih := carried c n ⟨t.val - 1, by have := t.isLt; omega⟩ (by show t.val - 1 = n; omega)
      rw [outsAt0_B m c t h0, carried_next, ih,
        weight_kept m c ⟨t.val - 1, by have := t.isLt; omega⟩ t (show (t.val - 1) / 8 = t.val / 8 by omega)]

/-- After every point the result's buffer holds the product of the point's rows with its weight block. -/
theorem product (c : Dev nD) (t : Fin cfg0.N) :
    (outsAt0 m c t.val t.isLt).1 = k0_pay2 (F := Ideal) (iblk m c 0 t) (k0_pay1 (F := Ideal) (iblk m c 2 t)) := by
  by_cases h0 : t.val % 8 = 0
  · rw [outsAt0_A m c t h0, product_first]
  · have ih := carried m c (t.val - 1) ⟨t.val - 1, by have := t.isLt; omega⟩ rfl
    rw [outsAt0_B m c t h0, product_next, ih,
      weight_kept m c ⟨t.val - 1, by have := t.isLt; omega⟩ t (show (t.val - 1) / 8 = t.val / 8 by omega)]

/-- The block's product at an index: a sum over the rows of the weight. -/
theorem product_apply (a : Vec Ideal S1024x2048 .bf16) (w : Vec Ideal S2048x1024 .f32) (r l : Fin 1024) :
    k0_pay2 (F := Ideal) a (k0_pay1 w) (ix2 r l) = ∑ k : Fin 2048, a (ix2 r k) * w (ix2 k l) := by
  pointwise [k0_pay2, k0_pay1]

/-- The projection, as an array. -/
def projArr (x0 : Vec Ideal S4x2048x2048 .f32) (x1 : Vec Ideal S1x2048x8192 .f32) (y : S8192x8192.Idx) : EReal :=
  ∑ k : Fin 2048, x0 (ix3 ⟨(y 0).val / 2048, by have : (y 0).val < 8192 := (y 0).isLt; omega⟩ ⟨(y 0).val % 2048, by omega⟩ k)
    * x1 (ix3 0 k (y 1))

theorem final (c : Dev nD) : (dats m 0 c).arrAt 3 cfg0.N = projArr (argH m c) (argW m c) := by
  refine (dats m 0 c).arrAt_eq_of_covers 3 _ (by decide +kernel) fun t hf y => ?_
  blk_simp
  rw [after0_3, product]
  obtain ⟨r, l, rfl⟩ : ∃ (r l : Fin 1024), y = ix2 r l := ⟨_, _, eq_ix2 y⟩
  rw [show (win0_3.blk t).view.emb (ix2 r l) = (ix2 (atRow (grid0.coords t) r) (atCol (grid0.coords t) l) : S8192x8192.Idx) from by
    blk_ext [index3, atRow, atCol]]
  refine (product_apply _ _ r l).trans (Finset.sum_congr rfl fun k _ => ?_)
  rw [blk0, blk2, arr_h, arr_w]
  rfl

end Cert.HgrnIn
end
-- ==== Proof.HgrnInClaims.lean ====
/-
  The claims about the input projection of the recurrence.
-/
module

public import proofs.«01_k».proof.Defs
public import proofs.«01_k».proof.Proof.HgrnInBlock
public import proofs.«01_k».proof.Proof.Gen.HgrnIn.Frame
public import proofs.«01_k».proof.Proof.Gen.HgrnInIdeal.Frame
public import proofs.«01_k».proof.Proof.Gen.HgrnInRefIdeal.Run
public import proofs.«01_k».proof.Proof.Gen.HgrnInRefIdeal.Read
public import Idealize.ShloMosaic.Lib.Quiescent

@[expose] public section

noncomputable section

namespace Cert.Proof.HgrnInClaims

open Idealize.ShloMosaic Idealize.ShloMosaic.TcCoe Idealize.ShloMosaic.Tactic Idealize.SL.Sem

/-- The kernel as shipped ends from every memory, its arguments unchanged. -/
theorem frame_p : Cert.quiescent_HgrnIn := fun m ρ _ => Cert.HgrnIn.Gen.frame m ρ

/-- The idealized kernel ends from every memory, its arguments unchanged. -/
theorem frame_pi : Cert.quiescent_HgrnInIdeal := fun m ρ _ => Cert.HgrnInIdeal.Gen.frame m ρ

/-- The reference ends from every memory, its arguments unchanged. -/
theorem frame_ri : Cert.quiescent_HgrnInRefIdeal := fun m ρ _ =>
  (θ_run Cert.HgrnInRefIdeal.defs _ _).mono (fun r h => ⟨fun c => (h c).2,
      Idealize.ShloMosaic.sem_eq_zero_of_no_sems (by decide) r.2⟩)
    (Cert.HgrnInRefIdeal.Value.run (F := Ideal) m ρ)

/-- The idealized kernel is the kernel's own text. -/
theorem preserves : Cert.preserves_HgrnIn_HgrnInIdeal := trivial

/-- The reference's projection is the kernel's. -/
theorem proj_eq (x0 : Vec Ideal Cert.HgrnInIdeal.S4x2048x2048 .f32) (x1 : Vec Ideal Cert.HgrnInIdeal.S1x2048x8192 .f32) :
    Cert.HgrnInRefIdeal.Read.val_main_v2 (F := Ideal) x0 x1 = Cert.HgrnIn.projArr x0 x1 := by
  funext y
  obtain ⟨n, l, rfl⟩ : ∃ (n : Fin 8192) (l : Fin 8192), y = ix2 n l := ⟨_, _, eq_ix2 y⟩
  pointwise [Cert.HgrnInRefIdeal.Read.val_main_v2, Cert.HgrnInRefIdeal.Read.val_main_v1, Cert.HgrnInRefIdeal.Read.val_main_v0]
  rfl

/-- Over the extended reals, kernel and reference end with the same result. -/
theorem algebraic : Cert.algebraic_HgrnInIdeal_HgrnInRefIdeal := by
  intro m ρ m' ρ' hpre hagree
  refine ⟨_, Cert.HgrnInIdeal.Value.run_blocks m ρ, ?_⟩
  refine (θ_run Cert.HgrnInRefIdeal.defs _ _).mono (fun _ h c => ⟨(h c).1.trans ?_, (h c).2⟩)
    (Cert.HgrnInRefIdeal.Value.run (F := Ideal) m' ρ')
  obtain ⟨e0, e1⟩ := hagree c
  rw [Cert.HgrnIn.final, Cert.HgrnInRefIdeal.Read.val_main_v2_eq, e0, e1]
  exact proj_eq _ _

end Cert.Proof.HgrnInClaims

end
-- ==== Proof.DiffInBlock.lean ====
/-
  The kernel's input projection of the differential attention: its block at a grid point, the weight block it carries between points,
  and its result array.
-/
module

public import proofs.«01_k».proof.Proof.Gen.DiffInIdeal.Value
public import Idealize.ShloMosaic.Lib.Pointwise
public import Idealize.ShloMosaic.Lib.Pipeline.ValueKit.Geometry

@[expose] public section

set_option maxRecDepth 16384

noncomputable section

namespace Cert.DiffIn

open Idealize.ShloMosaic Idealize.ShloMosaic.TcCoe Idealize.ShloMosaic.Tactic Idealize.ShloMosaic.Pipeline
open Cert.DiffInIdeal Cert.DiffInIdeal.Gen

/-! What the body leaves, at a point where it casts the weight block and at one where it keeps it. -/

theorem zeros : (![0, 0] : Fin 2 → ℕ) = fun _ => 0 := funext fun a => by fin_cases a <;> rfl

section body
variable {F : FTy → Type} [FloatOps F] (c : Dev nD) (i : grid0.Coords)
  (a2 : Memref sig .tc .vmem S1024x2048 .bf16) (h2 : a2.IsWhole) (a3 : Memref sig .tc .vmem S1x2048 .f32) (h3 : a3.IsWhole)
  (a4 : Memref sig .tc .vmem S2048x1024 .f32) (h4 : a4.IsWhole) (a5 : Memref sig .tc .vmem S1024x1024 .bf16) (h5 : a5.IsWhole)
  (a6 : Memref sig .tc .vmem S2048x1024 .bf16) (h6 : a6.IsWhole)
  (x0 : Vec F S1024x2048 .bf16) (x1 : Vec F S1x2048 .f32) (x2 : Vec F S2048x1024 .f32) (s : Vec F S2048x1024 .bf16)

/-- The carried block, cast. -/
theorem carried_first (hc : cond0_0 i) : sout0_A_0 c i a2 h2 a3 h3 a4 h4 a5 h5 a6 h6 hc x0 x1 x2 = k0_pay1 x2 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeros]
  simp only [View.readAt_eq_ld, h4.read_unread, View.ld_unit_zero (S := S2048x1024) zeros]

/-- The product at a point that casts. -/
theorem product_first (hc : cond0_0 i) : out0_A_3 c i a2 h2 a3 h3 a4 h4 a5 h5 a6 h6 hc x0 x1 x2 = k0_pay2 x0 (k0_pay1 x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeros, View.readCov_unit_zero (S := S2048x1024) _ zeros]
  simp only [View.readAt_eq_ld, h2.read_unread, h4.read_unread, View.ld_unit_zero (S := S2048x1024) zeros,
    View.ld_unit_zero (S := S1024x2048) zeros]

/-- The carried block, kept. -/
theorem carried_next (hc : ¬cond0_0 i) : sout0_B_0 c i a2 h2 a3 h3 a4 h4 a5 h5 a6 h6 hc x0 x1 x2 s = s := rfl

/-- The product at a point that keeps the carried block. -/
theorem product_next (hc : ¬cond0_0 i) : out0_B_3 c i a2 h2 a3 h3 a4 h4 a5 h5 a6 h6 hc x0 x1 x2 s = k0_pay2 x0 s := by
  unfold out0_B_3
  rw [View.read_writes_eq_canon _ _ _ (cover0_B_3 c i a2 h2 a3 h3 a4 h4 a5 h5 a6 h6 hc x0 x1 x2 s)]
  unfold kernelRun0_B
  dsimp only
  rw [View.canon_unit_zero zeros]
  simp only [View.readAt_eq_ld, h2.read_unread, h6.read_unread, View.ld_unit_zero (S := S2048x1024) zeros,
    View.ld_unit_zero (S := S1024x2048) zeros]
end body

/-! The blocks' coordinates at a grid point. -/

theorem index0 : ∀ t : Fin cfg0.N, win0_0.index t = ![(grid0.coords t 1).val, 0] := (by decide +kernel : ∀ t : Fin grid0.N, _)
theorem index2 : ∀ t : Fin cfg0.N, win0_2.index t = ![0, 2 + (grid0.coords t 0).val] := (by decide +kernel : ∀ t : Fin grid0.N, _)
theorem index3 : ∀ t : Fin cfg0.N, win0_3.index t = ![(grid0.coords t 1).val, (grid0.coords t 0).val] :=
  (by decide +kernel : ∀ t : Fin grid0.N, _)
theorem coords0 : ∀ t : Fin cfg0.N, (grid0.coords t 0).val = t.val / 8 := (by decide +kernel : ∀ t : Fin grid0.N, _)

/-- Row `r` of a grid point's block, among all 8192. -/
def atRow (i : grid0.Coords) (r : Fin 1024) : Fin 8192 :=
  ⟨(i 1).val * 1024 + r.val, by have h : (i 1).val < 8 := (i 1).isLt; omega⟩
/-- Column `l` of a grid point's block, among the result's 4096. -/
def atCol (i : grid0.Coords) (l : Fin 1024) : Fin 4096 :=
  ⟨(i 0).val * 1024 + l.val, by have h : (i 0).val < 4 := (i 0).isLt; omega⟩
/-- The weight's column of a result's column: the queries' 2048 columns come first. -/
def wCol (l : Fin 4096) : Fin 6144 := ⟨2048 + l.val, by omega⟩

variable (m : (ℓ : Loc nD τ sig) → Buf (Elt Ideal) ℓ) (ρ : Dev nD → PrngReg)

theorem blk0 (c : Dev nD) (t : Fin cfg0.N) (r : Fin 1024) (k : Fin 2048) :
    iblk m c 0 t (ix2 r k) = (V m c main_v1 : Vec Ideal S8192x2048 .bf16) (ix2 (atRow (grid0.coords t) r) k) := by
  unfold iblk
  blk_simp
  exact congrArg (V m c main_v1 : Vec Ideal S8192x2048 .bf16) (by blk_ext [index0, atRow])
theorem blk2 (c : Dev nD) (t : Fin cfg0.N) (k : Fin 2048) (l : Fin 1024) :
    iblk m c 2 t (ix2 k l) = (V m c main_v2 : Vec Ideal S2048x6144 .f32) (ix2 k (wCol (atCol (grid0.coords t) l))) := by
  unfold iblk
  blk_simp
  exact congrArg (V m c main_v2 : Vec Ideal S2048x6144 .f32) (by blk_ext [index2, atCol, wCol])

/-- The launch arguments, read as arrays. -/
abbrev argH (c : Dev nD) : Vec Ideal S4x2048x2048 .f32 := m ((c : Thread nD τ).loc main_arg0)
abbrev argW (c : Dev nD) : Vec Ideal S1x2048x6144 .f32 := m ((c : Thread nD τ).loc main_arg1)

/-! The arrays the windows read, from the launch arguments. -/

theorem arr_h (c : Dev nD) (n : Fin 8192) (k : Fin 2048) : (V m c main_v1 : Vec Ideal S8192x2048 .bf16) (ix2 n k)
    = argH m c (ix3 ⟨n.val / 2048, by omega⟩ ⟨n.val % 2048, by omega⟩ k) := by
  show (StableHlo.after hostOps0 _ (Proc.devRef .tc main_v1) : Vec Ideal S8192x2048 .bf16) _ = _
  after_results
  pointwise
theorem arr_w (c : Dev nD) (k : Fin 2048) (l : Fin 6144) : (V m c main_v2 : Vec Ideal S2048x6144 .f32) (ix2 k l)
    = argW m c (ix3 0 k l) := by
  show (StableHlo.after hostOps0 _ (Proc.devRef .tc main_v2) : Vec Ideal S2048x6144 .f32) _ = _
  after_results
  pointwise

/-- Consecutive points of one column of blocks read the same weight block. -/
theorem weight_kept (c : Dev nD) (t t' : Fin cfg0.N) (h : t.val / 8 = t'.val / 8) : iblk m c 2 t = iblk m c 2 t' := by
  funext y
  obtain ⟨k, l, rfl⟩ : ∃ (k : Fin 2048) (l : Fin 1024), y = ix2 k l := ⟨_, _, eq_ix2 y⟩
  rw [blk2, blk2]
  refine congrArg (fun q => (V m c main_v2 : Vec Ideal S2048x6144 .f32) (ix2 k q)) (Fin.ext ?_)
  show 2048 + ((grid0.coords t 0).val * 1024 + l.val) = 2048 + ((grid0.coords t' 0).val * 1024 + l.val)
  rw [coords0, coords0, h]

/-- After every point the carried block is that point's weight block, cast. -/
theorem carried (c : Dev nD) : ∀ (n : ℕ) (t : Fin cfg0.N), t.val = n →
    (outsAt0 m c t.val t.isLt).2 = k0_pay1 (F := Ideal) (iblk m c 2 t)
  | 0, t, h => by rw [outsAt0_A m c t (by rw [h]), carried_first]
  | n + 1, t, h => by
    by_cases h0 : t.val % 8 = 0
    · rw [outsAt0_A m c t h0, carried_first]
    · have ih := carried c n ⟨t.val - 1, by have := t.isLt; omega⟩ (by show t.val - 1 = n; omega)
      rw [outsAt0_B m c t h0, carried_next, ih,
        weight_kept m c ⟨t.val - 1, by have := t.isLt; omega⟩ t (show (t.val - 1) / 8 = t.val / 8 by omega)]

/-- After every point the result's buffer holds the product of the point's rows with its weight block. -/
theorem product (c : Dev nD) (t : Fin cfg0.N) :
    (outsAt0 m c t.val t.isLt).1 = k0_pay2 (F := Ideal) (iblk m c 0 t) (k0_pay1 (F := Ideal) (iblk m c 2 t)) := by
  by_cases h0 : t.val % 8 = 0
  · rw [outsAt0_A m c t h0, product_first]
  · have ih := carried m c (t.val - 1) ⟨t.val - 1, by have := t.isLt; omega⟩ rfl
    rw [outsAt0_B m c t h0, product_next, ih,
      weight_kept m c ⟨t.val - 1, by have := t.isLt; omega⟩ t (show (t.val - 1) / 8 = t.val / 8 by omega)]

/-- The block's product at an index: a sum over the rows of the weight. -/
theorem product_apply (a : Vec Ideal S1024x2048 .bf16) (w : Vec Ideal S2048x1024 .f32) (r l : Fin 1024) :
    k0_pay2 (F := Ideal) a (k0_pay1 w) (ix2 r l) = ∑ k : Fin 2048, a (ix2 r k) * w (ix2 k l) := by
  pointwise [k0_pay2, k0_pay1]

/-- The projection, as an array. -/
def projArr (x0 : Vec Ideal S4x2048x2048 .f32) (x1 : Vec Ideal S1x2048x6144 .f32) (y : S8192x4096.Idx) : EReal :=
  ∑ k : Fin 2048, x0 (ix3 ⟨(y 0).val / 2048, by have : (y 0).val < 8192 := (y 0).isLt; omega⟩ ⟨(y 0).val % 2048, by omega⟩ k)
    * x1 (ix3 0 k (wCol (y 1)))

theorem final (c : Dev nD) : (dats m 0 c).arrAt 3 cfg0.N = projArr (argH m c) (argW m c) := by
  refine (dats m 0 c).arrAt_eq_of_covers 3 _ (by decide +kernel) fun t hf y => ?_
  blk_simp
  rw [after0_3, product]
  obtain ⟨r, l, rfl⟩ : ∃ (r l : Fin 1024), y = ix2 r l := ⟨_, _, eq_ix2 y⟩
  rw [show (win0_3.blk t).view.emb (ix2 r l) = (ix2 (atRow (grid0.coords t) r) (atCol (grid0.coords t) l) : S8192x4096.Idx) from by
    blk_ext [index3, atRow, atCol]]
  refine (product_apply _ _ r l).trans (Finset.sum_congr rfl fun k _ => ?_)
  rw [blk0, blk2, arr_h, arr_w]
  rfl

end Cert.DiffIn
end
-- ==== Proof.DiffInClaims.lean ====
/-
  The claims about the input projection of the differential attention.
-/
module

public import proofs.«01_k».proof.Defs
public import proofs.«01_k».proof.Proof.DiffInBlock
public import proofs.«01_k».proof.Proof.Gen.DiffIn.Frame
public import proofs.«01_k».proof.Proof.Gen.DiffInIdeal.Frame
public import proofs.«01_k».proof.Proof.Gen.DiffInRefIdeal.Run
public import proofs.«01_k».proof.Proof.Gen.DiffInRefIdeal.Read
public import Idealize.ShloMosaic.Lib.Quiescent

@[expose] public section

noncomputable section

namespace Cert.Proof.DiffInClaims

open Idealize.ShloMosaic Idealize.ShloMosaic.TcCoe Idealize.ShloMosaic.Tactic Idealize.SL.Sem

/-- The kernel as shipped ends from every memory, its arguments unchanged. -/
theorem frame_p : Cert.quiescent_DiffIn := fun m ρ _ => Cert.DiffIn.Gen.frame m ρ

/-- The idealized kernel ends from every memory, its arguments unchanged. -/
theorem frame_pi : Cert.quiescent_DiffInIdeal := fun m ρ _ => Cert.DiffInIdeal.Gen.frame m ρ

/-- The reference ends from every memory, its arguments unchanged. -/
theorem frame_ri : Cert.quiescent_DiffInRefIdeal := fun m ρ _ =>
  (θ_run Cert.DiffInRefIdeal.defs _ _).mono (fun r h => ⟨fun c => (h c).2,
      Idealize.ShloMosaic.sem_eq_zero_of_no_sems (by decide) r.2⟩)
    (Cert.DiffInRefIdeal.Value.run (F := Ideal) m ρ)

/-- The idealized kernel is the kernel's own text. -/
theorem preserves : Cert.preserves_DiffIn_DiffInIdeal := trivial

/-- The reference's projection is the kernel's. -/
theorem proj_eq (x0 : Vec Ideal Cert.DiffInIdeal.S4x2048x2048 .f32) (x1 : Vec Ideal Cert.DiffInIdeal.S1x2048x6144 .f32) :
    Cert.DiffInRefIdeal.Read.val_main_v7 (F := Ideal) x0 x1 = Cert.DiffIn.projArr x0 x1 := by
  funext y
  obtain ⟨n, l, rfl⟩ : ∃ (n : Fin 8192) (l : Fin 4096), y = ix2 n l := ⟨_, _, eq_ix2 y⟩
  pointwise [Cert.DiffInRefIdeal.Read.val_main_v7, Cert.DiffInRefIdeal.Read.val_main_v6, Cert.DiffInRefIdeal.Read.val_main_v5,
    Cert.DiffInRefIdeal.Read.val_main_v4, Cert.DiffInRefIdeal.Read.val_main_v3, Cert.DiffInRefIdeal.Read.val_main_v1,
    Cert.DiffInRefIdeal.Read.val_main_v0]
  split
  · rfl
  · refine Finset.sum_congr rfl fun k _ => congrArg (fun q => x0 _ * x1 (ix3 0 k q)) (Fin.ext ?_)
    show 4096 + (l.val - 2048) = 2048 + l.val
    omega

/-- Over the extended reals, kernel and reference end with the same result. -/
theorem algebraic : Cert.algebraic_DiffInIdeal_DiffInRefIdeal := by
  intro m ρ m' ρ' hpre hagree
  refine ⟨_, Cert.DiffInIdeal.Value.run_blocks m ρ, ?_⟩
  refine (θ_run Cert.DiffInRefIdeal.defs _ _).mono (fun _ h c => ⟨(h c).1.trans ?_, (h c).2⟩)
    (Cert.DiffInRefIdeal.Value.run (F := Ideal) m' ρ')
  obtain ⟨e0, e1⟩ := hagree c
  rw [Cert.DiffIn.final, Cert.DiffInRefIdeal.Read.val_main_v7_eq, e0, e1]
  exact proj_eq _ _

end Cert.Proof.DiffInClaims

end
-- ==== Proof.SwaInBlock.lean ====
/-
  The kernel's norm and input projection of the sliding-window attention's keys and values, each head twice: its block at
  a grid point, the weight block it carries between points, and its result array.
-/
module

public import proofs.«01_k».proof.Proof.Gen.SwaInIdeal.Value
public import proofs.«01_k».proof.Proof.Rows
public import Idealize.ShloMosaic.Lib.Pointwise
public import Idealize.ShloMosaic.Lib.Pipeline.ValueKit.Geometry

@[expose] public section

set_option maxRecDepth 16384

noncomputable section

namespace Cert.SwaIn

open Idealize.ShloMosaic Idealize.ShloMosaic.TcCoe Idealize.ShloMosaic.Tactic Idealize.ShloMosaic.Pipeline
open Cert.SwaInIdeal Cert.SwaInIdeal.Gen Cert.Rows

/-! What the body leaves, at a point where it casts the weight block and at one where it keeps it. -/

theorem zeros : (![0, 0] : Fin 2 → ℕ) = fun _ => 0 := funext fun a => by fin_cases a <;> rfl

section body
variable {F : FTy → Type} [FloatOps F] (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .f32) (h4 : a4.IsWhole) (a5 : Memref sig .tc .vmem S1024x1024 .bf16) (h5 : a5.IsWhole)
  (a6 : Memref sig .tc .vmem S2048x1024 .bf16) (h6 : a6.IsWhole)
  (x0 : Vec F S1024x2048 .f32) (x1 : Vec F S1x2048 .f32) (x2 : Vec F S2048x512 .f32) (s : Vec F S2048x1024 .bf16)

/-- The carried block, cast. -/
theorem carried_first (hc : cond0_0 i) : sout0_A_0 c i a2 h2 a3 h3 a4 h4 a5 h5 a6 h6 hc x0 x1 x2 = k0_pay1 x2 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero zeros]
  simp only [View.readAt_eq_ld, h4.read_unread, View.ld_unit_zero (S := S2048x512) zeros]

/-- The product at a point that casts. -/
theorem product_first (hc : cond0_0 i) : out0_A_3 c i a2 h2 a3 h3 a4 h4 a5 h5 a6 h6 hc x0 x1 x2 = k0_pay2 x0 x1 (k0_pay1 x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero zeros, View.readCov_unit_zero (S := S2048x1024) _ zeros]
  simp only [View.readAt_eq_ld, h2.read_unread, h3.read_unread, h4.read_unread, View.ld_unit_zero (S := S2048x512) zeros,
    View.ld_unit_zero (S := S1024x2048) zeros, View.ld_unit_zero (S := S1x2048) zeros]

/-- The carried block, kept. -/
theorem carried_next (hc : ¬cond0_0 i) : sout0_B_0 c i a2 h2 a3 h3 a4 h4 a5 h5 a6 h6 hc x0 x1 x2 s = s := rfl

/-- The product at a point that keeps the carried block. -/
theorem product_next (hc : ¬cond0_0 i) : out0_B_3 c i a2 h2 a3 h3 a4 h4 a5 h5 a6 h6 hc x0 x1 x2 s = k0_pay2 x0 x1 s := by
  unfold out0_B_3
  rw [View.read_writes_eq_canon _ _ _ (cover0_B_3 c i a2 h2 a3 h3 a4 h4 a5 h5 a6 h6 hc x0 x1 x2 s)]
  unfold kernelRun0_B
  dsimp only
  rw [View.canon_unit_zero zeros]
  simp only [View.readAt_eq_ld, h2.read_unread, h3.read_unread, h6.read_unread, View.ld_unit_zero (S := S2048x1024) zeros,
    View.ld_unit_zero (S := S1024x2048) zeros, View.ld_unit_zero (S := S1x2048) zeros]
end body

/-! The blocks' coordinates at a grid point. -/

theorem index0 : ∀ t : Fin cfg0.N, win0_0.index t = ![(grid0.coords t 1).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 4 + (grid0.coords t 0).val] := (by decide +kernel : ∀ t : Fin grid0.N, _)
theorem index3 : ∀ t : Fin cfg0.N, win0_3.index t = ![(grid0.coords t 1).val, (grid0.coords t 0).val] :=
  (by decide +kernel : ∀ t : Fin grid0.N, _)
theorem coords0 : ∀ t : Fin cfg0.N, (grid0.coords t 0).val = t.val / 8 := (by decide +kernel : ∀ t : Fin grid0.N, _)

/-- Row `r` of a grid point's block, among all 8192. -/
def atRow (i : grid0.Coords) (r : Fin 1024) : Fin 8192 :=
  ⟨(i 1).val * 1024 + r.val, by have h : (i 1).val < 8 := (i 1).isLt; omega⟩
/-- Column `l` of a grid point's block, among the result's 2048. -/
def atCol (i : grid0.Coords) (l : Fin 1024) : Fin 2048 :=
  ⟨(i 0).val * 1024 + l.val, by have h : (i 0).val < 2 := (i 0).isLt; omega⟩
/-- Column `l` of a grid point's weight block, among all 3072: the queries' 2048 columns come first. -/
def atWCol (i : grid0.Coords) (l : Fin 512) : Fin 3072 :=
  ⟨2048 + ((i 0).val * 512 + l.val), by have h : (i 0).val < 2 := (i 0).isLt; omega⟩
/-- The weight's column of a result's column: each 64 columns of the weight are two times 64 of the result. -/
def wCol (l : Fin 2048) : Fin 3072 := ⟨2048 + (l.val / 128 * 64 + l.val % 64), by omega⟩
/-- The same within a block. -/
def dup (l : Fin 1024) : Fin 512 := ⟨l.val / 128 * 64 + l.val % 64, by omega⟩

theorem dup_at (i : grid0.Coords) (l : Fin 1024) : atWCol i (dup l) = wCol (atCol i l) := by
  refine Fin.ext ?_
  show 2048 + ((i 0).val * 512 + (l.val / 128 * 64 + l.val % 64))
    = 2048 + (((i 0).val * 1024 + l.val) / 128 * 64 + ((i 0).val * 1024 + l.val) % 64)
  omega

variable (m : (ℓ : Loc nD τ sig) → Buf (Elt Ideal) ℓ) (ρ : Dev nD → PrngReg)

theorem blk0 (c : Dev nD) (t : Fin cfg0.N) (r : Fin 1024) (k : Fin 2048) :
    iblk m c 0 t (ix2 r k) = (V m c main_v0 : Vec Ideal S8192x2048 .f32) (ix2 (atRow (grid0.coords t) r) k) := by
  unfold iblk
  blk_simp
  exact congrArg (V m c main_v0 : Vec Ideal S8192x2048 .f32) (by blk_ext [index0, atRow])
theorem blk1 (c : Dev nD) (t : Fin cfg0.N) (k : Fin 2048) :
    iblk m c 1 t (ix2 0 k) = (V m c main_v4 : Vec Ideal S1x2048 .f32) (ix2 0 k) := by
  unfold iblk
  blk_simp
  exact congrArg (V m c main_v4 : Vec Ideal S1x2048 .f32) (by blk_ext [index1])
theorem blk2 (c : Dev nD) (t : Fin cfg0.N) (k : Fin 2048) (l : Fin 512) :
    iblk m c 2 t (ix2 k l) = (V m c main_v1 : Vec Ideal S2048x3072 .f32) (ix2 k (atWCol (grid0.coords t) l)) := by
  unfold iblk
  blk_simp
  exact congrArg (V m c main_v1 : Vec Ideal S2048x3072 .f32) (by blk_ext [index2, atWCol])

/-- The launch arguments, read as arrays. -/
abbrev argX (c : Dev nD) : Vec Ideal S4x2048x2048 .f32 := m ((c : Thread nD τ).loc main_arg0)
abbrev argW (c : Dev nD) : Vec Ideal S1x2048x3072 .f32 := m ((c : Thread nD τ).loc main_arg1)
abbrev argG (c : Dev nD) : Vec Ideal S4x4x2048 .f32 := m ((c : Thread nD τ).loc main_arg2)

/-! The arrays the windows read, from the launch arguments. -/

theorem arr_x (c : Dev nD) (n : Fin 8192) (k : Fin 2048) : (V m c main_v0 : Vec Ideal S8192x2048 .f32) (ix2 n k)
    = argX m c (ix3 ⟨n.val / 2048, by omega⟩ ⟨n.val % 2048, by omega⟩ k) := by
  show (StableHlo.after hostOps0 _ (Proc.devRef .tc main_v0) : Vec Ideal S8192x2048 .f32) _ = _
  after_results
  pointwise
theorem arr_g (c : Dev nD) (k : Fin 2048) : (V m c main_v4 : Vec Ideal S1x2048 .f32) (ix2 0 k) = argG m c (ix3 0 0 k) := by
  show (StableHlo.after hostOps0 _ (Proc.devRef .tc main_v4) : Vec Ideal S1x2048 .f32) _ = _
  after_results
  pointwise
theorem arr_w (c : Dev nD) (k : Fin 2048) (l : Fin 3072) : (V m c main_v1 : Vec Ideal S2048x3072 .f32) (ix2 k l)
    = argW m c (ix3 0 k l) := by
  show (StableHlo.after hostOps0 _ (Proc.devRef .tc main_v1) : Vec Ideal S2048x3072 .f32) _ = _
  after_results
  pointwise

/-- Consecutive points of one column of blocks read the same weight block. -/
theorem weight_kept (c : Dev nD) (t t' : Fin cfg0.N) (h : t.val / 8 = t'.val / 8) : iblk m c 2 t = iblk m c 2 t' := by
  funext y
  obtain ⟨k, l, rfl⟩ : ∃ (k : Fin 2048) (l : Fin 512), y = ix2 k l := ⟨_, _, eq_ix2 y⟩
  rw [blk2, blk2]
  refine congrArg (fun q => (V m c main_v1 : Vec Ideal S2048x3072 .f32) (ix2 k q)) (Fin.ext ?_)
  show 2048 + ((grid0.coords t 0).val * 512 + l.val) = 2048 + ((grid0.coords t' 0).val * 512 + l.val)
  rw [coords0, coords0, h]

/-- After every point the carried block is that point's weight block, cast. -/
theorem carried (c : Dev nD) : ∀ (n : ℕ) (t : Fin cfg0.N), t.val = n →
    (outsAt0 m c t.val t.isLt).2 = k0_pay1 (F := Ideal) (iblk m c 2 t)
  | 0, t, h => by rw [outsAt0_A m c t (by rw [h]), carried_first]
  | n + 1, t, h => by
    by_cases h0 : t.val % 8 = 0
    · rw [outsAt0_A m c t h0, carried_first]
    · have ih := carried c n ⟨t.val - 1, by have := t.isLt; omega⟩ (by show t.val - 1 = n; omega)
      rw [outsAt0_B m c t h0, carried_next, ih,
        weight_kept m c ⟨t.val - 1, by have := t.isLt; omega⟩ t (show (t.val - 1) / 8 = t.val / 8 by omega)]

/-- After every point the result's buffer holds the product of the point's rows with its weight block. -/
theorem product (c : Dev nD) (t : Fin cfg0.N) :
    (outsAt0 m c t.val t.isLt).1 = k0_pay2 (F := Ideal) (iblk m c 0 t) (iblk m c 1 t) (k0_pay1 (F := Ideal) (iblk m c 2 t)) := by
  by_cases h0 : t.val % 8 = 0
  · rw [outsAt0_A m c t h0, product_first]
  · have ih := carried m c (t.val - 1) ⟨t.val - 1, by have := t.isLt; omega⟩ rfl
    rw [outsAt0_B m c t h0, product_next, ih,
      weight_kept m c ⟨t.val - 1, by have := t.isLt; omega⟩ t (show (t.val - 1) / 8 = t.val / 8 by omega)]

/-- A choice by a lane's place below 64 between two entries of a row of which the chosen one is entry `d`. -/
theorem choose_eq (f : Fin 512 → EReal) (d : Fin 512) (n : ℕ) (hn : n < 128) (a b : Fin 512) (ha : n < 64 → a = d)
    (hb : ¬n < 64 → b = d) : Scalar.select (IntOp.cmpi CmpIPredicate.slt (BitVec.ofNat 32 n) 64#32) (f a) (f b) = f d := by
  have e : ∀ x : Fin 128, IntOp.cmpi CmpIPredicate.slt (BitVec.ofNat 32 x.val) 64#32 = if x.val < 64 then 1#1 else 0#1 := by
    decide +kernel
  rw [e ⟨n, hn⟩]
  dsimp only
  split
  · next h => rw [← ha h]; rfl
  · next h => rw [← hb h]; rfl

/-- The carried block holds every 64 columns of the weight block twice. -/
theorem weight_apply (w : Vec Ideal S2048x512 .f32) (k : Fin 2048) (l : Fin 1024) :
    k0_pay1 (F := Ideal) w (ix2 k l) = w (ix2 k (dup l)) := by
  pointwise [k0_pay1]
  repeat' split
  all_goals
    exact choose_eq (fun q => w (ix2 k q)) (dup l) _ (by omega) _ _ (fun h => Fin.ext (by dsimp only [dup]; omega))
      (fun h => Fin.ext (by dsimp only [dup]; omega))

/-- The block's product at an index: the normalized row times a column of the weight. -/
theorem product_apply (a : Vec Ideal S1024x2048 .f32) (g : Vec Ideal S1x2048 .f32) (w : Vec Ideal S2048x512 .f32) (r l : Fin 1024) :
    k0_pay2 (F := Ideal) a g (k0_pay1 w) (ix2 r l)
      = ∑ k : Fin 2048, scaled (fun k => a (ix2 r k)) (fun k => g (ix2 0 k)) k * w (ix2 k (dup l)) := by
  pointwise [k0_pay2]
  simp only [weight_apply]
  rfl

/-- The projection, as an array. -/
def projArr (x0 : Vec Ideal S4x2048x2048 .f32) (x1 : Vec Ideal S1x2048x3072 .f32) (x2 : Vec Ideal S4x4x2048 .f32)
    (y : S8192x2048.Idx) : EReal :=
  ∑ k : Fin 2048, scaled (fun k => x0 (ix3 ⟨(y 0).val / 2048, by have : (y 0).val < 8192 := (y 0).isLt; omega⟩
    ⟨(y 0).val % 2048, by omega⟩ k)) (fun k => x2 (ix3 0 0 k)) k * x1 (ix3 0 k (wCol (y 1)))

theorem final (c : Dev nD) : (dats m 0 c).arrAt 3 cfg0.N = projArr (argX m c) (argW m c) (argG m c) := by
  refine (dats m 0 c).arrAt_eq_of_covers 3 _ (by decide +kernel) fun t hf y => ?_
  blk_simp
  rw [after0_3, product]
  obtain ⟨r, l, rfl⟩ : ∃ (r l : Fin 1024), y = ix2 r l := ⟨_, _, eq_ix2 y⟩
  rw [show (win0_3.blk t).view.emb (ix2 r l) = (ix2 (atRow (grid0.coords t) r) (atCol (grid0.coords t) l) : S8192x2048.Idx) from by
    blk_ext [index3, atRow, atCol]]
  refine (product_apply _ _ _ r l).trans (Finset.sum_congr rfl fun k _ => ?_)
  rw [blk2, arr_w, dup_at]
  rw [funext fun q => (blk0 m c t r q).trans (arr_x m c _ q), funext fun q => (blk1 m c t q).trans (arr_g m c q)]
  rfl

end Cert.SwaIn
end
-- ==== Proof.SwaInClaims.lean ====
/-
  The claims about the norm and the projection of the sliding-window attention's keys and values.
-/
module

public import proofs.«01_k».proof.Defs
public import proofs.«01_k».proof.Proof.SwaInBlock
public import proofs.«01_k».proof.Proof.Gen.SwaIn.Frame
public import proofs.«01_k».proof.Proof.Gen.SwaInIdeal.Frame
public import proofs.«01_k».proof.Proof.Gen.SwaInRefIdeal.Run
public import proofs.«01_k».proof.Proof.Gen.SwaInRefIdeal.Read
public import Idealize.ShloMosaic.Lib.Quiescent

@[expose] public section

noncomputable section

namespace Cert.Proof.SwaInClaims

open Idealize.ShloMosaic Idealize.ShloMosaic.TcCoe Idealize.ShloMosaic.Tactic Idealize.SL.Sem

/-- The kernel as shipped ends from every memory, its arguments unchanged. -/
theorem frame_p : Cert.quiescent_SwaIn := fun m ρ _ => Cert.SwaIn.Gen.frame m ρ

/-- The idealized kernel ends from every memory, its arguments unchanged. -/
theorem frame_pi : Cert.quiescent_SwaInIdeal := fun m ρ _ => Cert.SwaInIdeal.Gen.frame m ρ

/-- The reference ends from every memory, its arguments unchanged. -/
theorem frame_ri : Cert.quiescent_SwaInRefIdeal := fun m ρ _ =>
  (θ_run Cert.SwaInRefIdeal.defs _ _).mono (fun r h => ⟨fun c => (h c).2,
      Idealize.ShloMosaic.sem_eq_zero_of_no_sems (by decide) r.2⟩)
    (Cert.SwaInRefIdeal.Value.run (F := Ideal) m ρ)

/-- The idealized kernel is the kernel's own text. -/
theorem preserves : Cert.preserves_SwaIn_SwaInIdeal := trivial

section

open Cert.SwaInRefIdeal Cert.SwaInRefIdeal.Gen Cert.SwaInRefIdeal.Read Cert.Rows

variable (x0 : Vec Ideal Cert.SwaInRefIdeal.S4x2048x2048 .f32) (x1 : Vec Ideal Cert.SwaInRefIdeal.S1x2048x3072 .f32)
  (x2 : Vec Ideal Cert.SwaInRefIdeal.S4x4x2048 .f32)

/-- The reference's norm factor of a row. -/
theorem ref_norm (b : Fin 4) (n : Fin 2048) : val_main_v9 (F := Ideal) x0 (ix3 b n 0) = norm (fun k => x0 (ix3 b n k)) := by
  pointwise [val_main_v9, val_main_v8, val_main_v7, val_main_v6, val_main_v5, val_main_v4, val_main_v3, val_main_v2,
    val_main_cst, val_main_cst_0, val_main_cst_1]
  rfl

/-- The reference's normalized activations. -/
theorem ref_scaled (b : Fin 4) (n k : Fin 2048) : val_main_v14 (F := Ideal) x0 x2 (ix3 b n k)
    = scaled (fun k => x0 (ix3 b n k)) (fun k => x2 (ix3 0 0 k)) k := by
  pointwise [val_main_v14, val_main_v13, val_main_v12, val_main_v11, val_main_v10, val_main_v1, val_main_v0]
  rw [ref_norm]
  rfl

/-- The reference's product. -/
theorem ref_dot (b : Fin 4) (n : Fin 2048) (l : Fin 3072) : val_main_v16 (F := Ideal) x0 x1 x2 (ix3 b n l)
    = ∑ k : Fin 2048, scaled (fun k => x0 (ix3 b n k)) (fun k => x2 (ix3 0 0 k)) k * x1 (ix3 0 k l) := by
  pointwise [val_main_v16, val_main_v15]
  simp only [ref_scaled]

/-- The reference's keys and values side by side. -/
theorem ref_kv (b : Fin 4) (n : Fin 2048) (l : Fin 1024) : val_main_v20 (F := Ideal) x0 x1 x2 (ix3 b n l)
    = val_main_v16 (F := Ideal) x0 x1 x2 (ix3 b n ⟨2048 + l.val, by omega⟩) := by
  pointwise [val_main_v20, val_main_v19, val_main_v18]
  split
  · rfl
  · refine congrArg (fun q => val_main_v16 (F := Ideal) x0 x1 x2 (ix3 b n q)) (Fin.ext ?_)
    dsimp only
    omega

/-- The reference's projection is the kernel's. -/
theorem proj_eq : val_main_v24 (F := Ideal) x0 x1 x2 = Cert.SwaIn.projArr x0 x1 x2 := by
  funext y
  obtain ⟨n, l, rfl⟩ : ∃ (n : Fin 8192) (l : Fin 2048), y = ix2 n l := ⟨_, _, eq_ix2 y⟩
  pointwise [val_main_v24, val_main_v23, val_main_v22, val_main_v21]
  rw [ref_kv, ref_dot]
  rfl

end

/-- Over the extended reals, kernel and reference end with the same result. -/
theorem algebraic : Cert.algebraic_SwaInIdeal_SwaInRefIdeal := by
  intro m ρ m' ρ' hpre hagree
  refine ⟨_, Cert.SwaInIdeal.Value.run_blocks m ρ, ?_⟩
  refine (θ_run Cert.SwaInRefIdeal.defs _ _).mono (fun _ h c => ⟨(h c).1.trans ?_, (h c).2⟩)
    (Cert.SwaInRefIdeal.Value.run (F := Ideal) m' ρ')
  obtain ⟨e0, e1, e2⟩ := hagree c
  rw [Cert.SwaIn.final, Cert.SwaInRefIdeal.Read.val_main_v24_eq, e0, e1, e2]
  exact proj_eq _ _ _

end Cert.Proof.SwaInClaims

end
-- ==== Proof.Bounds.lean ====
/-
  The lower bounds of the forget gates: a softmax over the layers, summed up to each layer, less the first layer's.
-/
module

public import proofs.«01_k».proof.Proof.Gen.BoundsIdeal.Value
public import proofs.«01_k».proof.Proof.Gen.BoundsRefIdeal.Read
public import Idealize.ShloMosaic.Lib.Pointwise
public import Idealize.ShloMosaic.Lib.Pipeline.ValueKit.Geometry

@[expose] public section

set_option maxRecDepth 16384

noncomputable section

namespace Cert.Bounds

open Idealize.ShloMosaic Idealize.ShloMosaic.TcCoe Idealize.ShloMosaic.Tactic Idealize.ShloMosaic.Pipeline
open Cert.BoundsIdeal Cert.BoundsIdeal.Gen

variable (x : Vec Ideal S4x2048 .f32)

/-- The greatest of a lane's four logits; the pattern that it starts from is minus infinity's. -/
def top (l : Fin 2048) : EReal :=
  Finset.fold max (Ideal.ofBits FTy.f32 0xFF800000#32) (fun k : Fin 4 => x (ix2 k l)) Finset.univ

/-- The exponential of a layer's logit less the greatest. -/
def part (r : Fin 4) (l : Fin 2048) : EReal := Ideal.exp (x (ix2 r l) - top x l)

/-- A layer's weight in its lane. -/
def weight (r : Fin 4) (l : Fin 2048) : EReal := Ideal.div (part x r l) (∑ k : Fin 4, part x k l)

/-- The weights up to a layer. -/
def upTo (l : Fin 2048) : Fin 4 → EReal :=
  ![weight x 0 l, weight x 0 l + weight x 1 l, weight x 0 l + weight x 1 l + weight x 2 l,
    weight x 0 l + weight x 1 l + weight x 2 l + weight x 3 l]

/-- A layer's lower bound: the weights up to it, less the first. -/
def bound (y : S4x2048.Idx) : EReal := upTo x (y 1) (y 0) - weight x 0 (y 1)

theorem weights (r : Fin 4) (l : Fin 2048) : k0_pay1 (F := Ideal) x (ix2 r l) = weight x r l := by
  pointwise [k0_pay1]
  rfl

theorem row0 (l : Fin 2048) : k0_pay3 (F := Ideal) x (ix2 0 l) = bound x (ix2 0 l) := by
  pointwise [k0_pay3, k0_pay2]
  simp only [weights]
  rfl
theorem row1 (l : Fin 2048) : k0_pay5 (F := Ideal) x (ix2 0 l) = bound x (ix2 1 l) := by
  pointwise [k0_pay5, k0_pay4, k0_pay2]
  simp only [weights]
  rfl
theorem row2 (l : Fin 2048) : k0_pay7 (F := Ideal) x (ix2 0 l) = bound x (ix2 2 l) := by
  pointwise [k0_pay7, k0_pay6, k0_pay4, k0_pay2]
  simp only [weights]
  rfl
theorem row3 (l : Fin 2048) : k0_pay8 (F := Ideal) x (ix2 0 l) = bound x (ix2 3 l) := by
  pointwise [k0_pay8, k0_pay6, k0_pay4, k0_pay2]
  simp only [weights]
  rfl

/-- The kernel's four rows are the bounds. -/
theorem kernel_bounds : Cert.BoundsIdeal.Value.G1 (F := Ideal) x = bound x := by
  funext y
  refine View.canon_apply_of_pieces _ _ (fun p hp j => ?_) y (cover0_1 (F := Ideal) _ _ _ _ y)
  simp only [List.mem_cons, List.mem_nil_iff, or_false] at hp
  rcases hp with rfl | rfl | rfl | rfl
  · obtain ⟨r, l, rfl⟩ : ∃ (r : Fin 1) (l : Fin 2048), j = ix2 r l := ⟨_, _, eq_ix2 j⟩
    obtain rfl : r = 0 := Subsingleton.elim _ _
    exact (row3 x l).trans (congrArg (bound x) (by blk_ext []))
  · obtain ⟨r, l, rfl⟩ : ∃ (r : Fin 1) (l : Fin 2048), j = ix2 r l := ⟨_, _, eq_ix2 j⟩
    obtain rfl : r = 0 := Subsingleton.elim _ _
    exact (row2 x l).trans (congrArg (bound x) (by blk_ext []))
  · obtain ⟨r, l, rfl⟩ : ∃ (r : Fin 1) (l : Fin 2048), j = ix2 r l := ⟨_, _, eq_ix2 j⟩
    obtain rfl : r = 0 := Subsingleton.elim _ _
    exact (row1 x l).trans (congrArg (bound x) (by blk_ext []))
  · obtain ⟨r, l, rfl⟩ : ∃ (r : Fin 1) (l : Fin 2048), j = ix2 r l := ⟨_, _, eq_ix2 j⟩
    obtain rfl : r = 0 := Subsingleton.elim _ _
    exact (row0 x l).trans (congrArg (bound x) (by blk_ext []))

section ref
open Cert.BoundsRefIdeal.Read

theorem ref_weights (r : Fin 4) (l : Fin 2048) : val_main_v10 (F := Ideal) x (ix2 r l) = weight x r l := by
  pointwise [val_main_v10, val_main_v9, val_main_v8, val_main_v7, val_main_v6, val_main_v5, val_main_v4, val_main_v3, val_main_v2,
    val_main_v1, val_main_v0, val_main_cst, val_main_cst_0, val_main_cst_1]
  rw [max_eq_right ((Finset.le_fold_max _).2 (Or.inl le_rfl))]
  rfl

/-- The reference's running sum, by the four positions of its window. -/
theorem ref_run (r : Fin 4) (l : Fin 2048) : val_main_v11 (F := Ideal) x (ix2 r l)
    = (List.finRange 4).foldl (fun a (k : Fin 4) => a + if h : 3 ≤ r.val + k.val then
      weight x ⟨r.val + k.val - 3, by omega⟩ l else 0) 0 := by
  have p0 : ∀ n : Fin 4, ((⟨2, ![4, 1]⟩ : Shape).rowMajor.symm n 0).val = n.val := by decide
  have p1 : ∀ n : Fin 4, ((⟨2, ![4, 1]⟩ : Shape).rowMajor.symm n 1).val = 0 := by decide
  have z : val_main_call0_call0_v0 (F := Ideal) (Shape.Idx.first Cert.BoundsRefIdeal.Facts₀.h_S_) = 0 := by
    pointwise [val_main_call0_call0_v0, val_main_call0_call0_cst]
  unfold val_main_v11
  rw [Host.reduceWindowAdd, z]
  show Ideal.hostReduceWindowAdd _ _ _ _ _ _ _ _ = _
  unfold Ideal.hostReduceWindowAdd Host.reduceWindow
  refine List.foldl_ext (l := List.finRange 4) _ _ _ fun a n _ => congrArg (a + ·) ?_
  dsimp only
  split
  · next hin =>
    have h0 := hin 0
    change 3 ≤ r.val * 1 + ((⟨2, ![4, 1]⟩ : Shape).rowMajor.symm n 0).val
      ∧ r.val * 1 + ((⟨2, ![4, 1]⟩ : Shape).rowMajor.symm n 0).val - 3 < 4 at h0
    rw [p0] at h0
    rw [dif_pos (by omega), ← ref_weights]
    refine congrArg _ (funext fun a => Fin.ext ?_)
    match a with
    | ⟨0, _⟩ =>
      show r.val * 1 + ((⟨2, ![4, 1]⟩ : Shape).rowMajor.symm n 0).val - 3 = r.val + n.val - 3
      rw [p0, Nat.mul_one]
    | ⟨1, _⟩ =>
      show l.val * 1 + ((⟨2, ![4, 1]⟩ : Shape).rowMajor.symm n 1).val - 0 = l.val
      rw [p1]; omega
  · next hin =>
    rw [dif_neg fun hle => hin fun a => by
      match a with
      | ⟨0, _⟩ =>
        show 3 ≤ r.val * 1 + ((⟨2, ![4, 1]⟩ : Shape).rowMajor.symm n 0).val
          ∧ r.val * 1 + ((⟨2, ![4, 1]⟩ : Shape).rowMajor.symm n 0).val - 3 < 4
        rw [p0]; omega
      | ⟨1, _⟩ =>
        show 0 ≤ l.val * 1 + ((⟨2, ![4, 1]⟩ : Shape).rowMajor.symm n 1).val
          ∧ l.val * 1 + ((⟨2, ![4, 1]⟩ : Shape).rowMajor.symm n 1).val - 0 < 2048
        rw [p1]; omega]

/-- The reference's result is the bounds. -/
theorem ref_bounds : val_main_v16 (F := Ideal) x = bound x := by
  funext y
  obtain ⟨r, l, rfl⟩ : ∃ (r : Fin 4) (l : Fin 2048), y = ix2 r l := ⟨_, _, eq_ix2 y⟩
  pointwise [val_main_v16, val_main_v15, val_main_v14, val_main_v13, val_main_v12]
  rw [ref_run, ref_weights]
  refine congrArg (· - weight x 0 l) ?_
  show _ = upTo x l r
  fin_cases r <;> simp [List.finRange, upTo]
end ref

end Cert.Bounds
end
-- ==== Proof.BoundsClaims.lean ====
/-
  The claims about the lower bounds of the forget gates.
-/
module

public import proofs.«01_k».proof.Defs
public import proofs.«01_k».proof.Proof.Bounds
public import proofs.«01_k».proof.Proof.Gen.Bounds.Frame
public import proofs.«01_k».proof.Proof.Gen.BoundsIdeal.Frame
public import proofs.«01_k».proof.Proof.Gen.BoundsRefIdeal.Run
public import proofs.«01_k».proof.Proof.Gen.BoundsRefIdeal.Read
public import Idealize.ShloMosaic.Lib.Quiescent

@[expose] public section

noncomputable section

namespace Cert.Proof.BoundsClaims

open Idealize.ShloMosaic Idealize.ShloMosaic.TcCoe Idealize.ShloMosaic.Tactic Idealize.SL.Sem

/-- The kernel as shipped ends from every memory, its arguments unchanged. -/
theorem frame_p : Cert.quiescent_Bounds := fun m ρ _ => Cert.Bounds.Gen.frame m ρ

/-- The idealized kernel ends from every memory, its arguments unchanged. -/
theorem frame_pi : Cert.quiescent_BoundsIdeal := fun m ρ _ => Cert.BoundsIdeal.Gen.frame m ρ

/-- The reference ends from every memory, its arguments unchanged. -/
theorem frame_ri : Cert.quiescent_BoundsRefIdeal := fun m ρ _ =>
  (θ_run Cert.BoundsRefIdeal.defs _ _).mono (fun r h => ⟨fun c => (h c).2,
      Idealize.ShloMosaic.sem_eq_zero_of_no_sems (by decide) r.2⟩)
    (Cert.BoundsRefIdeal.Value.run (F := Ideal) m ρ)

/-- The idealized kernel is the kernel's own text. -/
theorem preserves : Cert.preserves_Bounds_BoundsIdeal := trivial

/-- Over the extended reals, kernel and reference end with the same result. -/
theorem algebraic : Cert.algebraic_BoundsIdeal_BoundsRefIdeal := by
  intro m ρ m' ρ' hpre hagree
  refine ⟨_, Cert.BoundsIdeal.Value.run m ρ, ?_⟩
  refine (θ_run Cert.BoundsRefIdeal.defs _ _).mono (fun _ h c => ⟨(h c).1.trans ?_, (h c).2⟩)
    (Cert.BoundsRefIdeal.Value.run (F := Ideal) m' ρ')
  obtain e0 := hagree c
  rw [Cert.Bounds.kernel_bounds, Cert.BoundsRefIdeal.Read.val_main_v16_eq, e0]
  exact Cert.Bounds.ref_bounds _

end Cert.Proof.BoundsClaims

end
-- ==== Proof.DiffChunk.lean ====
/-
  One chunk of query rows of the differential attention, read at an index: the scores of its two maps against the keys
  up to the chunk's end, the exponentials, and the normed difference of the two maps' quotients.
-/
module

public import proofs.«01_k».proof.Proof.Attend
public import proofs.«01_k».proof.Proof.Gen.DiffIdeal.Frame

@[expose] public section

set_option maxRecDepth 16384

noncomputable section

namespace Cert.DiffAttend

open Idealize.ShloMosaic Idealize.ShloMosaic.TcCoe Idealize.ShloMosaic.Tactic
open Cert.DiffIdeal Cert.DiffIdeal.Gen
open Cert.Attend (log2e sum_low sum_high ofBits_neg_inf ix2_congr)

/-- Row `r` of map `m` in the block where the two maps' rows are stacked. -/
def rowOf (m : Fin 2) (r : Fin 256) : Fin 512 := ⟨256 * m.val + r.val, by omega⟩

/-- Lane `d` of map `m` among a head's lanes. -/
def laneOf (m : Fin 2) (d : Fin 64) : Fin 128 := ⟨64 * m.val + d.val, by omega⟩

/-- The chunk's queries with the other map's lanes cleared, against a key: the map's own 64 lanes remain. -/
theorem stack_sum (q : Vec Ideal S256x128 .bf16) (k : Fin 128 → EReal) (m : Fin 2) (r : Fin 256) :
    (∑ x : Fin 128, (if h : (rowOf m r).val < 256 then
        Scalar.select (IntOp.cmpi CmpIPredicate.slt (BitVec.ofNat 32 x.val) 64#32) (q (ix2 ⟨(rowOf m r).val, h⟩ x)) (0 : EReal)
      else Scalar.select (IntOp.cmpi CmpIPredicate.slt (BitVec.ofNat 32 x.val) 64#32) (0 : EReal)
        (q (ix2 ⟨(rowOf m r).val - 256, by omega⟩ x))) * k x)
      = ∑ d : Fin 64, q (ix2 r (laneOf m d)) * k (laneOf m d) := by
  have hr := r.isLt
  match m with
  | ⟨0, _⟩ =>
    simp only [dif_pos (show (rowOf ⟨0, by omega⟩ r).val < 256 by simp [rowOf])]
    rw [sum_low (fun x => q (ix2 ⟨(rowOf ⟨0, by omega⟩ r).val, by simp [rowOf]⟩ x)) k]
    refine Finset.sum_congr rfl fun d _ => congrArg₂ (· * ·) (ix2_congr q ?_ ?_) (congrArg k (Fin.ext ?_)) <;>
      simp [rowOf, laneOf]
  | ⟨1, _⟩ =>
    simp only [dif_neg (show ¬ (rowOf ⟨1, by omega⟩ r).val < 256 by simp [rowOf])]
    rw [sum_high (fun x => q (ix2 ⟨(rowOf ⟨1, by omega⟩ r).val - 256, by simp only [rowOf]; omega⟩ x)) k]
    refine Finset.sum_congr rfl fun d _ => congrArg₂ (· * ·) (ix2_congr q ?_ ?_) (congrArg k (Fin.ext ?_)) <;>
      simp [rowOf, laneOf]

/-- A score of a chunk of 256 query rows against the first `N` keys: the last 512 keys take the tile's bias, the keys
    before them the far bias. -/
def score (N : ℕ) (far : FVec Ideal S512x1 .f32) (q : Fin 256 → Fin 128 → EReal) (k : Fin N → Fin 128 → EReal)
    (b : Vec Ideal S2x256x512 .f32) (m : Fin 2) (r : Fin 256) (c : Fin N) : EReal :=
  (∑ d : Fin 64, q r (laneOf m d) * k c (laneOf m d))
    + if h : c.val + 512 < N then far (ix2 (rowOf m r) 0) else b (ix3 m r ⟨c.val + 512 - N, by omega⟩)

/-- The stacked tile's row is the map's row. -/
theorem tile_row (b : Vec Ideal S2x256x512 .f32) (m : Fin 2) (r : Fin 256) (j j' : Fin 512) (hj : j.val = j'.val) :
    b (ix3 (⟨(rowOf m r).val / 256, by omega⟩ : Fin 2) (⟨(rowOf m r).val % 256, by omega⟩ : Fin 256) j) = b (ix3 m r j') := by
  obtain rfl := Fin.ext hj
  congr 2
  · apply Fin.ext; simp only [rowOf]; omega
  · apply Fin.ext; simp only [rowOf]; omega

/-- A far key's score. -/
theorem score_far {N : ℕ} (far : FVec Ideal S512x1 .f32) (q : Vec Ideal S256x128 .bf16) (k : Fin N → Fin 128 → EReal)
    (b : Vec Ideal S2x256x512 .f32) (m : Fin 2) (r : Fin 256) (c : Fin N) (h : c.val + 512 < N) :
    (∑ x : Fin 128, (if h : (rowOf m r).val < 256 then
        Scalar.select (IntOp.cmpi CmpIPredicate.slt (BitVec.ofNat 32 x.val) 64#32) (q (ix2 ⟨(rowOf m r).val, h⟩ x)) (0 : EReal)
      else Scalar.select (IntOp.cmpi CmpIPredicate.slt (BitVec.ofNat 32 x.val) 64#32) (0 : EReal)
        (q (ix2 ⟨(rowOf m r).val - 256, by omega⟩ x))) * k c x) + far (ix2 (rowOf m r) 0)
      = score N far (fun r l => q (ix2 r l)) k b m r c := by
  rw [stack_sum, score, dif_pos h]

/-- A near key's score. -/
theorem score_near {N : ℕ} (far : FVec Ideal S512x1 .f32) (q : Vec Ideal S256x128 .bf16) (k : Fin N → Fin 128 → EReal)
    (b : Vec Ideal S2x256x512 .f32) (m : Fin 2) (r : Fin 256) (c c' : Fin N) (hc : c'.val = c.val) (j : Fin 512)
    (hj : j.val + N = c.val + 512) :
    (∑ x : Fin 128, (if h : (rowOf m r).val < 256 then
        Scalar.select (IntOp.cmpi CmpIPredicate.slt (BitVec.ofNat 32 x.val) 64#32) (q (ix2 ⟨(rowOf m r).val, h⟩ x)) (0 : EReal)
      else Scalar.select (IntOp.cmpi CmpIPredicate.slt (BitVec.ofNat 32 x.val) 64#32) (0 : EReal)
        (q (ix2 ⟨(rowOf m r).val - 256, by omega⟩ x))) * k c' x)
        + b (ix3 (⟨(rowOf m r).val / 256, by omega⟩ : Fin 2) (⟨(rowOf m r).val % 256, by omega⟩ : Fin 256) j)
      = score N far (fun r l => q (ix2 r l)) k b m r c := by
  obtain rfl := Fin.ext hc
  rw [stack_sum, score, dif_neg (by omega)]
  exact congrArg (_ + ·) (tile_row b m r j _ (by dsimp only; omega))

/-! The eight chunks' scores, from the last. -/

theorem score7 (far : FVec Ideal S512x1 .f32) (q : Vec Ideal S256x128 .bf16) (k : Vec Ideal S1792x128 .bf16)
    (b : Vec Ideal S2x256x512 .f32) (m : Fin 2) (r : Fin 256) (c : Fin 1792) :
    k1_pay6 (F := Ideal) far q k b (ix2 (rowOf m r) c)
      = score 1792 far (fun r l => q (ix2 r l)) (fun c l => k (ix2 c l)) b m r c := by
  pointwise [k1_pay6]
  split
  · exact score_far far q (fun c l => k (ix2 c l)) b m r c (by omega)
  · exact score_near far q (fun c l => k (ix2 c l)) b m r c _ (by dsimp only; omega) _ (by dsimp only; omega)

theorem score6 (far : FVec Ideal S512x1 .f32) (q : Vec Ideal S256x128 .bf16) (k : Vec Ideal S1536x128 .bf16)
    (b : Vec Ideal S2x256x512 .f32) (m : Fin 2) (r : Fin 256) (c : Fin 1536) :
    k1_pay8 (F := Ideal) far q k b (ix2 (rowOf m r) c)
      = score 1536 far (fun r l => q (ix2 r l)) (fun c l => k (ix2 c l)) b m r c := by
  pointwise [k1_pay8]
  split
  · exact score_far far q (fun c l => k (ix2 c l)) b m r c (by omega)
  · exact score_near far q (fun c l => k (ix2 c l)) b m r c _ (by dsimp only; omega) _ (by dsimp only; omega)

theorem score5 (far : FVec Ideal S512x1 .f32) (q : Vec Ideal S256x128 .bf16) (k : Vec Ideal S1280x128 .bf16)
    (b : Vec Ideal S2x256x512 .f32) (m : Fin 2) (r : Fin 256) (c : Fin 1280) :
    k1_pay14 (F := Ideal) far q k b (ix2 (rowOf m r) c)
      = score 1280 far (fun r l => q (ix2 r l)) (fun c l => k (ix2 c l)) b m r c := by
  pointwise [k1_pay14]
  split
  · exact score_far far q (fun c l => k (ix2 c l)) b m r c (by omega)
  · exact score_near far q (fun c l => k (ix2 c l)) b m r c _ (by dsimp only; omega) _ (by dsimp only; omega)

theorem score4 (far : FVec Ideal S512x1 .f32) (q : Vec Ideal S256x128 .bf16) (k : Vec Ideal S1024x128 .bf16)
    (b : Vec Ideal S2x256x512 .f32) (m : Fin 2) (r : Fin 256) (c : Fin 1024) :
    k1_pay18 (F := Ideal) far (k1_pay17 q) k b (ix2 (rowOf m r) c)
      = score 1024 far (fun r l => q (ix2 r l)) (fun c l => k (ix2 c l)) b m r c := by
  pointwise [k1_pay18, k1_pay17]
  split
  · exact score_far far q (fun c l => k (ix2 c l)) b m r c (by omega)
  · exact score_near far q (fun c l => k (ix2 c l)) b m r c _ (by dsimp only; omega) _ (by dsimp only; omega)

theorem score3 (far : FVec Ideal S512x1 .f32) (q : Vec Ideal S256x128 .bf16) (k : Vec Ideal S768x128 .bf16)
    (b : Vec Ideal S2x256x512 .f32) (m : Fin 2) (r : Fin 256) (c : Fin 768) :
    k1_pay22 (F := Ideal) far q k b (ix2 (rowOf m r) c)
      = score 768 far (fun r l => q (ix2 r l)) (fun c l => k (ix2 c l)) b m r c := by
  pointwise [k1_pay22]
  split
  · exact score_far far q (fun c l => k (ix2 c l)) b m r c (by omega)
  · exact score_near far q (fun c l => k (ix2 c l)) b m r c _ (by dsimp only; omega) _ (by dsimp only; omega)

/-- The second chunk has no far keys. -/
theorem score2 (far : FVec Ideal S512x1 .f32) (q : Vec Ideal S256x128 .bf16) (k : Vec Ideal S512x128 .bf16)
    (b : Vec Ideal S2x256x512 .f32) (m : Fin 2) (r : Fin 256) (c : Fin 512) :
    k1_pay28 (F := Ideal) q k b (ix2 (rowOf m r) c)
      = score 512 far (fun r l => q (ix2 r l)) (fun c l => k (ix2 c l)) b m r c := by
  pointwise [k1_pay28]
  exact score_near far q (fun c l => k (ix2 c l)) b m r c _ rfl _ (by omega)

/-- The first chunk takes the tile's last 256 columns. -/
theorem score1 (far : FVec Ideal S512x1 .f32) (q : Vec Ideal S256x128 .bf16) (k : Vec Ideal S256x128 .bf16)
    (b : Vec Ideal S2x256x512 .f32) (b' : Vec Ideal S2x256x256 .f32)
    (hb : ∀ (m : Fin 2) (r j : Fin 256), b' (ix3 m r j) = b (ix3 m r ⟨256 + j.val, by omega⟩))
    (m : Fin 2) (r : Fin 256) (c : Fin 256) :
    k1_pay36 (F := Ideal) (k1_pay34 q) (k1_pay35 q) k b' (ix2 (rowOf m r) c)
      = score 256 far (fun r l => q (ix2 r l)) (fun c l => k (ix2 c l)) b m r c := by
  pointwise [k1_pay36, k1_pay35, k1_pay34, k1_pay33, k1_pay32]
  rw [hb]
  exact score_near far q (fun c l => k (ix2 c l)) b m r c _ rfl _ (by dsimp only; omega)

/-- A row's exponentials in base two, its maximum taken away. -/
def expo {N : ℕ} (S : Fin N → EReal) (c : Fin N) : EReal := Ideal.exp2 (S c - Finset.univ.fold max ⊥ S)

theorem expo_congr {N : ℕ} {S T : Fin N → EReal} (h : ∀ c, S c = T c) (c : Fin N) : expo S c = expo T c :=
  congrArg (fun S => expo S c) (funext h)

/-- The last chunk's exponentials. -/
theorem exps8 (far : FVec Ideal S512x1 .f32) (q : Vec Ideal S256x128 .bf16) (k : Vec Ideal S2048x128 .bf16)
    (b : Vec Ideal S2x256x512 .f32) (m : Fin 2) (r : Fin 256) (c : Fin 2048) :
    k1_pay7 (F := Ideal) far (k1_pay5 q) k b (ix2 (rowOf m r) c)
      = expo (score 2048 far (fun r l => q (ix2 r l)) (fun c l => k (ix2 c l)) b m r) c := by
  pointwise [k1_pay7, k1_pay5]
  rw [ofBits_neg_inf]
  refine congrArg₂ (fun a M => Ideal.exp2 (a - M)) ?_ (Finset.fold_congr fun c _ => ?_) <;> split
  · exact score_far far q (fun c l => k (ix2 c l)) b m r c (by omega)
  · exact score_near far q (fun c l => k (ix2 c l)) b m r c _ (by dsimp only; omega) _ (by dsimp only; omega)
  · exact score_far far q (fun c l => k (ix2 c l)) b m r c (by omega)
  · exact score_near far q (fun c l => k (ix2 c l)) b m r c _ (by dsimp only; omega) _ (by dsimp only; omega)

/-! The other chunks' exponentials, from their scores. -/

theorem exps7 (s : FVec Ideal S512x1792 .f32) (r : Fin 512) (c : Fin 1792) :
    k1_pay9 (F := Ideal) s (ix2 r c) = expo (fun c => s (ix2 r c)) c := by
  pointwise [k1_pay9]
  rw [ofBits_neg_inf]; rfl
theorem exps6 (s : FVec Ideal S512x1536 .f32) (r : Fin 512) (c : Fin 1536) :
    k1_pay15 (F := Ideal) s (ix2 r c) = expo (fun c => s (ix2 r c)) c := by
  pointwise [k1_pay15]
  rw [ofBits_neg_inf]; rfl
theorem exps5 (s : FVec Ideal S512x1280 .f32) (r : Fin 512) (c : Fin 1280) :
    k1_pay19 (F := Ideal) s (ix2 r c) = expo (fun c => s (ix2 r c)) c := by
  pointwise [k1_pay19]
  rw [ofBits_neg_inf]; rfl
theorem exps4 (s : FVec Ideal S512x1024 .f32) (r : Fin 512) (c : Fin 1024) :
    k1_pay23 (F := Ideal) s (ix2 r c) = expo (fun c => s (ix2 r c)) c := by
  pointwise [k1_pay23]
  rw [ofBits_neg_inf]; rfl
theorem exps3 (s : FVec Ideal S512x768 .f32) (r : Fin 512) (c : Fin 768) :
    k1_pay30 (F := Ideal) s (k1_pay29 s) (ix2 r c) = expo (fun c => s (ix2 r c)) c := by
  pointwise [k1_pay30, k1_pay29]
  rw [ofBits_neg_inf]; rfl
theorem exps2 (s : FVec Ideal S512x512 .f32) (r : Fin 512) (c : Fin 512) :
    k1_pay37 (F := Ideal) s (ix2 r c) = expo (fun c => s (ix2 r c)) c := by
  pointwise [k1_pay37]
  rw [ofBits_neg_inf]; rfl
theorem exps1 (s : FVec Ideal S512x256 .f32) (r : Fin 512) (c : Fin 256) :
    k1_pay39 (F := Ideal) s (ix2 r c) = expo (fun c => s (ix2 r c)) c := by
  pointwise [k1_pay39]
  rw [ofBits_neg_inf]; rfl

/-- A row of values weighted by `P`, over the weights' sum. -/
def ratio {N : ℕ} (P V : Fin N → EReal) : EReal := Ideal.div (∑ c, P c * V c) (∑ c, P c)

/-- The normed difference of the two maps' quotients at lane `e`. -/
def finish (lam : EReal) (g : Fin 128 → EReal) (o : Fin 2 → Fin 128 → EReal) (e : Fin 128) : EReal :=
  (o 0 e - lam * o 1 e)
    * Ideal.rsqrt (Ideal.div (∑ x, (o 0 x - lam * o 1 x) * (o 0 x - lam * o 1 x)) (Ideal.ofBits FTy.f32 0x43000000#32)
        + Ideal.ofBits FTy.f32 0x358637BD#32)
    * g e * Ideal.ofBits FTy.f32 0x3F24FD5C#32

theorem rowOf_zero (r : Fin 256) : rowOf 0 r = ⟨r.val, by omega⟩ := Fin.ext (by simp [rowOf])
theorem rowOf_one (r : Fin 256) : rowOf 1 r = ⟨256 + r.val, by omega⟩ := Fin.ext (by simp [rowOf])

/-! The eight chunks' results from their exponentials, from the last. -/

theorem finish8 (lam : FVec Ideal S1x1 .f32) (p : FVec Ideal S512x2048 .bf16) (v : Vec Ideal S2048x128 .bf16)
    (g : Vec Ideal S1x128 .f32) (r : Fin 256) (e : Fin 128) :
    k1_pay13 (F := Ideal) (k1_pay10 lam k1_pay4 p v) (k1_pay11 g) (k1_pay12 lam k1_pay4 p v) (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay13, k1_pay12, k1_pay11, k1_pay10, k1_pay4]
theorem finish7 (lam : FVec Ideal S1x1 .f32) (p : FVec Ideal S512x1792 .bf16) (v : Vec Ideal S1792x128 .bf16)
    (g : Vec Ideal S1x128 .f32) (r : Fin 256) (e : Fin 128) :
    k1_pay16 (F := Ideal) lam k1_pay4 p v g (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay16, k1_pay4]
theorem finish6 (lam : FVec Ideal S1x1 .f32) (p : FVec Ideal S512x1536 .bf16) (v : Vec Ideal S1536x128 .bf16)
    (g : Vec Ideal S1x128 .f32) (r : Fin 256) (e : Fin 128) :
    k1_pay21 (F := Ideal) (k1_pay20 lam k1_pay4 p v g) (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay21, k1_pay20, k1_pay4]
theorem finish5 (lam : FVec Ideal S1x1 .f32) (p : FVec Ideal S512x1280 .bf16) (v : Vec Ideal S1280x128 .bf16)
    (g : Vec Ideal S1x128 .f32) (r : Fin 256) (e : Fin 128) :
    k1_pay27 (F := Ideal) (k1_pay25 k1_pay4 p v) (k1_pay26 lam k1_pay4 p v) g (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay27, k1_pay26, k1_pay25, k1_pay24, k1_pay4]
theorem finish4 (lam : FVec Ideal S1x1 .f32) (p : FVec Ideal S512x1024 .bf16) (v : Vec Ideal S1024x128 .bf16)
    (g : Vec Ideal S1x128 .f32) (r : Fin 256) (e : Fin 128) :
    k1_pay31 (F := Ideal) lam k1_pay4 p v g (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay31, k1_pay4]
theorem finish3 (lam : FVec Ideal S1x1 .f32) (p : FVec Ideal S512x768 .bf16) (v : Vec Ideal S768x128 .bf16)
    (g : Vec Ideal S1x128 .f32) (r : Fin 256) (e : Fin 128) :
    k1_pay38 (F := Ideal) lam k1_pay4 p v g (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay38, k1_pay4]
theorem finish2 (lam : FVec Ideal S1x1 .f32) (p : FVec Ideal S512x512 .bf16) (v : Vec Ideal S512x128 .bf16)
    (g : Vec Ideal S1x128 .f32) (r : Fin 256) (e : Fin 128) :
    k1_pay40 (F := Ideal) lam k1_pay4 p v g (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay40, k1_pay4]
theorem finish1 (lam : FVec Ideal S1x1 .f32) (p : FVec Ideal S512x256 .bf16) (v : Vec Ideal S256x128 .bf16)
    (g : Vec Ideal S1x128 .f32) (r : Fin 256) (e : Fin 128) :
    k1_pay1 (F := Ideal) lam p (k1_pay41 k1_pay4 v) g (ix2 r e)
      = finish (lam (ix2 0 0)) (fun e => g (ix2 0 e))
          (fun m e => ratio (fun c => p (ix2 (rowOf m r) c)) (fun c => v (ix2 c e))) e := by
  simp only [finish, ratio, rowOf_zero, rowOf_one]
  pointwise [k1_pay1, k1_pay41, k1_pay4]

/-- The weight of the second map. -/
def lambda (l : Vec Ideal S4x64 .f32) : EReal :=
  Ideal.exp (∑ x : Fin 64, l (ix2 0 x) * l (ix2 1 x)) - Ideal.exp (∑ x : Fin 64, l (ix2 2 x) * l (ix2 3 x))
    + Ideal.ofBits FTy.f32 0x3EB60549#32

theorem lambda_apply (l : Vec Ideal S4x64 .f32) : k1_pay3 (F := Ideal) l (ix2 0 0) = lambda l := by
  pointwise [k1_pay3]
  rfl

/-- The kernel's named constant at the ideal instance. -/
theorem named_log2e : Named.named (F := Ideal) (φ := .f32) κ "log2e" 0x3FB8AA3B#32 = log2e :=
  IdealRules.named_const.ideal_named_scalar _ _ _ _ rfl

/-- The two maps' far biases. -/
theorem far_apply (t0 t1 : Elt Ideal .f32) (m : Fin 2) (r : Fin 256) :
    k1_pay2 (F := Ideal) t0 t1 (ix2 (rowOf m r) 0) = (![t0, t1] m : EReal) * log2e := by
  have hr := r.isLt
  pointwise [k1_pay2, named_log2e]
  fin_cases m
  · rw [dif_pos (show _ < _ by simp [rowOf])]; rfl
  · rw [dif_neg (show ¬ _ < _ by simp [rowOf])]; rfl

end Cert.DiffAttend
end
-- ==== Proof.DiffSoft.lean ====
/-
  The softmax of a row of scores without a sink: in base e and in base two it gives the same real weights.
-/
module

public import proofs.«01_k».proof.Proof.DiffChunk
public import proofs.«01_k».proof.Proof.Soft

@[expose] public section

set_option maxRecDepth 16384

noncomputable section

namespace Cert.DiffAttend

open Idealize.ShloMosaic Idealize.ShloMosaic.TcCoe Idealize.ShloMosaic.Tactic
open Cert.Attend (log2e bot_mul_log2e scale_mono exp2_scale exp_real sum_mul_real coe_sum)

/-- Scaling a row's scores scales its maximum. -/
theorem fold_scale {n : ℕ} (S : Fin n → EReal) :
    Finset.univ.fold max ⊥ (fun c => S c * log2e) = Finset.univ.fold max ⊥ S * log2e := by
  have h := Finset.fold_hom (op := max) (op' := max) (m := fun x : EReal => x * log2e) (s := (Finset.univ : Finset (Fin n)))
    (b := (⊥ : EReal)) (f := S) (fun x y => scale_mono.map_max)
  rw [bot_mul_log2e] at h
  exact h

/-- A sum over the first `N` places of what is zero at the places after them. -/
theorem sum_first {N n : ℕ} (h : N ≤ n) (f : Fin n → EReal) (hf : ∀ c : Fin n, N ≤ c.val → f c = 0) :
    ∑ c : Fin N, f (Fin.castLE h c) = ∑ c, f c := by
  rw [show ∑ c : Fin N, f (Fin.castLE h c) = _ from (Finset.sum_map Finset.univ (Fin.castLEEmb h) f).symm]
  refine Finset.sum_subset (Finset.subset_univ _) fun c _ hc => hf c ?_
  by_contra hlt
  exact hc (Finset.mem_map.2 ⟨⟨c.val, by omega⟩, Finset.mem_univ _, Fin.ext rfl⟩)

/-- A maximum over the first `N` places of what is minus infinity at the places after them. -/
theorem fold_first {N n : ℕ} (h : N ≤ n) (f : Fin n → EReal) (hf : ∀ c : Fin n, N ≤ c.val → f c = ⊥) :
    Finset.univ.fold max ⊥ (fun c : Fin N => f (Fin.castLE h c)) = Finset.univ.fold max ⊥ f := by
  refine le_antisymm ?_ ?_
  · exact (Finset.fold_max_le _).2 ⟨bot_le, fun c _ => (Finset.le_fold_max _).2 (.inr ⟨Fin.castLE h c, Finset.mem_univ _, le_rfl⟩)⟩
  · refine (Finset.fold_max_le _).2 ⟨bot_le, fun c _ => ?_⟩
    by_cases hc : N ≤ c.val
    · rw [hf c hc]; exact bot_le
    · exact (Finset.le_fold_max _).2 (.inr ⟨⟨c.val, by omega⟩, Finset.mem_univ _, le_rfl⟩)

/-- Keys whose scores are minus infinity may be left out of a row. -/
theorem ratio_first {N n : ℕ} (h : N ≤ n) (T V : Fin n → EReal) (hT : ∀ c : Fin n, N ≤ c.val → T c = ⊥) :
    ratio (expo fun c : Fin N => T (Fin.castLE h c)) (fun c => V (Fin.castLE h c)) = ratio (expo T) V := by
  have h0 : ∀ c : Fin n, N ≤ c.val → expo T c = 0 := by
    intro c hc
    unfold expo
    rw [hT c hc, EReal.bot_sub]; rfl
  have he : ∀ c : Fin N, expo (fun c : Fin N => T (Fin.castLE h c)) c = expo T (Fin.castLE h c) := by
    intro c
    unfold expo
    rw [fold_first h T hT]
  unfold ratio
  simp only [he]
  rw [sum_first h (fun c => expo T c * V c) (fun c hc => by rw [h0 c hc, zero_mul]), sum_first h (expo T) h0]

/-- A softmax's weight in base e. -/
def soft {n : ℕ} (S : Fin n → EReal) (c : Fin n) : EReal :=
  Ideal.div (Ideal.exp (S c - max ⊥ (Finset.univ.fold max ⊥ S))) (∑ k, Ideal.exp (S k - max ⊥ (Finset.univ.fold max ⊥ S)))

/-- THE WEIGHTS of a row none of whose scores is plus infinity, and not all minus infinity, are reals, and weigh a row of
    reals alike in base e and in base two. -/
theorem weights {n : ℕ} (S : Fin n → EReal) (hS : ∀ c, S c ≠ ⊤) (hc : ∃ c, S c ≠ ⊥) :
    ∃ w : Fin n → ℝ, (∀ c, soft S c = (w c : EReal)) ∧
      ∀ v : Fin n → ℝ, ratio (expo fun c => S c * log2e) (fun c => (v c : EReal)) = ((∑ c, w c * v c : ℝ) : EReal) := by
  obtain ⟨c0, hc0⟩ := hc
  have hle : S c0 ≤ Finset.univ.fold max ⊥ S := (Finset.le_fold_max _).2 (.inr ⟨c0, Finset.mem_univ _, le_rfl⟩)
  obtain ⟨M, hM⟩ : ∃ M : ℝ, Finset.univ.fold max ⊥ S = M := by
    have h1 : Finset.univ.fold max ⊥ S ≠ ⊤ :=
      ne_of_lt ((Finset.fold_max_lt _).2 ⟨bot_lt_top, fun c _ => lt_top_iff_ne_top.2 (hS c)⟩)
    have h2 : Finset.univ.fold max ⊥ S ≠ ⊥ := ne_of_gt (lt_of_lt_of_le (bot_lt_iff_ne_bot.2 hc0) hle)
    exact ⟨_, (EReal.coe_toReal h1 h2).symm⟩
  choose e he0 he using fun c => exp_real (S c) M (hS c)
  have hpos : 0 < e c0 := by
    have h := he c0
    rw [← EReal.coe_toReal (hS c0) hc0, ← EReal.coe_sub] at h
    have h' : ((Real.exp ((S c0).toReal - M) : ℝ) : EReal) = (e c0 : EReal) := h
    rw [← EReal.coe_eq_coe_iff.1 h']
    exact Real.exp_pos _
  have hD : 0 < ∑ c, e c := Finset.sum_pos' (fun c _ => he0 c) ⟨c0, Finset.mem_univ _, hpos⟩
  refine ⟨fun c => e c * (1 / ∑ c, e c), fun c => ?_, fun v => ?_⟩
  · unfold soft
    rw [max_eq_right bot_le, hM]
    simp only [he]
    rw [coe_sum, Ideal.div_coe hD.ne', ← EReal.coe_mul]
  · have e1 : ∀ c, expo (fun c => S c * log2e) c = (e c : EReal) := by
      intro c
      unfold expo
      rw [fold_scale, hM, exp2_scale _ _ (hS c), he]
    unfold ratio
    simp only [e1, ← EReal.coe_mul]
    rw [coe_sum, coe_sum, Ideal.div_coe hD.ne', ← EReal.coe_mul, Finset.sum_mul]
    refine congrArg _ (Finset.sum_congr rfl fun c _ => ?_)
    ring

end Cert.DiffAttend
end
-- ==== Proof.DiffBlock.lean ====
/-
  The output block of the differential attention at a grid point, from the point's blocks: eight chunks of query rows.
-/
module

public import proofs.«01_k».proof.Proof.DiffSoft

@[expose] public section

set_option maxRecDepth 16384

noncomputable section

namespace Cert.DiffAttend

open Idealize.ShloMosaic Idealize.ShloMosaic.TcCoe Idealize.ShloMosaic.Tactic Idealize.ShloMosaic.Pipeline
open Cert.DiffIdeal Cert.DiffIdeal.Gen

/-- The two table columns of a head's maps. -/
def mapCol (h : Fin 16) (m : Fin 2) : Fin 32 := ⟨2 * h.val + m.val, by omega⟩

/-- A grid point's result at chunk `n`, row `r`, lane `e`, from its blocks. -/
def blockOut (h : Fin 16) (x0 : Vec Ideal S32x32 .f32) (x1 : Vec Ideal S4x64 .f32) (x2 : Vec Ideal S1x128 .f32)
    (x3 x4 x5 : Vec Ideal S2048x128 .bf16) (x6 : Vec Ideal S2x256x512 .f32) (n : Fin 8) (r : Fin 256) (e : Fin 128) : EReal :=
  finish (lambda x1) (fun e => x2 (ix2 0 e))
    (fun m e => ratio (expo (score (256 * (n.val + 1)) (k1_pay2 (F := Ideal) (x0 (ix2 31 (mapCol h 0))) (x0 (ix2 31 (mapCol h 1))))
        (fun r l => x3 (ix2 ⟨256 * n.val + r.val, by omega⟩ l)) (fun c l => x4 (ix2 ⟨c.val, by omega⟩ l)) x6 m r))
      (fun c => x5 (ix2 ⟨c.val, by omega⟩ e))) e

/-- The same as contents of the block. -/
def blockFn (h : Fin 16) (x0 : Vec Ideal S32x32 .f32) (x1 : Vec Ideal S4x64 .f32) (x2 : Vec Ideal S1x128 .f32)
    (x3 x4 x5 : Vec Ideal S2048x128 .bf16) (x6 : Vec Ideal S2x256x512 .f32) (y : S2048x128.Idx) : EReal :=
  blockOut h x0 x1 x2 x3 x4 x5 x6 ⟨(y 0).val / 256, by have : (y 0).val < 2048 := (y 0).isLt; omega⟩
    ⟨(y 0).val % 256, by omega⟩ (y 1)

theorem blockFn_at (h : Fin 16) (x0 : Vec Ideal S32x32 .f32) (x1 : Vec Ideal S4x64 .f32) (x2 : Vec Ideal S1x128 .f32)
    (x3 x4 x5 : Vec Ideal S2048x128 .bf16) (x6 : Vec Ideal S2x256x512 .f32) (n : Fin 8) (r : Fin 256) (e : Fin 128) :
    blockFn h x0 x1 x2 x3 x4 x5 x6 ((Rect.unit (s := S2048x128) ![256 * n.val, 0] S256x128.size (by decide +revert)).emb (ix2 r e))
      = blockOut h x0 x1 x2 x3 x4 x5 x6 n r e := by
  have hv : (Rect.unit (s := S2048x128) ![256 * n.val, 0] S256x128.size (by decide +revert)).emb (ix2 r e)
      = (ix2 ⟨256 * n.val + r.val, by omega⟩ e : S2048x128.Idx) := by
    refine funext fun a => Fin.ext ?_
    rw [Rect.emb_apply]
    match a with
    | ⟨0, _⟩ => exact (by simp [Rect.unit] : 256 * n.val + 1 * r.val = 256 * n.val + r.val)
    | ⟨1, _⟩ => exact (by simp [Rect.unit] : 0 + 1 * e.val = e.val)
  rw [hv]
  unfold blockFn
  have e1 : (⟨(256 * n.val + r.val) / 256, by omega⟩ : Fin 8) = n := Fin.ext (by dsimp only; omega)
  have e2 : (⟨(256 * n.val + r.val) % 256, by omega⟩ : Fin 256) = r := Fin.ext (by dsimp only; omega)
  show blockOut h x0 x1 x2 x3 x4 x5 x6 (⟨(256 * n.val + r.val) / 256, _⟩ : Fin 8) (⟨(256 * n.val + r.val) % 256, _⟩ : Fin 256) e = _
  rw [e1, e2]

/-- Rows loaded out of a block. -/
theorem load_rows (arg : Memref sig .tc .vmem S2048x128 .bf16) (harg : arg.IsWhole) (x : Vec Ideal S2048x128 .bf16)
    (o N : ℕ) (inb : ∀ a, ![o, 0] a + (⟨2, ![N, 128]⟩ : Shape).size a ≤ S2048x128.size a) (r : Fin N) (l : Fin 128) :
    View.readAt (Elt Ideal) arg.view (Rect.unit (s := S2048x128) ![o, 0] (⟨2, ![N, 128]⟩ : Shape).size inb).toLoadRect
        (harg.unread x) (ix2 r l)
      = x (ix2 ⟨o + r.val, by have h : o + N ≤ 2048 := inb 0; omega⟩ l) := by
  rw [View.readAt_eq_ld, Memref.IsWhole.read_unread]
  refine congrArg x (funext fun a => Fin.ext ?_)
  match a with
  | ⟨0, _⟩ => exact (by simp [Rect.unit] : o + 1 * r.val = o + r.val)
  | ⟨1, _⟩ => exact (by simp [Rect.unit] : 0 + 1 * l.val = l.val)

/-- The first rows loaded out of a block. -/
theorem load_first (arg : Memref sig .tc .vmem S2048x128 .bf16) (harg : arg.IsWhole) (x : Vec Ideal S2048x128 .bf16)
    (N : ℕ) (inb : ∀ a, ![0, 0] a + (⟨2, ![N, 128]⟩ : Shape).size a ≤ S2048x128.size a) (r : Fin N) (l : Fin 128) :
    View.readAt (Elt Ideal) arg.view (Rect.unit (s := S2048x128) ![0, 0] (⟨2, ![N, 128]⟩ : Shape).size inb).toLoadRect
        (harg.unread x) (ix2 r l)
      = x (ix2 ⟨r.val, by have h : 0 + N ≤ 2048 := inb 0; omega⟩ l) := by
  rw [load_rows]
  exact Cert.Attend.ix2_congr x (Nat.zero_add _) rfl

variable (h : Fin 16) (x0 : Vec Ideal S32x32 .f32) (x1 : Vec Ideal S4x64 .f32) (x2 : Vec Ideal S1x128 .f32)
  (x3 x4 x5 : Vec Ideal S2048x128 .bf16) (x6 : Vec Ideal S2x256x512 .f32)

/-! The eight chunks, where their operands are the blocks' rows. -/

theorem chunk7 (t0 t1 : Elt Ideal .f32) (h0 : t0 = x0 (ix2 31 (mapCol h 0))) (h1 : t1 = x0 (ix2 31 (mapCol h 1)))
    (q : Vec Ideal S256x128 .bf16) (k v : Vec Ideal S2048x128 .bf16)
    (hq : ∀ (r : Fin 256) (l : Fin 128), q (ix2 r l) = x3 (ix2 ⟨1792 + r.val, by omega⟩ l))
    (hk : ∀ (r : Fin 2048) (l : Fin 128), k (ix2 r l) = x4 (ix2 ⟨r.val, by omega⟩ l))
    (hv : ∀ (r : Fin 2048) (l : Fin 128), v (ix2 r l) = x5 (ix2 ⟨r.val, by omega⟩ l)) (r : Fin 256) (e : Fin 128) :
    k1_pay13 (F := Ideal) (k1_pay10 (k1_pay3 x1) k1_pay4 (k1_pay7 (k1_pay2 t0 t1) (k1_pay5 q) k x6) v)
        (k1_pay11 x2) (k1_pay12 (k1_pay3 x1) k1_pay4 (k1_pay7 (k1_pay2 t0 t1) (k1_pay5 q) k x6) v) (ix2 r e)
      = blockOut h x0 x1 x2 x3 x4 x5 x6 7 r e := by
  subst h0 h1
  rw [finish8, lambda_apply]
  simp only [exps8, hq, hk, hv]
  rfl

theorem chunk6 (t0 t1 : Elt Ideal .f32) (h0 : t0 = x0 (ix2 31 (mapCol h 0))) (h1 : t1 = x0 (ix2 31 (mapCol h 1)))
    (q : Vec Ideal S256x128 .bf16) (k v : Vec Ideal S1792x128 .bf16)
    (hq : ∀ (r : Fin 256) (l : Fin 128), q (ix2 r l) = x3 (ix2 ⟨1536 + r.val, by omega⟩ l))
    (hk : ∀ (r : Fin 1792) (l : Fin 128), k (ix2 r l) = x4 (ix2 ⟨r.val, by omega⟩ l))
    (hv : ∀ (r : Fin 1792) (l : Fin 128), v (ix2 r l) = x5 (ix2 ⟨r.val, by omega⟩ l)) (r : Fin 256) (e : Fin 128) :
    k1_pay16 (F := Ideal) (k1_pay3 x1) k1_pay4 (k1_pay9 (k1_pay6 (k1_pay2 t0 t1) q k x6)) v x2 (ix2 r e)
      = blockOut h x0 x1 x2 x3 x4 x5 x6 6 r e := by
  subst h0 h1
  rw [finish7, lambda_apply]
  simp only [exps7, score7, hq, hk, hv]
  rfl

theorem chunk5 (t0 t1 : Elt Ideal .f32) (h0 : t0 = x0 (ix2 31 (mapCol h 0))) (h1 : t1 = x0 (ix2 31 (mapCol h 1)))
    (q : Vec Ideal S256x128 .bf16) (k v : Vec Ideal S1536x128 .bf16)
    (hq : ∀ (r : Fin 256) (l : Fin 128), q (ix2 r l) = x3 (ix2 ⟨1280 + r.val, by omega⟩ l))
    (hk : ∀ (r : Fin 1536) (l : Fin 128), k (ix2 r l) = x4 (ix2 ⟨r.val, by omega⟩ l))
    (hv : ∀ (r : Fin 1536) (l : Fin 128), v (ix2 r l) = x5 (ix2 ⟨r.val, by omega⟩ l)) (r : Fin 256) (e : Fin 128) :
    k1_pay21 (F := Ideal) (k1_pay20 (k1_pay3 x1) k1_pay4 (k1_pay15 (k1_pay8 (k1_pay2 t0 t1) q k x6)) v x2) (ix2 r e)
      = blockOut h x0 x1 x2 x3 x4 x5 x6 5 r e := by
  subst h0 h1
  rw [finish6, lambda_apply]
  simp only [exps6, score6, hq, hk, hv]
  rfl

theorem chunk4 (t0 t1 : Elt Ideal .f32) (h0 : t0 = x0 (ix2 31 (mapCol h 0))) (h1 : t1 = x0 (ix2 31 (mapCol h 1)))
    (q : Vec Ideal S256x128 .bf16) (k v : Vec Ideal S1280x128 .bf16)
    (hq : ∀ (r : Fin 256) (l : Fin 128), q (ix2 r l) = x3 (ix2 ⟨1024 + r.val, by omega⟩ l))
    (hk : ∀ (r : Fin 1280) (l : Fin 128), k (ix2 r l) = x4 (ix2 ⟨r.val, by omega⟩ l))
    (hv : ∀ (r : Fin 1280) (l : Fin 128), v (ix2 r l) = x5 (ix2 ⟨r.val, by omega⟩ l)) (r : Fin 256) (e : Fin 128) :
    k1_pay27 (F := Ideal) (k1_pay25 k1_pay4 (k1_pay19 (k1_pay14 (k1_pay2 t0 t1) q k x6)) v)
        (k1_pay26 (k1_pay3 x1) k1_pay4 (k1_pay19 (k1_pay14 (k1_pay2 t0 t1) q k x6)) v) x2 (ix2 r e)
      = blockOut h x0 x1 x2 x3 x4 x5 x6 4 r e := by
  subst h0 h1
  rw [finish5, lambda_apply]
  simp only [exps5, score5, hq, hk, hv]
  rfl

theorem chunk3 (t0 t1 : Elt Ideal .f32) (h0 : t0 = x0 (ix2 31 (mapCol h 0))) (h1 : t1 = x0 (ix2 31 (mapCol h 1)))
    (q : Vec Ideal S256x128 .bf16) (k v : Vec Ideal S1024x128 .bf16)
    (hq : ∀ (r : Fin 256) (l : Fin 128), q (ix2 r l) = x3 (ix2 ⟨768 + r.val, by omega⟩ l))
    (hk : ∀ (r : Fin 1024) (l : Fin 128), k (ix2 r l) = x4 (ix2 ⟨r.val, by omega⟩ l))
    (hv : ∀ (r : Fin 1024) (l : Fin 128), v (ix2 r l) = x5 (ix2 ⟨r.val, by omega⟩ l)) (r : Fin 256) (e : Fin 128) :
    k1_pay31 (F := Ideal) (k1_pay3 x1) k1_pay4 (k1_pay23 (k1_pay18 (k1_pay2 t0 t1) (k1_pay17 q) k x6)) v x2 (ix2 r e)
      = blockOut h x0 x1 x2 x3 x4 x5 x6 3 r e := by
  subst h0 h1
  rw [finish4, lambda_apply]
  simp only [exps4, score4, hq, hk, hv]
  rfl

theorem chunk2 (t0 t1 : Elt Ideal .f32) (h0 : t0 = x0 (ix2 31 (mapCol h 0))) (h1 : t1 = x0 (ix2 31 (mapCol h 1)))
    (q : Vec Ideal S256x128 .bf16) (k v : Vec Ideal S768x128 .bf16)
    (hq : ∀ (r : Fin 256) (l : Fin 128), q (ix2 r l) = x3 (ix2 ⟨512 + r.val, by omega⟩ l))
    (hk : ∀ (r : Fin 768) (l : Fin 128), k (ix2 r l) = x4 (ix2 ⟨r.val, by omega⟩ l))
    (hv : ∀ (r : Fin 768) (l : Fin 128), v (ix2 r l) = x5 (ix2 ⟨r.val, by omega⟩ l)) (r : Fin 256) (e : Fin 128) :
    k1_pay38 (F := Ideal) (k1_pay3 x1) k1_pay4
        (k1_pay30 (k1_pay22 (k1_pay2 t0 t1) q k x6)
          (k1_pay29 (k1_pay22 (k1_pay2 t0 t1) q k x6))) v x2 (ix2 r e)
      = blockOut h x0 x1 x2 x3 x4 x5 x6 2 r e := by
  subst h0 h1
  rw [finish3, lambda_apply]
  simp only [exps3, score3, hq, hk, hv]
  rfl

theorem chunk1 (q : Vec Ideal S256x128 .bf16) (k v : Vec Ideal S512x128 .bf16)
    (hq : ∀ (r : Fin 256) (l : Fin 128), q (ix2 r l) = x3 (ix2 ⟨256 + r.val, by omega⟩ l))
    (hk : ∀ (r : Fin 512) (l : Fin 128), k (ix2 r l) = x4 (ix2 ⟨r.val, by omega⟩ l))
    (hv : ∀ (r : Fin 512) (l : Fin 128), v (ix2 r l) = x5 (ix2 ⟨r.val, by omega⟩ l)) (r : Fin 256) (e : Fin 128) :
    k1_pay40 (F := Ideal) (k1_pay3 x1) k1_pay4 (k1_pay37 (k1_pay28 q k x6)) v x2 (ix2 r e)
      = blockOut h x0 x1 x2 x3 x4 x5 x6 1 r e := by
  rw [finish2, lambda_apply]
  simp only [exps2, score2 (k1_pay2 (F := Ideal) (x0 (ix2 31 (mapCol h 0))) (x0 (ix2 31 (mapCol h 1)))), hq, hk, hv]
  rfl

theorem chunk0 (q : Vec Ideal S256x128 .bf16) (k v : Vec Ideal S256x128 .bf16) (b : Vec Ideal S2x256x256 .f32)
    (hb : ∀ (m : Fin 2) (r j : Fin 256), b (ix3 m r j) = x6 (ix3 m r ⟨256 + j.val, by omega⟩))
    (hq : ∀ (r : Fin 256) (l : Fin 128), q (ix2 r l) = x3 (ix2 ⟨r.val, by omega⟩ l))
    (hk : ∀ (r : Fin 256) (l : Fin 128), k (ix2 r l) = x4 (ix2 ⟨r.val, by omega⟩ l))
    (hv : ∀ (r : Fin 256) (l : Fin 128), v (ix2 r l) = x5 (ix2 ⟨r.val, by omega⟩ l)) (r : Fin 256) (e : Fin 128) :
    k1_pay1 (F := Ideal) (k1_pay3 x1) (k1_pay39 (k1_pay36 (k1_pay34 q) (k1_pay35 q) k b)) (k1_pay41 k1_pay4 v) x2 (ix2 r e)
      = blockOut h x0 x1 x2 x3 x4 x5 x6 0 r e := by
  rw [finish1, lambda_apply]
  simp only [exps1, score1 (k1_pay2 (F := Ideal) (x0 (ix2 31 (mapCol h 0))) (x0 (ix2 31 (mapCol h 1)))) q k x6 b hb, hk, hv]
  unfold blockOut
  simp only [hq]
  simp only [show ∀ r : Fin 256, (⟨256 * (0 : Fin 8).val + r.val, by have : (0 : Fin 8).val = 0 := rfl; omega⟩ : Fin 2048) = ⟨r.val, by omega⟩ from
    fun r => Fin.ext (by simp)]
  rfl

/-- The table's entry of the far bias, as a grid point loads it. -/
theorem load_entry (arg2 : Memref sig .tc .smem S32x32 .f32) (harg2 : arg2.IsWhole) (x0 : Vec Ideal S32x32 .f32) (j : ℕ) (b : Fin 32)
    (hj : j = b.val) (inb : ∀ a, ![31, j] a + S1x1.size a ≤ S32x32.size a) :
    View.readAt (Elt Ideal) arg2.view (Rect.unit (s := S32x32) ![31, j] S1x1.size inb).toLoadRect (harg2.unread x0)
      (Shape.Idx.first (show 0 < S1x1.numel by decide)) = x0 (ix2 31 b) := by
  subst hj
  rw [View.readAt_eq_ld, Memref.IsWhole.read_unread]
  refine congrArg x0 (funext fun a => Fin.ext ?_)
  match a with
  | ⟨0, _⟩ => rfl
  | ⟨1, _⟩ => rfl

theorem zeros2 : (![0, 0] : Fin 2 → ℕ) = fun _ => 0 := funext fun a => by fin_cases a <;> rfl
theorem zeros3 : (![0, 0, 0] : Fin 3 → ℕ) = fun _ => 0 := funext fun a => by fin_cases a <;> rfl

set_option maxHeartbeats 400000 in
/-- THE OUTPUT BLOCK at a grid point is `blockFn` of the point's blocks. -/
theorem out1_eq (c : Dev nD) (i : grid1.Coords) (arg2 : Memref sig .tc .smem S32x32 .f32) (harg2 : arg2.IsWhole) (arg3 : Memref sig .tc .vmem S4x64 .f32) (harg3 : arg3.IsWhole) (arg4 : Memref sig .tc .vmem S1x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2x256x512 .f32) (harg8 : arg8.IsWhole) (arg9 : Memref sig .tc .vmem S2048x128 .bf16) (harg9 : arg9.IsWhole) :
    out1_A_7 (F := Ideal) c i arg2 harg2 arg3 harg3 arg4 harg4 arg5 harg5 arg6 harg6 arg7 harg7 arg8 harg8 arg9 harg9 x0 x1 x2 x3 x4 x5 x6
      = blockFn (i 0) x0 x1 x2 x3 x4 x5 x6 := by
  have hE0 : ∀ i : Fin 16, (Scalar.indexCast (Scalar.muli 2#32 (BitVec.ofNat 32 i.val))).toNat = (mapCol i 0).val := by decide +kernel
  have hE1 : ∀ i : Fin 16, (Scalar.indexCast (Scalar.addi (Scalar.muli 2#32 (BitVec.ofNat 32 i.val)) 1#32)).toNat = (mapCol i 1).val := by
    decide +kernel
  funext y
  unfold out1_A_7
  rw [View.read_writes_eq_canon _ _ _ (cover1_A_7 c i arg2 harg2 arg3 harg3 arg4 harg4 arg5 harg5 arg6 harg6 arg7 harg7 arg8 harg8 arg9 harg9 x0 x1 x2 x3 x4 x5 x6)]
  refine View.canon_apply_of_pieces _ _ (fun p hp j => ?_) y (cover1_A_7 c i arg2 harg2 arg3 harg3 arg4 harg4 arg5 harg5 arg6 harg6 arg7 harg7 arg8 harg8 arg9 harg9 x0 x1 x2 x3 x4 x5 x6 y)
  unfold kernelRun1_A at hp
  dsimp only at hp
  simp only [List.mem_cons, List.mem_nil_iff, or_false] at hp
  have w3 : View.readAt (Elt Ideal) arg3.view (Rect.unit ![0, 0] ![4, 64] inb_S4x64_S4x64_0_0).toLoadRect (harg3.unread x1) = x1 := by
    rw [View.readAt_eq_ld, harg3.read_unread]; exact View.ld_unit_zero (S := S4x64) zeros2 _ x1
  have w4 : View.readAt (Elt Ideal) arg4.view (Rect.unit ![0, 0] ![1, 128] inb_S1x128_S1x128_0_0).toLoadRect (harg4.unread x2) = x2 := by
    rw [View.readAt_eq_ld, harg4.read_unread]; exact View.ld_unit_zero (S := S1x128) zeros2 _ x2
  have w8 : View.readAt (Elt Ideal) arg8.view (Rect.unit ![0, 0, 0] ![2, 256, 512] inb_S2x256x512_S2x256x512_0_0_0).toLoadRect (harg8.unread x6) = x6 := by
    rw [View.readAt_eq_ld, harg8.read_unread]; exact View.ld_unit_zero (S := S2x256x512) zeros3 _ x6
  have hb : ∀ inb, ∀ (m : Fin 2) (r j : Fin 256), View.readAt (Elt Ideal) arg8.view
      (Rect.unit (s := S2x256x512) ![0, 0, 256] S2x256x256.size inb).toLoadRect (harg8.unread x6) (ix3 m r j)
      = x6 (ix3 m r ⟨256 + j.val, by omega⟩) := by
    intro inb m r j
    rw [View.readAt_eq_ld, Memref.IsWhole.read_unread]
    refine congrArg x6 (funext fun a => Fin.ext ?_)
    match a with
    | ⟨0, _⟩ => exact (by simp [Rect.unit] : 0 + 1 * m.val = m.val)
    | ⟨1, _⟩ => exact (by simp [Rect.unit] : 0 + 1 * r.val = r.val)
    | ⟨2, _⟩ => exact (by simp [Rect.unit] : 256 + 1 * j.val = 256 + j.val)
  rcases hp with rfl | rfl | rfl | rfl | rfl | rfl | rfl | rfl
  · obtain ⟨r, e, rfl⟩ : ∃ r e, j = ix2 r e := ⟨_, _, eq_ix2 j⟩
    sl_unfold_words
    simp only [w3, w4, w8]
    exact (chunk0 (i 0) x0 x1 x2 x3 x4 x5 x6 _ _ _ _ (hb _) (load_first arg5 harg5 x3 256 _) (load_first arg6 harg6 x4 256 _)
      (load_first arg7 harg7 x5 256 _) r e).trans (blockFn_at (i 0) x0 x1 x2 x3 x4 x5 x6 0 r e).symm
  · obtain ⟨r, e, rfl⟩ : ∃ r e, j = ix2 r e := ⟨_, _, eq_ix2 j⟩
    sl_unfold_words
    simp only [w3, w4, w8]
    exact (chunk1 (i 0) x0 x1 x2 x3 x4 x5 x6 _ _ _ (load_rows arg5 harg5 x3 256 256 _) (load_first arg6 harg6 x4 512 _)
      (load_first arg7 harg7 x5 512 _) r e).trans (blockFn_at (i 0) x0 x1 x2 x3 x4 x5 x6 1 r e).symm
  · obtain ⟨r, e, rfl⟩ : ∃ r e, j = ix2 r e := ⟨_, _, eq_ix2 j⟩
    sl_unfold_words
    simp only [w3, w4, w8]
    exact (chunk2 (i 0) x0 x1 x2 x3 x4 x5 x6 _ _ (load_entry arg2 harg2 x0 _ _ (hE0 (i 0)) _) (load_entry arg2 harg2 x0 _ _ (hE1 (i 0)) _) _ _ _ (load_rows arg5 harg5 x3 512 256 _) (load_first arg6 harg6 x4 768 _)
      (load_first arg7 harg7 x5 768 _) r e).trans (blockFn_at (i 0) x0 x1 x2 x3 x4 x5 x6 2 r e).symm
  · obtain ⟨r, e, rfl⟩ : ∃ r e, j = ix2 r e := ⟨_, _, eq_ix2 j⟩
    sl_unfold_words
    simp only [w3, w4, w8]
    exact (chunk3 (i 0) x0 x1 x2 x3 x4 x5 x6 _ _ (load_entry arg2 harg2 x0 _ _ (hE0 (i 0)) _) (load_entry arg2 harg2 x0 _ _ (hE1 (i 0)) _) _ _ _ (load_rows arg5 harg5 x3 768 256 _) (load_first arg6 harg6 x4 1024 _)
      (load_first arg7 harg7 x5 1024 _) r e).trans (blockFn_at (i 0) x0 x1 x2 x3 x4 x5 x6 3 r e).symm
  · obtain ⟨r, e, rfl⟩ : ∃ r e, j = ix2 r e := ⟨_, _, eq_ix2 j⟩
    sl_unfold_words
    simp only [w3, w4, w8]
    exact (chunk4 (i 0) x0 x1 x2 x3 x4 x5 x6 _ _ (load_entry arg2 harg2 x0 _ _ (hE0 (i 0)) _) (load_entry arg2 harg2 x0 _ _ (hE1 (i 0)) _) _ _ _ (load_rows arg5 harg5 x3 1024 256 _) (load_first arg6 harg6 x4 1280 _)
      (load_first arg7 harg7 x5 1280 _) r e).trans (blockFn_at (i 0) x0 x1 x2 x3 x4 x5 x6 4 r e).symm
  · obtain ⟨r, e, rfl⟩ : ∃ r e, j = ix2 r e := ⟨_, _, eq_ix2 j⟩
    sl_unfold_words
    simp only [w3, w4, w8]
    exact (chunk5 (i 0) x0 x1 x2 x3 x4 x5 x6 _ _ (load_entry arg2 harg2 x0 _ _ (hE0 (i 0)) _) (load_entry arg2 harg2 x0 _ _ (hE1 (i 0)) _) _ _ _ (load_rows arg5 harg5 x3 1280 256 _) (load_first arg6 harg6 x4 1536 _)
      (load_first arg7 harg7 x5 1536 _) r e).trans (blockFn_at (i 0) x0 x1 x2 x3 x4 x5 x6 5 r e).symm
  · obtain ⟨r, e, rfl⟩ : ∃ r e, j = ix2 r e := ⟨_, _, eq_ix2 j⟩
    sl_unfold_words
    simp only [w3, w4, w8]
    exact (chunk6 (i 0) x0 x1 x2 x3 x4 x5 x6 _ _ (load_entry arg2 harg2 x0 _ _ (hE0 (i 0)) _) (load_entry arg2 harg2 x0 _ _ (hE1 (i 0)) _) _ _ _ (load_rows arg5 harg5 x3 1536 256 _) (load_first arg6 harg6 x4 1792 _)
      (load_first arg7 harg7 x5 1792 _) r e).trans (blockFn_at (i 0) x0 x1 x2 x3 x4 x5 x6 6 r e).symm
  · obtain ⟨r, e, rfl⟩ : ∃ r e, j = ix2 r e := ⟨_, _, eq_ix2 j⟩
    sl_unfold_words
    simp only [w3, w4, w8]
    exact (chunk7 (i 0) x0 x1 x2 x3 x4 x5 x6 _ _ (load_entry arg2 harg2 x0 _ _ (hE0 (i 0)) _) (load_entry arg2 harg2 x0 _ _ (hE1 (i 0)) _) _ _ _ (load_rows arg5 harg5 x3 1792 256 _) (load_first arg6 harg6 x4 2048 _)
      (load_first arg7 harg7 x5 2048 _) r e).trans (blockFn_at (i 0) x0 x1 x2 x3 x4 x5 x6 7 r e).symm

end Cert.DiffAttend
end
-- ==== Proof.DiffBias.lean ====
/-
  The causal bias tiles: at query row `r` and key column `c` of a tile, the table's entry of the distance's bucket, in
  base two, where the key is not after the query, and minus infinity elsewhere.
-/
module

public import proofs.«01_k».proof.Proof.DiffBlock
public import proofs.«01_k».proof.Proof.Bias

@[expose] public section

set_option maxRecDepth 16384

noncomputable section

namespace Cert.DiffAttend

open Idealize.ShloMosaic Idealize.ShloMosaic.TcCoe Idealize.ShloMosaic.Tactic Idealize.ShloMosaic.Pipeline
open Cert.DiffIdeal Cert.DiffIdeal.Gen
open Cert.Attend (log2e thresholds bucket sel_one sel_zero ofBits_neg_inf distance_eq)

/-- Every distance's bucket is a row of the table. -/
theorem bucket_row (n : ℕ) : bucket n < 32 := by
  unfold bucket
  have h : thresholds.countP (· ≤ n) ≤ thresholds.length := List.countP_le_length
  have h' : thresholds.length = 15 := rfl
  split <;> omega

/-- One head's tile from its 32 table entries: the buckets' chain of choices. -/
def tile (t0 t1 t2 t3 t4 t5 t6 t7 t8 t9 t10 t11 t12 t13 t14 t15 t16 t17 t18 t19 t20 t21 t22 t23 t24 t25 t26 t27 t28 t29 t30 t31 : Elt Ideal .f32) : FVec Ideal S1x256x512 .f32 :=
  k0_pay16 (F := Ideal) k0_pay4
    (k0_pay14 (k0_pay7 k0_pay5 k0_pay6 59#32)
      (k0_pay13 (k0_pay7 k0_pay5 k0_pay6 59#32)
        (k0_pay12 (k0_pay7 k0_pay5 k0_pay6 59#32)
          (k0_pay11 (k0_pay7 k0_pay5 k0_pay6 59#32)
            (k0_pay10 (k0_pay7 k0_pay5 k0_pay6 59#32)
              (k0_pay9 (k0_pay7 k0_pay5 k0_pay6 59#32)
                (k0_pay8 k0_pay5 k0_pay6 59#32 t0 t1) 2#32 t2 t3 t4 t5 t6)
              7#32 t7 t8 t9 t10 t11)
            12#32 t12 t13 t14 t15 t16)
          17#32 t17 t18 t19 t20 t21)
        22#32 t22 t23 t24 t25 t26)
      27#32 t27 t28 t29 t30 t31)
    0#32

/-- The distance of a query row and a key column of a tile, where the key is not after the query. -/
theorem distance_eq512 (r : Fin 256) (c : Fin 512) (d : Fin 512) (h : r.val + 256 = c.val + d.val) :
    IntOp.addi (IntOp.subi (BitVec.ofNat 32 r.val) (BitVec.ofNat 32 c.val)) 256#32 = BitVec.ofNat 32 d.val := by
  show BitVec.ofNat 32 r.val - BitVec.ofNat 32 c.val + 256#32 = BitVec.ofNat 32 d.val
  apply BitVec.eq_of_toNat_eq
  simp only [BitVec.toNat_add, BitVec.toNat_sub, BitVec.toNat_ofNat]
  omega

/-- The distance of a query row and a key column of a tile. -/
theorem distances_apply (r : Fin 256) (c : Fin 512) :
    k0_pay4 (ix2 r c) = IntOp.addi (IntOp.subi (BitVec.ofNat 32 r.val) (BitVec.ofNat 32 c.val)) 256#32 := by
  pointwise [k0_pay4]

set_option maxHeartbeats 4000000 in
/-- The bucket of a query row and a key column of a tile, where the key is not after the query. -/
theorem buckets_apply (r : Fin 256) (c : Fin 512) (d : Fin 512) (h : r.val + 256 = c.val + d.val) :
    k0_pay7 k0_pay5 k0_pay6 59#32 (ix2 r c) = BitVec.ofNat 32 (bucket d.val) := by
  pointwise [k0_pay7, k0_pay6, k0_pay5, k0_pay4]
  rw [distance_eq512 r c d h]
  clear h
  revert d
  decide +kernel

/-- Where the key is after the query the distance is negative. -/
theorem distance_out (r : Fin 256) (c : Fin 512) (h : ¬ c.val ≤ r.val + 256) :
    IntOp.cmpi .sge (IntOp.addi (IntOp.subi (BitVec.ofNat 32 r.val) (BitVec.ofNat 32 c.val)) 256#32) 0#32 = 0#1 := by
  show BitVec.ofBool (BitVec.sle 0#32 (BitVec.ofNat 32 r.val - BitVec.ofNat 32 c.val + 256#32)) = _
  have ht : (BitVec.ofNat 32 r.val - BitVec.ofNat 32 c.val + 256#32).toInt = (r.val : ℤ) - c.val + 256 := by
    rw [BitVec.toInt_eq_toNat_cond]
    simp only [BitVec.toNat_add, BitVec.toNat_sub, BitVec.toNat_ofNat]
    split <;> omega
  rw [BitVec.sle, ht, decide_eq_false (by show ¬ (0 : ℤ) ≤ _; omega)]; rfl

/-- A column of biases: where the key is not after the query, the distance's bucket's entry by `log2e`. -/
def biasAt (T : Fin 32 → EReal) (r : Fin 256) (c : Fin 512) : EReal :=
  if c.val ≤ r.val + 256 then T ⟨bucket (r.val + 256 - c.val), bucket_row _⟩ * log2e else ⊥

set_option maxHeartbeats 4000000 in
/-- A TILE at a row and a column. -/
theorem tile_apply (t0 t1 t2 t3 t4 t5 t6 t7 t8 t9 t10 t11 t12 t13 t14 t15 t16 t17 t18 t19 t20 t21 t22 t23 t24 t25 t26 t27 t28 t29 t30 t31 : Elt Ideal .f32) (r : Fin 256) (c : Fin 512) : tile t0 t1 t2 t3 t4 t5 t6 t7 t8 t9 t10 t11 t12 t13 t14 t15 t16 t17 t18 t19 t20 t21 t22 t23 t24 t25 t26 t27 t28 t29 t30 t31 (ix3 0 r c)
    = biasAt ![t0, t1, t2, t3, t4, t5, t6, t7, t8, t9, t10, t11, t12, t13, t14, t15, t16, t17, t18, t19, t20, t21, t22, t23, t24, t25, t26, t27, t28, t29, t30, t31] r c := by
  unfold tile biasAt
  pointwise [k0_pay16, k0_pay15, k0_pay14, k0_pay13, k0_pay12, k0_pay11, k0_pay10, k0_pay9, k0_pay8]
  simp only [named_log2e]
  rw [distances_apply]
  generalize hk : k0_pay7 k0_pay5 k0_pay6 59#32 (ix2 r c) = kk
  by_cases h : c.val ≤ r.val + 256
  · rw [if_pos h, ← hk]
    obtain ⟨d, hd⟩ : ∃ d : Fin 512, r.val + 256 = c.val + d.val :=
      ⟨⟨r.val + 256 - c.val, by omega⟩, by dsimp only; omega⟩
    have hi : (⟨bucket (r.val + 256 - c.val), bucket_row _⟩ : Fin 32) = ⟨bucket d.val, bucket_row _⟩ :=
      Fin.ext (congrArg bucket (by omega))
    rw [hi, buckets_apply r c d hd, distance_eq512 r c d hd]
    have e1 : IntOp.cmpi .sge (BitVec.ofNat 32 d.val) 0#32 = 1#1 := by clear hd hi; revert d; decide +kernel
    rw [e1, sel_one]
    generalize hb : (⟨bucket d.val, bucket_row _⟩ : Fin 32) = b
    have hw : bucket d.val = b.val := by rw [← hb]
    rw [hw]
    clear hw hb hi hd hk e1
    match b with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨n + 32, hn⟩ => exact absurd hn (by omega)
  · rw [if_neg h, distance_out r c h, sel_zero, ofBits_neg_inf]

/-- The column of the table that a grid point's `g`-th tile reads. -/
theorem col_eq : ∀ (i : grid0.Coords) (g : Fin 8),
    (Scalar.indexCast (Scalar.addi (Scalar.muli (BitVec.ofNat 32 (i 0).val) 8#32) (BitVec.ofNat 32 g.val))).toNat
      = 8 * (i 0).val + g.val := by decide +kernel

theorem col_lt (i : grid0.Coords) (g : Fin 8) : 8 * (i 0).val + g.val < 32 := by
  have h0 : (i 0).val < 4 := (i 0).isLt
  omega

theorem entry_inb (i : grid0.Coords) (g : Fin 8) (b : Fin 32) : ∀ a, ![b.val, (Scalar.indexCast (Scalar.addi (Scalar.muli (BitVec.ofNat 32 (i 0).val) 8#32) (BitVec.ofNat 32 g.val))).toNat] a
      + S1x1.size a ≤ S32x32.size a := by
  intro a
  have h := col_lt i g
  match a with
  | ⟨0, _⟩ => exact b.isLt
  | ⟨1, _⟩ => exact (by rw [col_eq]; exact h : (Scalar.indexCast (Scalar.addi (Scalar.muli (BitVec.ofNat 32 (i 0).val) 8#32) (BitVec.ofNat 32 g.val))).toNat + 1 ≤ 32)

/-- Bucket `b`'s entry of the table, as a grid point's `g`-th tile loads it. -/
abbrev entry (arg1 : Memref sig .tc .smem S32x32 .f32) (harg1 : arg1.IsWhole) (x0 : Vec Ideal S32x32 .f32) (i : grid0.Coords) (g : Fin 8) (b : Fin 32) : EReal :=
  View.readAt (Elt Ideal) arg1.view (Rect.unit (s := S32x32)
    ![b.val, (Scalar.indexCast (Scalar.addi (Scalar.muli (BitVec.ofNat 32 (i 0).val) 8#32) (BitVec.ofNat 32 g.val))).toNat] S1x1.size
    (entry_inb i g b)).toLoadRect (harg1.unread x0) (Shape.Idx.first (show 0 < S1x1.numel by decide))

theorem entry_apply (arg1 : Memref sig .tc .smem S32x32 .f32) (harg1 : arg1.IsWhole) (x0 : Vec Ideal S32x32 .f32) (i : grid0.Coords) (g : Fin 8) (b : Fin 32) :
    entry arg1 harg1 x0 i g b = x0 (ix2 b ⟨8 * (i 0).val + g.val, col_lt i g⟩) := by
  unfold entry
  rw [View.readAt_eq_ld, Memref.IsWhole.read_unread]
  refine congrArg x0 (funext fun a => Fin.ext ?_)
  match a with
  | ⟨0, _⟩ => rfl
  | ⟨1, _⟩ => exact col_eq i g

/-- A grid point's eight tiles. -/
def tiles (i : grid0.Coords) (x0 : Vec Ideal S32x32 .f32) (y : S8x256x512.Idx) : EReal :=
  biasAt (fun b => x0 (ix2 b ⟨8 * (i 0).val + (y 0).val, col_lt i (y 0)⟩)) (y 1) (y 2)

theorem tile_piece (arg1 : Memref sig .tc .smem S32x32 .f32) (harg1 : arg1.IsWhole) (x0 : Vec Ideal S32x32 .f32) (i : grid0.Coords) (g : Fin 8) (j : S1x256x512.Idx) :
    tile (entry arg1 harg1 x0 i g 0) (entry arg1 harg1 x0 i g 1) (entry arg1 harg1 x0 i g 2) (entry arg1 harg1 x0 i g 3) (entry arg1 harg1 x0 i g 4) (entry arg1 harg1 x0 i g 5) (entry arg1 harg1 x0 i g 6) (entry arg1 harg1 x0 i g 7) (entry arg1 harg1 x0 i g 8) (entry arg1 harg1 x0 i g 9) (entry arg1 harg1 x0 i g 10) (entry arg1 harg1 x0 i g 11) (entry arg1 harg1 x0 i g 12) (entry arg1 harg1 x0 i g 13) (entry arg1 harg1 x0 i g 14) (entry arg1 harg1 x0 i g 15) (entry arg1 harg1 x0 i g 16) (entry arg1 harg1 x0 i g 17) (entry arg1 harg1 x0 i g 18) (entry arg1 harg1 x0 i g 19) (entry arg1 harg1 x0 i g 20) (entry arg1 harg1 x0 i g 21) (entry arg1 harg1 x0 i g 22) (entry arg1 harg1 x0 i g 23) (entry arg1 harg1 x0 i g 24) (entry arg1 harg1 x0 i g 25) (entry arg1 harg1 x0 i g 26) (entry arg1 harg1 x0 i g 27) (entry arg1 harg1 x0 i g 28) (entry arg1 harg1 x0 i g 29) (entry arg1 harg1 x0 i g 30) (entry arg1 harg1 x0 i g 31) j = tiles i x0 ((Rect.unit (s := S8x256x512) ![g.val, 0, 0] S1x256x512.size (by decide +revert)).emb j) := by
  obtain ⟨z, r, c, rfl⟩ : ∃ z r c, j = ix3 z r c := ⟨_, _, _, eq_ix3 j⟩
  obtain rfl : z = 0 := Subsingleton.elim _ _
  rw [tile_apply]
  have hv : ((Rect.unit (s := S8x256x512) ![g.val, 0, 0] S1x256x512.size (by decide +revert)).emb (ix3 0 r c)) = (ix3 g r c : S8x256x512.Idx) := by
    refine funext fun a => Fin.ext ?_
    rw [Rect.emb_apply]
    match a with
    | ⟨0, _⟩ => exact (by simp [Rect.unit] : g.val + 1 * 0 = g.val)
    | ⟨1, _⟩ => exact (by simp [Rect.unit] : 0 + 1 * r.val = r.val)
    | ⟨2, _⟩ => exact (by simp [Rect.unit] : 0 + 1 * c.val = c.val)
  rw [hv]
  have hT : (![(entry arg1 harg1 x0 i g 0), (entry arg1 harg1 x0 i g 1), (entry arg1 harg1 x0 i g 2), (entry arg1 harg1 x0 i g 3), (entry arg1 harg1 x0 i g 4), (entry arg1 harg1 x0 i g 5), (entry arg1 harg1 x0 i g 6), (entry arg1 harg1 x0 i g 7), (entry arg1 harg1 x0 i g 8), (entry arg1 harg1 x0 i g 9), (entry arg1 harg1 x0 i g 10), (entry arg1 harg1 x0 i g 11), (entry arg1 harg1 x0 i g 12), (entry arg1 harg1 x0 i g 13), (entry arg1 harg1 x0 i g 14), (entry arg1 harg1 x0 i g 15), (entry arg1 harg1 x0 i g 16), (entry arg1 harg1 x0 i g 17), (entry arg1 harg1 x0 i g 18), (entry arg1 harg1 x0 i g 19), (entry arg1 harg1 x0 i g 20), (entry arg1 harg1 x0 i g 21), (entry arg1 harg1 x0 i g 22), (entry arg1 harg1 x0 i g 23), (entry arg1 harg1 x0 i g 24), (entry arg1 harg1 x0 i g 25), (entry arg1 harg1 x0 i g 26), (entry arg1 harg1 x0 i g 27), (entry arg1 harg1 x0 i g 28), (entry arg1 harg1 x0 i g 29), (entry arg1 harg1 x0 i g 30), (entry arg1 harg1 x0 i g 31)] : Fin 32 → EReal) = fun b => x0 (ix2 b ⟨8 * (i 0).val + g.val, col_lt i g⟩) := by
    simp only [entry_apply]
    funext b
    match b with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨n + 32, hn⟩ => exact absurd hn (by omega)
  rw [hT]
  rfl

set_option maxHeartbeats 4000000 in
/-- THE TILES a grid point leaves in the causal output block. -/
theorem out0_eq (c : Dev nD) (i : grid0.Coords) (arg1 : Memref sig .tc .smem S32x32 .f32) (harg1 : arg1.IsWhole) (arg2 : Memref sig .tc .vmem S8x256x512 .f32) (harg2 : arg2.IsWhole) (arg3 : Memref sig .tc .vmem S8x256x512 .f32) (harg3 : arg3.IsWhole)
    (x0 : Vec Ideal S32x32 .f32) :
    out0_A_1 (F := Ideal) c i arg1 harg1 arg2 harg2 arg3 harg3 x0 = tiles i x0 := by
  funext y
  unfold out0_A_1
  rw [View.read_writes_eq_canon _ _ _ (cover0_A_1 c i arg1 harg1 arg2 harg2 arg3 harg3 x0)]
  refine View.canon_apply_of_pieces _ _ (fun p hp j => ?_) y (cover0_A_1 c i arg1 harg1 arg2 harg2 arg3 harg3 x0 y)
  unfold kernelRun0_A at hp
  dsimp only at hp
  simp only [List.mem_cons, List.mem_nil_iff, or_false] at hp
  rcases hp with rfl | rfl | rfl | rfl | rfl | rfl | rfl | rfl
  · exact tile_piece arg1 harg1 x0 i 7 j
  · exact tile_piece arg1 harg1 x0 i 6 j
  · exact tile_piece arg1 harg1 x0 i 5 j
  · exact tile_piece arg1 harg1 x0 i 4 j
  · exact tile_piece arg1 harg1 x0 i 3 j
  · exact tile_piece arg1 harg1 x0 i 2 j
  · exact tile_piece arg1 harg1 x0 i 1 j
  · exact tile_piece arg1 harg1 x0 i 0 j

/-- The biases of all the heads, as contents of the causal array. -/
def biasArr (x0 : Vec Ideal S32x32 .f32) (y : S32x256x512.Idx) : EReal :=
  biasAt (fun b => x0 (ix2 b (y 0))) (y 1) (y 2)

variable (V : (c : Dev nD) → (b : Ref sig .tc) → Buf (Elt Ideal) ((c : Thread nD τ).loc b))

theorem index0_0 : ∀ t : Fin cfg0.N, win0_0.index t = ![0, 0] := (by decide +kernel : ∀ t : Fin grid0.N, _)
theorem index0_1 : ∀ t : Fin cfg0.N, win0_1.index t = ![(grid0.coords t 0).val, 0, 0] := (by decide +kernel : ∀ t : Fin grid0.N, _)

theorem table_apply (c : Dev nD) (t : Fin cfg0.N) (r l : Fin 32) :
    iblk0 V c 0 t (ix2 r l) = (V c main_arg5 : Vec Ideal S32x32 .f32) (ix2 r l) := by
  unfold iblk0
  blk_simp
  exact congrArg (V c main_arg5 : Vec Ideal S32x32 .f32) (by blk_ext [index0_0])

/-- THE ARRAY OF BIASES of the causal attention, from the table. -/
theorem bias_final (c : Dev nD) : (dat0 V c).arrAt 1 cfg0.N = biasArr (V c main_arg5) := by
  refine (dat0 V c).arrAt_eq_of_covers 1 _ (by decide +kernel) fun t hf y => ?_
  blk_simp
  rw [after0_1]
  unfold outsAt0
  rw [out0_eq]
  obtain ⟨g, r, l, rfl⟩ : ∃ (g : Fin 8) (r : Fin 256) (l : Fin 512), y = ix3 g r l := ⟨_, _, _, eq_ix3 y⟩
  rw [show (win0_1.blk t).view.emb (ix3 g r l) = (ix3 ⟨8 * (grid0.coords t 0).val + g.val, col_lt _ g⟩ r l : S32x256x512.Idx) from by
    blk_ext [index0_1]]
  unfold tiles biasArr
  exact congrArg (fun T => biasAt T r l) (funext fun b => table_apply V c t b _)

end Cert.DiffAttend
end
-- ==== Proof.DiffArrays.lean ====
/-
  The differential attention's result array, from the arrays its launch reads.
-/
module

public import proofs.«01_k».proof.Proof.DiffBias

@[expose] public section

set_option maxRecDepth 16384

noncomputable section

namespace Cert.DiffAttend

open Idealize.ShloMosaic Idealize.ShloMosaic.TcCoe Idealize.ShloMosaic.Tactic Idealize.ShloMosaic.Pipeline
open Cert.DiffIdeal Cert.DiffIdeal.Gen

/-- A batch's row among all rows. -/
def batchRow (b : Fin 4) (n : Fin 2048) : Fin 8192 := ⟨b.val * 2048 + n.val, by omega⟩
/-- A head's lane among all lanes of the queries or the keys. -/
def headLane (h : Fin 16) (l : Fin 128) : Fin 2048 := ⟨h.val * 128 + l.val, by omega⟩
/-- A head's lane among the keys' lanes, which come before the values'. -/
def keyLane (h : Fin 16) (l : Fin 128) : Fin 4096 := ⟨h.val * 128 + l.val, by omega⟩
/-- A head's lane among the values' lanes. -/
def valLane (h : Fin 16) (l : Fin 128) : Fin 4096 := ⟨2048 + (h.val * 128 + l.val), by omega⟩

/-- A head's differential attention over one batch, from the arrays. -/
def headBlock (x : Vec Ideal S32x32 .f32) (lam : Vec Ideal S4x64 .f32) (g : Vec Ideal S1x128 .f32)
    (q : Vec Ideal S8192x2048 .bf16) (kv : Vec Ideal S8192x4096 .bf16) (bias : Vec Ideal S32x256x512 .f32)
    (h : Fin 16) (b : Fin 4) : S2048x128.Idx → EReal :=
  blockFn h x lam g (fun z => q (ix2 (batchRow b (z 0)) (headLane h (z 1)))) (fun z => kv (ix2 (batchRow b (z 0)) (keyLane h (z 1))))
    (fun z => kv (ix2 (batchRow b (z 0)) (valLane h (z 1)))) (fun z => bias (ix3 (mapCol h (z 0)) (z 1) (z 2)))

/-- The same as contents of the result array. -/
def attendArr (x : Vec Ideal S32x32 .f32) (lam : Vec Ideal S4x64 .f32) (g : Vec Ideal S1x128 .f32)
    (q : Vec Ideal S8192x2048 .bf16) (kv : Vec Ideal S8192x4096 .bf16) (bias : Vec Ideal S32x256x512 .f32)
    (y : S8192x2048.Idx) : EReal :=
  headBlock x lam g q kv bias ⟨(y 1).val / 128, by have : (y 1).val < 2048 := (y 1).isLt; omega⟩
    ⟨(y 0).val / 2048, by have : (y 0).val < 8192 := (y 0).isLt; omega⟩
    (ix2 ⟨(y 0).val % 2048, by omega⟩ ⟨(y 1).val % 128, by omega⟩)

theorem attendArr_at (x : Vec Ideal S32x32 .f32) (lam : Vec Ideal S4x64 .f32) (g : Vec Ideal S1x128 .f32)
    (q : Vec Ideal S8192x2048 .bf16) (kv : Vec Ideal S8192x4096 .bf16) (bias : Vec Ideal S32x256x512 .f32)
    (h : Fin 16) (b : Fin 4) (n : Fin 2048) (e : Fin 128) :
    attendArr x lam g q kv bias (ix2 (batchRow b n) (headLane h e)) = headBlock x lam g q kv bias h b (ix2 n e) := by
  unfold attendArr
  have e1 : (⟨(h.val * 128 + e.val) / 128, by omega⟩ : Fin 16) = h := Fin.ext (by dsimp only; omega)
  have e2 : (⟨(b.val * 2048 + n.val) / 2048, by omega⟩ : Fin 4) = b := Fin.ext (by dsimp only; omega)
  have e3 : (⟨(b.val * 2048 + n.val) % 2048, by omega⟩ : Fin 2048) = n := Fin.ext (by dsimp only; omega)
  have e4 : (⟨(h.val * 128 + e.val) % 128, by omega⟩ : Fin 128) = e := Fin.ext (by dsimp only; omega)
  show headBlock x lam g q kv bias (⟨(h.val * 128 + e.val) / 128, _⟩ : Fin 16) (⟨(b.val * 2048 + n.val) / 2048, _⟩ : Fin 4)
    (ix2 (⟨(b.val * 2048 + n.val) % 2048, _⟩ : Fin 2048) (⟨(h.val * 128 + e.val) % 128, _⟩ : Fin 128)) = _
  rw [e1, e2, e3, e4]

/-! The blocks' coordinates at a grid point. -/

theorem index1_0 : ∀ t : Fin cfg1.N, win1_0.index t = ![0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![(grid1.coords t 1).val, (grid1.coords t 0).val] :=
  (by decide +kernel : ∀ t : Fin grid1.N, _)
theorem index1_4 : ∀ t : Fin cfg1.N, win1_4.index t = ![(grid1.coords t 1).val, (grid1.coords t 0).val] :=
  (by decide +kernel : ∀ t : Fin grid1.N, _)
theorem index1_5 : ∀ t : Fin cfg1.N, win1_5.index t = ![(grid1.coords t 1).val, 16 + (grid1.coords t 0).val] :=
  (by decide +kernel : ∀ t : Fin grid1.N, _)
theorem index1_6 : ∀ t : Fin cfg1.N, win1_6.index t = ![(grid1.coords t 0).val, 0, 0] :=
  (by decide +kernel : ∀ t : Fin grid1.N, _)
theorem index1_7 : ∀ t : Fin cfg1.N, win1_7.index t = ![(grid1.coords t 1).val, (grid1.coords t 0).val] :=
  (by decide +kernel : ∀ t : Fin grid1.N, _)

variable (V : (c : Dev nD) → (b : Ref sig .tc) → Buf (Elt Ideal) ((c : Thread nD τ).loc b))

/-- A grid point's head. -/
def headAt (i : grid1.Coords) : Fin 16 := i 0
/-- A grid point's batch. -/
def batchAt (i : grid1.Coords) : Fin 4 := i 1

theorem blk0_apply (c : Dev nD) (t : Fin cfg1.N) (r l : Fin 32) :
    iblk1 V c 0 t (ix2 r l) = (V c main_arg5 : Vec Ideal S32x32 .f32) (ix2 r l) := by
  unfold iblk1
  blk_simp
  exact congrArg (V c main_arg5 : Vec Ideal S32x32 .f32) (by blk_ext [index1_0])
theorem blk1_apply (c : Dev nD) (t : Fin cfg1.N) (r : Fin 4) (l : Fin 64) :
    iblk1 V c 1 t (ix2 r l) = (V c main_arg3 : Vec Ideal S4x64 .f32) (ix2 r l) := by
  unfold iblk1
  blk_simp
  exact congrArg (V c main_arg3 : Vec Ideal S4x64 .f32) (by blk_ext [index1_1])
theorem blk2_apply (c : Dev nD) (t : Fin cfg1.N) (r : Fin 1) (l : Fin 128) :
    iblk1 V c 2 t (ix2 r l) = (V c main_v11 : Vec Ideal S1x128 .f32) (ix2 r l) := by
  unfold iblk1
  blk_simp
  exact congrArg (V c main_v11 : Vec Ideal S1x128 .f32) (by blk_ext [index1_2])
theorem blk3_apply (c : Dev nD) (t : Fin cfg1.N) (r : Fin 2048) (l : Fin 128) :
    iblk1 V c 3 t (ix2 r l) = (V c main_v5 : Vec Ideal S8192x2048 .bf16)
      (ix2 (batchRow (batchAt (grid1.coords t)) r) (headLane (headAt (grid1.coords t)) l)) := by
  unfold iblk1
  blk_simp
  exact congrArg (V c main_v5 : Vec Ideal S8192x2048 .bf16) (by blk_ext [index1_3, batchRow, headLane, batchAt, headAt])
theorem blk4_apply (c : Dev nD) (t : Fin cfg1.N) (r : Fin 2048) (l : Fin 128) :
    iblk1 V c 4 t (ix2 r l) = (V c main_v9 : Vec Ideal S8192x4096 .bf16)
      (ix2 (batchRow (batchAt (grid1.coords t)) r) (keyLane (headAt (grid1.coords t)) l)) := by
  unfold iblk1
  blk_simp
  exact congrArg (V c main_v9 : Vec Ideal S8192x4096 .bf16) (by blk_ext [index1_4, batchRow, keyLane, batchAt, headAt])
theorem blk5_apply (c : Dev nD) (t : Fin cfg1.N) (r : Fin 2048) (l : Fin 128) :
    iblk1 V c 5 t (ix2 r l) = (V c main_v9 : Vec Ideal S8192x4096 .bf16)
      (ix2 (batchRow (batchAt (grid1.coords t)) r) (valLane (headAt (grid1.coords t)) l)) := by
  unfold iblk1
  blk_simp
  exact congrArg (V c main_v9 : Vec Ideal S8192x4096 .bf16) (by blk_ext [index1_5, batchRow, valLane, batchAt, headAt])
theorem blk6_apply (c : Dev nD) (t : Fin cfg1.N) (p : Fin 2) (r : Fin 256) (l : Fin 512) :
    iblk1 V c 6 t (ix3 p r l) = (V c main_v10_0 : Vec Ideal S32x256x512 .f32) (ix3 (mapCol (headAt (grid1.coords t)) p) r l) := by
  unfold iblk1
  blk_simp
  exact congrArg (V c main_v10_0 : Vec Ideal S32x256x512 .f32) (by blk_ext [index1_6, mapCol, headAt])

/-- THE RESULT ARRAY of the differential attention, from the arrays it reads. -/
theorem attend_final (c : Dev nD) : (dat1 V c).arrAt 7 cfg1.N
    = attendArr (V c main_arg5) (V c main_arg3) (V c main_v11) (V c main_v5) (V c main_v9) (V c main_v10_0) := by
  refine (dat1 V c).arrAt_eq_of_covers 7 _ (by decide +kernel) fun t hf y => ?_
  blk_simp
  rw [after1_7]
  unfold outsAt1
  rw [out1_eq]
  obtain ⟨r, l, rfl⟩ : ∃ (r : Fin 2048) (l : Fin 128), y = ix2 r l := ⟨_, _, eq_ix2 y⟩
  rw [show (win1_7.blk t).view.emb (ix2 r l)
      = (ix2 (batchRow (batchAt (grid1.coords t)) r) (headLane (headAt (grid1.coords t)) l) : S8192x2048.Idx) from by
    blk_ext [index1_7, batchRow, headLane, batchAt, headAt]]
  rw [attendArr_at]
  unfold headBlock
  have b0 : iblk1 V c 0 t = (V c main_arg5 : Vec Ideal S32x32 .f32) := funext fun z => by
    rw [eq_ix2 z]; exact blk0_apply V c t _ _
  have b1 : iblk1 V c 1 t = (V c main_arg3 : Vec Ideal S4x64 .f32) := funext fun z => by
    rw [eq_ix2 z]; exact blk1_apply V c t _ _
  have b2 : iblk1 V c 2 t = (V c main_v11 : Vec Ideal S1x128 .f32) := funext fun z => by
    rw [eq_ix2 z]; exact blk2_apply V c t _ _
  have b3 : iblk1 V c 3 t = fun z : S2048x128.Idx => (V c main_v5 : Vec Ideal S8192x2048 .bf16)
      (ix2 (batchRow (batchAt (grid1.coords t)) (z 0)) (headLane (headAt (grid1.coords t)) (z 1))) := funext fun z => by
    conv_lhs => rw [eq_ix2 z]
    exact blk3_apply V c t _ _
  have b4 : iblk1 V c 4 t = fun z : S2048x128.Idx => (V c main_v9 : Vec Ideal S8192x4096 .bf16)
      (ix2 (batchRow (batchAt (grid1.coords t)) (z 0)) (keyLane (headAt (grid1.coords t)) (z 1))) := funext fun z => by
    conv_lhs => rw [eq_ix2 z]
    exact blk4_apply V c t _ _
  have b5 : iblk1 V c 5 t = fun z : S2048x128.Idx => (V c main_v9 : Vec Ideal S8192x4096 .bf16)
      (ix2 (batchRow (batchAt (grid1.coords t)) (z 0)) (valLane (headAt (grid1.coords t)) (z 1))) := funext fun z => by
    conv_lhs => rw [eq_ix2 z]
    exact blk5_apply V c t _ _
  have b6 : iblk1 V c 6 t = fun z : S2x256x512.Idx => (V c main_v10_0 : Vec Ideal S32x256x512 .f32)
      (ix3 (mapCol (headAt (grid1.coords t)) (z 0)) (z 1) (z 2)) := funext fun z => by
    conv_lhs => rw [eq_ix3 z]
    exact blk6_apply V c t _ _ _
  rw [b0, b1, b2, b3, b4, b5, b6]
  rfl

end Cert.DiffAttend
end
-- ==== Proof.DiffHost.lean ====
/-
  The arrays the differential attention reads, from the launch arguments: the queries scaled, the keys before the values.
-/
module

public import proofs.«01_k».proof.Proof.DiffArrays
public import proofs.«01_k».proof.Proof.Host

@[expose] public section

set_option maxRecDepth 16384

noncomputable section

namespace Cert.DiffAttend

open Idealize.ShloMosaic Idealize.ShloMosaic.TcCoe Idealize.ShloMosaic.Tactic Idealize.ShloMosaic.Pipeline
open Cert.DiffIdeal Cert.DiffIdeal.Gen
open Cert.Attend (ofBits_two ofBits_eighth log_two div_log_two qscale)

variable (m : (ℓ : Loc nD τ sig) → Buf (Elt Ideal) ℓ) (ρ : Dev nD → PrngReg)

/-- The launch arguments, read as arrays. -/
abbrev argQ (c : Dev nD) : Vec Ideal S4x2048x2048 .f32 := m ((c : Thread nD τ).loc main_arg0)
abbrev argK (c : Dev nD) : Vec Ideal S4x2048x2048 .f32 := m ((c : Thread nD τ).loc main_arg1)
abbrev argV (c : Dev nD) : Vec Ideal S4x2048x2048 .f32 := m ((c : Thread nD τ).loc main_arg2)
abbrev argG (c : Dev nD) : Vec Ideal S128 .f32 := m ((c : Thread nD τ).loc main_arg4)

theorem rows_split (b : Fin 4) (n : Fin 2048) (h1 : (b.val * 2048 + n.val) / 2048 < 4) (h2 : (b.val * 2048 + n.val) % 2048 < 2048)
    (l : Fin 2048) : (ix3 ⟨(b.val * 2048 + n.val) / 2048, h1⟩ ⟨(b.val * 2048 + n.val) % 2048, h2⟩ l : S4x2048x2048.Idx) = ix3 b n l := by
  have e1 : (⟨(b.val * 2048 + n.val) / 2048, h1⟩ : Fin 4) = b := Fin.ext (by dsimp only; omega)
  have e2 : (⟨(b.val * 2048 + n.val) % 2048, h2⟩ : Fin 2048) = n := Fin.ext (by dsimp only; omega)
  rw [e1, e2]

theorem queries_apply (c : Dev nD) (n : Fin 8192) (l : Fin 2048) :
    (V1 m ρ c main_v5 : Vec Ideal S8192x2048 .bf16) (ix2 n l)
      = argQ m c (ix3 ⟨n.val / 2048, by omega⟩ ⟨n.val % 2048, by omega⟩ l) * qscale := by
  show (StableHlo.after hostOps0 _ (Proc.devRef .tc main_v5) : Vec Ideal S8192x2048 .bf16) _ = _
  after_results
  pointwise
  rw [ofBits_two, ofBits_eighth, log_two, div_log_two]

theorem keyvals_apply (c : Dev nD) (n : Fin 8192) (l : Fin 4096) :
    (V1 m ρ c main_v9 : Vec Ideal S8192x4096 .bf16) (ix2 n l)
      = if h : l.val < 2048 then argK m c (ix3 ⟨n.val / 2048, by omega⟩ ⟨n.val % 2048, by omega⟩ ⟨l.val, h⟩)
        else argV m c (ix3 ⟨n.val / 2048, by omega⟩ ⟨n.val % 2048, by omega⟩ ⟨l.val - 2048, by omega⟩) := by
  show (StableHlo.after hostOps0 _ (Proc.devRef .tc main_v9) : Vec Ideal S8192x4096 .bf16) _ = _
  after_results
  pointwise

end Cert.DiffAttend
end
-- ==== Proof.DiffResult.lean ====
/-
  The differential attention's run: its result array is the attention of the arrays its two launches read.
-/
module

public import proofs.«01_k».proof.Proof.DiffHost

@[expose] public section

set_option maxRecDepth 16384

noncomputable section

namespace Cert.DiffAttend

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DiffIdeal Cert.DiffIdeal.Gen

variable (m : (ℓ : Loc nD τ sig) → Buf (Elt Ideal) ℓ) (ρ : Dev nD → PrngReg)

/-- The result array from the arguments' arrays and the arrays the host prepares. -/
theorem result_eq (c : Dev nD) : W4 m ρ c main_v12
    = attendArr (m ((c : Thread nD τ).loc main_arg5)) (m ((c : Thread nD τ).loc main_arg3))
        (fun z => argG m c (ix1 (z 1))) (V1 m ρ c main_v5) (V1 m ρ c main_v9) (biasArr (m ((c : Thread nD τ).loc main_arg5))) := by
  refine (W4_arr m ρ c 7).trans ?_
  rw [attend_final]
  have e5 : V3 m ρ c main_arg5 = m ((c : Thread nD τ).loc main_arg5) := W3_args m ρ c main_arg5 (by decide)
  have e3 : V3 m ρ c main_arg3 = m ((c : Thread nD τ).loc main_arg3) := W3_args m ρ c main_arg3 (by decide)
  have q5 : V3 m ρ c main_v5 = V1 m ρ c main_v5 := (W3_of m ρ c main_v5 (by decide)).trans (W2_of m ρ c main_v5 (by decide))
  have q9 : V3 m ρ c main_v9 = V1 m ρ c main_v9 := (W3_of m ρ c main_v9 (by decide)).trans (W2_of m ρ c main_v9 (by decide))
  have eb : V3 m ρ c main_v10_0 = biasArr (m ((c : Thread nD τ).loc main_arg5)) := by
    have e1 : V1 m ρ c main_arg5 = m ((c : Thread nD τ).loc main_arg5) := W1_args m ρ c main_arg5 (by decide)
    rw [← e1]
    exact ((W3_of m ρ c main_v10_0 (by decide)).trans (W2_arr m ρ c 1)).trans (bias_final (V1 m ρ) c)
  have eg : (V3 m ρ c main_v11 : Vec Ideal S1x128 .f32) = fun z => argG m c (ix1 (z 1)) := by
    have e4 : W2 m ρ c main_arg4 = m ((c : Thread nD τ).loc main_arg4) := W2_args m ρ c main_arg4 (by decide)
    funext z
    obtain ⟨a, l, rfl⟩ : ∃ (a : Fin 1) (l : Fin 128), z = ix2 a l := ⟨_, _, eq_ix2 z⟩
    show (StableHlo.after hostOps1 _ (Proc.devRef .tc main_v11) : Vec Ideal S1x128 .f32) _ = _
    after_results
    rw [e4]
    pointwise
  rw [e5, e3, q5, q9, eb, eg]
  rfl

-- `θ_run_regions_kit_sems`'s implicit arguments are found by unifying its conclusion with this one, which takes unfolding
-- plain definitions in a metavariable's type
set_option backward.isDefEq.respectTransparency.types false in
/-- THE RUN of the differential attention, with the result array. -/
theorem kernel_run : θ_run defs (onTc (τ := τ) (main (F := Ideal))) ⟨m, fun _ => 0, ρ⟩ (fun r => ∀ c : Dev nD,
      r.2.mem ((c.tc : Thread nD τ).loc main_v12) = attendArr (m ((c : Thread nD τ).loc main_arg5)) (m ((c : Thread nD τ).loc main_arg3))
        (fun z => argG m c (ix1 (z 1))) (V1 m ρ c main_v5) (V1 m ρ c main_v9) (biasArr (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v12 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.DiffAttend
end
-- ==== Proof.DiffDist.lean ====
/-
  The distances of the differential attention's reference: their buckets, the mask and the bias.
-/
module

public import proofs.«01_k».proof.Proof.DiffSoft
public import proofs.«01_k».proof.Proof.Buckets
public import proofs.«01_k».proof.Proof.Gen.DiffRefIdeal.Read

@[expose] public section

set_option maxRecDepth 16384

noncomputable section

namespace Cert.DiffAttend

open Idealize.ShloMosaic Idealize.ShloMosaic.TcCoe Idealize.ShloMosaic.Tactic
open Cert.DiffRefIdeal Cert.DiffRefIdeal.Gen Cert.DiffRefIdeal.Read
open Cert.Attend (log2e bucket thresholds sel_one sel_zero ofBits_neg_inf ofBits_sixteen ofBits_log_eight logEight ofBits_eighth
  log_two_lower log_two_upper log_bucket)

/-- Every distance's bucket is a row of the table. -/
theorem row_of (n : ℕ) : bucket n < 32 := by
  unfold bucket
  have h : thresholds.countP (· ≤ n) ≤ thresholds.length := List.countP_le_length
  have h' : thresholds.length = 15 := rfl
  split <;> omega

/-- The integer part of a real from 15 up to 100, as a word. -/
theorem fptosi_far (x : ℝ) (h1 : 15 ≤ x) (h2 : x < 100) :
    ∃ k : Fin 100, 15 ≤ k.val ∧ Ideal.fptosi 32 (x : EReal) = BitVec.ofNat 32 k.val := by
  have h0 : (0 : ℝ) ≤ x := by linarith
  have hk : (15 : ℤ) ≤ ⌊x⌋ := Int.le_floor.2 (by exact_mod_cast h1)
  have hk2 : ⌊x⌋ < 100 := Int.floor_lt.2 (by exact_mod_cast h2)
  refine ⟨⟨⌊x⌋.toNat, by omega⟩, by dsimp only; omega, ?_⟩
  have hn : ⌊x⌋ = ((⌊x⌋.toNat : ℕ) : ℤ) := (Int.toNat_of_nonneg (by omega)).symm
  unfold Ideal.fptosi
  have he : Ideal.toIntClamped (-(2 ^ (32 - 1) : Nat)) ((2 ^ (32 - 1) : Nat) - 1) (x : EReal) = ((⌊x⌋.toNat : ℕ) : ℤ) := by
    show max _ (min _ (if 0 ≤ x then ⌊x⌋ else ⌈x⌉)) = _
    rw [if_pos h0, ← hn]
    norm_num
    omega
  rw [he]
  exact BitVec.ofInt_natCast 32 _

/-- From a distance of 113 the bucket is the last one. -/
theorem bucket_far (n : ℕ) (h : 113 ≤ n) : bucket n = 31 := by
  unfold bucket
  rw [if_neg (by omega), List.countP_eq_length.2 (fun a ha => by
    have : ∀ a ∈ thresholds, a ≤ 113 := by decide
    exact decide_eq_true ((this a ha).trans h))]
  rfl

/-- The logarithmic part of a far distance's bucket is past the last bucket. -/
theorem log_far (d : Fin 2048) (hd : 128 ≤ d.val) : ∃ k : Fin 100, 15 ≤ k.val ∧
    Ideal.fptosi 32 (Ideal.div (Ideal.log (Ideal.div (((d.val : ℝ) : EReal)) ((16 : ℝ) : EReal))) (logEight : EReal)
      * ((16 : ℝ) : EReal)) = BitVec.ofNat 32 k.val := by
  have hL : (0 : ℝ) < logEight := by unfold logEight; norm_num
  have hd1 : (128 : ℝ) ≤ d.val := by exact_mod_cast hd
  have hd2 : (d.val : ℝ) ≤ 2048 := by exact_mod_cast d.isLt.le
  have hlog : Ideal.log (((d.val : ℝ) * (1 / 16) : ℝ) : EReal) = ((Real.log ((d.val : ℝ) * (1 / 16)) : ℝ) : EReal) := by
    show (if (d.val : ℝ) * (1 / 16) ≤ 0 then (⊥ : EReal) else _) = _
    rw [if_neg (not_le.2 (by linarith))]
  rw [Ideal.div_coe (show (16 : ℝ) ≠ 0 by norm_num), ← EReal.coe_mul, hlog, Ideal.div_coe hL.ne', ← EReal.coe_mul, ← EReal.coe_mul]
  have l1 := log_two_lower
  have l2 := log_two_upper
  have g1 : Real.log (2 ^ 3) ≤ Real.log ((d.val : ℝ) * (1 / 16)) := Real.log_le_log (by norm_num) (by linarith)
  have g2 : Real.log ((d.val : ℝ) * (1 / 16)) ≤ Real.log (2 ^ 7) := Real.log_le_log (by linarith) (by linarith)
  rw [Real.log_pow] at g1 g2
  push_cast at g1 g2
  have hLv : logEight = 8721810 / 4194304 := rfl
  refine fptosi_far _ ?_ ?_
  · rw [mul_right_comm, mul_one_div, le_div_iff₀ hL, hLv]; linarith
  · rw [mul_right_comm, mul_one_div, div_lt_iff₀ hL, hLv]; linarith

/-- The distance of a query and a key. -/
theorem ref_distances (n c : Fin 2048) :
    val_main_v25 (F := Ideal) (ix2 n c) = BitVec.ofNat 32 n.val - BitVec.ofNat 32 c.val := by
  pointwise [val_main_v25, val_main_v24, val_main_v23, val_main_v22, val_main_v21, val_main_v20, val_main_v19]
  rfl

/-- The bucket of a query and a key that is not after it. -/
theorem ref_bucket (n c d : Fin 2048) (h : n.val = c.val + d.val) :
    val_main_v50 (F := Ideal) (ix2 n c) = BitVec.ofNat 32 (bucket d.val) := by
  have hd : BitVec.ofNat 32 n.val - BitVec.ofNat 32 c.val = BitVec.ofNat 32 d.val := by
    apply BitVec.eq_of_toNat_eq
    simp only [BitVec.toNat_sub, BitVec.toNat_ofNat]
    omega
  pointwise [val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26,
    val_main_c, val_main_c_2, val_main_cst_3, val_main_cst_4, val_main_cst_5, val_main_c_6, val_main_c_7, val_main_c_8,
    val_main_c_9, val_main_c_10]
  rw [ref_distances, hd, ofBits_sixteen, ofBits_log_eight]
  have e0 : IntOp.maxsi (BitVec.ofNat 32 d.val) 0#32 = BitVec.ofNat 32 d.val := by clear hd h; revert d; decide +kernel
  rw [e0]
  by_cases h16 : d.val < 16
  · have e1 : IntOp.cmpi CmpIPredicate.slt (BitVec.ofNat 32 d.val) 16#32 = 1#1 := by
      clear hd h e0; revert d; decide +kernel
    have e2 : IntOp.cmpi CmpIPredicate.slt (BitVec.ofNat 32 d.val) 0#32 = 0#1 := by
      clear hd h e0 e1 h16; revert d; decide +kernel
    rw [e1, sel_one, e2, sel_zero, bucket, if_pos h16]
  · have e1 : IntOp.cmpi CmpIPredicate.slt (BitVec.ofNat 32 d.val) 16#32 = 0#1 := by
      clear hd h e0; revert d; decide +kernel
    have e2 : IntOp.maxsi (BitVec.ofNat 32 d.val) 1#32 = BitVec.ofNat 32 d.val := by
      clear hd h e0 e1; revert d; decide +kernel
    have e3 : FloatOps.sitofp (F := Ideal) FTy.f32 (BitVec.ofNat 32 d.val) = ((d.val : ℝ) : EReal) := by
      show (((BitVec.ofNat 32 d.val).toInt : ℝ) : EReal) = _
      have : (BitVec.ofNat 32 d.val).toInt = (d.val : ℤ) := by clear hd h e0 e1 e2 h16; revert d; decide +kernel
      rw [this, Int.cast_natCast]
    rw [e1, sel_zero, e2, e3]
    have hw : ∃ w : BitVec 32, FloatOps.fptosi (F := Ideal) (φ := FTy.f32) 32 (Ideal.div (Ideal.log (Ideal.div (((d.val : ℝ) : EReal))
        ((16 : ℝ) : EReal))) (logEight : EReal) * ((16 : ℝ) : EReal)) = w
        ∧ IntOp.minsi (IntOp.addi 16#32 w) 31#32 = BitVec.ofNat 32 (bucket d.val) := by
      by_cases h128 : d.val < 128
      · refine ⟨_, log_bucket ⟨d.val, h128⟩ (by dsimp only; omega), ?_⟩
        obtain ⟨q, hq⟩ : ∃ q : Fin 128, d.val = q.val := ⟨⟨d.val, h128⟩, rfl⟩
        dsimp only
        rw [hq] at h16 ⊢
        clear hq h128 hd h e0 e1 e2 e3
        revert q; decide +kernel
      · obtain ⟨k, hk, he⟩ := log_far d (by omega)
        refine ⟨_, he, ?_⟩
        rw [bucket_far d.val (by omega)]
        clear he
        revert k; decide +kernel
    obtain ⟨w, e4, e5⟩ := hw
    have e6 : IntOp.cmpi CmpIPredicate.slt (BitVec.ofNat 32 (bucket d.val)) 0#32 = 0#1 := by
      obtain ⟨q, hq⟩ : ∃ q : Fin 32, bucket d.val = q.val := ⟨⟨bucket d.val, row_of _⟩, rfl⟩
      rw [hq]; clear hq; revert q; decide +kernel
    rw [e4, e5, e6, sel_zero]

/-- Whether a key is not after the query. -/
theorem ref_mask (n c : Fin 2048) :
    val_main_v62 (F := Ideal) (ix2 n c) = if c.val ≤ n.val then 1#1 else 0#1 := by
  pointwise [val_main_v62, val_main_v61, val_main_c_12]
  rw [ref_distances]
  have ht : (BitVec.ofNat 32 n.val - BitVec.ofNat 32 c.val).toInt = (n.val : ℤ) - c.val := by
    rw [BitVec.toInt_eq_toNat_cond]
    simp only [BitVec.toNat_sub, BitVec.toNat_ofNat]
    split <;> omega
  show BitVec.ofBool (BitVec.sle 0#32 (BitVec.ofNat 32 n.val - BitVec.ofNat 32 c.val)) = _
  rw [BitVec.sle, ht]
  split
  · rw [decide_eq_true (by show (0 : ℤ) ≤ _; omega)]; rfl
  · rw [decide_eq_false (by show ¬ (0 : ℤ) ≤ _; omega)]; rfl

/-- The table's rows picked by the buckets. -/
theorem ref_gather (x4 : Vec Ideal S32x32 .f32) (idx : IVec S2048x2048x1 32) (r c : Fin 2048) (h b : Fin 32)
    (hb : idx (ix3 r c 0) = BitVec.ofNat 32 b.val) :
    Host.gather gather_S32x32_S2048x2048x1_S2048x2048x32_2_0_n_n_0_2_132 x4 idx (ix3 r c h) = x4 (ix2 b h) := by
  unfold Host.gather
  refine congrArg x4 (funext fun a => Fin.ext ?_)
  match a with
  | ⟨0, _⟩ =>
    show GatherDims.start gather_S32x32_S2048x2048x1_S2048x2048x32_2_0_n_n_0_2_132 (ix3 r c h) idx 0
      + GatherDims.batchCoord gather_S32x32_S2048x2048x1_S2048x2048x32_2_0_n_n_0_2_132 (ix3 r c h) 0
      + GatherDims.offCoord gather_S32x32_S2048x2048x1_S2048x2048x32_2_0_n_n_0_2_132 (ix3 r c h) 0 = b.val
    rw [GatherDims.batchCoord_eq_zero _ _ _ (fun h => by exact absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x32_S2048x2048x1_S2048x2048x32_2_0_n_n_0_2_132.startIndexMap from List.mem_singleton.mpr rfl)]
    have hsi : gather_S32x32_S2048x2048x1_S2048x2048x32_2_0_n_n_0_2_132.siIdx (ix3 r c h)
        ⟨List.idxOf (0 : Fin 2) gather_S32x32_S2048x2048x1_S2048x2048x32_2_0_n_n_0_2_132.startIndexMap,
          List.idxOf_lt_length_iff.2 (List.mem_singleton.mpr rfl)⟩ = ix3 r c 0 := by
      funext b
      refine Fin.ext ?_
      match b with
      | ⟨0, _⟩ => rfl
      | ⟨1, _⟩ => rfl
      | ⟨2, _⟩ => rfl
    rw [hsi, hb]
    clear hsi hb
    revert b
    decide +kernel
  | ⟨1, _⟩ =>
    have hk : (1 : Fin 2) ∈ gather_S32x32_S2048x2048x1_S2048x2048x32_2_0_n_n_0_2_132.sKept :=
      (GatherDims.mem_sKept _ _).2 ⟨fun h => absurd (List.mem_singleton.mp h) (by decide), fun h => by exact absurd h List.not_mem_nil⟩
    show GatherDims.start gather_S32x32_S2048x2048x1_S2048x2048x32_2_0_n_n_0_2_132 (ix3 r c h) idx 1
      + GatherDims.batchCoord gather_S32x32_S2048x2048x1_S2048x2048x32_2_0_n_n_0_2_132 (ix3 r c h) 1
      + GatherDims.offCoord gather_S32x32_S2048x2048x1_S2048x2048x32_2_0_n_n_0_2_132 (ix3 r c h) 1 = h.val
    rw [GatherDims.batchCoord_eq_zero _ _ _ (fun h => by exact absurd h List.not_mem_nil)]
    unfold GatherDims.start GatherDims.offCoord
    have hm : (1 : Fin 2) ∉ gather_S32x32_S2048x2048x1_S2048x2048x32_2_0_n_n_0_2_132.startIndexMap :=
      fun h => absurd (List.mem_singleton.mp h) (by decide)
    rw [dif_neg hm, dif_pos hk]
    simp only [Nat.zero_add]
    rfl

/-- The bias of a query and a key that is not after it: the table's entry of the distance's bucket and the map. -/
theorem ref_bias (x5 : Vec Ideal S32x32 .f32) (n c : Fin 2048) (h : Fin 32) (d : Fin 2048) (hd : n.val = c.val + d.val) :
    val_main_v52 (F := Ideal) x5 (ix3 n c h) = x5 (ix2 ⟨bucket d.val, row_of _⟩ h) := by
  rw [val_main_v52]
  refine ref_gather x5 _ n c h ⟨bucket d.val, row_of _⟩ ?_
  rw [← ref_bucket n c d hd]
  pointwise [val_main_v51]

end Cert.DiffAttend
end
-- ==== Proof.DiffRef.lean ====
/-
  The reference of the differential attention, read at an index: the masked scores, the
  softmax over a query's keys, the difference of the two maps and its normalized product with the values.
-/
module

public import proofs.«01_k».proof.Proof.DiffDist
public import proofs.«01_k».proof.Proof.Gen.DiffRefIdeal.Read

@[expose] public section

set_option maxRecDepth 16384

noncomputable section

namespace Cert.DiffAttend

open Idealize.ShloMosaic Idealize.ShloMosaic.TcCoe Idealize.ShloMosaic.Tactic
open Cert.DiffRefIdeal Cert.DiffRefIdeal.Gen Cert.DiffRefIdeal.Read
open Cert.Attend (log2e bucket thresholds sel_one sel_zero ofBits_neg_inf ofBits_sixteen ofBits_log_eight logEight ofBits_eighth
  log_two_lower log_two_upper log_bucket)

/-- A map's masked score of a query and a key. -/
theorem ref_scores (x0 x1 : Vec Ideal S4x2048x2048 .f32) (x5 : Vec Ideal S32x32 .f32) (b : Fin 4) (h : Fin 16) (m : Fin 2)
    (n c : Fin 2048) :
    val_main_v63 (F := Ideal) x0 x1 x5 (ix5 b h m n c)
      = Scalar.select (val_main_v62 (F := Ideal) (ix2 n c))
          ((∑ d : Fin 64, x0 (ix3 b n ⟨h.val * 128 + m.val * 64 + d.val, by omega⟩) * x1 (ix3 b c ⟨h.val * 128 + m.val * 64 + d.val, by omega⟩))
            * ((1 / 8 : ℝ) : EReal)
            + val_main_v52 (F := Ideal) x5 (ix3 n c ⟨h.val * 2 + m.val, by omega⟩)) ⊥ := by
  pointwise [val_main_v63, val_main_call1_v1, val_main_call1_v2, val_main_call1_v0, val_main_cst_13, val_main_v60, val_main_v59,
    val_main_v58, val_main_v57, val_main_v56, val_main_cst_11, val_main_v55, val_main_v54, val_main_v53, val_main_v1, val_main_v0]
  rw [← ofBits_neg_inf, ← ofBits_eighth]
  rfl

/-- The maximum of a row's scores. -/
theorem ref_max (x0 x1 : Vec Ideal S4x2048x2048 .f32) (x5 : Vec Ideal S32x32 .f32) (b : Fin 4) (h : Fin 16) (m : Fin 2)
    (n : Fin 2048) :
    val_main_v66 (F := Ideal) x0 x1 x5 (ix4 b h m n)
      = max ⊥ (Finset.univ.fold max ⊥ fun k : Fin 2048 => val_main_v63 (F := Ideal) x0 x1 x5 (ix5 b h m n k)) := by
  rw [val_main_v66_apply, val_main_v65_apply, val_main_v64]
  rw [Host.reduce_eq_fold_single _ _ _ _ (by decide)]
  show max (Ideal.ofBits FTy.f32 0xFF800000#32) (Finset.univ.fold max (Ideal.ofBits FTy.f32 0xFF800000#32) _) = _
  rw [ofBits_neg_inf]
  refine congrArg (max ⊥) (Finset.fold_congr fun k _ => ?_)
  show val_main_v63 (F := Ideal) x0 x1 x5 _ = _
  exact congrArg _ (funext fun a => Fin.ext (by
    match a with | ⟨0, _⟩ => rfl | ⟨1, _⟩ => rfl | ⟨2, _⟩ => rfl | ⟨3, _⟩ => rfl | ⟨4, _⟩ => rfl))

/-- An exponential. -/
theorem ref_exp (x0 x1 : Vec Ideal S4x2048x2048 .f32) (x5 : Vec Ideal S32x32 .f32) (b : Fin 4) (h : Fin 16) (m : Fin 2)
    (n c : Fin 2048) :
    val_main_v70 (F := Ideal) x0 x1 x5 (ix5 b h m n c)
      = Ideal.exp (val_main_v63 (F := Ideal) x0 x1 x5 (ix5 b h m n c) - val_main_v66 (F := Ideal) x0 x1 x5 (ix4 b h m n)) := by
  pointwise [val_main_v70, val_main_v69, val_main_v68, val_main_v67]

/-- The sum of a row's exponentials. -/
theorem ref_den (x0 x1 : Vec Ideal S4x2048x2048 .f32) (x5 : Vec Ideal S32x32 .f32) (b : Fin 4) (h : Fin 16) (m : Fin 2)
    (n : Fin 2048) :
    val_main_v71 (F := Ideal) x0 x1 x5 (ix4 b h m n) = ∑ k : Fin 2048, val_main_v70 (F := Ideal) x0 x1 x5 (ix5 b h m n k) := by
  rw [val_main_v71_apply]
  show Ideal.ofBits FTy.f32 0x00000000#32 + _ = _
  rw [Ideal.ofBits_zero_f32, zero_add]
  refine Finset.sum_congr rfl fun k _ => congrArg _ (funext fun a => Fin.ext (by
    match a with | ⟨0, _⟩ => rfl | ⟨1, _⟩ => rfl | ⟨2, _⟩ => rfl | ⟨3, _⟩ => rfl | ⟨4, _⟩ => rfl))

/-- A map's weight of a key: the softmax of the query's masked scores. -/
theorem ref_soft (x0 x1 : Vec Ideal S4x2048x2048 .f32) (x5 : Vec Ideal S32x32 .f32) (b : Fin 4) (h : Fin 16) (m : Fin 2)
    (n c : Fin 2048) :
    val_main_v74 (F := Ideal) x0 x1 x5 (ix5 b h m n c)
      = soft (fun c => val_main_v63 (F := Ideal) x0 x1 x5 (ix5 b h m n c)) c := by
  have e : val_main_v74 (F := Ideal) x0 x1 x5 (ix5 b h m n c)
      = Ideal.div (val_main_v70 (F := Ideal) x0 x1 x5 (ix5 b h m n c)) (val_main_v71 (F := Ideal) x0 x1 x5 (ix4 b h m n)) := by
    pointwise [val_main_v74, val_main_v73, val_main_v72]
  rw [e, ref_den, soft]
  simp only [ref_exp, ref_max]

/-- The reference's lambda is the kernel's. -/
theorem ref_lambda (x3 : Vec Ideal S4x64 .f32) (i : S_.Idx) : val_main_v18 (F := Ideal) x3 i = lambda x3 := by
  have e8 : ∀ i, val_main_v8 (F := Ideal) x3 i = ∑ d : Fin 64, x3 (ix2 0 d) * x3 (ix2 1 d) := fun i => by
    rw [val_main_v8_apply]
    show Ideal.ofBits FTy.f32 0x00000000#32 + _ = _
    rw [Ideal.ofBits_zero_f32, zero_add]
    refine Fintype.sum_equiv ⟨fun j : S64.Idx => (j 0 : Fin 64), fun d => ix1 d, fun j => (eq_ix1 j).symm, fun _ => rfl⟩ _ _ fun j => ?_
    obtain ⟨d, rfl⟩ : ∃ d : Fin 64, j = ix1 d := ⟨_, eq_ix1 j⟩
    pointwise [val_main_v7, val_main_v6, val_main_v5, val_main_v4, val_main_v3]
    rfl
  have e15 : ∀ i, val_main_v15 (F := Ideal) x3 i = ∑ d : Fin 64, x3 (ix2 2 d) * x3 (ix2 3 d) := fun i => by
    rw [val_main_v15_apply]
    show Ideal.ofBits FTy.f32 0x00000000#32 + _ = _
    rw [Ideal.ofBits_zero_f32, zero_add]
    refine Fintype.sum_equiv ⟨fun j : S64.Idx => (j 0 : Fin 64), fun d => ix1 d, fun j => (eq_ix1 j).symm, fun _ => rfl⟩ _ _ fun j => ?_
    obtain ⟨d, rfl⟩ : ∃ d : Fin 64, j = ix1 d := ⟨_, eq_ix1 j⟩
    pointwise [val_main_v14, val_main_v13, val_main_v12, val_main_v11, val_main_v10]
    rfl
  pointwise [val_main_v18, val_main_v17, val_main_v16, val_main_v9, val_main_cst_1]
  rw [e8, e15]
  rfl

/-- Reading a map's weights with the unit axis dropped. -/
theorem ref_drop (y : Vec Ideal S4x16x1x2048x2048 .f32) (b : Fin 4) (h : Fin 16) (n c : Fin 2048) :
    shapeCast S4x16x2048x2048 y shapeCasts_S4x16x1x2048x2048_S4x16x2048x2048 (ix4 b h n c) = y (ix5 b h 0 n c) :=
  shapeCast_apply y _ _ (ix5 b h 0 n c) (by
    rewrite [Shape.rowMajor_val_five, Shape.rowMajor_val_four]
    show (((b.val * 16 + h.val) * 1 + 0) * 2048 + n.val) * 2048 + c.val = ((b.val * 16 + h.val) * 2048 + n.val) * 2048 + c.val
    omega)

/-- The difference of the two maps' weights. -/
theorem ref_diff (x0 x1 : Vec Ideal S4x2048x2048 .f32) (x3 : Vec Ideal S4x64 .f32) (x5 : Vec Ideal S32x32 .f32)
    (b : Fin 4) (h : Fin 16) (n c : Fin 2048) :
    val_main_v81 (F := Ideal) x0 x1 x3 x5 (ix4 b h n c)
      = val_main_v74 (F := Ideal) x0 x1 x5 (ix5 b h 0 n c) - lambda x3 * val_main_v74 (F := Ideal) x0 x1 x5 (ix5 b h 1 n c) := by
  have e0 : val_main_v76 (F := Ideal) x0 x1 x5 (ix4 b h n c) = val_main_v74 (F := Ideal) x0 x1 x5 (ix5 b h 0 n c) := by
    refine (ref_drop _ b h n c).trans ((val_main_v75_apply _ _ _ _).trans (congrArg _ (funext fun a => Fin.ext ?_)))
    match a with | ⟨0, _⟩ => rfl | ⟨1, _⟩ => rfl | ⟨2, _⟩ => rfl | ⟨3, _⟩ => rfl | ⟨4, _⟩ => rfl
  have e1 : val_main_v78 (F := Ideal) x0 x1 x5 (ix4 b h n c) = val_main_v74 (F := Ideal) x0 x1 x5 (ix5 b h 1 n c) := by
    refine (ref_drop _ b h n c).trans ((val_main_v77_apply _ _ _ _).trans (congrArg _ (funext fun a => Fin.ext ?_)))
    match a with | ⟨0, _⟩ => rfl | ⟨1, _⟩ => rfl | ⟨2, _⟩ => rfl | ⟨3, _⟩ => rfl | ⟨4, _⟩ => rfl
  rw [val_main_v81_apply, val_main_v80_apply, val_main_v79_apply, ref_lambda, e0, e1]
  rfl

/-- The difference of the two maps' weights, multiplied into the values. -/
theorem ref_values (x0 x1 x2 : Vec Ideal S4x2048x2048 .f32) (x3 : Vec Ideal S4x64 .f32) (x5 : Vec Ideal S32x32 .f32)
    (b : Fin 4) (n : Fin 2048) (h : Fin 16) (e : Fin 128) :
    val_main_v83 (F := Ideal) x0 x1 x2 x3 x5 (ix4 b n h e)
      = ∑ c : Fin 2048, x2 (ix3 b c ⟨h.val * 128 + e.val, by omega⟩) * val_main_v81 (F := Ideal) x0 x1 x3 x5 (ix4 b h n c) := by
  pointwise [val_main_v83, val_main_v82, val_main_v2]

/-- THE REFERENCE'S RESULT: a head's row normalized, by the gain and the constant. -/
theorem ref_out (x0 x1 x2 : Vec Ideal S4x2048x2048 .f32) (x3 : Vec Ideal S4x64 .f32) (x4 : Vec Ideal S128 .f32)
    (x5 : Vec Ideal S32x32 .f32) (n : Fin 8192) (l : Fin 2048) (b : Fin 4) (r : Fin 2048) (h : Fin 16) (e : Fin 128)
    (hn : n.val = b.val * 2048 + r.val) (hl : l.val = h.val * 128 + e.val) :
    val_main_v100 (F := Ideal) x0 x1 x2 x3 x4 x5 (ix2 n l)
      = val_main_v83 (F := Ideal) x0 x1 x2 x3 x5 (ix4 b r h e)
          * Ideal.rsqrt (Ideal.div (∑ x : Fin 128, val_main_v83 (F := Ideal) x0 x1 x2 x3 x5 (ix4 b r h x)
              * val_main_v83 (F := Ideal) x0 x1 x2 x3 x5 (ix4 b r h x)) (Ideal.ofBits .f32 0x43000000#32) + Ideal.ofBits .f32 0x358637BD#32)
          * x4 (ix1 e) * Ideal.ofBits .f32 0x3F24FD5C#32 := by
  have e85 : val_main_v85 (F := Ideal) x0 x1 x2 x3 x5 (ix3 b r h) = ∑ x : Fin 128, val_main_v83 (F := Ideal) x0 x1 x2 x3 x5 (ix4 b r h x)
      * val_main_v83 (F := Ideal) x0 x1 x2 x3 x5 (ix4 b r h x) := by
    rw [val_main_v85_apply]
    show Ideal.ofBits FTy.f32 0x00000000#32 + _ = _
    rw [Ideal.ofBits_zero_f32, zero_add]
    refine Finset.sum_congr rfl fun k _ => ?_
    have e : idx_main_v85 (ix3 b r h) k = ix4 b r h k := funext fun a => Fin.ext (by
      match a with | ⟨0, _⟩ => rfl | ⟨1, _⟩ => rfl | ⟨2, _⟩ => rfl | ⟨3, _⟩ => rfl)
    pointwise [val_main_v84]
    rw [e]
  rw [← e85]
  pointwise [val_main_v100, val_main_v99, val_main_v98, val_main_v97, val_main_cst_20, val_main_v96, val_main_v95, val_main_v94,
    val_main_v93, val_main_v92, val_main_v91, val_main_v90, val_main_v89, val_main_cst_19, val_main_v88, val_main_v87, val_main_cst_18,
    val_main_v86]
  rw [show (⟨n.val / 2048, by omega⟩ : Fin 4) = b from Fin.ext (by dsimp only; omega),
    show (⟨n.val % 2048, by omega⟩ : Fin 2048) = r from Fin.ext (by dsimp only; omega),
    show (⟨l.val / 128, by omega⟩ : Fin 16) = h from Fin.ext (by dsimp only; omega),
    show (⟨l.val % 128, by omega⟩ : Fin 128) = e from Fin.ext (by dsimp only; omega)]

end Cert.DiffAttend
end
-- ==== Proof.DiffScore.lean ====
/-
  Every score of the differential attention's kernel is the reference's masked score in base two.
-/
module

public import proofs.«01_k».proof.Proof.DiffResult
public import proofs.«01_k».proof.Proof.DiffRef
public import proofs.«01_k».proof.Proof.Equal

@[expose] public section

set_option maxRecDepth 16384

noncomputable section

namespace Cert.DiffAttend

open Idealize.ShloMosaic Idealize.ShloMosaic.TcCoe Idealize.ShloMosaic.Tactic Idealize.ShloMosaic.Pipeline
open Cert.DiffIdeal Cert.DiffIdeal.Gen Cert.DiffRefIdeal.Read
open Cert.Attend (log2e qscale bucket sel_one sel_zero sum_mul_real log2e_pos bot_mul_log2e ix2_congr ix3_congr)

/-- A map's score of a query and a key. -/
def scoreAt (x0 x1 : Vec Ideal S4x2048x2048 .f32) (x5 : Vec Ideal S32x32 .f32) (b : Fin 4) (h : Fin 16) (p : Fin 2)
    (n c : Fin 2048) : EReal :=
  (∑ d : Fin 64, (x0 (ix3 b n (headLane h (laneOf p d))) : EReal) * x1 (ix3 b c (headLane h (laneOf p d)))) * ((1 / 8 : ℝ) : EReal)
    + x5 (ix2 ⟨bucket (n.val - c.val), row_of _⟩ (mapCol h p))

/-- The reference's masked score where the key is not after the query. -/
theorem ref_in (x0 x1 : Vec Ideal S4x2048x2048 .f32) (x5 : Vec Ideal S32x32 .f32)
    (b : Fin 4) (h : Fin 16) (p : Fin 2) (n c : Fin 2048) (hc : c.val ≤ n.val) :
    val_main_v63 (F := Ideal) x0 x1 x5 (ix5 b h p n c) = scoreAt x0 x1 x5 b h p n c := by
  rw [ref_scores, ref_mask, if_pos hc, sel_one, ref_bias x5 n c _ ⟨n.val - c.val, by omega⟩ (by dsimp only; omega), scoreAt]
  refine congrArg₂ (fun a b : EReal => a + b)
    (congrArg (fun a : EReal => a * ((1 / 8 : ℝ) : EReal)) (Finset.sum_congr rfl fun d _ => ?_)) ?_
  · refine congrArg₂ (fun a b : EReal => a * b) (ix3_congr x0 rfl rfl ?_) (ix3_congr x1 rfl rfl ?_) <;>
      simp only [headLane, laneOf] <;> omega
  · exact ix2_congr x5 rfl (by simp only [mapCol]; omega)

/-- The reference's masked score where the key is after the query. -/
theorem ref_after (x0 x1 : Vec Ideal S4x2048x2048 .f32) (x5 : Vec Ideal S32x32 .f32)
    (b : Fin 4) (h : Fin 16) (p : Fin 2) (n c : Fin 2048) (hc : ¬ c.val ≤ n.val) :
    val_main_v63 (F := Ideal) x0 x1 x5 (ix5 b h p n c) = ⊥ := by
  rw [ref_scores, ref_mask, if_neg hc, sel_zero]

/-- A score in base two: the queries' scale, and the bias's, may be taken out of the sum. -/
theorem scale_sum (q k : Fin 64 → EReal) (T : EReal) :
    (∑ d, (q d * qscale) * k d) + T * log2e = ((∑ d, q d * k d) * ((1 / 8 : ℝ) : EReal) + T) * log2e := by
  have e : qscale = ((1 / 8 : ℝ) : EReal) * log2e := by rw [qscale, log2e, ← EReal.coe_mul]
  have h0 : (0 : ℝ) ≤ 1 / 8 * (Real.log 2)⁻¹ := mul_nonneg (by norm_num) log2e_pos.le
  rw [EReal.right_distrib_of_nonneg_of_ne_top (x := log2e) (EReal.coe_nonneg.2 log2e_pos.le) (EReal.coe_ne_top _), mul_assoc, ← e, qscale,
    sum_mul_real _ _ h0]
  exact congrArg (· + _) (Finset.sum_congr rfl fun d _ => mul_right_comm _ _ _)

variable (m : (ℓ : Loc nD τ sig) → Buf (Elt Ideal) ℓ) (ρ : Dev nD → PrngReg)

/-- The scaled queries' array at a row and a lane. -/
abbrev queryAt (c : Dev nD) (n : Fin 8192) (l : Fin 2048) : EReal := (V1 m ρ c main_v5 : Vec Ideal S8192x2048 .bf16) (ix2 n l)
/-- The keys' and values' array at a row and a lane. -/
abbrev keyvalAt (c : Dev nD) (n : Fin 8192) (l : Fin 4096) : EReal := (V1 m ρ c main_v9 : Vec Ideal S8192x4096 .bf16) (ix2 n l)

theorem queries_at (c : Dev nD) (b : Fin 4) (n : Fin 2048) (l : Fin 2048) :
    queryAt m ρ c (batchRow b n) l = argQ m c (ix3 b n l) * qscale := by
  refine (queries_apply m ρ c _ _).trans ?_
  exact congrArg (fun z => argQ m c z * qscale) (rows_split b n _ _ l)

theorem keys_at (c : Dev nD) (b : Fin 4) (n : Fin 2048) (h : Fin 16) (l : Fin 128) :
    keyvalAt m ρ c (batchRow b n) (keyLane h l) = argK m c (ix3 b n (headLane h l)) := by
  refine (keyvals_apply m ρ c _ _).trans ?_
  rw [dif_pos (by simp only [keyLane]; omega)]
  exact congrArg (argK m c) (rows_split b n _ _ _)

theorem values_at (c : Dev nD) (b : Fin 4) (n : Fin 2048) (h : Fin 16) (l : Fin 128) :
    keyvalAt m ρ c (batchRow b n) (valLane h l) = argV m c (ix3 b n (headLane h l)) := by
  refine (keyvals_apply m ρ c _ _).trans ?_
  rw [dif_neg (by simp only [valLane]; omega)]
  refine ix3_congr (argV m c) ?_ ?_ ?_ <;> simp only [batchRow, valLane, headLane] <;> omega

/-- A KERNEL'S SCORE is the reference's masked score in base two: the keys before the last 512 are far enough for the last
    bucket, and the tile covers the others. -/
theorem score_eq (c : Dev nD) (x5 : Vec Ideal S32x32 .f32)
    (b : Fin 4) (h : Fin 16) (p : Fin 2) (k : Fin 8) (r : Fin 256) (n : Fin 2048) (hn : n.val = 256 * k.val + r.val)
    (cc : Fin (256 * (k.val + 1))) (c' : Fin 2048) (hcc : c'.val = cc.val) :
    score (256 * (k.val + 1)) (k1_pay2 (F := Ideal) (x5 (ix2 31 (mapCol h 0))) (x5 (ix2 31 (mapCol h 1))))
        (fun r l => queryAt m ρ c (batchRow b ⟨256 * k.val + r.val, by omega⟩) (headLane h l))
        (fun c₁ l => keyvalAt m ρ c (batchRow b ⟨c₁.val, by omega⟩) (keyLane h l))
        (fun z => biasArr x5 (ix3 (mapCol h (z 0)) (z 1) (z 2))) p r cc
      = val_main_v63 (F := Ideal) (argQ m c) (argK m c) x5 (ix5 b h p n c') * log2e := by
  unfold score
  have hr : (⟨256 * k.val + r.val, by omega⟩ : Fin 2048) = n := Fin.ext hn.symm
  have hc1 : (⟨cc.val, by omega⟩ : Fin 2048) = c' := Fin.ext hcc.symm
  have hs : ∀ d : Fin 64,
      queryAt m ρ c (batchRow b ⟨256 * k.val + r.val, by omega⟩) (headLane h (laneOf p d))
        * keyvalAt m ρ c (batchRow b ⟨cc.val, by omega⟩) (keyLane h (laneOf p d))
      = ((argQ m c (ix3 b n (headLane h (laneOf p d))) : EReal) * qscale) * (argK m c (ix3 b c' (headLane h (laneOf p d))) : EReal) :=
    fun d => by rw [queries_at, keys_at, hr, hc1]
  refine (congrArg (fun z : EReal => z + _) (Finset.sum_congr rfl fun d _ => hs d)).trans ?_
  clear hs hr hc1
  by_cases hcn : c'.val ≤ n.val
  · rw [ref_in _ _ _ b h p n c' hcn, scoreAt]
    refine Eq.trans (congrArg (fun z : EReal => (∑ d : Fin 64, ((argQ m c (ix3 b n (headLane h (laneOf p d))) : EReal) * qscale)
      * (argK m c (ix3 b c' (headLane h (laneOf p d))) : EReal)) + z) ?_)
      (scale_sum (fun d => argQ m c (ix3 b n (headLane h (laneOf p d)))) (fun d => argK m c (ix3 b c' (headLane h (laneOf p d)))) _)
    split
    · rename_i hf
      rw [far_apply]
      have e : (![x5 (ix2 31 (mapCol h 0)), x5 (ix2 31 (mapCol h 1))] p : EReal) = x5 (ix2 31 (mapCol h p)) := by
        match p with | ⟨0, _⟩ => rfl | ⟨1, _⟩ => rfl
      rw [e]
      exact congrArg (fun z : EReal => z * log2e) (ix2_congr x5 (bucket_far _ (by omega)).symm rfl)
    · show biasAt (fun b => x5 (ix2 b (mapCol h p))) r ⟨cc.val + 512 - 256 * (k.val + 1), by omega⟩ = _
      unfold biasAt
      rw [if_pos (by dsimp only; omega)]
      exact congrArg (fun z : EReal => z * log2e) (ix2_congr x5 (congrArg bucket (by dsimp only; omega)) rfl)
  · rw [ref_after _ _ _ b h p n c' hcn, bot_mul_log2e]
    rw [dif_neg (by omega)]
    refine (congrArg (_ + ·) ?_).trans (EReal.add_bot _)
    show biasAt (fun b => x5 (ix2 b (mapCol h p))) r ⟨cc.val + 512 - 256 * (k.val + 1), by omega⟩ = _
    unfold biasAt
    rw [if_neg (by dsimp only; omega)]

end Cert.DiffAttend
end
-- ==== Proof.DiffRow.lean ====
/-
  A row of the differential attention from the two maps' weights: the difference of the averages, or of the weights.
-/
module

public import proofs.«01_k».proof.Proof.DiffSoft

@[expose] public section

set_option maxRecDepth 16384

noncomputable section

namespace Cert.DiffAttend

open Idealize.ShloMosaic Idealize.ShloMosaic.TcCoe
open Cert.Attend (log2e log2e_pos bot_mul_log2e coe_sum)

/-- Any other row, which has a score of plus infinity or none but minus infinities, has every exponential zero, so that each
    weight and the average are the quotient of zero and zero. -/
theorem no_weights {n : ℕ} (S : Fin n → EReal) (h : ∀ c, S c = ⊥ ∨ Finset.univ.fold max ⊥ S = ⊤) :
    (∀ c, soft S c = ⊥) ∧ ∀ v : Fin n → EReal, ratio (expo fun c => S c * log2e) v = ⊥ := by
  have e0 : ∀ c, Ideal.exp (S c - max ⊥ (Finset.univ.fold max ⊥ S)) = 0 := by
    intro c
    rw [max_eq_right bot_le]
    rcases h c with h | h
    · rw [h, EReal.bot_sub]; rfl
    · rw [h, EReal.sub_top]; rfl
  have e1 : ∀ c, expo (fun c => S c * log2e) c = 0 := by
    intro c
    unfold expo
    rw [fold_scale]
    show Ideal.exp2 (S c * log2e - _ * log2e) = 0
    rcases h c with h | h
    · rw [h, bot_mul_log2e, EReal.bot_sub]; rfl
    · rw [h, show (⊤ : EReal) * log2e = ⊤ from EReal.top_mul_coe_of_pos log2e_pos, EReal.sub_top]; rfl
  have hz : Ideal.div 0 0 = ⊥ := by simp [Ideal.div]
  refine ⟨fun c => ?_, fun v => ?_⟩
  · unfold soft
    simp only [e0, Finset.sum_const_zero]
    exact hz
  · unfold ratio
    simp only [e1, zero_mul, Finset.sum_const_zero]
    exact hz

/-- A row of scores either has real weights, which weigh alike in base e and in base two, or no weights in either. -/
theorem weights_or {n : ℕ} (S : Fin n → EReal) (v : Fin n → Fin 128 → ℝ) :
    (∃ w : Fin n → ℝ, (∀ c, soft S c = (w c : EReal)) ∧
      ∀ e, ratio (expo fun c => S c * log2e) (fun c => (v c e : EReal)) = ((∑ c, w c * v c e : ℝ) : EReal))
    ∨ (∀ c, soft S c = ⊥) ∧ ∀ e, ratio (expo fun c => S c * log2e) (fun c => (v c e : EReal)) = ⊥ := by
  by_cases h : ∀ c, S c = ⊥ ∨ Finset.univ.fold max ⊥ S = ⊤
  · exact .inr ⟨(no_weights S h).1, fun e => (no_weights S h).2 _⟩
  · obtain ⟨c0, h0⟩ := not_forall.1 h
    obtain ⟨hb, ht⟩ := not_or.1 h0
    have hS : ∀ c, S c ≠ ⊤ := fun c hc =>
      ht (top_le_iff.1 ((Finset.le_fold_max _).2 (.inr ⟨c, Finset.mem_univ _, hc.ge⟩)))
    obtain ⟨w, hw, hr⟩ := weights S hS ⟨c0, hb⟩
    exact .inl ⟨w, hw, fun e => hr fun c => v c e⟩

/-- An infinity. -/
abbrev Inf (x : EReal) : Prop := x = ⊤ ∨ x = ⊥

/-- What is added to an infinity leaves it infinite. -/
theorem inf_add {x : EReal} (h : Inf x) (y : EReal) : Inf (x + y) := by
  rcases h with rfl | rfl
  · by_cases hy : y = ⊥
    · exact .inr (by rw [hy, EReal.add_bot])
    · exact .inl (EReal.top_add_of_ne_bot hy)
  · exact .inr (EReal.bot_add y)

/-- A sum with an infinite term is infinite. -/
theorem inf_sum {n : ℕ} (f : Fin n → EReal) (c : Fin n) (h : Inf (f c)) : Inf (∑ c, f c) := by
  rw [← Finset.add_sum_erase _ _ (Finset.mem_univ c)]
  exact inf_add h _

/-- A number other than zero times an infinity is an infinity. -/
theorem inf_mul {a : ℝ} (ha : a ≠ 0) {x : EReal} (h : Inf x) : Inf ((a : EReal) * x) := by
  rcases lt_or_gt_of_ne ha with ha | ha <;> rcases h with rfl | rfl
  · exact .inr (EReal.coe_mul_top_of_neg ha)
  · exact .inl (EReal.coe_mul_bot_of_neg ha)
  · exact .inl (EReal.coe_mul_top_of_pos ha)
  · exact .inr (EReal.coe_mul_bot_of_pos ha)

/-- An infinity taken from a number is an infinity. -/
theorem inf_sub (a : ℝ) {x : EReal} (h : Inf x) : Inf ((a : EReal) - x) := by
  rcases h with rfl | rfl
  · exact .inr (EReal.sub_top _)
  · exact .inl (EReal.coe_sub_bot a)

/-- The row's length is a positive number. -/
theorem len_real : ∃ a : ℝ, 0 < a ∧ Ideal.ofBits FTy.f32 0x43000000#32 = (a : EReal) := by
  refine ⟨8388608 * (1 / 65536), by norm_num, ?_⟩
  simp [Ideal.ofBits, Ideal.ieee]
  norm_num

/-- The norm's small constant is a number. -/
theorem eps_real : ∃ a : ℝ, Ideal.ofBits FTy.f32 0x358637BD#32 = (a : EReal) := by
  simp [Ideal.ofBits, Ideal.ieee]
  exact ⟨_, (EReal.coe_mul _ _).symm⟩

/-- A square is not below zero. -/
theorem square_nonneg (x : EReal) : 0 ≤ x * x := by
  rcases le_total 0 x with h | h
  · exact mul_nonneg h h
  · have h' : 0 ≤ -x := EReal.neg_nonneg.2 h
    have h2 := mul_nonneg h' h'
    rwa [neg_mul_neg] at h2

/-- A row with an infinity, or of zeros, is normed to zeros. -/
theorem row_zero (R : Fin 128 → EReal) (h : (∃ e, Inf (R e)) ∨ ∀ e, R e = 0) (e : Fin 128) :
    R e * Ideal.rsqrt (Ideal.div (∑ x, R x * R x) (Ideal.ofBits FTy.f32 0x43000000#32)
        + Ideal.ofBits FTy.f32 0x358637BD#32) = 0 := by
  rcases h with ⟨e0, h0⟩ | h
  · have hs : ∑ x, R x * R x = ⊤ := by
      refine top_le_iff.1 (le_trans ?_ (Finset.single_le_sum (f := fun x => R x * R x) (fun x _ => square_nonneg (R x))
        (Finset.mem_univ e0)))
      rcases h0 with h0 | h0 <;> simp [h0]
    obtain ⟨a, ha, hl⟩ := len_real
    obtain ⟨b, hb⟩ := eps_real
    rw [hs, hl, hb, Ideal.div_coe ha.ne', EReal.top_mul_coe_of_pos (by positivity), EReal.top_add_coe,
      show Ideal.rsqrt ⊤ = 0 from rfl, mul_zero]
  · rw [h e, zero_mul]

/-- The last step from the difference of the two maps' averages. -/
theorem finish_eq (lam : EReal) (g : Fin 128 → EReal) (o : Fin 2 → Fin 128 → EReal) (R : Fin 128 → EReal)
    (hR : ∀ e, R e = o 0 e - lam * o 1 e) (e : Fin 128) :
    finish lam g o e = R e * Ideal.rsqrt (Ideal.div (∑ x, R x * R x) (Ideal.ofBits FTy.f32 0x43000000#32)
        + Ideal.ofBits FTy.f32 0x358637BD#32) * g e * Ideal.ofBits FTy.f32 0x3F24FD5C#32 := by
  simp only [finish, hR]

/-- THE ROW: where each map has real weights, or none in either form, norming the difference of the averages is norming
    the average by the difference of the weights. -/
theorem rows_eq {n : ℕ} (lam : EReal) (la : ℝ) (hla : lam = (la : EReal)) (g : Fin 128 → EReal) (v : Fin n → Fin 128 → ℝ)
    (s : Fin 2 → Fin n → EReal) (o : Fin 2 → Fin 128 → EReal)
    (h : ∀ p, (∃ w : Fin n → ℝ, (∀ c, s p c = (w c : EReal)) ∧ ∀ e, o p e = ((∑ c, w c * v c e : ℝ) : EReal))
      ∨ (∀ c, s p c = ⊥) ∧ ∀ e, o p e = ⊥)
    (R : Fin 128 → EReal) (hR : ∀ e, R e = ∑ c, (v c e : EReal) * (s 0 c - lam * s 1 c)) (e : Fin 128) :
    finish lam g o e = R e * Ideal.rsqrt (Ideal.div (∑ x, R x * R x) (Ideal.ofBits FTy.f32 0x43000000#32)
        + Ideal.ofBits FTy.f32 0x358637BD#32) * g e * Ideal.ofBits FTy.f32 0x3F24FD5C#32 := by
  have key : (∀ e, R e = o 0 e - lam * o 1 e)
      ∨ (∀ c, Inf (s 0 c - lam * s 1 c)) ∧ ∀ e, Inf (o 0 e - lam * o 1 e) := by
    rcases h 0 with ⟨w0, hw0, ho0⟩ | ⟨hs0, ho0⟩
    · rcases h 1 with ⟨w1, hw1, ho1⟩ | ⟨hs1, ho1⟩
      · refine .inl fun e => ?_
        rw [hR, ho0, ho1, hla, ← EReal.coe_mul, ← EReal.coe_sub, Finset.mul_sum, ← Finset.sum_sub_distrib, ← coe_sum]
        refine Finset.sum_congr rfl fun c _ => ?_
        rw [hw0, hw1, ← EReal.coe_mul, ← EReal.coe_sub, ← EReal.coe_mul]
        refine congrArg _ ?_
        ring
      · by_cases h0 : la = 0
        · refine .inl fun e => ?_
          rw [hR, ho0, hla, h0, EReal.coe_zero, zero_mul, sub_zero, ← coe_sum]
          refine Finset.sum_congr rfl fun c _ => ?_
          rw [hw0, zero_mul, sub_zero, ← EReal.coe_mul, mul_comm]
        · refine .inr ⟨fun c => ?_, fun e => ?_⟩
          · rw [hw0, hla]; exact inf_sub _ (inf_mul h0 (.inr (hs1 c)))
          · rw [ho0, hla]; exact inf_sub _ (inf_mul h0 (.inr (ho1 e)))
    · refine .inr ⟨fun c => ?_, fun e => ?_⟩
      · rw [hs0, EReal.bot_sub]; exact .inr rfl
      · rw [ho0, EReal.bot_sub]; exact .inr rfl
  rcases key with hk | ⟨ha, ho⟩
  · exact finish_eq lam g o R hk e
  · refine (finish_eq lam g o (fun e => o 0 e - lam * o 1 e) (fun _ => rfl) e).trans
      (congrArg (fun z : EReal => z * g e * Ideal.ofBits FTy.f32 0x3F24FD5C#32)
        ((row_zero (fun e => o 0 e - lam * o 1 e) (.inl ⟨e, ho e⟩) e).trans (row_zero R ?_ e).symm))
    by_cases hz : ∀ e c, v c e = 0
    · refine .inr fun e => (hR e).trans (Finset.sum_eq_zero fun c _ => ?_)
      rw [hz e c, EReal.coe_zero, zero_mul]
    · obtain ⟨e0, h0⟩ := not_forall.1 hz
      obtain ⟨c0, h0⟩ := not_forall.1 h0
      refine .inl ⟨e0, ?_⟩
      rw [hR]
      exact inf_sum _ c0 (inf_mul h0 (ha c0))

end Cert.DiffAttend
end
-- ==== Proof.DiffEqual.lean ====
/-
  The differential attention's result is its reference's, where values and lambdas are real numbers.
-/
module

public import proofs.«01_k».proof.Proof.DiffScore
public import proofs.«01_k».proof.Proof.DiffRow
public import proofs.«01_k».proof.Proof.Finite
public import proofs.«01_k».proof.Proof.Gen.Pre_real_inputs

@[expose] public section

set_option maxRecDepth 16384

noncomputable section

namespace Cert.DiffAttend

open Idealize.ShloMosaic Idealize.ShloMosaic.TcCoe Idealize.ShloMosaic.Tactic Idealize.ShloMosaic.Pipeline
open Cert.DiffIdeal Cert.DiffIdeal.Gen Cert.DiffRefIdeal.Read
open Cert.Attend (log2e coe_sum bot_mul_log2e real_of_all andi_split ofBits_pos_inf)

/-- The pattern of lambda's constant is a real number's. -/
theorem lam_init_real : ∃ a : ℝ, Ideal.ofBits FTy.f32 0x3EB60549#32 = (a : EReal) := by
  simp [Ideal.ofBits, Ideal.ieee]
  exact ⟨_, (EReal.coe_mul _ _).symm⟩

/-- Lambda of real numbers is a real number. -/
theorem lambda_real (l : Vec Ideal S4x64 .f32) (lr : S4x64.Idx → ℝ) (hl : ∀ i, l i = (lr i : EReal)) :
    ∃ a : ℝ, lambda l = (a : EReal) := by
  obtain ⟨a, ha⟩ := lam_init_real
  have e : ∀ i j : Fin 4, Ideal.exp (∑ x : Fin 64, l (ix2 i x) * l (ix2 j x))
      = ((Real.exp (∑ x : Fin 64, lr (ix2 i x) * lr (ix2 j x)) : ℝ) : EReal) := fun i j => by
    simp only [hl, ← EReal.coe_mul]
    rw [coe_sum]
    rfl
  unfold lambda
  rw [e 0 1, e 2 3, ha, ← EReal.coe_sub, ← EReal.coe_add]
  exact ⟨_, rfl⟩

/-- A head's result at a row of a chunk, from the arrays. -/
theorem headBlock_at (x : Vec Ideal S32x32 .f32) (lam : Vec Ideal S4x64 .f32) (g : Vec Ideal S1x128 .f32)
    (q : Vec Ideal S8192x2048 .bf16) (kv : Vec Ideal S8192x4096 .bf16) (bias : Vec Ideal S32x256x512 .f32)
    (h : Fin 16) (b : Fin 4) (k : Fin 8) (r : Fin 256) (n : Fin 2048) (hn : n.val = 256 * k.val + r.val) (e : Fin 128) :
    headBlock x lam g q kv bias h b (ix2 n e)
      = finish (lambda lam) (fun e => g (ix2 0 e)) (fun p e => ratio (expo (score (256 * (k.val + 1))
          (k1_pay2 (F := Ideal) (x (ix2 31 (mapCol h 0))) (x (ix2 31 (mapCol h 1))))
          (fun r l => q (ix2 (batchRow b ⟨256 * k.val + r.val, by omega⟩) (headLane h l)))
          (fun c₁ l => kv (ix2 (batchRow b ⟨c₁.val, by omega⟩) (keyLane h l)))
          (fun z => bias (ix3 (mapCol h (z 0)) (z 1) (z 2))) p r))
          (fun c₁ => kv (ix2 (batchRow b ⟨c₁.val, by omega⟩) (valLane h e)))) e := by
  have e1 : (⟨n.val / 256, by omega⟩ : Fin 8) = k := Fin.ext (by dsimp only; omega)
  have e2 : (⟨n.val % 256, by omega⟩ : Fin 256) = r := Fin.ext (by dsimp only; omega)
  unfold headBlock blockFn
  show blockOut h _ _ _ _ _ _ _ (⟨n.val / 256, _⟩ : Fin 8) (⟨n.val % 256, _⟩ : Fin 256) e = _
  rw [e1, e2]
  rfl

/-- The precondition: values and lambdas hold real numbers. -/
theorem real_of_inputs (x0 x1 x2 : FVec Ideal Cert.Pre_real_inputs.S4x2048x2048 .f32) (x3 : FVec Ideal Cert.Pre_real_inputs.S4x64 .f32)
    (x4 : FVec Ideal Cert.Pre_real_inputs.S128 .f32) (x5 : FVec Ideal Cert.Pre_real_inputs.S32x32 .f32)
    (h : Cert.Pre_real_inputs.fn (F := Ideal) x0 x1 x2 x3 x4 x5 = fun _ => 1#1) :
    (∀ i, ∃ a : ℝ, x2 i = (a : EReal)) ∧ ∀ i, ∃ a : ℝ, x3 i = (a : EReal) := by
  have hs : Subsingleton Cert.Pre_real_inputs.S_.Idx := ⟨fun a b => funext fun k => k.elim0⟩
  obtain ⟨hv, hl⟩ := andi_split _ _ (congrFun h (Shape.Idx.first Cert.Pre_real_inputs.Facts.h_S_))
  exact ⟨real_of_all x2 _ (fun _ => ofBits_pos_inf) _ _ _ _ hv, real_of_all x3 _ (fun _ => ofBits_pos_inf) _ _ _ _ hl⟩

variable (m : (ℓ : Loc nD τ sig) → Buf (Elt Ideal) ℓ) (ρ : Dev nD → PrngReg)

/-- A MAP'S AVERAGE in the kernel is that of the reference's scores in base two, over all the keys. -/
theorem map_eq (c : Dev nD) (x5 : Vec Ideal S32x32 .f32) (vr : S4x2048x2048.Idx → ℝ) (hv : ∀ i, argV m c i = (vr i : EReal))
    (b : Fin 4) (h : Fin 16) (p : Fin 2) (k : Fin 8) (r : Fin 256) (n : Fin 2048) (hn : n.val = 256 * k.val + r.val) (e : Fin 128) :
    ratio (expo (score (256 * (k.val + 1)) (k1_pay2 (F := Ideal) (x5 (ix2 31 (mapCol h 0))) (x5 (ix2 31 (mapCol h 1))))
        (fun r l => queryAt m ρ c (batchRow b ⟨256 * k.val + r.val, by omega⟩) (headLane h l))
        (fun c₁ l => keyvalAt m ρ c (batchRow b ⟨c₁.val, by omega⟩) (keyLane h l))
        (fun z => biasArr x5 (ix3 (mapCol h (z 0)) (z 1) (z 2))) p r))
        (fun c₁ => keyvalAt m ρ c (batchRow b ⟨c₁.val, by omega⟩) (valLane h e))
      = ratio (expo fun c' => val_main_v63 (F := Ideal) (argQ m c) (argK m c) x5 (ix5 b h p n c') * log2e)
          (fun c' => (vr (ix3 b c' (headLane h e)) : EReal)) := by
  have hN : 256 * (k.val + 1) ≤ 2048 := by omega
  refine Eq.trans ?_ (ratio_first hN (fun c' => val_main_v63 (F := Ideal) (argQ m c) (argK m c) x5 (ix5 b h p n c') * log2e)
    (fun c' => (vr (ix3 b c' (headLane h e)) : EReal)) fun c' hc' => by
      rw [ref_after _ _ _ b h p n c' (by omega), bot_mul_log2e])
  refine congrArg₂ ratio (congrArg expo (funext fun cc => ?_)) (funext fun cc => ?_)
  · exact score_eq m ρ c x5 b h p k r n hn cc (Fin.castLE hN cc) rfl
  · exact (values_at m ρ c b _ h e).trans (hv _)

/-- THE KERNEL'S RESULT IS THE REFERENCE'S. -/
theorem attend_eq (c : Dev nD) (x3 : Vec Ideal S4x64 .f32) (x5 : Vec Ideal S32x32 .f32)
    (hv : ∀ i, ∃ a : ℝ, argV m c i = (a : EReal)) (hl : ∀ i, ∃ a : ℝ, x3 i = (a : EReal)) :
    attendArr x5 x3 (fun z => argG m c (ix1 (z 1))) (V1 m ρ c main_v5) (V1 m ρ c main_v9) (biasArr x5)
      = val_main_v100 (F := Ideal) (argQ m c) (argK m c) (argV m c) x3 (argG m c) x5 := by
  choose vr hvr using hv
  choose lr hlr using hl
  obtain ⟨la, hla⟩ := lambda_real x3 lr hlr
  funext y
  obtain ⟨n, l, rfl⟩ : ∃ (n : Fin 8192) (l : Fin 2048), y = ix2 n l := ⟨_, _, eq_ix2 y⟩
  obtain ⟨b, nn, rfl⟩ : ∃ (b : Fin 4) (nn : Fin 2048), n = batchRow b nn :=
    ⟨⟨n.val / 2048, by omega⟩, ⟨n.val % 2048, by omega⟩, Fin.ext (by simp only [batchRow]; omega)⟩
  obtain ⟨h, e, rfl⟩ : ∃ (h : Fin 16) (e : Fin 128), l = headLane h e :=
    ⟨⟨l.val / 128, by omega⟩, ⟨l.val % 128, by omega⟩, Fin.ext (by simp only [headLane]; omega)⟩
  obtain ⟨k, r, hn⟩ : ∃ (k : Fin 8) (r : Fin 256), nn.val = 256 * k.val + r.val :=
    ⟨⟨nn.val / 256, by omega⟩, ⟨nn.val % 256, by omega⟩, by dsimp only; omega⟩
  refine ((attendArr_at _ _ _ _ _ _ h b nn e).trans (headBlock_at _ _ _ _ _ _ h b k r nn hn e)).trans ?_
  refine Eq.trans ?_ (ref_out _ _ _ _ _ _ _ _ b nn h e rfl rfl).symm
  refine rows_eq (lambda x3) la hla _ (fun c' e => vr (ix3 b c' (headLane h e)))
    (fun p c' => val_main_v74 (F := Ideal) (argQ m c) (argK m c) x5 (ix5 b h p nn c')) _ (fun p => ?_)
    (fun e => val_main_v83 (F := Ideal) (argQ m c) (argK m c) (argV m c) x3 x5 (ix4 b nn h e)) (fun e => ?_) e
  · rcases weights_or (fun c' => val_main_v63 (F := Ideal) (argQ m c) (argK m c) x5 (ix5 b h p nn c'))
      (fun c' e => vr (ix3 b c' (headLane h e))) with ⟨w, hw, hr⟩ | ⟨hs, hr⟩
    · exact .inl ⟨w, fun c' => (ref_soft _ _ _ b h p nn c').trans (hw c'),
        fun e => (map_eq m ρ c x5 vr hvr b h p k r nn hn e).trans (hr e)⟩
    · exact .inr ⟨fun c' => (ref_soft _ _ _ b h p nn c').trans (hs c'),
        fun e => (map_eq m ρ c x5 vr hvr b h p k r nn hn e).trans (hr e)⟩
  · refine (ref_values _ _ _ _ _ b nn h e).trans (Finset.sum_congr rfl fun c' _ => ?_)
    exact congrArg₂ (fun a b : EReal => a * b) (hvr _) (ref_diff _ _ _ _ b h nn c')

end Cert.DiffAttend
end
-- ==== Proof.DiffClaims.lean ====
/-
  The claims about the differential attention.
-/
module

public import proofs.«01_k».proof.Defs
public import proofs.«01_k».proof.Proof.DiffEqual
public import proofs.«01_k».proof.Proof.Gen.Diff.Frame
public import proofs.«01_k».proof.Proof.Gen.DiffIdeal.Frame
public import proofs.«01_k».proof.Proof.Gen.DiffRefIdeal.Run
public import proofs.«01_k».proof.Proof.Gen.DiffRefIdeal.Read
public import Idealize.ShloMosaic.Lib.Quiescent

@[expose] public section

noncomputable section

namespace Cert.Proof.DiffClaims

open Idealize.ShloMosaic Idealize.ShloMosaic.TcCoe Idealize.SL.Sem

/-- The kernel as shipped ends from every memory, its arguments unchanged. -/
theorem frame_p : Cert.quiescent_Diff := fun m ρ _ => Cert.Diff.Gen.frame m ρ

/-- The idealized kernel ends from every memory, its arguments unchanged. -/
theorem frame_pi : Cert.quiescent_DiffIdeal := fun m ρ _ => Cert.DiffIdeal.Gen.frame m ρ

/-- The same where the precondition holds. -/
theorem frame_pi_real_inputs : Cert.quiescent_DiffIdeal_pre_real_inputs := fun m ρ _ => Cert.DiffIdeal.Gen.frame m ρ

/-- The reference ends from every memory, its arguments unchanged. -/
theorem frame_ri : Cert.quiescent_DiffRefIdeal := fun m ρ _ =>
  (θ_run Cert.DiffRefIdeal.defs _ _).mono (fun r h => ⟨fun c => (h c).2,
      Idealize.ShloMosaic.sem_eq_zero_of_no_sems (by decide) r.2⟩)
    (Cert.DiffRefIdeal.Value.run (F := Ideal) m ρ)

/-- The same where the precondition holds. -/
theorem frame_ri_real_inputs : Cert.quiescent_DiffRefIdeal_pre_real_inputs := fun m ρ _ =>
  (θ_run Cert.DiffRefIdeal.defs _ _).mono (fun r h => ⟨fun c => (h c).2,
      Idealize.ShloMosaic.sem_eq_zero_of_no_sems (by decide) r.2⟩)
    (Cert.DiffRefIdeal.Value.run (F := Ideal) m ρ)

/-- The one named constant, `log2e`, rounds the reciprocal of the logarithm of two. -/
theorem preserves : Cert.preserves_Diff_DiffIdeal :=
  IdealRules.named_const.statement Cert.DiffIdeal.κ "log2e" .f32 0x3FB8AA3B#32 (((Real.log 2)⁻¹ : ℝ) : EReal) rfl

/-- Over the extended reals, kernel and reference end with one result where values and lambdas are real. -/
theorem algebraic : Cert.algebraic_DiffIdeal_DiffRefIdeal_pre_real_inputs := by
  intro m ρ m' ρ' hpre hagree
  refine ⟨_, Cert.DiffAttend.kernel_run m ρ, ?_⟩
  refine (θ_run Cert.DiffRefIdeal.defs _ _).mono (fun _ h c => ⟨(h c).1.trans ?_, (h c).2⟩)
    (Cert.DiffRefIdeal.Value.run (F := Ideal) m' ρ')
  obtain ⟨hv, hl⟩ := Cert.DiffAttend.real_of_inputs _ _ _ _ _ _ (hpre c)
  obtain ⟨e0, e1, e2, e3, e4, e5⟩ := hagree c
  refine Eq.trans (b := Cert.DiffRefIdeal.Read.val_main_v100 (F := Ideal)
    (m' ((c.tc : Thread Cert.DiffRefIdeal.nD Cert.DiffRefIdeal.τ).loc Cert.DiffRefIdeal.main_arg0))
    (m' ((c.tc : Thread Cert.DiffRefIdeal.nD Cert.DiffRefIdeal.τ).loc Cert.DiffRefIdeal.main_arg1))
    (m' ((c.tc : Thread Cert.DiffRefIdeal.nD Cert.DiffRefIdeal.τ).loc Cert.DiffRefIdeal.main_arg2))
    (m' ((c.tc : Thread Cert.DiffRefIdeal.nD Cert.DiffRefIdeal.τ).loc Cert.DiffRefIdeal.main_arg3))
    (m' ((c.tc : Thread Cert.DiffRefIdeal.nD Cert.DiffRefIdeal.τ).loc Cert.DiffRefIdeal.main_arg4))
    (m' ((c.tc : Thread Cert.DiffRefIdeal.nD Cert.DiffRefIdeal.τ).loc Cert.DiffRefIdeal.main_arg5)))
    (Cert.DiffRefIdeal.Read.val_main_v100_eq (StableHlo.launchContents m' c)) ?_
  rw [e0, e1, e2, e3, e4, e5]
  exact (Cert.DiffAttend.attend_eq m ρ c _ _ hv hl).symm

end Cert.Proof.DiffClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Claims
public import proofs.«01_k».proof.Proof.UpClaims
public import proofs.«01_k».proof.Proof.DownClaims
public import proofs.«01_k».proof.Proof.OutClaims
public import proofs.«01_k».proof.Proof.HgrnInClaims
public import proofs.«01_k».proof.Proof.DiffInClaims
public import proofs.«01_k».proof.Proof.SwaInClaims
public import proofs.«01_k».proof.Proof.BoundsClaims
public import proofs.«01_k».proof.Proof.DiffClaims
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.HgrnIn
public import proofs.«01_k».proof.Proof.Gen.HgrnIn.Skeleton
public import proofs.«01_k».proof.Proof.Gen.HgrnIn.Launch
public import proofs.«01_k».proof.Proof.Gen.HgrnIn.Points
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInIdeal.Frame
public import proofs.«01_k».proof.Proof.Gen.HgrnInIdeal.Value
public import proofs.«01_k».proof.Proof.Gen.HgrnInRefIdeal
public import proofs.«01_k».proof.Proof.Gen.HgrnInRefIdeal.Run
public import proofs.«01_k».proof.Proof.Gen.HgrnInRefIdeal.Read
public import proofs.«01_k».proof.Proof.Gen.DiffIn
public import proofs.«01_k».proof.Proof.Gen.DiffIn.Skeleton
public import proofs.«01_k».proof.Proof.Gen.DiffIn.Launch
public import proofs.«01_k».proof.Proof.Gen.DiffIn.Points
public import proofs.«01_k».proof.Proof.Gen.DiffIn.Frame
public import proofs.«01_k».proof.Proof.Gen.DiffInIdeal
public import proofs.«01_k».proof.Proof.Gen.DiffInIdeal.Skeleton
public import proofs.«01_k».proof.Proof.Gen.DiffInIdeal.Launch
public import proofs.«01_k».proof.Proof.Gen.DiffInIdeal.Points
public import proofs.«01_k».proof.Proof.Gen.DiffInIdeal.Frame
public import proofs.«01_k».proof.Proof.Gen.DiffInIdeal.Value
public import proofs.«01_k».proof.Proof.Gen.DiffInRefIdeal
public import proofs.«01_k».proof.Proof.Gen.DiffInRefIdeal.Run
public import proofs.«01_k».proof.Proof.Gen.DiffInRefIdeal.Read
public import proofs.«01_k».proof.Proof.Gen.SwaIn
public import proofs.«01_k».proof.Proof.Gen.SwaIn.Skeleton
public import proofs.«01_k».proof.Proof.Gen.SwaIn.Launch
public import proofs.«01_k».proof.Proof.Gen.SwaIn.Points
public import proofs.«01_k».proof.Proof.Gen.SwaIn.Frame
public import proofs.«01_k».proof.Proof.Gen.SwaInIdeal
public import proofs.«01_k».proof.Proof.Gen.SwaInIdeal.Skeleton
public import proofs.«01_k».proof.Proof.Gen.SwaInIdeal.Launch
public import proofs.«01_k».proof.Proof.Gen.SwaInIdeal.Points
public import proofs.«01_k».proof.Proof.Gen.SwaInIdeal.Frame
public import proofs.«01_k».proof.Proof.Gen.SwaInIdeal.Value
public import proofs.«01_k».proof.Proof.Gen.SwaInRefIdeal
public import proofs.«01_k».proof.Proof.Gen.SwaInRefIdeal.Run
public import proofs.«01_k».proof.Proof.Gen.SwaInRefIdeal.Read
public import proofs.«01_k».proof.Proof.Gen.Bounds
public import proofs.«01_k».proof.Proof.Gen.Bounds.Skeleton
public import proofs.«01_k».proof.Proof.Gen.Bounds.Launch
public import proofs.«01_k».proof.Proof.Gen.Bounds.Points
public import proofs.«01_k».proof.Proof.Gen.Bounds.Frame
public import proofs.«01_k».proof.Proof.Gen.BoundsIdeal
public import proofs.«01_k».proof.Proof.Gen.BoundsIdeal.Skeleton
public import proofs.«01_k».proof.Proof.Gen.BoundsIdeal.Launch
public import proofs.«01_k».proof.Proof.Gen.BoundsIdeal.Points
public import proofs.«01_k».proof.Proof.Gen.BoundsIdeal.Frame
public import proofs.«01_k».proof.Proof.Gen.BoundsIdeal.Value
public import proofs.«01_k».proof.Proof.Gen.BoundsRefIdeal
public import proofs.«01_k».proof.Proof.Gen.BoundsRefIdeal.Run
public import proofs.«01_k».proof.Proof.Gen.BoundsRefIdeal.Read
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.DiffRefIdeal.Run
public import proofs.«01_k».proof.Proof.Gen.DiffRefIdeal.Read
public import proofs.«01_k».proof.Proof.Gen.Pre_real_inputs
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Up.Gen.facts, Cert.UpIdeal.Gen.facts, Cert.UpRefIdeal.Gen.facts,
  Cert.Down.Gen.facts, Cert.DownIdeal.Gen.facts, Cert.DownRefIdeal.Gen.facts, Cert.Out.Gen.facts, Cert.OutIdeal.Gen.facts, Cert.OutRefIdeal.Gen.facts,
  Cert.HgrnIn.Gen.facts, Cert.HgrnInIdeal.Gen.facts, Cert.HgrnInRefIdeal.Gen.facts,
  Cert.DiffIn.Gen.facts, Cert.DiffInIdeal.Gen.facts, Cert.DiffInRefIdeal.Gen.facts,
  Cert.SwaIn.Gen.facts, Cert.SwaInIdeal.Gen.facts, Cert.SwaInRefIdeal.Gen.facts,
  Cert.Bounds.Gen.facts, Cert.BoundsIdeal.Gen.facts, Cert.BoundsRefIdeal.Gen.facts,
  Cert.Diff.Gen.facts, Cert.DiffIdeal.Gen.facts, Cert.DiffRefIdeal.Gen.facts,
  Cert.Pre_finite.Gen.facts, Cert.Pre_real_inputs.Gen.facts,
  AttendClaims.frame_p, AttendClaims.frame_pi, AttendClaims.frame_pi_finite, AttendClaims.frame_ri, AttendClaims.frame_ri_finite,
  UpClaims.frame_p, UpClaims.frame_pi, UpClaims.frame_ri,
  DownClaims.frame_p, DownClaims.frame_pi, DownClaims.frame_ri,
  OutClaims.frame_p, OutClaims.frame_pi, OutClaims.frame_ri,
  HgrnInClaims.frame_p, HgrnInClaims.frame_pi, HgrnInClaims.frame_ri,
  DiffInClaims.frame_p, DiffInClaims.frame_pi, DiffInClaims.frame_ri,
  SwaInClaims.frame_p, SwaInClaims.frame_pi, SwaInClaims.frame_ri,
  BoundsClaims.frame_p, BoundsClaims.frame_pi, BoundsClaims.frame_ri,
  DiffClaims.frame_p, DiffClaims.frame_pi, DiffClaims.frame_pi_real_inputs, DiffClaims.frame_ri, DiffClaims.frame_ri_real_inputs,
  AttendClaims.preserves, AttendClaims.algebraic,
  UpClaims.preserves, UpClaims.algebraic, DownClaims.preserves, DownClaims.algebraic, OutClaims.preserves, OutClaims.algebraic,
  HgrnInClaims.preserves, HgrnInClaims.algebraic,
  DiffInClaims.preserves, DiffInClaims.algebraic, SwaInClaims.preserves, SwaInClaims.algebraic, BoundsClaims.preserves, BoundsClaims.algebraic,
  DiffClaims.preserves, DiffClaims.algebraic⟩

end Cert.Proof

end
